-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxReferenceIdeal (m : (ℓ : Loc Cert.MixDxReferenceIdeal.nD Cert.MixDxReferenceIdeal.τ Cert.MixDxReferenceIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwReferenceIdeal (m : (ℓ : Loc Cert.MixDwReferenceIdeal.nD Cert.MixDwReferenceIdeal.τ Cert.MixDwReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxReferenceIdeal (m : (ℓ : Loc Cert.QueryDxReferenceIdeal.nD Cert.QueryDxReferenceIdeal.τ Cert.QueryDxReferenceIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwReferenceIdeal (m : (ℓ : Loc Cert.QueryDwReferenceIdeal.nD Cert.QueryDwReferenceIdeal.τ Cert.QueryDwReferenceIdeal.sig) → Buf (Elt Ideal) ℓ) : Prop :=
  True

def Pre_Read (m : (ℓ : Loc Cert.Read.nD Cert.Read.τ Cert.Read.sig) → Buf (Elt Bits) ℓ) : Prop :=
  True

def Pre_ReadIdeal (m : (ℓ : Loc Cert.ReadIdeal.nD Cert.ReadIdeal.τ Cert.ReadIdeal.sig) → Buf (Elt Ideal) ℓ) : Prop :=
  True

def Pre_ReadReferenceIdeal (m : (ℓ : Loc Cert.ReadReferenceIdeal.nD Cert.ReadReferenceIdeal.τ Cert.ReadReferenceIdeal.sig) → Buf (Elt Ideal) ℓ) : Prop :=
  True

def Pre_ReadDx (m : (ℓ : Loc Cert.ReadDx.nD Cert.ReadDx.τ Cert.ReadDx.sig) → Buf (Elt Bits) ℓ) : Prop :=
  True

def Pre_ReadDxIdeal (m : (ℓ : Loc Cert.ReadDxIdeal.nD Cert.ReadDxIdeal.τ Cert.ReadDxIdeal.sig) → Buf (Elt Ideal) ℓ) : Prop :=
  True

def Pre_ReadDxReferenceIdeal (m : (ℓ : Loc Cert.ReadDxReferenceIdeal.nD Cert.ReadDxReferenceIdeal.τ Cert.ReadDxReferenceIdeal.sig) → Buf (Elt Ideal) ℓ) : Prop :=
  True

def Pre_ReadDw (m : (ℓ : Loc Cert.ReadDw.nD Cert.ReadDw.τ Cert.ReadDw.sig) → Buf (Elt Bits) ℓ) : Prop :=
  True

def Pre_ReadDwIdeal (m : (ℓ : Loc Cert.ReadDwIdeal.nD Cert.ReadDwIdeal.τ Cert.ReadDwIdeal.sig) → Buf (Elt Ideal) ℓ) : Prop :=
  True

def Pre_ReadDwReferenceIdeal (m : (ℓ : Loc Cert.ReadDwReferenceIdeal.nD Cert.ReadDwReferenceIdeal.τ Cert.ReadDwReferenceIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxReferenceIdeal (m : (ℓ : Loc Cert.UkvDxReferenceIdeal.nD Cert.UkvDxReferenceIdeal.τ Cert.UkvDxReferenceIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxReferenceIdeal (m : (ℓ : Loc Cert.GluDxReferenceIdeal.nD Cert.GluDxReferenceIdeal.τ Cert.GluDxReferenceIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwReferenceIdeal (m : (ℓ : Loc Cert.GluDwReferenceIdeal.nD Cert.GluDwReferenceIdeal.τ Cert.GluDwReferenceIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossReferenceIdeal (m : (ℓ : Loc Cert.CrossReferenceIdeal.nD Cert.CrossReferenceIdeal.τ Cert.CrossReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))) = (fun _ => 1#1)

def Pre_ScanReferenceIdeal (m : (ℓ : Loc Cert.ScanReferenceIdeal.nD Cert.ScanReferenceIdeal.τ Cert.ScanReferenceIdeal.sig) → Buf (Elt Ideal) ℓ) : Prop :=
  True

def Pre_ScanReferenceIdeal_finite_scan [hPre_finite_scan : Cert.Pre_finite_scan.Facts] (m : (ℓ : Loc Cert.ScanReferenceIdeal.nD Cert.ScanReferenceIdeal.τ Cert.ScanReferenceIdeal.sig) → Buf (Elt Ideal) ℓ) : Prop :=
  ∀ c : Dev Cert.ScanReferenceIdeal.nD,
    (Cert.Pre_finite_scan.fn (F := Ideal) (m ((c.tc : Thread Cert.ScanReferenceIdeal.nD Cert.ScanReferenceIdeal.τ).loc Cert.ScanReferenceIdeal.main_arg0)) (m ((c.tc : Thread Cert.ScanReferenceIdeal.nD Cert.ScanReferenceIdeal.τ).loc Cert.ScanReferenceIdeal.main_arg1)) (m ((c.tc : Thread Cert.ScanReferenceIdeal.nD Cert.ScanReferenceIdeal.τ).loc Cert.ScanReferenceIdeal.main_arg2)) (m ((c.tc : Thread Cert.ScanReferenceIdeal.nD Cert.ScanReferenceIdeal.τ).loc Cert.ScanReferenceIdeal.main_arg3)) (m ((c.tc : Thread Cert.ScanReferenceIdeal.nD Cert.ScanReferenceIdeal.τ).loc Cert.ScanReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ r.2.sem = fun _ => 0)

def quiescent_MixDxReferenceIdeal [hMixDxReferenceIdeal : Cert.MixDxReferenceIdeal.Facts] : Prop :=
  ∀ (m : (ℓ : Loc Cert.MixDxReferenceIdeal.nD Cert.MixDxReferenceIdeal.τ Cert.MixDxReferenceIdeal.sig) → Buf (Elt Ideal) ℓ) (g : Dev Cert.MixDxReferenceIdeal.nD → PrngReg), Pre_MixDxReferenceIdeal m →
    θ_run (Cert.MixDxReferenceIdeal.defs (F := Ideal)) (onTc (τ := Cert.MixDxReferenceIdeal.τ) (Cert.MixDxReferenceIdeal.main (F := Ideal))) ⟨m, fun _ => 0, g⟩ (fun r => (∀ c : Dev Cert.MixDxReferenceIdeal.nD,
      r.2.mem ((c.tc : Thread Cert.MixDxReferenceIdeal.nD Cert.MixDxReferenceIdeal.τ).loc Cert.MixDxReferenceIdeal.main_arg0) = m ((c.tc : Thread Cert.MixDxReferenceIdeal.nD Cert.MixDxReferenceIdeal.τ).loc Cert.MixDxReferenceIdeal.main_arg0)
      ∧ r.2.mem ((c.tc : Thread Cert.MixDxReferenceIdeal.nD Cert.MixDxReferenceIdeal.τ).loc Cert.MixDxReferenceIdeal.main_arg1) = m ((c.tc : Thread Cert.MixDxReferenceIdeal.nD Cert.MixDxReferenceIdeal.τ).loc Cert.MixDxReferenceIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwReferenceIdeal [hMixDwReferenceIdeal : Cert.MixDwReferenceIdeal.Facts] : Prop :=
  ∀ (m : (ℓ : Loc Cert.MixDwReferenceIdeal.nD Cert.MixDwReferenceIdeal.τ Cert.MixDwReferenceIdeal.sig) → Buf (Elt Ideal) ℓ) (g : Dev Cert.MixDwReferenceIdeal.nD → PrngReg), Pre_MixDwReferenceIdeal m →
    θ_run (Cert.MixDwReferenceIdeal.defs (F := Ideal)) (onTc (τ := Cert.MixDwReferenceIdeal.τ) (Cert.MixDwReferenceIdeal.main (F := Ideal))) ⟨m, fun _ => 0, g⟩ (fun r => (∀ c : Dev Cert.MixDwReferenceIdeal.nD,
      r.2.mem ((c.tc : Thread Cert.MixDwReferenceIdeal.nD Cert.MixDwReferenceIdeal.τ).loc Cert.MixDwReferenceIdeal.main_arg0) = m ((c.tc : Thread Cert.MixDwReferenceIdeal.nD Cert.MixDwReferenceIdeal.τ).loc Cert.MixDwReferenceIdeal.main_arg0)
      ∧ r.2.mem ((c.tc : Thread Cert.MixDwReferenceIdeal.nD Cert.MixDwReferenceIdeal.τ).loc Cert.MixDwReferenceIdeal.main_arg1) = m ((c.tc : Thread Cert.MixDwReferenceIdeal.nD Cert.MixDwReferenceIdeal.τ).loc Cert.MixDwReferenceIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_QueryDxReferenceIdeal [hQueryDxReferenceIdeal : Cert.QueryDxReferenceIdeal.Facts] : Prop :=
  ∀ (m : (ℓ : Loc Cert.QueryDxReferenceIdeal.nD Cert.QueryDxReferenceIdeal.τ Cert.QueryDxReferenceIdeal.sig) → Buf (Elt Ideal) ℓ) (g : Dev Cert.QueryDxReferenceIdeal.nD → PrngReg), Pre_QueryDxReferenceIdeal m →
    θ_run (Cert.QueryDxReferenceIdeal.defs (F := Ideal)) (onTc (τ := Cert.QueryDxReferenceIdeal.τ) (Cert.QueryDxReferenceIdeal.main (F := Ideal))) ⟨m, fun _ => 0, g⟩ (fun r => (∀ c : Dev Cert.QueryDxReferenceIdeal.nD,
      r.2.mem ((c.tc : Thread Cert.QueryDxReferenceIdeal.nD Cert.QueryDxReferenceIdeal.τ).loc Cert.QueryDxReferenceIdeal.main_arg0) = m ((c.tc : Thread Cert.QueryDxReferenceIdeal.nD Cert.QueryDxReferenceIdeal.τ).loc Cert.QueryDxReferenceIdeal.main_arg0)
      ∧ r.2.mem ((c.tc : Thread Cert.QueryDxReferenceIdeal.nD Cert.QueryDxReferenceIdeal.τ).loc Cert.QueryDxReferenceIdeal.main_arg1) = m ((c.tc : Thread Cert.QueryDxReferenceIdeal.nD Cert.QueryDxReferenceIdeal.τ).loc Cert.QueryDxReferenceIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwReferenceIdeal [hQueryDwReferenceIdeal : Cert.QueryDwReferenceIdeal.Facts] : Prop :=
  ∀ (m : (ℓ : Loc Cert.QueryDwReferenceIdeal.nD Cert.QueryDwReferenceIdeal.τ Cert.QueryDwReferenceIdeal.sig) → Buf (Elt Ideal) ℓ) (g : Dev Cert.QueryDwReferenceIdeal.nD → PrngReg), Pre_QueryDwReferenceIdeal m →
    θ_run (Cert.QueryDwReferenceIdeal.defs (F := Ideal)) (onTc (τ := Cert.QueryDwReferenceIdeal.τ) (Cert.QueryDwReferenceIdeal.main (F := Ideal))) ⟨m, fun _ => 0, g⟩ (fun r => (∀ c : Dev Cert.QueryDwReferenceIdeal.nD,
      r.2.mem ((c.tc : Thread Cert.QueryDwReferenceIdeal.nD Cert.QueryDwReferenceIdeal.τ).loc Cert.QueryDwReferenceIdeal.main_arg0) = m ((c.tc : Thread Cert.QueryDwReferenceIdeal.nD Cert.QueryDwReferenceIdeal.τ).loc Cert.QueryDwReferenceIdeal.main_arg0)
      ∧ r.2.mem ((c.tc : Thread Cert.QueryDwReferenceIdeal.nD Cert.QueryDwReferenceIdeal.τ).loc Cert.QueryDwReferenceIdeal.main_arg1) = m ((c.tc : Thread Cert.QueryDwReferenceIdeal.nD Cert.QueryDwReferenceIdeal.τ).loc Cert.QueryDwReferenceIdeal.main_arg1))
      ∧ r.2.sem = fun _ => 0)

def quiescent_Read [hRead : Cert.Read.Facts] : Prop :=
  ∀ (m : (ℓ : Loc Cert.Read.nD Cert.Read.τ Cert.Read.sig) → Buf (Elt Bits) ℓ) (g : Dev Cert.Read.nD → PrngReg), Pre_Read m →
    θ_run (Cert.Read.defs (F := Bits)) (onTc (τ := Cert.Read.τ) (Cert.Read.main (F := Bits))) ⟨m, fun _ => 0, g⟩ (fun r => (∀ c : Dev Cert.Read.nD,
      r.2.mem ((c.tc : Thread Cert.Read.nD Cert.Read.τ).loc Cert.Read.main_arg0) = m ((c.tc : Thread Cert.Read.nD Cert.Read.τ).loc Cert.Read.main_arg0)
      ∧ r.2.mem ((c.tc : Thread Cert.Read.nD Cert.Read.τ).loc Cert.Read.main_arg1) = m ((c.tc : Thread Cert.Read.nD Cert.Read.τ).loc Cert.Read.main_arg1)
      ∧ r.2.mem ((c.tc : Thread Cert.Read.nD Cert.Read.τ).loc Cert.Read.main_arg2) = m ((c.tc : Thread Cert.Read.nD Cert.Read.τ).loc Cert.Read.main_arg2))
      ∧ r.2.sem = fun _ => 0)

def quiescent_ReadIdeal [hReadIdeal : Cert.ReadIdeal.Facts] : Prop :=
  ∀ (m : (ℓ : Loc Cert.ReadIdeal.nD Cert.ReadIdeal.τ Cert.ReadIdeal.sig) → Buf (Elt Ideal) ℓ) (g : Dev Cert.ReadIdeal.nD → PrngReg), Pre_ReadIdeal m →
    θ_run (Cert.ReadIdeal.defs (F := Ideal)) (onTc (τ := Cert.ReadIdeal.τ) (Cert.ReadIdeal.main (F := Ideal))) ⟨m, fun _ => 0, g⟩ (fun r => (∀ c : Dev Cert.ReadIdeal.nD,
      r.2.mem ((c.tc : Thread Cert.ReadIdeal.nD Cert.ReadIdeal.τ).loc Cert.ReadIdeal.main_arg0) = m ((c.tc : Thread Cert.ReadIdeal.nD Cert.ReadIdeal.τ).loc Cert.ReadIdeal.main_arg0)
      ∧ r.2.mem ((c.tc : Thread Cert.ReadIdeal.nD Cert.ReadIdeal.τ).loc Cert.ReadIdeal.main_arg1) = m ((c.tc : Thread Cert.ReadIdeal.nD Cert.ReadIdeal.τ).loc Cert.ReadIdeal.main_arg1)
      ∧ r.2.mem ((c.tc : Thread Cert.ReadIdeal.nD Cert.ReadIdeal.τ).loc Cert.ReadIdeal.main_arg2) = m ((c.tc : Thread Cert.ReadIdeal.nD Cert.ReadIdeal.τ).loc Cert.ReadIdeal.main_arg2))
      ∧ r.2.sem = fun _ => 0)

def quiescent_ReadReferenceIdeal [hReadReferenceIdeal : Cert.ReadReferenceIdeal.Facts] : Prop :=
  ∀ (m : (ℓ : Loc Cert.ReadReferenceIdeal.nD Cert.ReadReferenceIdeal.τ Cert.ReadReferenceIdeal.sig) → Buf (Elt Ideal) ℓ) (g : Dev Cert.ReadReferenceIdeal.nD → PrngReg), Pre_ReadReferenceIdeal m →
    θ_run (Cert.ReadReferenceIdeal.defs (F := Ideal)) (onTc (τ := Cert.ReadReferenceIdeal.τ) (Cert.ReadReferenceIdeal.main (F := Ideal))) ⟨m, fun _ => 0, g⟩ (fun r => (∀ c : Dev Cert.ReadReferenceIdeal.nD,
      r.2.mem ((c.tc : Thread Cert.ReadReferenceIdeal.nD Cert.ReadReferenceIdeal.τ).loc Cert.ReadReferenceIdeal.main_arg0) = m ((c.tc : Thread Cert.ReadReferenceIdeal.nD Cert.ReadReferenceIdeal.τ).loc Cert.ReadReferenceIdeal.main_arg0)
      ∧ r.2.mem ((c.tc : Thread Cert.ReadReferenceIdeal.nD Cert.ReadReferenceIdeal.τ).loc Cert.ReadReferenceIdeal.main_arg1) = m ((c.tc : Thread Cert.ReadReferenceIdeal.nD Cert.ReadReferenceIdeal.τ).loc Cert.ReadReferenceIdeal.main_arg1)
      ∧ r.2.mem ((c.tc : Thread Cert.ReadReferenceIdeal.nD Cert.ReadReferenceIdeal.τ).loc Cert.ReadReferenceIdeal.main_arg2) = m ((c.tc : Thread Cert.ReadReferenceIdeal.nD Cert.ReadReferenceIdeal.τ).loc Cert.ReadReferenceIdeal.main_arg2))
      ∧ r.2.sem = fun _ => 0)

def quiescent_ReadDx [hReadDx : Cert.ReadDx.Facts] : Prop :=
  ∀ (m : (ℓ : Loc Cert.ReadDx.nD Cert.ReadDx.τ Cert.ReadDx.sig) → Buf (Elt Bits) ℓ) (g : Dev Cert.ReadDx.nD → PrngReg), Pre_ReadDx m →
    θ_run (Cert.ReadDx.defs (F := Bits)) (onTc (τ := Cert.ReadDx.τ) (Cert.ReadDx.main (F := Bits))) ⟨m, fun _ => 0, g⟩ (fun r => (∀ c : Dev Cert.ReadDx.nD,
      r.2.mem ((c.tc : Thread Cert.ReadDx.nD Cert.ReadDx.τ).loc Cert.ReadDx.main_arg0) = m ((c.tc : Thread Cert.ReadDx.nD Cert.ReadDx.τ).loc Cert.ReadDx.main_arg0)
      ∧ r.2.mem ((c.tc : Thread Cert.ReadDx.nD Cert.ReadDx.τ).loc Cert.ReadDx.main_arg1) = m ((c.tc : Thread Cert.ReadDx.nD Cert.ReadDx.τ).loc Cert.ReadDx.main_arg1))
      ∧ r.2.sem = fun _ => 0)

def quiescent_ReadDxIdeal [hReadDxIdeal : Cert.ReadDxIdeal.Facts] : Prop :=
  ∀ (m : (ℓ : Loc Cert.ReadDxIdeal.nD Cert.ReadDxIdeal.τ Cert.ReadDxIdeal.sig) → Buf (Elt Ideal) ℓ) (g : Dev Cert.ReadDxIdeal.nD → PrngReg), Pre_ReadDxIdeal m →
    θ_run (Cert.ReadDxIdeal.defs (F := Ideal)) (onTc (τ := Cert.ReadDxIdeal.τ) (Cert.ReadDxIdeal.main (F := Ideal))) ⟨m, fun _ => 0, g⟩ (fun r => (∀ c : Dev Cert.ReadDxIdeal.nD,
      r.2.mem ((c.tc : Thread Cert.ReadDxIdeal.nD Cert.ReadDxIdeal.τ).loc Cert.ReadDxIdeal.main_arg0) = m ((c.tc : Thread Cert.ReadDxIdeal.nD Cert.ReadDxIdeal.τ).loc Cert.ReadDxIdeal.main_arg0)
      ∧ r.2.mem ((c.tc : Thread Cert.ReadDxIdeal.nD Cert.ReadDxIdeal.τ).loc Cert.ReadDxIdeal.main_arg1) = m ((c.tc : Thread Cert.ReadDxIdeal.nD Cert.ReadDxIdeal.τ).loc Cert.ReadDxIdeal.main_arg1))
      ∧ r.2.sem = fun _ => 0)

def quiescent_ReadDxReferenceIdeal [hReadDxReferenceIdeal : Cert.ReadDxReferenceIdeal.Facts] : Prop :=
  ∀ (m : (ℓ : Loc Cert.ReadDxReferenceIdeal.nD Cert.ReadDxReferenceIdeal.τ Cert.ReadDxReferenceIdeal.sig) → Buf (Elt Ideal) ℓ) (g : Dev Cert.ReadDxReferenceIdeal.nD → PrngReg), Pre_ReadDxReferenceIdeal m →
    θ_run (Cert.ReadDxReferenceIdeal.defs (F := Ideal)) (onTc (τ := Cert.ReadDxReferenceIdeal.τ) (Cert.ReadDxReferenceIdeal.main (F := Ideal))) ⟨m, fun _ => 0, g⟩ (fun r => (∀ c : Dev Cert.ReadDxReferenceIdeal.nD,
      r.2.mem ((c.tc : Thread Cert.ReadDxReferenceIdeal.nD Cert.ReadDxReferenceIdeal.τ).loc Cert.ReadDxReferenceIdeal.main_arg0) = m ((c.tc : Thread Cert.ReadDxReferenceIdeal.nD Cert.ReadDxReferenceIdeal.τ).loc Cert.ReadDxReferenceIdeal.main_arg0)
      ∧ r.2.mem ((c.tc : Thread Cert.ReadDxReferenceIdeal.nD Cert.ReadDxReferenceIdeal.τ).loc Cert.ReadDxReferenceIdeal.main_arg1) = m ((c.tc : Thread Cert.ReadDxReferenceIdeal.nD Cert.ReadDxReferenceIdeal.τ).loc Cert.ReadDxReferenceIdeal.main_arg1))
      ∧ r.2.sem = fun _ => 0)

def quiescent_ReadDw [hReadDw : Cert.ReadDw.Facts] : Prop :=
  ∀ (m : (ℓ : Loc Cert.ReadDw.nD Cert.ReadDw.τ Cert.ReadDw.sig) → Buf (Elt Bits) ℓ) (g : Dev Cert.ReadDw.nD → PrngReg), Pre_ReadDw m →
    θ_run (Cert.ReadDw.defs (F := Bits)) (onTc (τ := Cert.ReadDw.τ) (Cert.ReadDw.main (F := Bits))) ⟨m, fun _ => 0, g⟩ (fun r => (∀ c : Dev Cert.ReadDw.nD,
      r.2.mem ((c.tc : Thread Cert.ReadDw.nD Cert.ReadDw.τ).loc Cert.ReadDw.main_arg0) = m ((c.tc : Thread Cert.ReadDw.nD Cert.ReadDw.τ).loc Cert.ReadDw.main_arg0)
      ∧ r.2.mem ((c.tc : Thread Cert.ReadDw.nD Cert.ReadDw.τ).loc Cert.ReadDw.main_arg1) = m ((c.tc : Thread Cert.ReadDw.nD Cert.ReadDw.τ).loc Cert.ReadDw.main_arg1))
      ∧ r.2.sem = fun _ => 0)

def quiescent_ReadDwIdeal [hReadDwIdeal : Cert.ReadDwIdeal.Facts] : Prop :=
  ∀ (m : (ℓ : Loc Cert.ReadDwIdeal.nD Cert.ReadDwIdeal.τ Cert.ReadDwIdeal.sig) → Buf (Elt Ideal) ℓ) (g : Dev Cert.ReadDwIdeal.nD → PrngReg), Pre_ReadDwIdeal m →
    θ_run (Cert.ReadDwIdeal.defs (F := Ideal)) (onTc (τ := Cert.ReadDwIdeal.τ) (Cert.ReadDwIdeal.main (F := Ideal))) ⟨m, fun _ => 0, g⟩ (fun r => (∀ c : Dev Cert.ReadDwIdeal.nD,
      r.2.mem ((c.tc : Thread Cert.ReadDwIdeal.nD Cert.ReadDwIdeal.τ).loc Cert.ReadDwIdeal.main_arg0) = m ((c.tc : Thread Cert.ReadDwIdeal.nD Cert.ReadDwIdeal.τ).loc Cert.ReadDwIdeal.main_arg0)
      ∧ r.2.mem ((c.tc : Thread Cert.ReadDwIdeal.nD Cert.ReadDwIdeal.τ).loc Cert.ReadDwIdeal.main_arg1) = m ((c.tc : Thread Cert.ReadDwIdeal.nD Cert.ReadDwIdeal.τ).loc Cert.ReadDwIdeal.main_arg1))
      ∧ r.2.sem = fun _ => 0)

def quiescent_ReadDwReferenceIdeal [hReadDwReferenceIdeal : Cert.ReadDwReferenceIdeal.Facts] : Prop :=
  ∀ (m : (ℓ : Loc Cert.ReadDwReferenceIdeal.nD Cert.ReadDwReferenceIdeal.τ Cert.ReadDwReferenceIdeal.sig) → Buf (Elt Ideal) ℓ) (g : Dev Cert.ReadDwReferenceIdeal.nD → PrngReg), Pre_ReadDwReferenceIdeal m →
    θ_run (Cert.ReadDwReferenceIdeal.defs (F := Ideal)) (onTc (τ := Cert.ReadDwReferenceIdeal.τ) (Cert.ReadDwReferenceIdeal.main (F := Ideal))) ⟨m, fun _ => 0, g⟩ (fun r => (∀ c : Dev Cert.ReadDwReferenceIdeal.nD,
      r.2.mem ((c.tc : Thread Cert.ReadDwReferenceIdeal.nD Cert.ReadDwReferenceIdeal.τ).loc Cert.ReadDwReferenceIdeal.main_arg0) = m ((c.tc : Thread Cert.ReadDwReferenceIdeal.nD Cert.ReadDwReferenceIdeal.τ).loc Cert.ReadDwReferenceIdeal.main_arg0)
      ∧ r.2.mem ((c.tc : Thread Cert.ReadDwReferenceIdeal.nD Cert.ReadDwReferenceIdeal.τ).loc Cert.ReadDwReferenceIdeal.main_arg1) = m ((c.tc : Thread Cert.ReadDwReferenceIdeal.nD Cert.ReadDwReferenceIdeal.τ).loc Cert.ReadDwReferenceIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_UkvDxReferenceIdeal [hUkvDxReferenceIdeal : Cert.UkvDxReferenceIdeal.Facts] : Prop :=
  ∀ (m : (ℓ : Loc Cert.UkvDxReferenceIdeal.nD Cert.UkvDxReferenceIdeal.τ Cert.UkvDxReferenceIdeal.sig) → Buf (Elt Ideal) ℓ) (g : Dev Cert.UkvDxReferenceIdeal.nD → PrngReg), Pre_UkvDxReferenceIdeal m →
    θ_run (Cert.UkvDxReferenceIdeal.defs (F := Ideal)) (onTc (τ := Cert.UkvDxReferenceIdeal.τ) (Cert.UkvDxReferenceIdeal.main (F := Ideal))) ⟨m, fun _ => 0, g⟩ (fun r => (∀ c : Dev Cert.UkvDxReferenceIdeal.nD,
      r.2.mem ((c.tc : Thread Cert.UkvDxReferenceIdeal.nD Cert.UkvDxReferenceIdeal.τ).loc Cert.UkvDxReferenceIdeal.main_arg0) = m ((c.tc : Thread Cert.UkvDxReferenceIdeal.nD Cert.UkvDxReferenceIdeal.τ).loc Cert.UkvDxReferenceIdeal.main_arg0)
      ∧ r.2.mem ((c.tc : Thread Cert.UkvDxReferenceIdeal.nD Cert.UkvDxReferenceIdeal.τ).loc Cert.UkvDxReferenceIdeal.main_arg1) = m ((c.tc : Thread Cert.UkvDxReferenceIdeal.nD Cert.UkvDxReferenceIdeal.τ).loc Cert.UkvDxReferenceIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1)
      ∧ r.2.mem ((c.tc : Thread Cert.GluDx.nD Cert.GluDx.τ).loc Cert.GluDx.main_arg2) = m ((c.tc : Thread Cert.GluDx.nD Cert.GluDx.τ).loc Cert.GluDx.main_arg2))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
      ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ r.2.sem = fun _ => 0)

def quiescent_GluDxReferenceIdeal [hGluDxReferenceIdeal : Cert.GluDxReferenceIdeal.Facts] : Prop :=
  ∀ (m : (ℓ : Loc Cert.GluDxReferenceIdeal.nD Cert.GluDxReferenceIdeal.τ Cert.GluDxReferenceIdeal.sig) → Buf (Elt Ideal) ℓ) (g : Dev Cert.GluDxReferenceIdeal.nD → PrngReg), Pre_GluDxReferenceIdeal m →
    θ_run (Cert.GluDxReferenceIdeal.defs (F := Ideal)) (onTc (τ := Cert.GluDxReferenceIdeal.τ) (Cert.GluDxReferenceIdeal.main (F := Ideal))) ⟨m, fun _ => 0, g⟩ (fun r => (∀ c : Dev Cert.GluDxReferenceIdeal.nD,
      r.2.mem ((c.tc : Thread Cert.GluDxReferenceIdeal.nD Cert.GluDxReferenceIdeal.τ).loc Cert.GluDxReferenceIdeal.main_arg0) = m ((c.tc : Thread Cert.GluDxReferenceIdeal.nD Cert.GluDxReferenceIdeal.τ).loc Cert.GluDxReferenceIdeal.main_arg0)
      ∧ r.2.mem ((c.tc : Thread Cert.GluDxReferenceIdeal.nD Cert.GluDxReferenceIdeal.τ).loc Cert.GluDxReferenceIdeal.main_arg1) = m ((c.tc : Thread Cert.GluDxReferenceIdeal.nD Cert.GluDxReferenceIdeal.τ).loc Cert.GluDxReferenceIdeal.main_arg1)
      ∧ r.2.mem ((c.tc : Thread Cert.GluDxReferenceIdeal.nD Cert.GluDxReferenceIdeal.τ).loc Cert.GluDxReferenceIdeal.main_arg2) = m ((c.tc : Thread Cert.GluDxReferenceIdeal.nD Cert.GluDxReferenceIdeal.τ).loc Cert.GluDxReferenceIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwReferenceIdeal [hGluDwReferenceIdeal : Cert.GluDwReferenceIdeal.Facts] : Prop :=
  ∀ (m : (ℓ : Loc Cert.GluDwReferenceIdeal.nD Cert.GluDwReferenceIdeal.τ Cert.GluDwReferenceIdeal.sig) → Buf (Elt Ideal) ℓ) (g : Dev Cert.GluDwReferenceIdeal.nD → PrngReg), Pre_GluDwReferenceIdeal m →
    θ_run (Cert.GluDwReferenceIdeal.defs (F := Ideal)) (onTc (τ := Cert.GluDwReferenceIdeal.τ) (Cert.GluDwReferenceIdeal.main (F := Ideal))) ⟨m, fun _ => 0, g⟩ (fun r => (∀ c : Dev Cert.GluDwReferenceIdeal.nD,
      r.2.mem ((c.tc : Thread Cert.GluDwReferenceIdeal.nD Cert.GluDwReferenceIdeal.τ).loc Cert.GluDwReferenceIdeal.main_arg0) = m ((c.tc : Thread Cert.GluDwReferenceIdeal.nD Cert.GluDwReferenceIdeal.τ).loc Cert.GluDwReferenceIdeal.main_arg0)
      ∧ r.2.mem ((c.tc : Thread Cert.GluDwReferenceIdeal.nD Cert.GluDwReferenceIdeal.τ).loc Cert.GluDwReferenceIdeal.main_arg1) = m ((c.tc : Thread Cert.GluDwReferenceIdeal.nD Cert.GluDwReferenceIdeal.τ).loc Cert.GluDwReferenceIdeal.main_arg1))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3))
      ∧ r.2.sem = fun _ => 0)

def quiescent_CrossReferenceIdeal [hCrossReferenceIdeal : Cert.CrossReferenceIdeal.Facts] : Prop :=
  ∀ (m : (ℓ : Loc Cert.CrossReferenceIdeal.nD Cert.CrossReferenceIdeal.τ Cert.CrossReferenceIdeal.sig) → Buf (Elt Ideal) ℓ) (g : Dev Cert.CrossReferenceIdeal.nD → PrngReg), Pre_CrossReferenceIdeal m →
    θ_run (Cert.CrossReferenceIdeal.defs (F := Ideal)) (onTc (τ := Cert.CrossReferenceIdeal.τ) (Cert.CrossReferenceIdeal.main (F := Ideal))) ⟨m, fun _ => 0, g⟩ (fun r => (∀ c : Dev Cert.CrossReferenceIdeal.nD,
      r.2.mem ((c.tc : Thread Cert.CrossReferenceIdeal.nD Cert.CrossReferenceIdeal.τ).loc Cert.CrossReferenceIdeal.main_arg0) = m ((c.tc : Thread Cert.CrossReferenceIdeal.nD Cert.CrossReferenceIdeal.τ).loc Cert.CrossReferenceIdeal.main_arg0)
      ∧ r.2.mem ((c.tc : Thread Cert.CrossReferenceIdeal.nD Cert.CrossReferenceIdeal.τ).loc Cert.CrossReferenceIdeal.main_arg1) = m ((c.tc : Thread Cert.CrossReferenceIdeal.nD Cert.CrossReferenceIdeal.τ).loc Cert.CrossReferenceIdeal.main_arg1)
      ∧ r.2.mem ((c.tc : Thread Cert.CrossReferenceIdeal.nD Cert.CrossReferenceIdeal.τ).loc Cert.CrossReferenceIdeal.main_arg2) = m ((c.tc : Thread Cert.CrossReferenceIdeal.nD Cert.CrossReferenceIdeal.τ).loc Cert.CrossReferenceIdeal.main_arg2)
      ∧ r.2.mem ((c.tc : Thread Cert.CrossReferenceIdeal.nD Cert.CrossReferenceIdeal.τ).loc Cert.CrossReferenceIdeal.main_arg3) = m ((c.tc : Thread Cert.CrossReferenceIdeal.nD Cert.CrossReferenceIdeal.τ).loc Cert.CrossReferenceIdeal.main_arg3))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanReferenceIdeal [hScanReferenceIdeal : Cert.ScanReferenceIdeal.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4))
      ∧ r.2.sem = fun _ => 0)

def quiescent_ScanReferenceIdeal_pre_finite_scan [hScanReferenceIdeal : Cert.ScanReferenceIdeal.Facts] [hPre_finite_scan : Cert.Pre_finite_scan.Facts] : Prop :=
  ∀ (m : (ℓ : Loc Cert.ScanReferenceIdeal.nD Cert.ScanReferenceIdeal.τ Cert.ScanReferenceIdeal.sig) → Buf (Elt Ideal) ℓ) (g : Dev Cert.ScanReferenceIdeal.nD → PrngReg), Pre_ScanReferenceIdeal_finite_scan m →
    θ_run (Cert.ScanReferenceIdeal.defs (F := Ideal)) (onTc (τ := Cert.ScanReferenceIdeal.τ) (Cert.ScanReferenceIdeal.main (F := Ideal))) ⟨m, fun _ => 0, g⟩ (fun r => (∀ c : Dev Cert.ScanReferenceIdeal.nD,
      r.2.mem ((c.tc : Thread Cert.ScanReferenceIdeal.nD Cert.ScanReferenceIdeal.τ).loc Cert.ScanReferenceIdeal.main_arg0) = m ((c.tc : Thread Cert.ScanReferenceIdeal.nD Cert.ScanReferenceIdeal.τ).loc Cert.ScanReferenceIdeal.main_arg0)
      ∧ r.2.mem ((c.tc : Thread Cert.ScanReferenceIdeal.nD Cert.ScanReferenceIdeal.τ).loc Cert.ScanReferenceIdeal.main_arg1) = m ((c.tc : Thread Cert.ScanReferenceIdeal.nD Cert.ScanReferenceIdeal.τ).loc Cert.ScanReferenceIdeal.main_arg1)
      ∧ r.2.mem ((c.tc : Thread Cert.ScanReferenceIdeal.nD Cert.ScanReferenceIdeal.τ).loc Cert.ScanReferenceIdeal.main_arg2) = m ((c.tc : Thread Cert.ScanReferenceIdeal.nD Cert.ScanReferenceIdeal.τ).loc Cert.ScanReferenceIdeal.main_arg2)
      ∧ r.2.mem ((c.tc : Thread Cert.ScanReferenceIdeal.nD Cert.ScanReferenceIdeal.τ).loc Cert.ScanReferenceIdeal.main_arg3) = m ((c.tc : Thread Cert.ScanReferenceIdeal.nD Cert.ScanReferenceIdeal.τ).loc Cert.ScanReferenceIdeal.main_arg3)
      ∧ r.2.mem ((c.tc : Thread Cert.ScanReferenceIdeal.nD Cert.ScanReferenceIdeal.τ).loc Cert.ScanReferenceIdeal.main_arg4) = m ((c.tc : Thread Cert.ScanReferenceIdeal.nD Cert.ScanReferenceIdeal.τ).loc Cert.ScanReferenceIdeal.main_arg4))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v14) = v0 c
          ∧ r.2.mem ((c.tc : Thread Cert.GatesReferenceIdeal.nD Cert.GatesReferenceIdeal.τ).loc Cert.GatesReferenceIdeal.main_v15) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v9) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v8) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v12) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_v9) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v35) = v0 c
          ∧ r.2.mem ((c.tc : Thread Cert.NormBwdReferenceIdeal.nD Cert.NormBwdReferenceIdeal.τ).loc Cert.NormBwdReferenceIdeal.main_v18) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v3) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2))

def preserves_MixDx_MixDxIdeal : Prop :=
  True

def algebraic_MixDxIdeal_MixDxReferenceIdeal [hMixDxIdeal : Cert.MixDxIdeal.Facts] [hMixDxReferenceIdeal : Cert.MixDxReferenceIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxReferenceIdeal.nD Cert.MixDxReferenceIdeal.τ Cert.MixDxReferenceIdeal.sig) → Buf (Elt Ideal) ℓ) (g' : Dev Cert.MixDxReferenceIdeal.nD → PrngReg), Pre_MixDxIdeal m →
    (∀ c : Dev Cert.MixDxIdeal.nD,
      m' ((c.tc : Thread Cert.MixDxReferenceIdeal.nD Cert.MixDxReferenceIdeal.τ).loc Cert.MixDxReferenceIdeal.main_arg0) = m ((c.tc : Thread Cert.MixDxIdeal.nD Cert.MixDxIdeal.τ).loc Cert.MixDxIdeal.main_arg0)
      ∧ m' ((c.tc : Thread Cert.MixDxReferenceIdeal.nD Cert.MixDxReferenceIdeal.τ).loc Cert.MixDxReferenceIdeal.main_arg1) = m ((c.tc : Thread Cert.MixDxIdeal.nD Cert.MixDxIdeal.τ).loc Cert.MixDxIdeal.main_arg1)) →
    ∃ (v0 : (c : Dev Cert.MixDxIdeal.nD) → Buf (Elt Ideal) ((c.tc : Thread Cert.MixDxIdeal.nD Cert.MixDxIdeal.τ).loc Cert.MixDxIdeal.main_v0)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v0) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1))
      ∧ θ_run (Cert.MixDxReferenceIdeal.defs (F := Ideal)) (onTc (τ := Cert.MixDxReferenceIdeal.τ) (Cert.MixDxReferenceIdeal.main (F := Ideal))) ⟨m', fun _ => 0, g'⟩ (fun r => ∀ c : Dev Cert.MixDxReferenceIdeal.nD,
          r.2.mem ((c.tc : Thread Cert.MixDxReferenceIdeal.nD Cert.MixDxReferenceIdeal.τ).loc Cert.MixDxReferenceIdeal.main_v4) = v0 c
          ∧ r.2.mem ((c.tc : Thread Cert.MixDxReferenceIdeal.nD Cert.MixDxReferenceIdeal.τ).loc Cert.MixDxReferenceIdeal.main_arg0) = m' ((c.tc : Thread Cert.MixDxReferenceIdeal.nD Cert.MixDxReferenceIdeal.τ).loc Cert.MixDxReferenceIdeal.main_arg0)
          ∧ r.2.mem ((c.tc : Thread Cert.MixDxReferenceIdeal.nD Cert.MixDxReferenceIdeal.τ).loc Cert.MixDxReferenceIdeal.main_arg1) = m' ((c.tc : Thread Cert.MixDxReferenceIdeal.nD Cert.MixDxReferenceIdeal.τ).loc Cert.MixDxReferenceIdeal.main_arg1))

def preserves_MixDw_MixDwIdeal : Prop :=
  True

def algebraic_MixDwIdeal_MixDwReferenceIdeal [hMixDwIdeal : Cert.MixDwIdeal.Facts] [hMixDwReferenceIdeal : Cert.MixDwReferenceIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwReferenceIdeal.nD Cert.MixDwReferenceIdeal.τ Cert.MixDwReferenceIdeal.sig) → Buf (Elt Ideal) ℓ) (g' : Dev Cert.MixDwReferenceIdeal.nD → PrngReg), Pre_MixDwIdeal m →
    (∀ c : Dev Cert.MixDwIdeal.nD,
      m' ((c.tc : Thread Cert.MixDwReferenceIdeal.nD Cert.MixDwReferenceIdeal.τ).loc Cert.MixDwReferenceIdeal.main_arg0) = m ((c.tc : Thread Cert.MixDwIdeal.nD Cert.MixDwIdeal.τ).loc Cert.MixDwIdeal.main_arg0)
      ∧ m' ((c.tc : Thread Cert.MixDwReferenceIdeal.nD Cert.MixDwReferenceIdeal.τ).loc Cert.MixDwReferenceIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwReferenceIdeal.defs (F := Ideal)) (onTc (τ := Cert.MixDwReferenceIdeal.τ) (Cert.MixDwReferenceIdeal.main (F := Ideal))) ⟨m', fun _ => 0, g'⟩ (fun r => ∀ c : Dev Cert.MixDwReferenceIdeal.nD,
          r.2.mem ((c.tc : Thread Cert.MixDwReferenceIdeal.nD Cert.MixDwReferenceIdeal.τ).loc Cert.MixDwReferenceIdeal.main_v5) = v0 c
          ∧ r.2.mem ((c.tc : Thread Cert.MixDwReferenceIdeal.nD Cert.MixDwReferenceIdeal.τ).loc Cert.MixDwReferenceIdeal.main_arg0) = m' ((c.tc : Thread Cert.MixDwReferenceIdeal.nD Cert.MixDwReferenceIdeal.τ).loc Cert.MixDwReferenceIdeal.main_arg0)
          ∧ r.2.mem ((c.tc : Thread Cert.MixDwReferenceIdeal.nD Cert.MixDwReferenceIdeal.τ).loc Cert.MixDwReferenceIdeal.main_arg1) = m' ((c.tc : Thread Cert.MixDwReferenceIdeal.nD Cert.MixDwReferenceIdeal.τ).loc Cert.MixDwReferenceIdeal.main_arg1))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v2) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_QueryDx_QueryDxIdeal : Prop :=
  True

def algebraic_QueryDxIdeal_QueryDxReferenceIdeal [hQueryDxIdeal : Cert.QueryDxIdeal.Facts] [hQueryDxReferenceIdeal : Cert.QueryDxReferenceIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxReferenceIdeal.nD Cert.QueryDxReferenceIdeal.τ Cert.QueryDxReferenceIdeal.sig) → Buf (Elt Ideal) ℓ) (g' : Dev Cert.QueryDxReferenceIdeal.nD → PrngReg), Pre_QueryDxIdeal m →
    (∀ c : Dev Cert.QueryDxIdeal.nD,
      m' ((c.tc : Thread Cert.QueryDxReferenceIdeal.nD Cert.QueryDxReferenceIdeal.τ).loc Cert.QueryDxReferenceIdeal.main_arg0) = m ((c.tc : Thread Cert.QueryDxIdeal.nD Cert.QueryDxIdeal.τ).loc Cert.QueryDxIdeal.main_arg0)
      ∧ m' ((c.tc : Thread Cert.QueryDxReferenceIdeal.nD Cert.QueryDxReferenceIdeal.τ).loc Cert.QueryDxReferenceIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v0)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v0) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.QueryDxReferenceIdeal.defs (F := Ideal)) (onTc (τ := Cert.QueryDxReferenceIdeal.τ) (Cert.QueryDxReferenceIdeal.main (F := Ideal))) ⟨m', fun _ => 0, g'⟩ (fun r => ∀ c : Dev Cert.QueryDxReferenceIdeal.nD,
          r.2.mem ((c.tc : Thread Cert.QueryDxReferenceIdeal.nD Cert.QueryDxReferenceIdeal.τ).loc Cert.QueryDxReferenceIdeal.main_v5) = v0 c
          ∧ r.2.mem ((c.tc : Thread Cert.QueryDxReferenceIdeal.nD Cert.QueryDxReferenceIdeal.τ).loc Cert.QueryDxReferenceIdeal.main_arg0) = m' ((c.tc : Thread Cert.QueryDxReferenceIdeal.nD Cert.QueryDxReferenceIdeal.τ).loc Cert.QueryDxReferenceIdeal.main_arg0)
          ∧ r.2.mem ((c.tc : Thread Cert.QueryDxReferenceIdeal.nD Cert.QueryDxReferenceIdeal.τ).loc Cert.QueryDxReferenceIdeal.main_arg1) = m' ((c.tc : Thread Cert.QueryDxReferenceIdeal.nD Cert.QueryDxReferenceIdeal.τ).loc Cert.QueryDxReferenceIdeal.main_arg1))

def preserves_QueryDw_QueryDwIdeal : Prop :=
  True

def algebraic_QueryDwIdeal_QueryDwReferenceIdeal [hQueryDwIdeal : Cert.QueryDwIdeal.Facts] [hQueryDwReferenceIdeal : Cert.QueryDwReferenceIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwReferenceIdeal.nD Cert.QueryDwReferenceIdeal.τ Cert.QueryDwReferenceIdeal.sig) → Buf (Elt Ideal) ℓ) (g' : Dev Cert.QueryDwReferenceIdeal.nD → PrngReg), Pre_QueryDwIdeal m →
    (∀ c : Dev Cert.QueryDwIdeal.nD,
      m' ((c.tc : Thread Cert.QueryDwReferenceIdeal.nD Cert.QueryDwReferenceIdeal.τ).loc Cert.QueryDwReferenceIdeal.main_arg0) = m ((c.tc : Thread Cert.QueryDwIdeal.nD Cert.QueryDwIdeal.τ).loc Cert.QueryDwIdeal.main_arg0)
      ∧ m' ((c.tc : Thread Cert.QueryDwReferenceIdeal.nD Cert.QueryDwReferenceIdeal.τ).loc Cert.QueryDwReferenceIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwReferenceIdeal.defs (F := Ideal)) (onTc (τ := Cert.QueryDwReferenceIdeal.τ) (Cert.QueryDwReferenceIdeal.main (F := Ideal))) ⟨m', fun _ => 0, g'⟩ (fun r => ∀ c : Dev Cert.QueryDwReferenceIdeal.nD,
          r.2.mem ((c.tc : Thread Cert.QueryDwReferenceIdeal.nD Cert.QueryDwReferenceIdeal.τ).loc Cert.QueryDwReferenceIdeal.main_v6) = v0 c
          ∧ r.2.mem ((c.tc : Thread Cert.QueryDwReferenceIdeal.nD Cert.QueryDwReferenceIdeal.τ).loc Cert.QueryDwReferenceIdeal.main_arg0) = m' ((c.tc : Thread Cert.QueryDwReferenceIdeal.nD Cert.QueryDwReferenceIdeal.τ).loc Cert.QueryDwReferenceIdeal.main_arg0)
          ∧ r.2.mem ((c.tc : Thread Cert.QueryDwReferenceIdeal.nD Cert.QueryDwReferenceIdeal.τ).loc Cert.QueryDwReferenceIdeal.main_arg1) = m' ((c.tc : Thread Cert.QueryDwReferenceIdeal.nD Cert.QueryDwReferenceIdeal.τ).loc Cert.QueryDwReferenceIdeal.main_arg1))

def preserves_Read_ReadIdeal : Prop :=
  True

def algebraic_ReadIdeal_ReadReferenceIdeal [hReadIdeal : Cert.ReadIdeal.Facts] [hReadReferenceIdeal : Cert.ReadReferenceIdeal.Facts] : Prop :=
  ∀ (m : (ℓ : Loc Cert.ReadIdeal.nD Cert.ReadIdeal.τ Cert.ReadIdeal.sig) → Buf (Elt Ideal) ℓ) (g : Dev Cert.ReadIdeal.nD → PrngReg)
    (m' : (ℓ : Loc Cert.ReadReferenceIdeal.nD Cert.ReadReferenceIdeal.τ Cert.ReadReferenceIdeal.sig) → Buf (Elt Ideal) ℓ) (g' : Dev Cert.ReadReferenceIdeal.nD → PrngReg), Pre_ReadIdeal m →
    (∀ c : Dev Cert.ReadIdeal.nD,
      m' ((c.tc : Thread Cert.ReadReferenceIdeal.nD Cert.ReadReferenceIdeal.τ).loc Cert.ReadReferenceIdeal.main_arg0) = m ((c.tc : Thread Cert.ReadIdeal.nD Cert.ReadIdeal.τ).loc Cert.ReadIdeal.main_arg0)
      ∧ m' ((c.tc : Thread Cert.ReadReferenceIdeal.nD Cert.ReadReferenceIdeal.τ).loc Cert.ReadReferenceIdeal.main_arg1) = m ((c.tc : Thread Cert.ReadIdeal.nD Cert.ReadIdeal.τ).loc Cert.ReadIdeal.main_arg1)
      ∧ m' ((c.tc : Thread Cert.ReadReferenceIdeal.nD Cert.ReadReferenceIdeal.τ).loc Cert.ReadReferenceIdeal.main_arg2) = m ((c.tc : Thread Cert.ReadIdeal.nD Cert.ReadIdeal.τ).loc Cert.ReadIdeal.main_arg2)) →
    ∃ (v0 : (c : Dev Cert.ReadIdeal.nD) → Buf (Elt Ideal) ((c.tc : Thread Cert.ReadIdeal.nD Cert.ReadIdeal.τ).loc Cert.ReadIdeal.main_v0)),
      θ_run (Cert.ReadIdeal.defs (F := Ideal)) (onTc (τ := Cert.ReadIdeal.τ) (Cert.ReadIdeal.main (F := Ideal))) ⟨m, fun _ => 0, g⟩ (fun r => ∀ c : Dev Cert.ReadIdeal.nD,
          r.2.mem ((c.tc : Thread Cert.ReadIdeal.nD Cert.ReadIdeal.τ).loc Cert.ReadIdeal.main_v0) = v0 c
          ∧ r.2.mem ((c.tc : Thread Cert.ReadIdeal.nD Cert.ReadIdeal.τ).loc Cert.ReadIdeal.main_arg0) = m ((c.tc : Thread Cert.ReadIdeal.nD Cert.ReadIdeal.τ).loc Cert.ReadIdeal.main_arg0)
          ∧ r.2.mem ((c.tc : Thread Cert.ReadIdeal.nD Cert.ReadIdeal.τ).loc Cert.ReadIdeal.main_arg1) = m ((c.tc : Thread Cert.ReadIdeal.nD Cert.ReadIdeal.τ).loc Cert.ReadIdeal.main_arg1)
          ∧ r.2.mem ((c.tc : Thread Cert.ReadIdeal.nD Cert.ReadIdeal.τ).loc Cert.ReadIdeal.main_arg2) = m ((c.tc : Thread Cert.ReadIdeal.nD Cert.ReadIdeal.τ).loc Cert.ReadIdeal.main_arg2))
      ∧ θ_run (Cert.ReadReferenceIdeal.defs (F := Ideal)) (onTc (τ := Cert.ReadReferenceIdeal.τ) (Cert.ReadReferenceIdeal.main (F := Ideal))) ⟨m', fun _ => 0, g'⟩ (fun r => ∀ c : Dev Cert.ReadReferenceIdeal.nD,
          r.2.mem ((c.tc : Thread Cert.ReadReferenceIdeal.nD Cert.ReadReferenceIdeal.τ).loc Cert.ReadReferenceIdeal.main_v4) = v0 c
          ∧ r.2.mem ((c.tc : Thread Cert.ReadReferenceIdeal.nD Cert.ReadReferenceIdeal.τ).loc Cert.ReadReferenceIdeal.main_arg0) = m' ((c.tc : Thread Cert.ReadReferenceIdeal.nD Cert.ReadReferenceIdeal.τ).loc Cert.ReadReferenceIdeal.main_arg0)
          ∧ r.2.mem ((c.tc : Thread Cert.ReadReferenceIdeal.nD Cert.ReadReferenceIdeal.τ).loc Cert.ReadReferenceIdeal.main_arg1) = m' ((c.tc : Thread Cert.ReadReferenceIdeal.nD Cert.ReadReferenceIdeal.τ).loc Cert.ReadReferenceIdeal.main_arg1)
          ∧ r.2.mem ((c.tc : Thread Cert.ReadReferenceIdeal.nD Cert.ReadReferenceIdeal.τ).loc Cert.ReadReferenceIdeal.main_arg2) = m' ((c.tc : Thread Cert.ReadReferenceIdeal.nD Cert.ReadReferenceIdeal.τ).loc Cert.ReadReferenceIdeal.main_arg2))

def preserves_ReadDx_ReadDxIdeal : Prop :=
  True

def algebraic_ReadDxIdeal_ReadDxReferenceIdeal [hReadDxIdeal : Cert.ReadDxIdeal.Facts] [hReadDxReferenceIdeal : Cert.ReadDxReferenceIdeal.Facts] : Prop :=
  ∀ (m : (ℓ : Loc Cert.ReadDxIdeal.nD Cert.ReadDxIdeal.τ Cert.ReadDxIdeal.sig) → Buf (Elt Ideal) ℓ) (g : Dev Cert.ReadDxIdeal.nD → PrngReg)
    (m' : (ℓ : Loc Cert.ReadDxReferenceIdeal.nD Cert.ReadDxReferenceIdeal.τ Cert.ReadDxReferenceIdeal.sig) → Buf (Elt Ideal) ℓ) (g' : Dev Cert.ReadDxReferenceIdeal.nD → PrngReg), Pre_ReadDxIdeal m →
    (∀ c : Dev Cert.ReadDxIdeal.nD,
      m' ((c.tc : Thread Cert.ReadDxReferenceIdeal.nD Cert.ReadDxReferenceIdeal.τ).loc Cert.ReadDxReferenceIdeal.main_arg0) = m ((c.tc : Thread Cert.ReadDxIdeal.nD Cert.ReadDxIdeal.τ).loc Cert.ReadDxIdeal.main_arg0)
      ∧ m' ((c.tc : Thread Cert.ReadDxReferenceIdeal.nD Cert.ReadDxReferenceIdeal.τ).loc Cert.ReadDxReferenceIdeal.main_arg1) = m ((c.tc : Thread Cert.ReadDxIdeal.nD Cert.ReadDxIdeal.τ).loc Cert.ReadDxIdeal.main_arg1)) →
    ∃ (v0 : (c : Dev Cert.ReadDxIdeal.nD) → Buf (Elt Ideal) ((c.tc : Thread Cert.ReadDxIdeal.nD Cert.ReadDxIdeal.τ).loc Cert.ReadDxIdeal.main_v0)),
      θ_run (Cert.ReadDxIdeal.defs (F := Ideal)) (onTc (τ := Cert.ReadDxIdeal.τ) (Cert.ReadDxIdeal.main (F := Ideal))) ⟨m, fun _ => 0, g⟩ (fun r => ∀ c : Dev Cert.ReadDxIdeal.nD,
          r.2.mem ((c.tc : Thread Cert.ReadDxIdeal.nD Cert.ReadDxIdeal.τ).loc Cert.ReadDxIdeal.main_v0) = v0 c
          ∧ r.2.mem ((c.tc : Thread Cert.ReadDxIdeal.nD Cert.ReadDxIdeal.τ).loc Cert.ReadDxIdeal.main_arg0) = m ((c.tc : Thread Cert.ReadDxIdeal.nD Cert.ReadDxIdeal.τ).loc Cert.ReadDxIdeal.main_arg0)
          ∧ r.2.mem ((c.tc : Thread Cert.ReadDxIdeal.nD Cert.ReadDxIdeal.τ).loc Cert.ReadDxIdeal.main_arg1) = m ((c.tc : Thread Cert.ReadDxIdeal.nD Cert.ReadDxIdeal.τ).loc Cert.ReadDxIdeal.main_arg1))
      ∧ θ_run (Cert.ReadDxReferenceIdeal.defs (F := Ideal)) (onTc (τ := Cert.ReadDxReferenceIdeal.τ) (Cert.ReadDxReferenceIdeal.main (F := Ideal))) ⟨m', fun _ => 0, g'⟩ (fun r => ∀ c : Dev Cert.ReadDxReferenceIdeal.nD,
          r.2.mem ((c.tc : Thread Cert.ReadDxReferenceIdeal.nD Cert.ReadDxReferenceIdeal.τ).loc Cert.ReadDxReferenceIdeal.main_v5) = v0 c
          ∧ r.2.mem ((c.tc : Thread Cert.ReadDxReferenceIdeal.nD Cert.ReadDxReferenceIdeal.τ).loc Cert.ReadDxReferenceIdeal.main_arg0) = m' ((c.tc : Thread Cert.ReadDxReferenceIdeal.nD Cert.ReadDxReferenceIdeal.τ).loc Cert.ReadDxReferenceIdeal.main_arg0)
          ∧ r.2.mem ((c.tc : Thread Cert.ReadDxReferenceIdeal.nD Cert.ReadDxReferenceIdeal.τ).loc Cert.ReadDxReferenceIdeal.main_arg1) = m' ((c.tc : Thread Cert.ReadDxReferenceIdeal.nD Cert.ReadDxReferenceIdeal.τ).loc Cert.ReadDxReferenceIdeal.main_arg1))

def preserves_ReadDw_ReadDwIdeal : Prop :=
  True

def algebraic_ReadDwIdeal_ReadDwReferenceIdeal [hReadDwIdeal : Cert.ReadDwIdeal.Facts] [hReadDwReferenceIdeal : Cert.ReadDwReferenceIdeal.Facts] : Prop :=
  ∀ (m : (ℓ : Loc Cert.ReadDwIdeal.nD Cert.ReadDwIdeal.τ Cert.ReadDwIdeal.sig) → Buf (Elt Ideal) ℓ) (g : Dev Cert.ReadDwIdeal.nD → PrngReg)
    (m' : (ℓ : Loc Cert.ReadDwReferenceIdeal.nD Cert.ReadDwReferenceIdeal.τ Cert.ReadDwReferenceIdeal.sig) → Buf (Elt Ideal) ℓ) (g' : Dev Cert.ReadDwReferenceIdeal.nD → PrngReg), Pre_ReadDwIdeal m →
    (∀ c : Dev Cert.ReadDwIdeal.nD,
      m' ((c.tc : Thread Cert.ReadDwReferenceIdeal.nD Cert.ReadDwReferenceIdeal.τ).loc Cert.ReadDwReferenceIdeal.main_arg0) = m ((c.tc : Thread Cert.ReadDwIdeal.nD Cert.ReadDwIdeal.τ).loc Cert.ReadDwIdeal.main_arg0)
      ∧ m' ((c.tc : Thread Cert.ReadDwReferenceIdeal.nD Cert.ReadDwReferenceIdeal.τ).loc Cert.ReadDwReferenceIdeal.main_arg1) = m ((c.tc : Thread Cert.ReadDwIdeal.nD Cert.ReadDwIdeal.τ).loc Cert.ReadDwIdeal.main_arg1)) →
    ∃ (v0 : (c : Dev Cert.ReadDwIdeal.nD) → Buf (Elt Ideal) ((c.tc : Thread Cert.ReadDwIdeal.nD Cert.ReadDwIdeal.τ).loc Cert.ReadDwIdeal.main_v0)),
      θ_run (Cert.ReadDwIdeal.defs (F := Ideal)) (onTc (τ := Cert.ReadDwIdeal.τ) (Cert.ReadDwIdeal.main (F := Ideal))) ⟨m, fun _ => 0, g⟩ (fun r => ∀ c : Dev Cert.ReadDwIdeal.nD,
          r.2.mem ((c.tc : Thread Cert.ReadDwIdeal.nD Cert.ReadDwIdeal.τ).loc Cert.ReadDwIdeal.main_v0) = v0 c
          ∧ r.2.mem ((c.tc : Thread Cert.ReadDwIdeal.nD Cert.ReadDwIdeal.τ).loc Cert.ReadDwIdeal.main_arg0) = m ((c.tc : Thread Cert.ReadDwIdeal.nD Cert.ReadDwIdeal.τ).loc Cert.ReadDwIdeal.main_arg0)
          ∧ r.2.mem ((c.tc : Thread Cert.ReadDwIdeal.nD Cert.ReadDwIdeal.τ).loc Cert.ReadDwIdeal.main_arg1) = m ((c.tc : Thread Cert.ReadDwIdeal.nD Cert.ReadDwIdeal.τ).loc Cert.ReadDwIdeal.main_arg1))
      ∧ θ_run (Cert.ReadDwReferenceIdeal.defs (F := Ideal)) (onTc (τ := Cert.ReadDwReferenceIdeal.τ) (Cert.ReadDwReferenceIdeal.main (F := Ideal))) ⟨m', fun _ => 0, g'⟩ (fun r => ∀ c : Dev Cert.ReadDwReferenceIdeal.nD,
          r.2.mem ((c.tc : Thread Cert.ReadDwReferenceIdeal.nD Cert.ReadDwReferenceIdeal.τ).loc Cert.ReadDwReferenceIdeal.main_v7) = v0 c
          ∧ r.2.mem ((c.tc : Thread Cert.ReadDwReferenceIdeal.nD Cert.ReadDwReferenceIdeal.τ).loc Cert.ReadDwReferenceIdeal.main_arg0) = m' ((c.tc : Thread Cert.ReadDwReferenceIdeal.nD Cert.ReadDwReferenceIdeal.τ).loc Cert.ReadDwReferenceIdeal.main_arg0)
          ∧ r.2.mem ((c.tc : Thread Cert.ReadDwReferenceIdeal.nD Cert.ReadDwReferenceIdeal.τ).loc Cert.ReadDwReferenceIdeal.main_arg1) = m' ((c.tc : Thread Cert.ReadDwReferenceIdeal.nD Cert.ReadDwReferenceIdeal.τ).loc Cert.ReadDwReferenceIdeal.main_arg1))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v4) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UkvDx_UkvDxIdeal : Prop :=
  True

def algebraic_UkvDxIdeal_UkvDxReferenceIdeal [hUkvDxIdeal : Cert.UkvDxIdeal.Facts] [hUkvDxReferenceIdeal : Cert.UkvDxReferenceIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxReferenceIdeal.nD Cert.UkvDxReferenceIdeal.τ Cert.UkvDxReferenceIdeal.sig) → Buf (Elt Ideal) ℓ) (g' : Dev Cert.UkvDxReferenceIdeal.nD → PrngReg), Pre_UkvDxIdeal m →
    (∀ c : Dev Cert.UkvDxIdeal.nD,
      m' ((c.tc : Thread Cert.UkvDxReferenceIdeal.nD Cert.UkvDxReferenceIdeal.τ).loc Cert.UkvDxReferenceIdeal.main_arg0) = m ((c.tc : Thread Cert.UkvDxIdeal.nD Cert.UkvDxIdeal.τ).loc Cert.UkvDxIdeal.main_arg0)
      ∧ m' ((c.tc : Thread Cert.UkvDxReferenceIdeal.nD Cert.UkvDxReferenceIdeal.τ).loc Cert.UkvDxReferenceIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.UkvDxReferenceIdeal.defs (F := Ideal)) (onTc (τ := Cert.UkvDxReferenceIdeal.τ) (Cert.UkvDxReferenceIdeal.main (F := Ideal))) ⟨m', fun _ => 0, g'⟩ (fun r => ∀ c : Dev Cert.UkvDxReferenceIdeal.nD,
          r.2.mem ((c.tc : Thread Cert.UkvDxReferenceIdeal.nD Cert.UkvDxReferenceIdeal.τ).loc Cert.UkvDxReferenceIdeal.main_v6) = v0 c
          ∧ r.2.mem ((c.tc : Thread Cert.UkvDxReferenceIdeal.nD Cert.UkvDxReferenceIdeal.τ).loc Cert.UkvDxReferenceIdeal.main_arg0) = m' ((c.tc : Thread Cert.UkvDxReferenceIdeal.nD Cert.UkvDxReferenceIdeal.τ).loc Cert.UkvDxReferenceIdeal.main_arg0)
          ∧ r.2.mem ((c.tc : Thread Cert.UkvDxReferenceIdeal.nD Cert.UkvDxReferenceIdeal.τ).loc Cert.UkvDxReferenceIdeal.main_arg1) = m' ((c.tc : Thread Cert.UkvDxReferenceIdeal.nD Cert.UkvDxReferenceIdeal.τ).loc Cert.UkvDxReferenceIdeal.main_arg1))

def preserves_UkvDw_UkvDwIdeal : Prop :=
  True

def algebraic_UkvDwIdeal_UkvDwReferenceIdeal [hUkvDwIdeal : Cert.UkvDwIdeal.Facts] [hUkvDwReferenceIdeal : Cert.UkvDwReferenceIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwIdeal m →
    (∀ c : Dev Cert.UkvDwIdeal.nD,
      m' ((c.tc : Thread Cert.UkvDwReferenceIdeal.nD Cert.UkvDwReferenceIdeal.τ).loc Cert.UkvDwReferenceIdeal.main_arg0) = m ((c.tc : Thread Cert.UkvDwIdeal.nD Cert.UkvDwIdeal.τ).loc Cert.UkvDwIdeal.main_arg0)
      ∧ m' ((c.tc : Thread Cert.UkvDwReferenceIdeal.nD Cert.UkvDwReferenceIdeal.τ).loc Cert.UkvDwReferenceIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v8) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v1) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1))

def preserves_GluDx_GluDxIdeal : Prop :=
  True

def algebraic_GluDxIdeal_GluDxReferenceIdeal [hGluDxIdeal : Cert.GluDxIdeal.Facts] [hGluDxReferenceIdeal : Cert.GluDxReferenceIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxReferenceIdeal.nD Cert.GluDxReferenceIdeal.τ Cert.GluDxReferenceIdeal.sig) → Buf (Elt Ideal) ℓ) (g' : Dev Cert.GluDxReferenceIdeal.nD → PrngReg), Pre_GluDxIdeal m →
    (∀ c : Dev Cert.GluDxIdeal.nD,
      m' ((c.tc : Thread Cert.GluDxReferenceIdeal.nD Cert.GluDxReferenceIdeal.τ).loc Cert.GluDxReferenceIdeal.main_arg0) = m ((c.tc : Thread Cert.GluDxIdeal.nD Cert.GluDxIdeal.τ).loc Cert.GluDxIdeal.main_arg0)
      ∧ m' ((c.tc : Thread Cert.GluDxReferenceIdeal.nD Cert.GluDxReferenceIdeal.τ).loc Cert.GluDxReferenceIdeal.main_arg1) = m ((c.tc : Thread Cert.GluDxIdeal.nD Cert.GluDxIdeal.τ).loc Cert.GluDxIdeal.main_arg1)
      ∧ m' ((c.tc : Thread Cert.GluDxReferenceIdeal.nD Cert.GluDxReferenceIdeal.τ).loc Cert.GluDxReferenceIdeal.main_arg2) = m ((c.tc : Thread Cert.GluDxIdeal.nD Cert.GluDxIdeal.τ).loc Cert.GluDxIdeal.main_arg2)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1)
          ∧ r.2.mem ((c.tc : Thread Cert.GluDxIdeal.nD Cert.GluDxIdeal.τ).loc Cert.GluDxIdeal.main_arg2) = m ((c.tc : Thread Cert.GluDxIdeal.nD Cert.GluDxIdeal.τ).loc Cert.GluDxIdeal.main_arg2))
      ∧ θ_run (Cert.GluDxReferenceIdeal.defs (F := Ideal)) (onTc (τ := Cert.GluDxReferenceIdeal.τ) (Cert.GluDxReferenceIdeal.main (F := Ideal))) ⟨m', fun _ => 0, g'⟩ (fun r => ∀ c : Dev Cert.GluDxReferenceIdeal.nD,
          r.2.mem ((c.tc : Thread Cert.GluDxReferenceIdeal.nD Cert.GluDxReferenceIdeal.τ).loc Cert.GluDxReferenceIdeal.main_v5) = v0 c
          ∧ r.2.mem ((c.tc : Thread Cert.GluDxReferenceIdeal.nD Cert.GluDxReferenceIdeal.τ).loc Cert.GluDxReferenceIdeal.main_arg0) = m' ((c.tc : Thread Cert.GluDxReferenceIdeal.nD Cert.GluDxReferenceIdeal.τ).loc Cert.GluDxReferenceIdeal.main_arg0)
          ∧ r.2.mem ((c.tc : Thread Cert.GluDxReferenceIdeal.nD Cert.GluDxReferenceIdeal.τ).loc Cert.GluDxReferenceIdeal.main_arg1) = m' ((c.tc : Thread Cert.GluDxReferenceIdeal.nD Cert.GluDxReferenceIdeal.τ).loc Cert.GluDxReferenceIdeal.main_arg1)
          ∧ r.2.mem ((c.tc : Thread Cert.GluDxReferenceIdeal.nD Cert.GluDxReferenceIdeal.τ).loc Cert.GluDxReferenceIdeal.main_arg2) = m' ((c.tc : Thread Cert.GluDxReferenceIdeal.nD Cert.GluDxReferenceIdeal.τ).loc Cert.GluDxReferenceIdeal.main_arg2))

def preserves_GluDw_GluDwIdeal : Prop :=
  True

def algebraic_GluDwIdeal_GluDwReferenceIdeal [hGluDwIdeal : Cert.GluDwIdeal.Facts] [hGluDwReferenceIdeal : Cert.GluDwReferenceIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwReferenceIdeal.nD Cert.GluDwReferenceIdeal.τ Cert.GluDwReferenceIdeal.sig) → Buf (Elt Ideal) ℓ) (g' : Dev Cert.GluDwReferenceIdeal.nD → PrngReg), Pre_GluDwIdeal m →
    (∀ c : Dev Cert.GluDwIdeal.nD,
      m' ((c.tc : Thread Cert.GluDwReferenceIdeal.nD Cert.GluDwReferenceIdeal.τ).loc Cert.GluDwReferenceIdeal.main_arg0) = m ((c.tc : Thread Cert.GluDwIdeal.nD Cert.GluDwIdeal.τ).loc Cert.GluDwIdeal.main_arg0)
      ∧ m' ((c.tc : Thread Cert.GluDwReferenceIdeal.nD Cert.GluDwReferenceIdeal.τ).loc Cert.GluDwReferenceIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwReferenceIdeal.defs (F := Ideal)) (onTc (τ := Cert.GluDwReferenceIdeal.τ) (Cert.GluDwReferenceIdeal.main (F := Ideal))) ⟨m', fun _ => 0, g'⟩ (fun r => ∀ c : Dev Cert.GluDwReferenceIdeal.nD,
          r.2.mem ((c.tc : Thread Cert.GluDwReferenceIdeal.nD Cert.GluDwReferenceIdeal.τ).loc Cert.GluDwReferenceIdeal.main_v5) = v0 c
          ∧ r.2.mem ((c.tc : Thread Cert.GluDwReferenceIdeal.nD Cert.GluDwReferenceIdeal.τ).loc Cert.GluDwReferenceIdeal.main_arg0) = m' ((c.tc : Thread Cert.GluDwReferenceIdeal.nD Cert.GluDwReferenceIdeal.τ).loc Cert.GluDwReferenceIdeal.main_arg0)
          ∧ r.2.mem ((c.tc : Thread Cert.GluDwReferenceIdeal.nD Cert.GluDwReferenceIdeal.τ).loc Cert.GluDwReferenceIdeal.main_arg1) = m' ((c.tc : Thread Cert.GluDwReferenceIdeal.nD Cert.GluDwReferenceIdeal.τ).loc Cert.GluDwReferenceIdeal.main_arg1))

def preserves_Cross_CrossIdeal : Prop :=
  True

def algebraic_CrossIdeal_CrossReferenceIdeal [hCrossIdeal : Cert.CrossIdeal.Facts] [hCrossReferenceIdeal : Cert.CrossReferenceIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossReferenceIdeal.nD Cert.CrossReferenceIdeal.τ Cert.CrossReferenceIdeal.sig) → Buf (Elt Ideal) ℓ) (g' : Dev Cert.CrossReferenceIdeal.nD → PrngReg), Pre_CrossIdeal m →
    (∀ c : Dev Cert.CrossIdeal.nD,
      m' ((c.tc : Thread Cert.CrossReferenceIdeal.nD Cert.CrossReferenceIdeal.τ).loc Cert.CrossReferenceIdeal.main_arg0) = m ((c.tc : Thread Cert.CrossIdeal.nD Cert.CrossIdeal.τ).loc Cert.CrossIdeal.main_arg0)
      ∧ m' ((c.tc : Thread Cert.CrossReferenceIdeal.nD Cert.CrossReferenceIdeal.τ).loc Cert.CrossReferenceIdeal.main_arg1) = m ((c.tc : Thread Cert.CrossIdeal.nD Cert.CrossIdeal.τ).loc Cert.CrossIdeal.main_arg1)
      ∧ m' ((c.tc : Thread Cert.CrossReferenceIdeal.nD Cert.CrossReferenceIdeal.τ).loc Cert.CrossReferenceIdeal.main_arg2) = m ((c.tc : Thread Cert.CrossIdeal.nD Cert.CrossIdeal.τ).loc Cert.CrossIdeal.main_arg2)
      ∧ m' ((c.tc : Thread Cert.CrossReferenceIdeal.nD Cert.CrossReferenceIdeal.τ).loc Cert.CrossReferenceIdeal.main_arg3) = m ((c.tc : Thread Cert.CrossIdeal.nD Cert.CrossIdeal.τ).loc Cert.CrossIdeal.main_arg3)) →
    ∃ (v0 : (c : Dev Cert.CrossIdeal.nD) → Buf (Elt Ideal) ((c.tc : Thread Cert.CrossIdeal.nD Cert.CrossIdeal.τ).loc Cert.CrossIdeal.main_v0)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v0) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3))
      ∧ θ_run (Cert.CrossReferenceIdeal.defs (F := Ideal)) (onTc (τ := Cert.CrossReferenceIdeal.τ) (Cert.CrossReferenceIdeal.main (F := Ideal))) ⟨m', fun _ => 0, g'⟩ (fun r => ∀ c : Dev Cert.CrossReferenceIdeal.nD,
          r.2.mem ((c.tc : Thread Cert.CrossReferenceIdeal.nD Cert.CrossReferenceIdeal.τ).loc Cert.CrossReferenceIdeal.main_v35) = v0 c
          ∧ r.2.mem ((c.tc : Thread Cert.CrossReferenceIdeal.nD Cert.CrossReferenceIdeal.τ).loc Cert.CrossReferenceIdeal.main_arg0) = m' ((c.tc : Thread Cert.CrossReferenceIdeal.nD Cert.CrossReferenceIdeal.τ).loc Cert.CrossReferenceIdeal.main_arg0)
          ∧ r.2.mem ((c.tc : Thread Cert.CrossReferenceIdeal.nD Cert.CrossReferenceIdeal.τ).loc Cert.CrossReferenceIdeal.main_arg1) = m' ((c.tc : Thread Cert.CrossReferenceIdeal.nD Cert.CrossReferenceIdeal.τ).loc Cert.CrossReferenceIdeal.main_arg1)
          ∧ r.2.mem ((c.tc : Thread Cert.CrossReferenceIdeal.nD Cert.CrossReferenceIdeal.τ).loc Cert.CrossReferenceIdeal.main_arg2) = m' ((c.tc : Thread Cert.CrossReferenceIdeal.nD Cert.CrossReferenceIdeal.τ).loc Cert.CrossReferenceIdeal.main_arg2)
          ∧ r.2.mem ((c.tc : Thread Cert.CrossReferenceIdeal.nD Cert.CrossReferenceIdeal.τ).loc Cert.CrossReferenceIdeal.main_arg3) = m' ((c.tc : Thread Cert.CrossReferenceIdeal.nD Cert.CrossReferenceIdeal.τ).loc Cert.CrossReferenceIdeal.main_arg3))

def preserves_Scan_ScanIdeal : Prop :=
  True

def algebraic_ScanIdeal_ScanReferenceIdeal_pre_finite_scan [hScanIdeal : Cert.ScanIdeal.Facts] [hScanReferenceIdeal : Cert.ScanReferenceIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanReferenceIdeal.nD Cert.ScanReferenceIdeal.τ Cert.ScanReferenceIdeal.sig) → Buf (Elt Ideal) ℓ) (g' : Dev Cert.ScanReferenceIdeal.nD → PrngReg), Pre_ScanIdeal_finite_scan m →
    (∀ c : Dev Cert.ScanIdeal.nD,
      m' ((c.tc : Thread Cert.ScanReferenceIdeal.nD Cert.ScanReferenceIdeal.τ).loc Cert.ScanReferenceIdeal.main_arg0) = m ((c.tc : Thread Cert.ScanIdeal.nD Cert.ScanIdeal.τ).loc Cert.ScanIdeal.main_arg0)
      ∧ m' ((c.tc : Thread Cert.ScanReferenceIdeal.nD Cert.ScanReferenceIdeal.τ).loc Cert.ScanReferenceIdeal.main_arg1) = m ((c.tc : Thread Cert.ScanIdeal.nD Cert.ScanIdeal.τ).loc Cert.ScanIdeal.main_arg1)
      ∧ m' ((c.tc : Thread Cert.ScanReferenceIdeal.nD Cert.ScanReferenceIdeal.τ).loc Cert.ScanReferenceIdeal.main_arg2) = m ((c.tc : Thread Cert.ScanIdeal.nD Cert.ScanIdeal.τ).loc Cert.ScanIdeal.main_arg2)
      ∧ m' ((c.tc : Thread Cert.ScanReferenceIdeal.nD Cert.ScanReferenceIdeal.τ).loc Cert.ScanReferenceIdeal.main_arg3) = m ((c.tc : Thread Cert.ScanIdeal.nD Cert.ScanIdeal.τ).loc Cert.ScanIdeal.main_arg3)
      ∧ m' ((c.tc : Thread Cert.ScanReferenceIdeal.nD Cert.ScanReferenceIdeal.τ).loc Cert.ScanReferenceIdeal.main_arg4) = m ((c.tc : Thread Cert.ScanIdeal.nD Cert.ScanIdeal.τ).loc Cert.ScanIdeal.main_arg4)) →
    ∃ (v0 : (c : Dev Cert.ScanIdeal.nD) → Buf (Elt Ideal) ((c.tc : Thread Cert.ScanIdeal.nD Cert.ScanIdeal.τ).loc Cert.ScanIdeal.main_v35_0)) (v1 : (c : Dev Cert.ScanIdeal.nD) → Buf (Elt Ideal) ((c.tc : Thread Cert.ScanIdeal.nD Cert.ScanIdeal.τ).loc Cert.ScanIdeal.main_v35_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v35_0) = v0 c
          ∧ r.2.mem ((c.tc : Thread Cert.ScanIdeal.nD Cert.ScanIdeal.τ).loc Cert.ScanIdeal.main_v35_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ θ_run (Cert.ScanReferenceIdeal.defs (F := Ideal)) (onTc (τ := Cert.ScanReferenceIdeal.τ) (Cert.ScanReferenceIdeal.main (F := Ideal))) ⟨m', fun _ => 0, g'⟩ (fun r => ∀ c : Dev Cert.ScanReferenceIdeal.nD,
          r.2.mem ((c.tc : Thread Cert.ScanReferenceIdeal.nD Cert.ScanReferenceIdeal.τ).loc Cert.ScanReferenceIdeal.main_v17) = v0 c
          ∧ r.2.mem ((c.tc : Thread Cert.ScanReferenceIdeal.nD Cert.ScanReferenceIdeal.τ).loc Cert.ScanReferenceIdeal.main_v20) = v1 c
          ∧ r.2.mem ((c.tc : Thread Cert.ScanReferenceIdeal.nD Cert.ScanReferenceIdeal.τ).loc Cert.ScanReferenceIdeal.main_arg0) = m' ((c.tc : Thread Cert.ScanReferenceIdeal.nD Cert.ScanReferenceIdeal.τ).loc Cert.ScanReferenceIdeal.main_arg0)
          ∧ r.2.mem ((c.tc : Thread Cert.ScanReferenceIdeal.nD Cert.ScanReferenceIdeal.τ).loc Cert.ScanReferenceIdeal.main_arg1) = m' ((c.tc : Thread Cert.ScanReferenceIdeal.nD Cert.ScanReferenceIdeal.τ).loc Cert.ScanReferenceIdeal.main_arg1)
          ∧ r.2.mem ((c.tc : Thread Cert.ScanReferenceIdeal.nD Cert.ScanReferenceIdeal.τ).loc Cert.ScanReferenceIdeal.main_arg2) = m' ((c.tc : Thread Cert.ScanReferenceIdeal.nD Cert.ScanReferenceIdeal.τ).loc Cert.ScanReferenceIdeal.main_arg2)
          ∧ r.2.mem ((c.tc : Thread Cert.ScanReferenceIdeal.nD Cert.ScanReferenceIdeal.τ).loc Cert.ScanReferenceIdeal.main_arg3) = m' ((c.tc : Thread Cert.ScanReferenceIdeal.nD Cert.ScanReferenceIdeal.τ).loc Cert.ScanReferenceIdeal.main_arg3)
          ∧ r.2.mem ((c.tc : Thread Cert.ScanReferenceIdeal.nD Cert.ScanReferenceIdeal.τ).loc Cert.ScanReferenceIdeal.main_arg4) = m' ((c.tc : Thread Cert.ScanReferenceIdeal.nD Cert.ScanReferenceIdeal.τ).loc Cert.ScanReferenceIdeal.main_arg4))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hDh : Cert.Dh.Facts) (hDhIdeal : Cert.DhIdeal.Facts) (hDhReferenceIdeal : Cert.DhReferenceIdeal.Facts) (hUp : Cert.Up.Facts) (hUpIdeal : Cert.UpIdeal.Facts) (hUpReferenceIdeal : Cert.UpReferenceIdeal.Facts) (hOut : Cert.Out.Facts) (hOutIdeal : Cert.OutIdeal.Facts) (hOutReferenceIdeal : Cert.OutReferenceIdeal.Facts) (hNorm : Cert.Norm.Facts) (hNormIdeal : Cert.NormIdeal.Facts) (hNormReferenceIdeal : Cert.NormReferenceIdeal.Facts) (hNormBwd : Cert.NormBwd.Facts) (hNormBwdIdeal : Cert.NormBwdIdeal.Facts) (hNormBwdReferenceIdeal : Cert.NormBwdReferenceIdeal.Facts) (hMix : Cert.Mix.Facts) (hMixIdeal : Cert.MixIdeal.Facts) (hMixReferenceIdeal : Cert.MixReferenceIdeal.Facts) (hMixDx : Cert.MixDx.Facts) (hMixDxIdeal : Cert.MixDxIdeal.Facts) (hMixDxReferenceIdeal : Cert.MixDxReferenceIdeal.Facts) (hMixDw : Cert.MixDw.Facts) (hMixDwIdeal : Cert.MixDwIdeal.Facts) (hMixDwReferenceIdeal : Cert.MixDwReferenceIdeal.Facts) (hQuery : Cert.Query.Facts) (hQueryIdeal : Cert.QueryIdeal.Facts) (hQueryReferenceIdeal : Cert.QueryReferenceIdeal.Facts) (hQueryDx : Cert.QueryDx.Facts) (hQueryDxIdeal : Cert.QueryDxIdeal.Facts) (hQueryDxReferenceIdeal : Cert.QueryDxReferenceIdeal.Facts) (hQueryDw : Cert.QueryDw.Facts) (hQueryDwIdeal : Cert.QueryDwIdeal.Facts) (hQueryDwReferenceIdeal : Cert.QueryDwReferenceIdeal.Facts) (hRead : Cert.Read.Facts) (hReadIdeal : Cert.ReadIdeal.Facts) (hReadReferenceIdeal : Cert.ReadReferenceIdeal.Facts) (hReadDx : Cert.ReadDx.Facts) (hReadDxIdeal : Cert.ReadDxIdeal.Facts) (hReadDxReferenceIdeal : Cert.ReadDxReferenceIdeal.Facts) (hReadDw : Cert.ReadDw.Facts) (hReadDwIdeal : Cert.ReadDwIdeal.Facts) (hReadDwReferenceIdeal : Cert.ReadDwReferenceIdeal.Facts) (hUkv : Cert.Ukv.Facts) (hUkvIdeal : Cert.UkvIdeal.Facts) (hUkvReferenceIdeal : Cert.UkvReferenceIdeal.Facts) (hUkvDx : Cert.UkvDx.Facts) (hUkvDxIdeal : Cert.UkvDxIdeal.Facts) (hUkvDxReferenceIdeal : Cert.UkvDxReferenceIdeal.Facts) (hUkvDw : Cert.UkvDw.Facts) (hUkvDwIdeal : Cert.UkvDwIdeal.Facts) (hUkvDwReferenceIdeal : Cert.UkvDwReferenceIdeal.Facts) (hGlu : Cert.Glu.Facts) (hGluIdeal : Cert.GluIdeal.Facts) (hGluReferenceIdeal : Cert.GluReferenceIdeal.Facts) (hGluDx : Cert.GluDx.Facts) (hGluDxIdeal : Cert.GluDxIdeal.Facts) (hGluDxReferenceIdeal : Cert.GluDxReferenceIdeal.Facts) (hGluDw : Cert.GluDw.Facts) (hGluDwIdeal : Cert.GluDwIdeal.Facts) (hGluDwReferenceIdeal : Cert.GluDwReferenceIdeal.Facts) (hCross : Cert.Cross.Facts) (hCrossIdeal : Cert.CrossIdeal.Facts) (hCrossReferenceIdeal : Cert.CrossReferenceIdeal.Facts) (hScan : Cert.Scan.Facts) (hScanIdeal : Cert.ScanIdeal.Facts) (hScanReferenceIdeal : Cert.ScanReferenceIdeal.Facts) (hPre_finite : Cert.Pre_finite.Facts) (hPre_finite_scan : Cert.Pre_finite_scan.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesReferenceIdeal (hGatesReferenceIdeal := hGatesReferenceIdeal)
    ∧ quiescent_Down (hDown := hDown)
    ∧ quiescent_DownIdeal (hDownIdeal := hDownIdeal)
    ∧ quiescent_DownReferenceIdeal (hDownReferenceIdeal := hDownReferenceIdeal)
    ∧ quiescent_In (hIn := hIn)
    ∧ quiescent_InIdeal (hInIdeal := hInIdeal)
    ∧ quiescent_InReferenceIdeal (hInReferenceIdeal := hInReferenceIdeal)
    ∧ quiescent_Dh (hDh := hDh)
    ∧ quiescent_DhIdeal (hDhIdeal := hDhIdeal)
    ∧ quiescent_DhReferenceIdeal (hDhReferenceIdeal := hDhReferenceIdeal)
    ∧ quiescent_Up (hUp := hUp)
    ∧ quiescent_UpIdeal (hUpIdeal := hUpIdeal)
    ∧ quiescent_UpReferenceIdeal (hUpReferenceIdeal := hUpReferenceIdeal)
    ∧ quiescent_Out (hOut := hOut)
    ∧ quiescent_OutIdeal (hOutIdeal := hOutIdeal)
    ∧ quiescent_OutReferenceIdeal (hOutReferenceIdeal := hOutReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_Mix (hMix := hMix)
    ∧ quiescent_MixIdeal (hMixIdeal := hMixIdeal)
    ∧ quiescent_MixReferenceIdeal (hMixReferenceIdeal := hMixReferenceIdeal)
    ∧ quiescent_MixDx (hMixDx := hMixDx)
    ∧ quiescent_MixDxIdeal (hMixDxIdeal := hMixDxIdeal)
    ∧ quiescent_MixDxReferenceIdeal (hMixDxReferenceIdeal := hMixDxReferenceIdeal)
    ∧ quiescent_MixDw (hMixDw := hMixDw)
    ∧ quiescent_MixDwIdeal (hMixDwIdeal := hMixDwIdeal)
    ∧ quiescent_MixDwReferenceIdeal (hMixDwReferenceIdeal := hMixDwReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_QueryDx (hQueryDx := hQueryDx)
    ∧ quiescent_QueryDxIdeal (hQueryDxIdeal := hQueryDxIdeal)
    ∧ quiescent_QueryDxReferenceIdeal (hQueryDxReferenceIdeal := hQueryDxReferenceIdeal)
    ∧ quiescent_QueryDw (hQueryDw := hQueryDw)
    ∧ quiescent_QueryDwIdeal (hQueryDwIdeal := hQueryDwIdeal)
    ∧ quiescent_QueryDwReferenceIdeal (hQueryDwReferenceIdeal := hQueryDwReferenceIdeal)
    ∧ quiescent_Read (hRead := hRead)
    ∧ quiescent_ReadIdeal (hReadIdeal := hReadIdeal)
    ∧ quiescent_ReadReferenceIdeal (hReadReferenceIdeal := hReadReferenceIdeal)
    ∧ quiescent_ReadDx (hReadDx := hReadDx)
    ∧ quiescent_ReadDxIdeal (hReadDxIdeal := hReadDxIdeal)
    ∧ quiescent_ReadDxReferenceIdeal (hReadDxReferenceIdeal := hReadDxReferenceIdeal)
    ∧ quiescent_ReadDw (hReadDw := hReadDw)
    ∧ quiescent_ReadDwIdeal (hReadDwIdeal := hReadDwIdeal)
    ∧ quiescent_ReadDwReferenceIdeal (hReadDwReferenceIdeal := hReadDwReferenceIdeal)
    ∧ quiescent_Ukv (hUkv := hUkv)
    ∧ quiescent_UkvIdeal (hUkvIdeal := hUkvIdeal)
    ∧ quiescent_UkvReferenceIdeal (hUkvReferenceIdeal := hUkvReferenceIdeal)
    ∧ quiescent_UkvDx (hUkvDx := hUkvDx)
    ∧ quiescent_UkvDxIdeal (hUkvDxIdeal := hUkvDxIdeal)
    ∧ quiescent_UkvDxReferenceIdeal (hUkvDxReferenceIdeal := hUkvDxReferenceIdeal)
    ∧ quiescent_UkvDw (hUkvDw := hUkvDw)
    ∧ quiescent_UkvDwIdeal (hUkvDwIdeal := hUkvDwIdeal)
    ∧ quiescent_UkvDwReferenceIdeal (hUkvDwReferenceIdeal := hUkvDwReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_GluDx (hGluDx := hGluDx)
    ∧ quiescent_GluDxIdeal (hGluDxIdeal := hGluDxIdeal)
    ∧ quiescent_GluDxReferenceIdeal (hGluDxReferenceIdeal := hGluDxReferenceIdeal)
    ∧ quiescent_GluDw (hGluDw := hGluDw)
    ∧ quiescent_GluDwIdeal (hGluDwIdeal := hGluDwIdeal)
    ∧ quiescent_GluDwReferenceIdeal (hGluDwReferenceIdeal := hGluDwReferenceIdeal)
    ∧ quiescent_Cross (hCross := hCross)
    ∧ quiescent_CrossIdeal (hCrossIdeal := hCrossIdeal)
    ∧ quiescent_CrossReferenceIdeal (hCrossReferenceIdeal := hCrossReferenceIdeal)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanReferenceIdeal (hScanReferenceIdeal := hScanReferenceIdeal)
    ∧ quiescent_ScanReferenceIdeal_pre_finite_scan (hScanReferenceIdeal := hScanReferenceIdeal) (hPre_finite_scan := hPre_finite_scan)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_GatesReferenceIdeal (hGatesIdeal := hGatesIdeal) (hGatesReferenceIdeal := hGatesReferenceIdeal)
    ∧ preserves_Down_DownIdeal
    ∧ algebraic_DownIdeal_DownReferenceIdeal (hDownIdeal := hDownIdeal) (hDownReferenceIdeal := hDownReferenceIdeal)
    ∧ preserves_In_InIdeal
    ∧ algebraic_InIdeal_InReferenceIdeal (hInIdeal := hInIdeal) (hInReferenceIdeal := hInReferenceIdeal)
    ∧ preserves_Dh_DhIdeal
    ∧ algebraic_DhIdeal_DhReferenceIdeal (hDhIdeal := hDhIdeal) (hDhReferenceIdeal := hDhReferenceIdeal)
    ∧ preserves_Up_UpIdeal
    ∧ algebraic_UpIdeal_UpReferenceIdeal (hUpIdeal := hUpIdeal) (hUpReferenceIdeal := hUpReferenceIdeal)
    ∧ preserves_Out_OutIdeal
    ∧ algebraic_OutIdeal_OutReferenceIdeal (hOutIdeal := hOutIdeal) (hOutReferenceIdeal := hOutReferenceIdeal)
    ∧ preserves_Norm_NormIdeal
    ∧ algebraic_NormIdeal_NormReferenceIdeal (hNormIdeal := hNormIdeal) (hNormReferenceIdeal := hNormReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_Mix_MixIdeal
    ∧ algebraic_MixIdeal_MixReferenceIdeal (hMixIdeal := hMixIdeal) (hMixReferenceIdeal := hMixReferenceIdeal)
    ∧ preserves_MixDx_MixDxIdeal
    ∧ algebraic_MixDxIdeal_MixDxReferenceIdeal (hMixDxIdeal := hMixDxIdeal) (hMixDxReferenceIdeal := hMixDxReferenceIdeal)
    ∧ preserves_MixDw_MixDwIdeal
    ∧ algebraic_MixDwIdeal_MixDwReferenceIdeal (hMixDwIdeal := hMixDwIdeal) (hMixDwReferenceIdeal := hMixDwReferenceIdeal)
    ∧ preserves_Query_QueryIdeal
    ∧ algebraic_QueryIdeal_QueryReferenceIdeal (hQueryIdeal := hQueryIdeal) (hQueryReferenceIdeal := hQueryReferenceIdeal)
    ∧ preserves_QueryDx_QueryDxIdeal
    ∧ algebraic_QueryDxIdeal_QueryDxReferenceIdeal (hQueryDxIdeal := hQueryDxIdeal) (hQueryDxReferenceIdeal := hQueryDxReferenceIdeal)
    ∧ preserves_QueryDw_QueryDwIdeal
    ∧ algebraic_QueryDwIdeal_QueryDwReferenceIdeal (hQueryDwIdeal := hQueryDwIdeal) (hQueryDwReferenceIdeal := hQueryDwReferenceIdeal)
    ∧ preserves_Read_ReadIdeal
    ∧ algebraic_ReadIdeal_ReadReferenceIdeal (hReadIdeal := hReadIdeal) (hReadReferenceIdeal := hReadReferenceIdeal)
    ∧ preserves_ReadDx_ReadDxIdeal
    ∧ algebraic_ReadDxIdeal_ReadDxReferenceIdeal (hReadDxIdeal := hReadDxIdeal) (hReadDxReferenceIdeal := hReadDxReferenceIdeal)
    ∧ preserves_ReadDw_ReadDwIdeal
    ∧ algebraic_ReadDwIdeal_ReadDwReferenceIdeal (hReadDwIdeal := hReadDwIdeal) (hReadDwReferenceIdeal := hReadDwReferenceIdeal)
    ∧ preserves_Ukv_UkvIdeal
    ∧ algebraic_UkvIdeal_UkvReferenceIdeal (hUkvIdeal := hUkvIdeal) (hUkvReferenceIdeal := hUkvReferenceIdeal)
    ∧ preserves_UkvDx_UkvDxIdeal
    ∧ algebraic_UkvDxIdeal_UkvDxReferenceIdeal (hUkvDxIdeal := hUkvDxIdeal) (hUkvDxReferenceIdeal := hUkvDxReferenceIdeal)
    ∧ preserves_UkvDw_UkvDwIdeal
    ∧ algebraic_UkvDwIdeal_UkvDwReferenceIdeal (hUkvDwIdeal := hUkvDwIdeal) (hUkvDwReferenceIdeal := hUkvDwReferenceIdeal)
    ∧ preserves_Glu_GluIdeal
    ∧ algebraic_GluIdeal_GluReferenceIdeal (hGluIdeal := hGluIdeal) (hGluReferenceIdeal := hGluReferenceIdeal)
    ∧ preserves_GluDx_GluDxIdeal
    ∧ algebraic_GluDxIdeal_GluDxReferenceIdeal (hGluDxIdeal := hGluDxIdeal) (hGluDxReferenceIdeal := hGluDxReferenceIdeal)
    ∧ preserves_GluDw_GluDwIdeal
    ∧ algebraic_GluDwIdeal_GluDwReferenceIdeal (hGluDwIdeal := hGluDwIdeal) (hGluDwReferenceIdeal := hGluDwReferenceIdeal)
    ∧ preserves_Cross_CrossIdeal
    ∧ algebraic_CrossIdeal_CrossReferenceIdeal (hCrossIdeal := hCrossIdeal) (hCrossReferenceIdeal := hCrossReferenceIdeal)
    ∧ preserves_Scan_ScanIdeal
    ∧ algebraic_ScanIdeal_ScanReferenceIdeal_pre_finite_scan (hScanIdeal := hScanIdeal) (hScanReferenceIdeal := hScanReferenceIdeal) (hPre_finite_scan := hPre_finite_scan)
-- ==== Pre_finite.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_v10 : IVec S_ 1) (main_v15 : IVec S_ 1) (main_v17 : FVec F S4096x512 .f32) : IVec S_ 1 :=
  let main_cst_4 : FVec F S_ .f32 := constant S_ .f32 0x7F800000#32
  let main_v18 : FVec F S4096x512 .f32 := broadcastInDim S4096x512 ![] bcast_S_S4096x512 main_cst_4
  let main_v19 : IVec S4096x512 1 := cmpf .olt main_v17 main_v18
  let main_c_5 : IVec S_ 1 := constantI S_ 1 1#1
  let main_v20 : IVec S_ 1 := (fun x v => Host.reduce IntOp.andi x v reducesTo_S4096x512_S_d0_1 h_S_) main_v19 main_c_5
  let main_v21 : IVec S_ 1 := andi main_v15 main_v20
  let main_v22 : IVec S_ 1 := andi main_v10 main_v21
  main_v22

def fn {F : FTy → Type} [FloatOps F] (main_arg0 : FVec F S4096x1024 .bf16) (main_arg1 : FVec F S4096x1024 .bf16) (main_arg2 : FVec F S4096x512 .bf16) (main_arg3 : FVec F S4096x512 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : FVec F S4096x512 .f32 := (extf .f32 · bitsLt_bf16_f32) main_arg3
  let main_v17 : FVec F S4096x512 .f32 := Host.absf main_v16
  fn_part1 (F := F) main_v10 main_v15 main_v17
-- ==== Pre_finite_scan.lean ====
abbrev S4096x512 : Shape := ⟨2, ![4096, 512]⟩
abbrev S32x16x64 : Shape := ⟨3, ![32, 16, 64]⟩
abbrev S32x64 : Shape := ⟨2, ![32, 64]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S32x16x64 : S_.BroadcastsInDim S32x16x64 (![] : Fin 0 → Fin S32x16x64.rank)
  reducesTo_S32x16x64_S_d0_1_2 : S32x16x64.ReducesTo [0, 1, 2] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg4 : FVec F S32x64 .f32) (main_v4 : IVec S_ 1) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : FVec F S32x64 .f32 := Host.absf main_arg4
  let main_cst_6 : FVec F S_ .f32 := constant S_ .f32 0x7F800000#32
  let main_v19 : FVec F S32x64 .f32 := broadcastInDim S32x64 ![] bcast_S_S32x64 main_cst_6
  let main_v20 : IVec S32x64 1 := cmpf .olt main_v18 main_v19
  let main_c_7 : IVec S_ 1 := constantI S_ 1 1#1
  let main_v21 : IVec S_ 1 := (fun x v => Host.reduce IntOp.andi x v reducesTo_S32x64_S_d0_1 h_S_) main_v20 main_c_7
  let main_v22 : IVec S_ 1 := andi main_v17 main_v21
  let main_v23 : IVec S_ 1 := andi main_v13 main_v22
  let main_v24 : IVec S_ 1 := andi main_v4 main_v23
  main_v24

def fn {F : FTy → Type} [FloatOps F] (main_arg0 : FVec F S4096x512 .bf16) (main_arg1 : FVec F S32x16x64 .f32) (main_arg2 : FVec F S32x16x64 .f32) (main_arg3 : FVec F S32x64 .f32) (main_arg4 : FVec F S32x64 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S32x16x64 .f32 := Host.absf main_arg1
  let main_cst_0 : FVec F S_ .f32 := constant S_ .f32 0x7F800000#32
  let main_v6 : FVec F S32x16x64 .f32 := broadcastInDim S32x16x64 ![] bcast_S_S32x16x64 main_cst_0
  let main_v7 : IVec S32x16x64 1 := cmpf .olt main_v5 main_v6
  let main_c_1 : IVec S_ 1 := constantI S_ 1 1#1
  let main_v8 : IVec S_ 1 := (fun x v => Host.reduce IntOp.andi x v reducesTo_S32x16x64_S_d0_1_2 h_S_) main_v7 main_c_1
  let main_v9 : FVec F S32x16x64 .f32 := Host.absf main_arg2
  let main_cst_2 : FVec F S_ .f32 := constant S_ .f32 0x7F800000#32
  let main_v10 : FVec F S32x16x64 .f32 := broadcastInDim S32x16x64 ![] bcast_S_S32x16x64 main_cst_2
  let main_v11 : IVec S32x16x64 1 := cmpf .olt main_v9 main_v10
  let main_c_3 : IVec S_ 1 := constantI S_ 1 1#1
  let main_v12 : IVec S_ 1 := (fun x v => Host.reduce IntOp.andi x v reducesTo_S32x16x64_S_d0_1_2 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_v4 main_v13 main_v16
-- ==== Kernel.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4096x4 : Shape := ⟨2, ![4096, 4]⟩
abbrev S4096x4x1 : Shape := ⟨3, ![4096, 4, 1]⟩
abbrev S512x256 : Shape := ⟨2, ![512, 256]⟩
abbrev S512x128 : Shape := ⟨2, ![512, 128]⟩
abbrev S4096x256 : Shape := ⟨2, ![4096, 256]⟩
abbrev S512x512 : Shape := ⟨2, ![512, 512]⟩

abbrev nBuf : Space → Nat
  | .hbm => 77
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x4x256, .f32⟩
  | .hbm, ⟨6, _⟩ => ⟨S4096x1024, .f32⟩
  | .hbm, ⟨7, _⟩ => ⟨S4096x4x256, .f32⟩
  | .hbm, ⟨8, _⟩ => ⟨S4096x512, .f32⟩
  | .hbm, ⟨9, _⟩ => ⟨S4096x4x128, .f32⟩
  | .hbm, ⟨10, _⟩ => ⟨S4x4096x4096, .f32⟩
  | .hbm, ⟨11, _⟩ => ⟨S4x4096x4096, .bf16⟩
  | .hbm, ⟨12, _⟩ => ⟨S4x4096x4096, .f32⟩
  | .hbm, ⟨13, _⟩ => ⟨S_, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4096, .i32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x4096, .bf16⟩
  | .hbm, ⟨43, _⟩ => ⟨S4x4096x4096, .f32⟩
  | .hbm, ⟨44, _⟩ => ⟨S4x128x4096, .f32⟩
  | .hbm, ⟨45, _⟩ => ⟨S4096x4x128, .f32⟩
  | .hbm, ⟨46, _⟩ => ⟨S4096x4x128, .bf16⟩
  | .hbm, ⟨47, _⟩ => ⟨S4096x4x128, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096, .f32⟩
  | .hbm, ⟨56, _⟩ => ⟨S4x4096, .f32⟩
  | .hbm, ⟨57, _⟩ => ⟨S4x4096, .f32⟩
  | .hbm, ⟨58, _⟩ => ⟨S_, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4096x512, .f32⟩
  | .hbm, ⟨63, _⟩ => ⟨S4096x4x128, .f32⟩
  | .hbm, ⟨64, _⟩ => ⟨S4096x4x128, .f32⟩
  | .hbm, ⟨65, _⟩ => ⟨S_, .f32⟩
  | .hbm, ⟨66, _⟩ => ⟨S4096x4, .f32⟩
  | .hbm, ⟨67, _⟩ => ⟨S4096x4, .f32⟩
  | .hbm, ⟨68, _⟩ => ⟨S4096x4x1, .f32⟩
  | .hbm, ⟨69, _⟩ => ⟨S4096x4x128, .f32⟩
  | .hbm, ⟨70, _⟩ => ⟨S4096x512, .f32⟩
  | .hbm, ⟨71, _⟩ => ⟨S4096x4x1, .f32⟩
  | .hbm, ⟨72, _⟩ => ⟨S4096x4x128, .f32⟩
  | .hbm, ⟨73, _⟩ => ⟨S4096x512, .f32⟩
  | .hbm, ⟨74, _⟩ => ⟨S4096x1024, .f32⟩
  | .hbm, ⟨75, _⟩ => ⟨S4096x1024, .bf16⟩
  | .hbm, ⟨76, _⟩ => ⟨S4096x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4096x256, .f32⟩
  | .local _ .vmem, ⟨13, _⟩ => ⟨S4096x256, .f32⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x256, .f32⟩
  | .local _ .vmem, ⟨19, _⟩ => ⟨S512x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58_0 : Ref sig .tc := ⟨.hbm, 74, rfl⟩
abbrev main_v58_1 : Ref sig .tc := ⟨.hbm, 75, rfl⟩
abbrev main_v58_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c512_i32 : BitVec 32 := 512#32
  let v54 : BitVec 32 := Scalar.muli arg2 c512_i32
  v54
def k0_off1 (i : grid0.Coords) : Fin 2 → Nat :=
  let arg2 : BitVec 32 := BitVec.ofNat 32 (i 2).val
  let c512_i32 : BitVec 32 := 512#32
  let v54 : BitVec 32 := Scalar.muli arg2 c512_i32
  let v55 : BitVec 32 := v54
  let v56 : Index := Scalar.indexCast v55
  let c0_36 : Index := 0#32
  ![v56.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c512_i32_38 : BitVec 32 := 512#32
  let v65 : BitVec 32 := Scalar.muli arg2 c512_i32_38
  v65
def k0_off2 (i : grid0.Coords) : Fin 2 → Nat :=
  let arg2 : BitVec 32 := BitVec.ofNat 32 (i 2).val
  let c512_i32_38 : BitVec 32 := 512#32
  let v65 : BitVec 32 := Scalar.muli arg2 c512_i32_38
  let v66 : BitVec 32 := v65
  let v67 : Index := Scalar.indexCast v66
  let c0_39 : Index := 0#32
  ![v67.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg2 : BitVec 32 := BitVec.ofNat 32 (i 2).val
  let c7_i32_7 : BitVec 32 := 7#32
  let v17 : BitVec 1 := Scalar.cmpi .eq arg2 c7_i32_7
  let arg1 : BitVec 32 := BitVec.ofNat 32 (i 1).val
  let c7_i32_8 : BitVec 32 := 7#32
  let v18 : BitVec 1 := Scalar.cmpi .eq arg1 c7_i32_8
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x4x256, .f32⟩
  | .hbm, ⟨8, _⟩ => ⟨S4096x4x256, .f32⟩
  | .hbm, ⟨9, _⟩ => ⟨S4096x4x128, .f32⟩
  | .hbm, ⟨10, _⟩ => ⟨S4x4096x4096, .f32⟩
  | .hbm, ⟨11, _⟩ => ⟨S4x4096x4096, .bf16⟩
  | .hbm, ⟨12, _⟩ => ⟨S4x4096x4096, .f32⟩
  | .hbm, ⟨13, _⟩ => ⟨S_, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4096, .i32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .i1⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .i1⟩
  | .hbm, ⟨44, _⟩ => ⟨S_, .f32⟩
  | .hbm, ⟨45, _⟩ => ⟨S4x4096, .f32⟩
  | .hbm, ⟨46, _⟩ => ⟨S4x4096, .i1⟩
  | .hbm, ⟨47, _⟩ => ⟨S_, .f32⟩
  | .hbm, ⟨48, _⟩ => ⟨S4x4096, .f32⟩
  | .hbm, ⟨49, _⟩ => ⟨S_, .f32⟩
  | .hbm, ⟨50, _⟩ => ⟨S4x4096, .f32⟩
  | .hbm, ⟨51, _⟩ => ⟨S_, .f32⟩
  | .hbm, ⟨52, _⟩ => ⟨S4x4096, .f32⟩
  | .hbm, ⟨53, _⟩ => ⟨S4x4096, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S_, .f32⟩
  | .hbm, ⟨60, _⟩ => ⟨S4x4096, .f32⟩
  | .hbm, ⟨61, _⟩ => ⟨S4x4096x1, .f32⟩
  | .hbm, ⟨62, _⟩ => ⟨S4x4096x4096, .f32⟩
  | .hbm, ⟨63, _⟩ => ⟨S4x4096x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x4096, .bf16⟩
  | .hbm, ⟨69, _⟩ => ⟨S4x4096x4096, .f32⟩
  | .hbm, ⟨70, _⟩ => ⟨S4x128x4096, .f32⟩
  | .hbm, ⟨71, _⟩ => ⟨S4096x4x128, .f32⟩
  | .hbm, ⟨72, _⟩ => ⟨S4096x4x128, .bf16⟩
  | .hbm, ⟨73, _⟩ => ⟨S4096x4x128, .f32⟩
  | .hbm, ⟨74, _⟩ => ⟨S4096x512, .f32⟩
  | .hbm, ⟨75, _⟩ => ⟨S4096x512, .f32⟩
  | .hbm, ⟨76, _⟩ => ⟨S4096x4x128, .f32⟩
  | .hbm, ⟨77, _⟩ => ⟨S4096x4x128, .bf16⟩
  | .hbm, ⟨78, _⟩ => ⟨S4096x4x128, .f32⟩
  | .hbm, ⟨79, _⟩ => ⟨S4x128x4096, .f32⟩
  | .hbm, ⟨80, _⟩ => ⟨S4x4096x4096, .f32⟩
  | .hbm, ⟨81, _⟩ => ⟨S4x128x4096, .f32⟩
  | .hbm, ⟨82, _⟩ => ⟨S4096x4x128, .f32⟩
  | .hbm, ⟨83, _⟩ => ⟨S4x4096x4096, .bf16⟩
  | .hbm, ⟨84, _⟩ => ⟨S4x4096x4096, .f32⟩
  | .hbm, ⟨85, _⟩ => ⟨S4x4096x4096, .f32⟩
  | .hbm, ⟨86, _⟩ => ⟨S4x4096x4096, .f32⟩
  | .hbm, ⟨87, _⟩ => ⟨S4x4096x4096, .f32⟩
  | .hbm, ⟨88, _⟩ => ⟨S_, .f32⟩
  | .hbm, ⟨89, _⟩ => ⟨S4x4096, .f32⟩
  | .hbm, ⟨90, _⟩ => ⟨S4x4096x1, .f32⟩
  | .hbm, ⟨91, _⟩ => ⟨S4x4096x1, .f32⟩
  | .hbm, ⟨92, _⟩ => ⟨S4x4096x4096, .f32⟩
  | .hbm, ⟨93, _⟩ => ⟨S4x4096x4096, .f32⟩
  | .hbm, ⟨94, _⟩ => ⟨S_, .f32⟩
  | .hbm, ⟨95, _⟩ => ⟨S4x4096, .f32⟩
  | .hbm, ⟨96, _⟩ => ⟨S4x4096x4096, .f32⟩
  | .hbm, ⟨97, _⟩ => ⟨S4x4096x4096, .f32⟩
  | .hbm, ⟨98, _⟩ => ⟨S4x4096x4096, .f32⟩
  | .hbm, ⟨99, _⟩ => ⟨S_, .f32⟩
  | .hbm, ⟨100, _⟩ => ⟨S4x4096x4096, .f32⟩
  | .hbm, ⟨101, _⟩ => ⟨S4x4096x4096, .f32⟩
  | .hbm, ⟨102, _⟩ => ⟨S4x4096x4096, .f32⟩
  | .hbm, ⟨103, _⟩ => ⟨S4x4096x4096, .f32⟩
  | .hbm, ⟨104, _⟩ => ⟨S4x4096x4096, .bf16⟩
  | .hbm, ⟨105, _⟩ => ⟨S4x4096x4096, .f32⟩
  | .hbm, ⟨106, _⟩ => ⟨S4x4096x256, .f32⟩
  | .hbm, ⟨107, _⟩ => ⟨S4096x4x256, .f32⟩
  | .hbm, ⟨108, _⟩ => ⟨S4x4096x256, .f32⟩
  | .hbm, ⟨109, _⟩ => ⟨S4096x4x256, .f32⟩
  | .hbm, ⟨110, _⟩ => ⟨S4096x512, .f32⟩
  | .hbm, ⟨111, _⟩ => ⟨S4096x1024, .f32⟩
  | .hbm, ⟨112, _⟩ => ⟨S4096x1024, .f32⟩
  | .hbm, ⟨113, _⟩ => ⟨S4096x1024, .bf16⟩
  | .hbm, ⟨114, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call1_cst : Ref sig .tc := ⟨.hbm, 99, rfl⟩
abbrev main_call1_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Gates.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatesReferenceIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Down.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== In.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DhReferenceIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 18
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S_, .f32⟩
  | .hbm, ⟨5, _⟩ => ⟨S4096x1024, .f32⟩
  | .hbm, ⟨6, _⟩ => ⟨S2816x1024, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Up.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x2816, .bf16⟩
  | .hbm, ⟨4, _⟩ => ⟨S4096x2816, .bf16⟩
  | .hbm, ⟨5, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .bf16⟩
  | .hbm, ⟨3, _⟩ => ⟨S4096x1024, .f32⟩
  | .hbm, ⟨4, _⟩ => ⟨S2816x1024, .f32⟩
  | .hbm, ⟨5, _⟩ => ⟨S1024x2816, .f32⟩
  | .hbm, ⟨6, _⟩ => ⟨S4096x2816, .f32⟩
  | .hbm, ⟨7, _⟩ => ⟨S4096x1024, .f32⟩
  | .hbm, ⟨8, _⟩ => ⟨S2816x1024, .f32⟩
  | .hbm, ⟨9, _⟩ => ⟨S1024x2816, .f32⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Out.lean ====
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutReferenceIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Mix.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDx.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDxReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Query.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QueryDx.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxReferenceIdeal.lean ====
abbrev S4096x512 : Shape := ⟨2, ![4096, 512]⟩
abbrev S1024x512 : Shape := ⟨2, ![1024, 512]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .bf16⟩
  | .hbm, ⟨2, _⟩ => ⟨S_, .f32⟩
  | .hbm, ⟨3, _⟩ => ⟨S4096x1024, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QueryDw.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwReferenceIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Read.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S1024x512, .bf16⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReadReferenceIdeal.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S1024x512, .bf16⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ReadDx.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x512, .bf16⟩
  | .hbm, ⟨2, _⟩ => ⟨S4096x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReadDxReferenceIdeal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .bf16⟩
  | .hbm, ⟨2, _⟩ => ⟨S_, .f32⟩
  | .hbm, ⟨3, _⟩ => ⟨S4096x512, .f32⟩
  | .hbm, ⟨4, _⟩ => ⟨S1024x512, .f32⟩
  | .hbm, ⟨5, _⟩ => ⟨S512x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ReadDw.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S1024x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReadDwReferenceIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S_, .f32⟩
  | .hbm, ⟨3, _⟩ => ⟨S1024x512, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ukv.lean ====
abbrev S4096x256 : Shape := ⟨2, ![4096, 256]⟩
abbrev S1024x256 : Shape := ⟨2, ![1024, 256]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x256, .f32⟩
  | .hbm, ⟨3, _⟩ => ⟨S1024x256, .f32⟩
  | .hbm, ⟨4, _⟩ => ⟨S256x1024, .f32⟩
  | .hbm, ⟨5, _⟩ => ⟨S4096x1024, .f32⟩
  | .hbm, ⟨6, _⟩ => ⟨S4096x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UkvDx.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxReferenceIdeal.lean ====
abbrev S4096x1024 : Shape := ⟨2, ![4096, 1024]⟩
abbrev S1024x256 : Shape := ⟨2, ![1024, 256]⟩
abbrev S_ : Shape := ⟨0, ![]⟩
abbrev S4096x256 : Shape := ⟨2, ![4096, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S_, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S4096x256, .f32⟩
  | .hbm, ⟨9, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDw.lean ====
abbrev S4096x1024 : Shape := ⟨2, ![4096, 1024]⟩
abbrev S4096x256 : Shape := ⟨2, ![4096, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvDwReferenceIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x256, .f32⟩
  | .hbm, ⟨5, _⟩ => ⟨S256x1024, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S1024x256, .f32⟩
  | .hbm, ⟨11, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Glu.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluReferenceIdeal.lean ====
abbrev S4096x512 : Shape := ⟨2, ![4096, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .bf16⟩
  | .hbm, ⟨2, _⟩ => ⟨S512x512, .f32⟩
  | .hbm, ⟨3, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GluDx.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S4096x512, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluDxReferenceIdeal.lean ====
abbrev S4096x512 : Shape := ⟨2, ![4096, 512]⟩
abbrev S512x512 : Shape := ⟨2, ![512, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x512, .bf16⟩
  | .hbm, ⟨2, _⟩ => ⟨S4096x512, .f32⟩
  | .hbm, ⟨3, _⟩ => ⟨S_, .f32⟩
  | .hbm, ⟨4, _⟩ => ⟨S4096x512, .f32⟩
  | .hbm, ⟨5, _⟩ => ⟨S512x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GluDw.lean ====
abbrev S4096x512 : Shape := ⟨2, ![4096, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S512x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwReferenceIdeal.lean ====
abbrev S4096x512 : Shape := ⟨2, ![4096, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S_, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S512x512, .f32⟩
  | .hbm, ⟨7, _⟩ => ⟨S512x512, .f32⟩
  | .hbm, ⟨8, _⟩ => ⟨S512x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Cross.lean ====
abbrev S4096x512 : Shape := ⟨2, ![4096, 512]⟩
abbrev S256x512 : Shape := ⟨2, ![256, 512]⟩
abbrev S1x128 : Shape := ⟨2, ![1, 128]⟩
abbrev S1024x512 : Shape := ⟨2, ![1024, 512]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S256x512, .bf16⟩
  | .hbm, ⟨2, _⟩ => ⟨S256x512, .bf16⟩
  | .hbm, ⟨3, _⟩ => ⟨S1x128, .f32⟩
  | .hbm, ⟨4, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CrossReferenceIdeal.lean ====
abbrev S4096x512 : Shape := ⟨2, ![4096, 512]⟩
abbrev S256x512 : Shape := ⟨2, ![256, 512]⟩
abbrev S1x128 : Shape := ⟨2, ![1, 128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S256x512, .bf16⟩
  | .hbm, ⟨2, _⟩ => ⟨S256x512, .bf16⟩
  | .hbm, ⟨3, _⟩ => ⟨S1x128, .f32⟩
  | .hbm, ⟨4, _⟩ => ⟨S4096x4x128, .f32⟩
  | .hbm, ⟨5, _⟩ => ⟨S4096x4x128, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x128, .f32⟩
  | .hbm, ⟨17, _⟩ => ⟨S4096x4x128, .f32⟩
  | .hbm, ⟨18, _⟩ => ⟨S1x1x128, .f32⟩
  | .hbm, ⟨19, _⟩ => ⟨S4096x4x128, .f32⟩
  | .hbm, ⟨20, _⟩ => ⟨S4096x4x128, .f32⟩
  | .hbm, ⟨21, _⟩ => ⟨S256x512, .f32⟩
  | .hbm, ⟨22, _⟩ => ⟨S256x4x128, .f32⟩
  | .hbm, ⟨23, _⟩ => ⟨S4x4096x256, .f32⟩
  | .hbm, ⟨24, _⟩ => ⟨S_, .f32⟩
  | .hbm, ⟨25, _⟩ => ⟨S4x4096x256, .f32⟩
  | .hbm, ⟨26, _⟩ => ⟨S4x4096x256, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x256, .f32⟩
  | .hbm, ⟨34, _⟩ => ⟨S4x4096x256, .f32⟩
  | .hbm, ⟨35, _⟩ => ⟨S4x4096x256, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S256x512, .f32⟩
  | .hbm, ⟨42, _⟩ => ⟨S256x4x128, .f32⟩
  | .hbm, ⟨43, _⟩ => ⟨S4x128x4096, .f32⟩
  | .hbm, ⟨44, _⟩ => ⟨S4096x4x128, .f32⟩
  | .hbm, ⟨45, _⟩ => ⟨S4096x512, .f32⟩
  | .hbm, ⟨46, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Scan.lean ====
abbrev S4096x512 : Shape := ⟨2, ![4096, 512]⟩
abbrev S32x16x64 : Shape := ⟨3, ![32, 16, 64]⟩
abbrev S32x64 : Shape := ⟨2, ![32, 64]⟩
abbrev S8x512x512 : Shape := ⟨3, ![8, 512, 512]⟩
abbrev S512x8x512 : Shape := ⟨3, ![512, 8, 512]⟩
abbrev S8x8 : Shape := ⟨2, ![8, 8]⟩
abbrev S_ : Shape := ⟨0, ![]⟩
abbrev S32x64x16 : Shape := ⟨3, ![32, 64, 16]⟩
abbrev S4x8x64x1x16 : Shape := ⟨5, ![4, 8, 64, 1, 16]⟩
abbrev S1x8x1x8x1 : Shape := ⟨5, ![1, 8, 1, 8, 1]⟩
abbrev S4x8x64x8x16 : Shape := ⟨5, ![4, 8, 64, 8, 16]⟩
abbrev S4x512x128 : Shape := ⟨3, ![4, 512, 128]⟩
abbrev S1x2048 : Shape := ⟨2, ![1, 2048]⟩
abbrev S4096x2048 : Shape := ⟨2, ![4096, 2048]⟩
abbrev S4096x128 : Shape := ⟨2, ![4096, 128]⟩
abbrev S1x512 : Shape := ⟨2, ![1, 512]⟩
abbrev S1x512x128 : Shape := ⟨3, ![1, 512, 128]⟩
abbrev S512x128 : Shape := ⟨2, ![512, 128]⟩
abbrev S1024x128 : Shape := ⟨2, ![1024, 128]⟩
abbrev S1024x512 : Shape := ⟨2, ![1024, 512]⟩
abbrev S8x512 : Shape := ⟨2, ![8, 512]⟩

abbrev nBuf : Space → Nat
  | .hbm => 44
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S32x16x64, .f32⟩
  | .hbm, ⟨2, _⟩ => ⟨S32x16x64, .f32⟩
  | .hbm, ⟨3, _⟩ => ⟨S32x64, .f32⟩
  | .hbm, ⟨4, _⟩ => ⟨S32x64, .f32⟩
  | .hbm, ⟨5, _⟩ => ⟨S8x512x512, .bf16⟩
  | .hbm, ⟨6, _⟩ => ⟨S512x8x512, .bf16⟩
  | .hbm, ⟨7, _⟩ => ⟨S4096x512, .bf16⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S32x64x16, .f32⟩
  | .hbm, ⟨16, _⟩ => ⟨S4x8x64x1x16, .f32⟩
  | .hbm, ⟨17, _⟩ => ⟨S1x8x1x8x1, .f32⟩
  | .hbm, ⟨18, _⟩ => ⟨S4x8x64x8x16, .f32⟩
  | .hbm, ⟨19, _⟩ => ⟨S4x8x64x8x16, .f32⟩
  | .hbm, ⟨20, _⟩ => ⟨S4x8x64x8x16, .f32⟩
  | .hbm, ⟨21, _⟩ => ⟨S4x512x128, .f32⟩
  | .hbm, ⟨22, _⟩ => ⟨S4x512x128, .bf16⟩
  | .hbm, ⟨23, _⟩ => ⟨S32x16x64, .f32⟩
  | .hbm, ⟨24, _⟩ => ⟨S8x8, .i32⟩
  | .hbm, ⟨25, _⟩ => ⟨S8x8, .i32⟩
  | .hbm, ⟨26, _⟩ => ⟨S_, .i32⟩
  | .hbm, ⟨27, _⟩ => ⟨S8x8, .i32⟩
  | .hbm, ⟨28, _⟩ => ⟨S8x8, .i32⟩
  | .hbm, ⟨29, _⟩ => ⟨S8x8, .i1⟩
  | .hbm, ⟨30, _⟩ => ⟨S8x8, .f32⟩
  | .hbm, ⟨31, _⟩ => ⟨S32x64x16, .f32⟩
  | .hbm, ⟨32, _⟩ => ⟨S4x8x64x1x16, .f32⟩
  | .hbm, ⟨33, _⟩ => ⟨S1x8x1x8x1, .f32⟩
  | .hbm, ⟨34, _⟩ => ⟨S4x8x64x8x16, .f32⟩
  | .hbm, ⟨35, _⟩ => ⟨S4x8x64x8x16, .f32⟩
  | .hbm, ⟨36, _⟩ => ⟨S4x8x64x8x16, .f32⟩
  | .hbm, ⟨37, _⟩ => ⟨S4x512x128, .f32⟩
  | .hbm, ⟨38, _⟩ => ⟨S4x512x128, .bf16⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S4096x2048, .f32⟩
  | .hbm, ⟨43, _⟩ => ⟨S4096x2048, .f32⟩
  | .local _ .vmem, ⟨0, _⟩ => ⟨S4096x128, .bf16⟩
  | .local _ .vmem, ⟨1, _⟩ => ⟨S4096x128, .bf16⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S4096x512, .f32⟩
  | .local _ .vmem, ⟨11, _⟩ => ⟨S4096x512, .f32⟩
  | .local _ .vmem, ⟨12, _⟩ => ⟨S4096x512, .f32⟩
  | .local _ .vmem, ⟨13, _⟩ => ⟨S4096x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c512_i32 : BitVec 32 := 512#32
  let v38 : BitVec 32 := Scalar.addi c0_i32 c512_i32
  let c1_i32 : BitVec 32 := 1#32
  ⟨c0_i32, v38, c1_i32⟩
def k0_mult1 (k0_t1 : Fin k0_t1_loop.trips) : BitVec 32 :=
  let c511_i32 : BitVec 32 := 511#32
  let c0_i32 : BitVec 32 := 0#32
  let c1_i32 : BitVec 32 := 1#32
  let arg8 : BitVec 32 := Scf.iv c0_i32 c1_i32 k0_t1
  let v210 : BitVec 32 := Scalar.subi c511_i32 arg8
  let c8_i32 : BitVec 32 := 8#32
  let v211 : BitVec 32 := Scalar.muli v210 c8_i32
  v211
def k0_off1 (k0_t1 : Fin k0_t1_loop.trips) : Fin 2 → Nat :=
  let c511_i32 : BitVec 32 := 511#32
  let c0_i32 : BitVec 32 := 0#32
  let c1_i32 : BitVec 32 := 1#32
  let arg8 : BitVec 32 := Scf.iv c0_i32 c1_i32 k0_t1
  let v210 : BitVec 32 := Scalar.subi c511_i32 arg8
  let c8_i32 : BitVec 32 := 8#32
  let v211 : BitVec 32 := Scalar.muli v210 c8_i32
  let v212 : BitVec 32 := v211
  let v219 : Index := Scalar.indexCast v212
  let c0_57 : Index := 0#32
  ![v219.toNat, 0]
@[reducible] def k0_t2_loop : Scf.Loop 32 :=
  let c0_i32_53 : BitVec 32 := 0#32
  let c512_i32_54 : BitVec 32 := 512#32
  let v208 : BitVec 32 := Scalar.addi c0_i32_53 c512_i32_54
  let c1_i32_55 : BitVec 32 := 1#32
  ⟨c0_i32_53, v208, c1_i32_55⟩
def k0_mult2 (k0_t2 : Fin k0_t2_loop.trips) : BitVec 32 :=
  let c511_i32 : BitVec 32 := 511#32
  let c0_i32_53 : BitVec 32 := 0#32
  let c1_i32_55 : BitVec 32 := 1#32
  let arg8 : BitVec 32 := Scf.iv c0_i32_53 c1_i32_55 k0_t2
  let v216 : BitVec 32 := Scalar.subi c511_i32 arg8
  let c8_i32 : BitVec 32 := 8#32
  let v217 : BitVec 32 := Scalar.muli v216 c8_i32
  v217
def k0_off2 (k0_t2 : Fin k0_t2_loop.trips) : Fin 2 → Nat :=
  let c511_i32 : BitVec 32 := 511#32
  let c0_i32_53 : BitVec 32 := 0#32
  let c1_i32_55 : BitVec 32 := 1#32
  let arg8 : BitVec 32 := Scf.iv c0_i32_53 c1_i32_55 k0_t2
  let v216 : BitVec 32 := Scalar.subi c511_i32 arg8
  let c8_i32 : BitVec 32 := 8#32
  let v217 : BitVec 32 := Scalar.muli v216 c8_i32
  let v218 : BitVec 32 := v217
  let v225 : Index := Scalar.indexCast v218
  let c0_57 : Index := 0#32
  ![v225.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScanReferenceIdeal.lean ====
abbrev S4096x512 : Shape := ⟨2, ![4096, 512]⟩
abbrev S32x16x64 : Shape := ⟨3, ![32, 16, 64]⟩
abbrev S32x64 : Shape := ⟨2, ![32, 64]⟩
abbrev S_ : Shape := ⟨0, ![]⟩
abbrev S4096x32x16 : Shape := ⟨3, ![4096, 32, 16]⟩
abbrev S32x16x4096 : Shape := ⟨3, ![32, 16, 4096]⟩
abbrev S32x4096x64 : Shape := ⟨3, ![32, 4096, 64]⟩
abbrev S4096x32x64 : Shape := ⟨3, ![4096, 32, 64]⟩
abbrev S1x32x64 : Shape := ⟨3, ![1, 32, 64]⟩
abbrev S8x512x2048 : Shape := ⟨3, ![8, 512, 2048]⟩
abbrev S512x8x2048 : Shape := ⟨3, ![512, 8, 2048]⟩
abbrev S4096x2048 : Shape := ⟨2, ![4096, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S32x16x64, .f32⟩
  | .hbm, ⟨2, _⟩ => ⟨S32x16x64, .f32⟩
  | .hbm, ⟨3, _⟩ => ⟨S32x64, .f32⟩
  | .hbm, ⟨4, _⟩ => ⟨S32x64, .f32⟩
  | .hbm, ⟨5, _⟩ => ⟨S_, .f32⟩
  | .hbm, ⟨6, _⟩ => ⟨S32x64, .f32⟩
  | .hbm, ⟨7, _⟩ => ⟨S4096x512, .f32⟩
  | .hbm, ⟨8, _⟩ => ⟨S4096x32x16, .f32⟩
  | .hbm, ⟨9, _⟩ => ⟨S4096x32x16, .f32⟩
  | .hbm, ⟨10, _⟩ => ⟨S32x16x4096, .f32⟩
  | .hbm, ⟨11, _⟩ => ⟨S32x4096x64, .f32⟩
  | .hbm, ⟨12, _⟩ => ⟨S4096x32x64, .f32⟩
  | .hbm, ⟨13, _⟩ => ⟨S32x16x4096, .f32⟩
  | .hbm, ⟨14, _⟩ => ⟨S32x4096x64, .f32⟩
  | .hbm, ⟨15, _⟩ => ⟨S4096x32x64, .f32⟩
  | .hbm, ⟨16, _⟩ => ⟨S_, .f32⟩
  | .hbm, ⟨17, _⟩ => ⟨S32x64, .f32⟩
  | .hbm, ⟨18, _⟩ => ⟨S_, .f32⟩
  | .hbm, ⟨19, _⟩ => ⟨S32x64, .f32⟩
  | .hbm, ⟨20, _⟩ => ⟨S_, .f32⟩
  | .hbm, ⟨21, _⟩ => ⟨S4096x32x64, .f32⟩
  | .hbm, ⟨22, _⟩ => ⟨S_, .f32⟩
  | .hbm, ⟨23, _⟩ => ⟨S4096x32x64, .f32⟩
  | .hbm, ⟨24, _⟩ => ⟨S_, .i32⟩
  | .hbm, ⟨25, _⟩ => ⟨S4096x32x64, .f32⟩
  | .hbm, ⟨26, _⟩ => ⟨S4096x32x64, .f32⟩
  | .hbm, ⟨27, _⟩ => ⟨S32x64, .f32⟩
  | .hbm, ⟨28, _⟩ => ⟨S32x64, .f32⟩
  | .hbm, ⟨29, _⟩ => ⟨S_, .i32⟩
  | .hbm, ⟨30, _⟩ => ⟨S32x64, .f32⟩
  | .hbm, ⟨31, _⟩ => ⟨S32x64, .f32⟩
  | .hbm, ⟨32, _⟩ => ⟨S4096x32x64, .f32⟩
  | .hbm, ⟨33, _⟩ => ⟨S4096x32x64, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x32x64, .f32⟩
  | .hbm, ⟨43, _⟩ => ⟨S32x64, .f32⟩
  | .hbm, ⟨44, _⟩ => ⟨S_, .i32⟩
  | .hbm, ⟨45, _⟩ => ⟨S_, .i32⟩
  | .hbm, ⟨46, _⟩ => ⟨S1x32x64, .f32⟩
  | .hbm, ⟨47, _⟩ => ⟨S32x64, .f32⟩
  | .hbm, ⟨48, _⟩ => ⟨S32x64, .f32⟩
  | .hbm, ⟨49, _⟩ => ⟨S32x64, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S1x32x64, .f32⟩
  | .hbm, ⟨58, _⟩ => ⟨S_, .i32⟩
  | .hbm, ⟨59, _⟩ => ⟨S_, .i32⟩
  | .hbm, ⟨60, _⟩ => ⟨S4096x32x64, .f32⟩
  | .hbm, ⟨61, _⟩ => ⟨S1x32x64, .f32⟩
  | .hbm, ⟨62, _⟩ => ⟨S_, .i32⟩
  | .hbm, ⟨63, _⟩ => ⟨S_, .i32⟩
  | .hbm, ⟨64, _⟩ => ⟨S4096x32x64, .f32⟩
  | .hbm, ⟨65, _⟩ => ⟨S_, .i32⟩
  | .hbm, ⟨66, _⟩ => ⟨S_, .i32⟩
  | .hbm, ⟨67, _⟩ => ⟨S8x512x2048, .f32⟩
  | .hbm, ⟨68, _⟩ => ⟨S512x8x2048, .f32⟩
  | .hbm, ⟨69, _⟩ => ⟨S4096x2048, .f32⟩
  | .hbm, ⟨70, _⟩ => ⟨S8x512x2048, .f32⟩
  | .hbm, ⟨71, _⟩ => ⟨S512x8x2048, .f32⟩
  | .hbm, ⟨72, _⟩ => ⟨S4096x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_c : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev main_while0c_c_12 : Ref sig .tc := ⟨.hbm, 34, rfl⟩
abbrev main_while0c_v21 : Ref sig .tc := ⟨.hbm, 35, rfl⟩
abbrev main_while0b_c_12 : Ref sig .tc := ⟨.hbm, 36, rfl⟩
abbrev main_while0b_v21 : Ref sig .tc := ⟨.hbm, 37, rfl⟩
abbrev main_while0b_c_13 : Ref sig .tc := ⟨.hbm, 38, rfl⟩
abbrev main_while0b_v22 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v23 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_call2_v0 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_v34 : Ref sig .tc := ⟨.hbm, 60, rfl⟩
abbrev main_while0b_call3_v0 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_v35 : Ref sig .tc := ⟨.hbm, 64, rfl⟩
abbrev main_while0b_c_14 : Ref sig .tc := ⟨.hbm, 65, rfl⟩
abbrev main_while0b_v36 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]

abbrev main_while0_count : Scf.Loop 32 := ⟨0#32, 4096#32, 1#32⟩
-- ==== Proof.Payloads.lean ====
/- What one grid point of the attention gradient computes from its blocks, read at an index: probabilities, score
   gradients and the three updates, at the extended reals. -/
module

public import proofs.«01_k».proof.Proof.Gen.KernelIdeal.Skeleton
public import Idealize.ShloMosaic.Lib.Pointwise
public import Idealize.ShloMosaic.Lib.WordCmp

set_option maxRecDepth 16384

@[expose] public section

noncomputable section

namespace Cert.KernelIdeal.Grad

open Idealize.ShloMosaic Idealize.ShloMosaic.TcCoe Idealize.SL.Sem
open Cert.KernelIdeal Cert.KernelIdeal.Gen

/-- The probability of one query row of a block at one of its keys, when the row's logarithm is the same in every lane. -/
theorem pay11_at (q k : FVec Ideal S512x256 .bf16) (l : FVec Ideal S512x128 .f32) (ℓ : Fin 512 → EReal)
    (hl : ∀ (a : Fin 512) (x : Fin 128), l (ix2 a x) = ℓ a) (a b : Fin 512) :
    k0_pay11 (F := Ideal) q k l (ix2 a b) = Ideal.exp2 ((∑ d : Fin 256, q (ix2 a d) * k (ix2 b d)) - ℓ a) := by
  pointwise [k0_pay11, hl]
  simp only [dite_eq_ite, ite_self]
  rfl

/-- A position counted in a block, as the word the body compares. -/
theorem pos_word (n : ℕ) (a : Fin 512) :
    IntOp.addi (Scalar.muli (BitVec.ofNat 32 n) 512#32) (BitVec.ofNat 32 ↑a) = BitVec.ofNat 32 (n * 512 + a.val) := by
  rw [BitVec.ofNat_add, BitVec.ofNat_mul]; rfl

theorem pay15_at (n : ℕ) (hn : n < 8) (q k : FVec Ideal S512x256 .bf16) (l : FVec Ideal S512x128 .f32) (ℓ : Fin 512 → EReal)
    (hl : ∀ (a : Fin 512) (x : Fin 128), l (ix2 a x) = ℓ a) (a b : Fin 512) :
    k0_pay15 (F := Ideal) (BitVec.ofNat 32 n) (BitVec.ofNat 32 n) q k l (ix2 a b)
      = if b.val ≤ a.val then Ideal.exp2 ((∑ d : Fin 256, q (ix2 a d) * k (ix2 b d)) - ℓ a) else 0 := by
  pointwise [k0_pay15, hl]
  simp only [dite_eq_ite, ite_self]
  rw [pos_word n a, pos_word n b, WordCmp.cmpi_sge_ofNat (by omega) (by omega)]
  by_cases h : b.val ≤ a.val
  · rw [if_pos h, decide_eq_true (by omega : n * 512 + b.val ≤ n * 512 + a.val)]; rfl
  · rw [if_neg h, decide_eq_false (by omega : ¬ n * 512 + b.val ≤ n * 512 + a.val)]; rfl

theorem pay12_at (q k : FVec Ideal S512x256 .bf16) (l : FVec Ideal S512x128 .f32) (o v : FVec Ideal S512x128 .bf16)
    (e : FVec Ideal S512x128 .f32) (ε : Fin 512 → EReal)
    (he : ∀ (a : Fin 512) (x : Fin 128), e (ix2 a x) = ε a) (a b : Fin 512) :
    k0_pay12 (F := Ideal) q k l o v e (ix2 a b)
      = k0_pay11 (F := Ideal) q k l (ix2 a b) * ((∑ d : Fin 128, o (ix2 a d) * v (ix2 b d)) - ε a) := by
  pointwise [k0_pay12, he]
  simp only [dite_eq_ite, ite_self]

theorem pay16_at (i j : BitVec 32) (q k : FVec Ideal S512x256 .bf16) (l : FVec Ideal S512x128 .f32) (o v : FVec Ideal S512x128 .bf16)
    (e : FVec Ideal S512x128 .f32) (ε : Fin 512 → EReal)
    (he : ∀ (a : Fin 512) (x : Fin 128), e (ix2 a x) = ε a) (a b : Fin 512) :
    k0_pay16 (F := Ideal) i j q k l o v e (ix2 a b)
      = k0_pay15 (F := Ideal) i j q k l (ix2 a b) * ((∑ d : Fin 128, o (ix2 a d) * v (ix2 b d)) - ε a) := by
  pointwise [k0_pay16, he]
  simp only [dite_eq_ite, ite_self]

theorem pay13_at (q k : FVec Ideal S512x256 .bf16) (l : FVec Ideal S512x128 .f32) (s : FVec Ideal S512x128 .f32)
    (o : FVec Ideal S512x128 .bf16) (b : Fin 512) (d : Fin 128) :
    k0_pay13 (F := Ideal) q k l s o (ix2 b d)
      = s (ix2 b d) + ∑ a : Fin 512, k0_pay11 (F := Ideal) q k l (ix2 a b) * o (ix2 a d) := by
  pointwise [k0_pay13]

theorem pay17_at (i j : BitVec 32) (q k : FVec Ideal S512x256 .bf16) (l : FVec Ideal S512x128 .f32) (s : FVec Ideal S512x128 .f32)
    (o : FVec Ideal S512x128 .bf16) (b : Fin 512) (d : Fin 128) :
    k0_pay17 (F := Ideal) i j q k l s o (ix2 b d)
      = s (ix2 b d) + ∑ a : Fin 512, k0_pay15 (F := Ideal) i j q k l (ix2 a b) * o (ix2 a d) := by
  pointwise [k0_pay17]

theorem pay14_at (q k : FVec Ideal S512x256 .bf16) (l : FVec Ideal S512x128 .f32) (o v : FVec Ideal S512x128 .bf16)
    (e : FVec Ideal S512x128 .f32) (s : FVec Ideal S512x256 .f32) (q' : FVec Ideal S512x256 .bf16) (b : Fin 512) (d : Fin 256) :
    k0_pay14 (F := Ideal) q k l o v e s q' (ix2 b d)
      = s (ix2 b d) + ∑ a : Fin 512, k0_pay12 (F := Ideal) q k l o v e (ix2 a b) * q' (ix2 a d) := by
  pointwise [k0_pay14]

theorem pay6_at (g : FVec Ideal S512x512 .bf16) (s : FVec Ideal S512x256 .f32) (q : FVec Ideal S512x256 .bf16) (b : Fin 512) (d : Fin 256) :
    k0_pay6 (F := Ideal) g s q (ix2 b d) = s (ix2 b d) + ∑ a : Fin 512, g (ix2 a b) * q (ix2 a d) := by
  pointwise [k0_pay6]

theorem pay5_at (g : FVec Ideal S512x512 .bf16) (s : FVec Ideal S512x256 .f32) (k : FVec Ideal S512x256 .bf16) (a : Fin 512) (d : Fin 256) :
    k0_pay5 (F := Ideal) g s k (ix2 a d) = s (ix2 a d) + ∑ b : Fin 512, g (ix2 a b) * k (ix2 b d) := by
  pointwise [k0_pay5]

theorem pay7_at (g : FVec Ideal S512x512 .bf16) (s : FVec Ideal S512x256 .f32) (k : FVec Ideal S512x256 .bf16) (a : Fin 512) (d : Fin 256) :
    k0_pay7 (F := Ideal) g s k (ix2 a d) = s (ix2 a d) + ∑ b : Fin 512, g (ix2 a b) * k (ix2 b d) := by
  pointwise [k0_pay7]

theorem pay4_at (s : FVec Ideal S512x256 .f32) (j : S512x256.Idx) : k0_pay4 (F := Ideal) s j = s j := by
  pointwise [k0_pay4]

theorem pay1_at (j : S4096x256.Idx) : k0_pay1 (F := Ideal) j = 0 := by
  pointwise [k0_pay1]

theorem pay2_at (j : S512x256.Idx) : k0_pay2 (F := Ideal) j = 0 := by
  pointwise [k0_pay2]

theorem pay3_at (j : S512x128.Idx) : k0_pay3 (F := Ideal) j = 0 := by
  pointwise [k0_pay3]

theorem pay8_at (s : FVec Ideal S512x256 .f32) (j : S512x256.Idx) :
    k0_pay8 (F := Ideal) s j = s j * ((Real.log 2 : ℝ) : EReal) := by
  pointwise [k0_pay8]
  rfl

theorem pay9_at (s : FVec Ideal S512x128 .f32) (j : S512x128.Idx) : k0_pay9 (F := Ideal) s j = s j := by
  pointwise [k0_pay9]

theorem pay10_at (s : FVec Ideal S4096x256 .f32) (j : S4096x256.Idx) :
    k0_pay10 (F := Ideal) s j = s j * ((Real.log 2 : ℝ) : EReal) := by
  pointwise [k0_pay10]
  rfl

end Cert.KernelIdeal.Grad
end
end
-- ==== Proof.Rows.lean ====
/- A grid point's coordinates, and the block of rows that it adds to. -/
module

public import proofs.«01_k».proof.Proof.Gen.KernelIdeal.Frame
public import proofs.«01_k».proof.Proof.Payloads
public import Idealize.ShloMosaic.Lib.Pipeline.ValueKit
public import Idealize.ShloMosaic.Lib.Pipeline.ReadBack
public import Idealize.ShloMosaic.Lib.WritesUnit

set_option maxRecDepth 16384

@[expose] public section

noncomputable section

namespace Cert.KernelIdeal.Grad

open Idealize.ShloMosaic Idealize.ShloMosaic.TcCoe Idealize.SL.Sem
open Cert.KernelIdeal Cert.KernelIdeal.Gen

/-- Row `a` of row block `n`. -/
def row (n : Fin 8) (a : Fin 512) : Fin 4096 := ⟨512 * n.val + a.val, by omega⟩

/-- The query block, the key block and the head of a grid point. -/
def iq (t : Fin cfg0.N) : Fin 8 := ⟨t.val % 8, by omega⟩
def jk (t : Fin cfg0.N) : Fin 8 := ⟨t.val / 8 % 8, by omega⟩
def hd (t : Fin cfg0.N) : Fin 4 := ⟨t.val / 64, by have h : t.val < 256 := t.isLt; omega⟩

theorem coord1 (t : Fin cfg0.N) : (grid0.coords t 1).val = (jk t).val := (by decide +kernel : ∀ t : Fin grid0.N, (grid0.coords t 1).val = t.val / 8 % 8) t
theorem coord2 (t : Fin cfg0.N) : (grid0.coords t 2).val = (iq t).val := (by decide +kernel : ∀ t : Fin grid0.N, (grid0.coords t 2).val = t.val % 8) t
theorem off1 (t : Fin cfg0.N) : k0_off1 (grid0.coords t) = ![512 * (iq t).val, 0] := (by decide +kernel : ∀ t : Fin grid0.N, k0_off1 (grid0.coords t) = ![512 * (t.val % 8), 0]) t
theorem off2 (t : Fin cfg0.N) : k0_off2 (grid0.coords t) = ![512 * (iq t).val, 0] := off1 t

section
variable {κ : Kind} {sp : Space} (v : View sig κ sp S4096x256 .f32) (f : v.ty.Contents (Elt Ideal)) {off : Fin 2 → ℕ}
  (inb : ∀ a : Fin 2, off a + (![512, 256] : Fin 2 → ℕ) a ≤ S4096x256.size a) (w : (Rect.unit (s := S4096x256) off ![512, 256] inb).shape.Idx → Elt Ideal .f32)
  (n : Fin 8) (ho : off = ![512 * n.val, 0])
include ho

/-- Rows a store covers read its payload. -/
theorem stored_in (a : Fin 512) (d : Fin 256) :
    View.read (Elt Ideal) v (v.writes (Elt Ideal) f [⟨Rect.unit (s := S4096x256) off ![512, 256] inb, w⟩]) (ix2 (row n a) d) = w (ix2 a d) :=
  View.read_writes_cons_rows_of_mem v f inb w [] (ix2 (row n a) d) (ix2 a d) ho rfl rfl

/-- The other rows read what was there. -/
theorem stored_out (r : Fin 4096) (d : Fin 256) (h : r.val / 512 ≠ n.val) :
    View.read (Elt Ideal) v (v.writes (Elt Ideal) f [⟨Rect.unit (s := S4096x256) off ![512, 256] inb, w⟩]) (ix2 r d) = View.read (Elt Ideal) v f (ix2 r d) :=
  (View.read_writes_cons_rows_of_not_mem (W := 512) v f inb w [] (ix2 r d) ho rfl (by
    show r.val < 512 * n.val ∨ 512 * n.val + 512 ≤ r.val; omega)).trans (by rw [View.writes_nil])

theorem piled_in (L : List (View.Piece (Elt Ideal) S4096x256 .f32)) (a : Fin 512) (d : Fin 256) :
    View.canon (⟨Rect.unit (s := S4096x256) off ![512, 256] inb, w⟩ :: L) (ix2 (row n a) d) = w (ix2 a d) := by
  subst ho
  rw [← View.canon_cons_emb (Val := Elt Ideal) (Rect.unit (s := S4096x256) ![512 * n.val, 0] ![512, 256] inb) w L (ix2 a d)]
  exact congrArg _ (Shape.idx_ext₂ (by show 512 * n.val + a.val = 512 * n.val + 1 * a.val; omega) (by show d.val = 0 + 1 * d.val; omega))

theorem piled_out (L : List (View.Piece (Elt Ideal) S4096x256 .f32)) (r : Fin 4096) (d : Fin 256) (h : r.val / 512 ≠ n.val) :
    View.canon (⟨Rect.unit (s := S4096x256) off ![512, 256] inb, w⟩ :: L) (ix2 r d) = View.canon L (ix2 r d) := by
  subst ho
  refine View.canon_cons_of_not_mem _ _ fun hm => ?_
  have h0 : 512 * n.val ≤ r.val ∧ r.val < 512 * n.val + 512 := (Rect.mem_set_unit (inb := inb)).mp hm (0 : Fin 2)
  omega
end

/-- The rows of block `n`. -/
def rowsOf (X : FVec Ideal S4096x256 .f32) (n : Fin 8) : FVec Ideal S512x256 .f32 := fun y => X (ix2 (row n (y 0)) (y 1))

theorem loaded_eq {off : Fin 2 → ℕ} (inb : ∀ a : Fin 2, off a + (![512, 256] : Fin 2 → ℕ) a ≤ S4096x256.size a) (n : Fin 8) (ho : off = ![512 * n.val, 0])
    (X : FVec Ideal S4096x256 .f32) : View.ld (Val := Elt Ideal) (e' := .f32) X (Rect.unit (s := S4096x256) off ![512, 256] inb) = rowsOf X n := by
  subst ho
  funext y
  exact congrArg X (Shape.idx_ext₂ (congrArg (512 * n.val + ·) (Nat.one_mul (y 0).val)) ((Nat.zero_add _).trans (Nat.one_mul (y 1).val)))

end Cert.KernelIdeal.Grad
end
end
-- ==== Proof.State.lean ====
/- What one grid point leaves in the accumulators. -/
module

public import proofs.«01_k».proof.Proof.Gen.KernelIdeal.Frame
public import proofs.«01_k».proof.Proof.Rows
public import Idealize.ShloMosaic.Lib.Pipeline.ValueKit
public import Idealize.ShloMosaic.Lib.Pipeline.ReadBack
public import Idealize.ShloMosaic.Lib.WritesUnit

set_option maxRecDepth 16384

@[expose] public section

noncomputable section

namespace Cert.KernelIdeal.Grad

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The gradient of the scores of a point, under the diagonal and on it. -/
abbrev under (t : Fin cfg0.N) := k0_pay12 (F := Ideal) (iblk m c 0 t) (iblk m c 1 t) (iblk m c 4 t) (iblk m c 3 t) (iblk m c 2 t) (iblk m c 5 t)
abbrev onDiag (t : Fin cfg0.N) := k0_pay16 (F := Ideal) (BitVec.ofNat 32 (jk t).val) (BitVec.ofNat 32 (iq t).val) (iblk m c 0 t) (iblk m c 1 t) (iblk m c 4 t) (iblk m c 3 t) (iblk m c 2 t) (iblk m c 5 t)

theorem pay4_eq (s : FVec Ideal S512x256 .f32) : k0_pay4 (F := Ideal) s = s := funext fun j => pay4_at s j

/-- What the point before `t` left. -/
abbrev before (t : Fin cfg0.N) := outsAt0 m c (t.val - 1) (Nat.lt_of_le_of_lt (Nat.sub_le _ _) t.isLt)

section
variable (t : Fin cfg0.N) (h0 : t.val % 64 = 0) (h1 : t.val % 8 = 0) (h2 : ¬ t.val / 8 % 8 + 1 ≤ t.val % 8) (h3 : t.val / 8 % 8 = t.val % 8) (h4 : ¬ t.val % 8 = 7) (h5 : ¬ t.val % 64 = 63)
include h0 h1 h2 h3 h4 h5
theorem A_dk : (outsAt0 m c t.val t.isLt).2.2.2.1 = k0_pay6 (F := Ideal) (onDiag m c t) (k0_pay2 (F := Ideal)) (iblk m c 0 t) := by
  rw [outsAt0_A m c t h0 h1 h2 h3 h4 h5]
  dsimp only
  frame_out
  rw [coord1, coord2]
theorem A_dv : (outsAt0 m c t.val t.isLt).2.2.2.2 = k0_pay17 (F := Ideal) (BitVec.ofNat 32 (jk t).val) (BitVec.ofNat 32 (iq t).val) (iblk m c 0 t) (iblk m c 1 t) (iblk m c 4 t) (k0_pay3 (F := Ideal)) (iblk m c 3 t) := by
  rw [outsAt0_A m c t h0 h1 h2 h3 h4 h5]
  dsimp only
  frame_out
  rw [coord1, coord2]
theorem A_dq_in (a : Fin 512) (d : Fin 256) : (outsAt0 m c t.val t.isLt).1 (ix2 (row (iq t) a) d) = k0_pay7 (F := Ideal) (onDiag m c t) (rowsOf (k0_pay1 (F := Ideal)) (iq t)) (iblk m c 1 t) (ix2 a d) := by
  rw [outsAt0_A m c t h0 h1 h2 h3 h4 h5]
  dsimp only
  frame_out
  rw [coord1, coord2]
  rw [loaded_eq _ (iq t) (off2 t)]
  exact (piled_in _ _ (iq t) (off2 t) _ a d)
theorem A_dq_out (r : Fin 4096) (d : Fin 256) (h : r.val / 512 ≠ (iq t).val) : (outsAt0 m c t.val t.isLt).1 (ix2 r d) = k0_pay1 (F := Ideal) (ix2 r d) := by
  rw [outsAt0_A m c t h0 h1 h2 h3 h4 h5]
  dsimp only
  frame_out
  exact (piled_out _ _ (iq t) (off2 t) _ r d h).trans (congrFun (View.canon_unit_zero (by decide) _ _) _)
end

section
variable (t : Fin cfg0.N) (h0 : ¬ t.val % 64 = 0) (h1 : ¬ t.val % 8 = 0) (h2 : t.val / 8 % 8 + 1 ≤ t.val % 8) (h3 : ¬ t.val / 8 % 8 = t.val % 8) (h4 : ¬ t.val % 8 = 7) (h5 : ¬ t.val % 64 = 63)
include h0 h1 h2 h3 h4 h5
theorem B_dk : (outsAt0 m c t.val t.isLt).2.2.2.1 = k0_pay14 (F := Ideal) (iblk m c 0 t) (iblk m c 1 t) (iblk m c 4 t) (iblk m c 3 t) (iblk m c 2 t) (iblk m c 5 t) ((before m c t).2.2.2.1) (iblk m c 0 t) := by
  rw [outsAt0_B m c t h0 h1 h2 h3 h4 h5]
  dsimp only
  frame_out
  simp only [read_unread_whole]
  rw [pay4_eq]
theorem B_dv : (outsAt0 m c t.val t.isLt).2.2.2.2 = k0_pay13 (F := Ideal) (iblk m c 0 t) (iblk m c 1 t) (iblk m c 4 t) ((before m c t).2.2.2.2) (iblk m c 3 t) := by
  rw [outsAt0_B m c t h0 h1 h2 h3 h4 h5]
  dsimp only
  frame_out
  simp only [read_unread_whole]
theorem B_dq_in (a : Fin 512) (d : Fin 256) : (outsAt0 m c t.val t.isLt).1 (ix2 (row (iq t) a) d) = k0_pay5 (F := Ideal) (under m c t) (rowsOf ((before m c t).1) (iq t)) (iblk m c 1 t) (ix2 a d) := by
  rw [outsAt0_B m c t h0 h1 h2 h3 h4 h5]
  dsimp only
  frame_out
  rw [loaded_eq _ (iq t) (off1 t)]
  exact (stored_in _ _ _ _ (iq t) (off1 t) a d)
theorem B_dq_out (r : Fin 4096) (d : Fin 256) (h : r.val / 512 ≠ (iq t).val) : (outsAt0 m c t.val t.isLt).1 (ix2 r d) = (before m c t).1 (ix2 r d) := by
  rw [outsAt0_B m c t h0 h1 h2 h3 h4 h5]
  dsimp only
  frame_out
  exact ((stored_out _ _ _ _ (iq t) (off1 t) r d h).trans (congrFun (Memref.IsWhole.read_unread _ _) _))
end

section
variable (t : Fin cfg0.N) (h0 : ¬ t.val % 64 = 0) (h1 : ¬ t.val % 8 = 0) (h2 : t.val / 8 % 8 + 1 ≤ t.val % 8) (h3 : ¬ t.val / 8 % 8 = t.val % 8) (h4 : t.val % 8 = 7) (h5 : ¬ t.val % 64 = 63)
include h0 h1 h2 h3 h4 h5
theorem C_dk : (outsAt0 m c t.val t.isLt).2.2.2.1 = k0_pay14 (F := Ideal) (iblk m c 0 t) (iblk m c 1 t) (iblk m c 4 t) (iblk m c 3 t) (iblk m c 2 t) (iblk m c 5 t) ((before m c t).2.2.2.1) (iblk m c 0 t) := by
  rw [outsAt0_C m c t h0 h1 h2 h3 h4 h5]
  dsimp only
  frame_out
  simp only [read_unread_whole]
  rw [pay4_eq]
theorem C_dv : (outsAt0 m c t.val t.isLt).2.2.2.2 = k0_pay13 (F := Ideal) (iblk m c 0 t) (iblk m c 1 t) (iblk m c 4 t) ((before m c t).2.2.2.2) (iblk m c 3 t) := by
  rw [outsAt0_C m c t h0 h1 h2 h3 h4 h5]
  dsimp only
  frame_out
  simp only [read_unread_whole]
theorem C_o7 : (outsAt0 m c t.val t.isLt).2.1 = k0_pay8 (F := Ideal) (outsAt0 m c t.val t.isLt).2.2.2.1 := by
  rw [C_dk m c t h0 h1 h2 h3 h4 h5]
  rw [outsAt0_C m c t h0 h1 h2 h3 h4 h5]
  dsimp only
  frame_out
  simp only [read_unread_whole]
  rw [pay4_eq]
theorem C_o8 : (outsAt0 m c t.val t.isLt).2.2.1 = k0_pay9 (F := Ideal) (outsAt0 m c t.val t.isLt).2.2.2.2 := by
  rw [C_dv m c t h0 h1 h2 h3 h4 h5]
  rw [outsAt0_C m c t h0 h1 h2 h3 h4 h5]
  dsimp only
  frame_out
  simp only [read_unread_whole]
theorem C_dq_in (a : Fin 512) (d : Fin 256) : (outsAt0 m c t.val t.isLt).1 (ix2 (row (iq t) a) d) = k0_pay5 (F := Ideal) (under m c t) (rowsOf ((before m c t).1) (iq t)) (iblk m c 1 t) (ix2 a d) := by
  rw [outsAt0_C m c t h0 h1 h2 h3 h4 h5]
  dsimp only
  frame_out
  rw [loaded_eq _ (iq t) (off1 t)]
  exact (stored_in _ _ _ _ (iq t) (off1 t) a d)
theorem C_dq_out (r : Fin 4096) (d : Fin 256) (h : r.val / 512 ≠ (iq t).val) : (outsAt0 m c t.val t.isLt).1 (ix2 r d) = (before m c t).1 (ix2 r d) := by
  rw [outsAt0_C m c t h0 h1 h2 h3 h4 h5]
  dsimp only
  frame_out
  exact ((stored_out _ _ _ _ (iq t) (off1 t) r d h).trans (congrFun (Memref.IsWhole.read_unread _ _) _))
end

section
variable (t : Fin cfg0.N) (h0 : ¬ t.val % 64 = 0) (h1 : t.val % 8 = 0) (h2 : ¬ t.val / 8 % 8 + 1 ≤ t.val % 8) (h3 : ¬ t.val / 8 % 8 = t.val % 8) (h4 : ¬ t.val % 8 = 7) (h5 : ¬ t.val % 64 = 63)
include h0 h1 h2 h3 h4 h5
theorem D_dq : (outsAt0 m c t.val t.isLt).1 = (before m c t).1 := by
  rw [outsAt0_D m c t h0 h1 h2 h3 h4 h5]
  dsimp only
  rfl
theorem D_dk : (outsAt0 m c t.val t.isLt).2.2.2.1 = k0_pay2 (F := Ideal) := by
  rw [outsAt0_D m c t h0 h1 h2 h3 h4 h5]
  dsimp only
  frame_out
theorem D_dv : (outsAt0 m c t.val t.isLt).2.2.2.2 = k0_pay3 (F := Ideal) := by
  rw [outsAt0_D m c t h0 h1 h2 h3 h4 h5]
  dsimp only
  frame_out
end

section
variable (t : Fin cfg0.N) (h0 : ¬ t.val % 64 = 0) (h1 : ¬ t.val % 8 = 0) (h2 : ¬ t.val / 8 % 8 + 1 ≤ t.val % 8) (h3 : t.val / 8 % 8 = t.val % 8) (h4 : ¬ t.val % 8 = 7) (h5 : ¬ t.val % 64 = 63)
include h0 h1 h2 h3 h4 h5
theorem E_dk : (outsAt0 m c t.val t.isLt).2.2.2.1 = k0_pay6 (F := Ideal) (onDiag m c t) ((before m c t).2.2.2.1) (iblk m c 0 t) := by
  rw [outsAt0_E m c t h0 h1 h2 h3 h4 h5]
  dsimp only
  frame_out
  simp only [read_unread_whole]
  rw [coord1, coord2]
theorem E_dv : (outsAt0 m c t.val t.isLt).2.2.2.2 = k0_pay17 (F := Ideal) (BitVec.ofNat 32 (jk t).val) (BitVec.ofNat 32 (iq t).val) (iblk m c 0 t) (iblk m c 1 t) (iblk m c 4 t) ((before m c t).2.2.2.2) (iblk m c 3 t) := by
  rw [outsAt0_E m c t h0 h1 h2 h3 h4 h5]
  dsimp only
  frame_out
  simp only [read_unread_whole]
  rw [coord1, coord2]
theorem E_dq_in (a : Fin 512) (d : Fin 256) : (outsAt0 m c t.val t.isLt).1 (ix2 (row (iq t) a) d) = k0_pay7 (F := Ideal) (onDiag m c t) (rowsOf ((before m c t).1) (iq t)) (iblk m c 1 t) (ix2 a d) := by
  rw [outsAt0_E m c t h0 h1 h2 h3 h4 h5]
  dsimp only
  frame_out
  rw [coord1, coord2]
  rw [loaded_eq _ (iq t) (off2 t)]
  exact (stored_in _ _ _ _ (iq t) (off2 t) a d)
theorem E_dq_out (r : Fin 4096) (d : Fin 256) (h : r.val / 512 ≠ (iq t).val) : (outsAt0 m c t.val t.isLt).1 (ix2 r d) = (before m c t).1 (ix2 r d) := by
  rw [outsAt0_E m c t h0 h1 h2 h3 h4 h5]
  dsimp only
  frame_out
  exact ((stored_out _ _ _ _ (iq t) (off2 t) r d h).trans (congrFun (Memref.IsWhole.read_unread _ _) _))
end

section
variable (t : Fin cfg0.N) (h0 : ¬ t.val % 64 = 0) (h1 : ¬ t.val % 8 = 0) (h2 : ¬ t.val / 8 % 8 + 1 ≤ t.val % 8) (h3 : ¬ t.val / 8 % 8 = t.val % 8) (h4 : ¬ t.val % 8 = 7) (h5 : ¬ t.val % 64 = 63)
include h0 h1 h2 h3 h4 h5
theorem F_dq : (outsAt0 m c t.val t.isLt).1 = (before m c t).1 := by
  rw [outsAt0_F m c t h0 h1 h2 h3 h4 h5]
  dsimp only
  rfl
theorem F_dk : (outsAt0 m c t.val t.isLt).2.2.2.1 = (before m c t).2.2.2.1 := by
  rw [outsAt0_F m c t h0 h1 h2 h3 h4 h5]
  dsimp only
  rfl
theorem F_dv : (outsAt0 m c t.val t.isLt).2.2.2.2 = (before m c t).2.2.2.2 := by
  rw [outsAt0_F m c t h0 h1 h2 h3 h4 h5]
  dsimp only
  rfl
end

section
variable (t : Fin cfg0.N) (h0 : ¬ t.val % 64 = 0) (h1 : ¬ t.val % 8 = 0) (h2 : ¬ t.val / 8 % 8 + 1 ≤ t.val % 8) (h3 : t.val / 8 % 8 = t.val % 8) (h4 : t.val % 8 = 7) (h5 : t.val % 64 = 63)
include h0 h1 h2 h3 h4 h5
theorem G_dk : (outsAt0 m c t.val t.isLt).2.2.2.1 = k0_pay6 (F := Ideal) (onDiag m c t) ((before m c t).2.2.2.1) (iblk m c 0 t) := by
  rw [outsAt0_G m c t h0 h1 h2 h3 h4 h5]
  dsimp only
  frame_out
  simp only [read_unread_whole]
  rw [coord1, coord2]
theorem G_dv : (outsAt0 m c t.val t.isLt).2.2.2.2 = k0_pay17 (F := Ideal) (BitVec.ofNat 32 (jk t).val) (BitVec.ofNat 32 (iq t).val) (iblk m c 0 t) (iblk m c 1 t) (iblk m c 4 t) ((before m c t).2.2.2.2) (iblk m c 3 t) := by
  rw [outsAt0_G m c t h0 h1 h2 h3 h4 h5]
  dsimp only
  frame_out
  simp only [read_unread_whole]
  rw [coord1, coord2]
theorem G_o7 : (outsAt0 m c t.val t.isLt).2.1 = k0_pay8 (F := Ideal) (outsAt0 m c t.val t.isLt).2.2.2.1 := by
  rw [G_dk m c t h0 h1 h2 h3 h4 h5]
  rw [outsAt0_G m c t h0 h1 h2 h3 h4 h5]
  dsimp only
  frame_out
  simp only [read_unread_whole]
  rw [coord1, coord2]
theorem G_o8 : (outsAt0 m c t.val t.isLt).2.2.1 = k0_pay9 (F := Ideal) (outsAt0 m c t.val t.isLt).2.2.2.2 := by
  rw [G_dv m c t h0 h1 h2 h3 h4 h5]
  rw [outsAt0_G m c t h0 h1 h2 h3 h4 h5]
  dsimp only
  frame_out
  simp only [read_unread_whole]
  rw [coord1, coord2]
theorem G_dq_in (a : Fin 512) (d : Fin 256) : (outsAt0 m c t.val t.isLt).1 (ix2 (row (iq t) a) d) = k0_pay7 (F := Ideal) (onDiag m c t) (rowsOf ((before m c t).1) (iq t)) (iblk m c 1 t) (ix2 a d) * ((Real.log 2 : ℝ) : EReal) := by
  rw [outsAt0_G m c t h0 h1 h2 h3 h4 h5]
  dsimp only
  frame_out
  rw [pay10_at]
  rw [coord1, coord2]
  rw [loaded_eq _ (iq t) (off2 t)]
  exact congrArg (· * ((Real.log 2 : ℝ) : EReal)) (stored_in _ _ _ _ (iq t) (off2 t) a d)
theorem G_dq_out (r : Fin 4096) (d : Fin 256) (h : r.val / 512 ≠ (iq t).val) : (outsAt0 m c t.val t.isLt).1 (ix2 r d) = (before m c t).1 (ix2 r d) * ((Real.log 2 : ℝ) : EReal) := by
  rw [outsAt0_G m c t h0 h1 h2 h3 h4 h5]
  dsimp only
  frame_out
  rw [pay10_at]
  exact congrArg (· * ((Real.log 2 : ℝ) : EReal)) ((stored_out _ _ _ _ (iq t) (off2 t) r d h).trans (congrFun (Memref.IsWhole.read_unread _ _) _))
end

end Cert.KernelIdeal.Grad
end
end
-- ==== Proof.Reads.lean ====
/- The blocks that a grid point reads, out of the arrays. -/
module

public import proofs.«01_k».proof.Proof.Rows

set_option maxRecDepth 16384

@[expose] public section

noncomputable section

namespace Cert.KernelIdeal.Grad

open Idealize.ShloMosaic Idealize.ShloMosaic.TcCoe Idealize.SL.Sem
open Cert.KernelIdeal Cert.KernelIdeal.Gen

/-- The query block that a point reads: it waits above the diagonal. -/
def rq (t : Fin cfg0.N) : Fin 8 := max (iq t) (jk t)

/-- Lane `d` of head `h`. -/
def lane256 (h : Fin 4) (d : Fin 256) : Fin 1024 := ⟨h.val * 256 + d.val, by omega⟩
def lane128 (h : Fin 4) (d : Fin 128) : Fin 512 := ⟨h.val * 128 + d.val, by omega⟩

theorem win0_at (t : Fin cfg0.N) : win0_0.index t (0 : Fin 2) = (rq t).val ∧ win0_0.index t (1 : Fin 2) = (hd t).val :=
  (by decide +kernel : ∀ t : Fin grid0.N, win0_0.index t (0 : Fin 2) = (rq t).val ∧ win0_0.index t (1 : Fin 2) = (hd t).val) t
theorem win1_at (t : Fin cfg0.N) : win0_1.index t (0 : Fin 2) = (jk t).val ∧ win0_1.index t (1 : Fin 2) = (hd t).val :=
  (by decide +kernel : ∀ t : Fin grid0.N, win0_1.index t (0 : Fin 2) = (jk t).val ∧ win0_1.index t (1 : Fin 2) = (hd t).val) t
theorem win2_at (t : Fin cfg0.N) : win0_2.index t (0 : Fin 2) = (jk t).val ∧ win0_2.index t (1 : Fin 2) = (hd t).val := win1_at t
theorem win3_at (t : Fin cfg0.N) : win0_3.index t (0 : Fin 2) = (rq t).val ∧ win0_3.index t (1 : Fin 2) = (hd t).val := win0_at t
theorem win4_at (t : Fin cfg0.N) : win0_4.index t (0 : Fin 2) = (rq t).val ∧ win0_4.index t (1 : Fin 2) = (hd t).val := win0_at t
theorem win5_at (t : Fin cfg0.N) : win0_5.index t (0 : Fin 2) = (rq t).val ∧ win0_5.index t (1 : Fin 2) = (hd t).val := win0_at t

variable (m : (ℓ : Loc nD τ sig) → Buf (Elt Ideal) ℓ) (c : Dev nD) (t : Fin cfg0.N)

theorem block0 (a : Fin 512) (d : Fin 256) : iblk m c 0 t (ix2 a d) = V m c main_arg0 (ix2 (row (rq t) a) (lane256 (hd t) d)) :=
  congrArg (V m c main_arg0) (Shape.idx_ext₂
    (by show win0_0.index t (0 : Fin 2) * 512 + 1 * a.val = 512 * (rq t).val + a.val; rw [(win0_at t).1]; omega)
    (by show win0_0.index t (1 : Fin 2) * 256 + 1 * d.val = (hd t).val * 256 + d.val; rw [(win0_at t).2]; omega))
theorem block1 (a : Fin 512) (d : Fin 256) : iblk m c 1 t (ix2 a d) = V m c main_arg1 (ix2 (row (jk t) a) (lane256 (hd t) d)) :=
  congrArg (V m c main_arg1) (Shape.idx_ext₂
    (by show win0_1.index t (0 : Fin 2) * 512 + 1 * a.val = 512 * (jk t).val + a.val; rw [(win1_at t).1]; omega)
    (by show win0_1.index t (1 : Fin 2) * 256 + 1 * d.val = (hd t).val * 256 + d.val; rw [(win1_at t).2]; omega))
theorem block2 (a : Fin 512) (d : Fin 128) : iblk m c 2 t (ix2 a d) = V m c main_arg2 (ix2 (row (jk t) a) (lane128 (hd t) d)) :=
  congrArg (V m c main_arg2) (Shape.idx_ext₂
    (by show win0_2.index t (0 : Fin 2) * 512 + 1 * a.val = 512 * (jk t).val + a.val; rw [(win2_at t).1]; omega)
    (by show win0_2.index t (1 : Fin 2) * 128 + 1 * d.val = (hd t).val * 128 + d.val; rw [(win2_at t).2]; omega))
theorem block3 (a : Fin 512) (d : Fin 128) : iblk m c 3 t (ix2 a d) = V m c main_arg3 (ix2 (row (rq t) a) (lane128 (hd t) d)) :=
  congrArg (V m c main_arg3) (Shape.idx_ext₂
    (by show win0_3.index t (0 : Fin 2) * 512 + 1 * a.val = 512 * (rq t).val + a.val; rw [(win3_at t).1]; omega)
    (by show win0_3.index t (1 : Fin 2) * 128 + 1 * d.val = (hd t).val * 128 + d.val; rw [(win3_at t).2]; omega))
theorem block4 (a : Fin 512) (d : Fin 128) : iblk m c 4 t (ix2 a d) = V m c main_v54 (ix2 (row (rq t) a) (lane128 (hd t) d)) :=
  congrArg (V m c main_v54) (Shape.idx_ext₂
    (by show win0_4.index t (0 : Fin 2) * 512 + 1 * a.val = 512 * (rq t).val + a.val; rw [(win4_at t).1]; omega)
    (by show win0_4.index t (1 : Fin 2) * 128 + 1 * d.val = (hd t).val * 128 + d.val; rw [(win4_at t).2]; omega))
theorem block5 (a : Fin 512) (d : Fin 128) : iblk m c 5 t (ix2 a d) = V m c main_v57 (ix2 (row (rq t) a) (lane128 (hd t) d)) :=
  congrArg (V m c main_v57) (Shape.idx_ext₂
    (by show win0_5.index t (0 : Fin 2) * 512 + 1 * a.val = 512 * (rq t).val + a.val; rw [(win5_at t).1]; omega)
    (by show win0_5.index t (1 : Fin 2) * 128 + 1 * d.val = (hd t).val * 128 + d.val; rw [(win5_at t).2]; omega))

end Cert.KernelIdeal.Grad
end
end
-- ==== Proof.Core.lean ====
/- One head of causal softmax attention and its gradient over the reals, and how the extended-real operations compute it
   on finite inputs. -/
module

public import Idealize.ShloMosaic.Lib.Pointwise

set_option maxRecDepth 16384

@[expose] public section

noncomputable section

namespace Cert.AttnMath

open Idealize.ShloMosaic

variable {n w e : ℕ}

/-- A finite sum of reals read at the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A causal row's exponentials after its shift `M`: key `s` of query row `r` counts when `s ≤ r`. -/
def ex (x : Fin n → ℝ) (M : ℝ) (r s : Fin n) : ℝ := if s ≤ r then Real.exp (x s - M) else 0

/-- Their sum. -/
def den (x : Fin n → ℝ) (M : ℝ) (r : Fin n) : ℝ := ∑ s, ex x M r s

/-- The softmax weight of key `s` in query row `r`. -/
def wt (x : Fin n → ℝ) (r s : Fin n) : ℝ := ex x 0 r s / den x 0 r

theorem ex_nonneg (x : Fin n → ℝ) (M : ℝ) (r s : Fin n) : 0 ≤ ex x M r s := by
  unfold ex; split_ifs
  · exact (Real.exp_pos _).le
  · exact le_rfl

theorem den_pos (x : Fin n → ℝ) (M : ℝ) (r : Fin n) : 0 < den x M r := by
  refine Finset.sum_pos' (fun s _ => ex_nonneg x M r s) ⟨r, Finset.mem_univ _, ?_⟩
  unfold ex; rw [if_pos le_rfl]; exact Real.exp_pos _

theorem ex_shift (x : Fin n → ℝ) (M : ℝ) (r s : Fin n) : ex x M r s = ex x 0 r s * Real.exp (-M) := by
  unfold ex; split_ifs
  · rw [← Real.exp_add]; congr 1; ring
  · rw [zero_mul]

theorem den_shift (x : Fin n → ℝ) (M : ℝ) (r : Fin n) : den x M r = den x 0 r * Real.exp (-M) := by
  unfold den; rw [Finset.sum_mul]; exact Finset.sum_congr rfl fun s _ => ex_shift x M r s

/-- The shift does not change the weights. -/
theorem ex_div_den (x : Fin n → ℝ) (M : ℝ) (r s : Fin n) : ex x M r s / den x M r = wt x r s := by
  rw [ex_shift, den_shift, wt, mul_div_mul_right _ _ (Real.exp_ne_zero _)]

/-- The row's maximum, masked keys at minus infinity, is finite. -/
theorem row_max (x : Fin n → ℝ) (r : Fin n) :
    ∃ M : ℝ, Finset.univ.fold max (⊥ : EReal) (fun s => if s ≤ r then (x s : EReal) else ⊥) = (M : EReal) := by
  have hsup : Finset.univ.fold max (⊥ : EReal) (fun s => if s ≤ r then (x s : EReal) else ⊥)
      = Finset.univ.sup (fun s => if s ≤ r then (x s : EReal) else ⊥) := rfl
  rw [hsup]
  obtain ⟨s, -, hs⟩ := Finset.exists_mem_eq_sup Finset.univ ⟨r, Finset.mem_univ r⟩ (fun s => if s ≤ r then (x s : EReal) else ⊥)
  by_cases h : s ≤ r
  · exact ⟨x s, by rw [hs, if_pos h]⟩
  · have h1 := Finset.le_sup (f := fun s => if s ≤ r then (x s : EReal) else ⊥) (Finset.mem_univ r)
    rw [hs] at h1
    simp only [if_neg h, le_refl, if_true] at h1
    exact absurd (le_bot_iff.mp h1) (EReal.coe_ne_bot _)

/-- The exponential of a masked score. -/
theorem exp_masked (x : Fin n → ℝ) (M : ℝ) (r s : Fin n) :
    Ideal.exp ((if s ≤ r then (x s : EReal) else ⊥) - (M : EReal)) = (ex x M r s : EReal) := by
  unfold ex; split_ifs
  · rw [← EReal.coe_sub]; rfl
  · rw [EReal.bot_sub]; rfl

theorem sum_ex (x : Fin n → ℝ) (M : ℝ) (r : Fin n) : ∑ s, (ex x M r s : EReal) = (den x M r : EReal) :=
  (coe_sum _ _).symm

/-- Division of reals, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem div_den (x : Fin n → ℝ) (M : ℝ) (r s : Fin n) :
    Ideal.div (ex x M r s : EReal) (den x M r : EReal) = (wt x r s : EReal) := by
  rw [div_real _ _ (den_pos x M r).ne', ex_div_den]

theorem log_real (a : ℝ) (ha : 0 < a) : Ideal.log (a : EReal) = (Real.log a : EReal) := if_neg (not_le.mpr ha)

/-- The base-two logarithm of the row's sum of exponentials. -/
def lse (x : Fin n → ℝ) (M : ℝ) (r : Fin n) : ℝ := (M + Real.log (den x M r)) / Real.log 2

theorem log_two_pos : 0 < Real.log 2 := Real.log_pos (by norm_num)

theorem lse_ideal (x : Fin n → ℝ) (M : ℝ) (r : Fin n) :
    Ideal.div ((M : EReal) + Ideal.log (den x M r : EReal)) (Real.log 2 : EReal) = (lse x M r : EReal) := by
  rw [log_real _ (den_pos x M r), ← EReal.coe_add, div_real _ _ log_two_pos.ne', lse]

/-- The weight again from the logarithm: `2` to the score in base two less the logarithm. -/
theorem exp2_lse (x y : Fin n → ℝ) (hx : ∀ s, x s = y s * Real.log 2) (M : ℝ) (r s : Fin n) (h : s ≤ r) :
    Ideal.exp2 ((y s : EReal) - (lse x M r : EReal)) = (wt x r s : EReal) := by
  rw [← EReal.coe_sub]
  show ((Real.rpow 2 (y s - lse x M r) : ℝ) : EReal) = _
  congr 1
  have hl := log_two_pos
  rw [← ex_div_den x M r s, ex, if_pos h, Real.rpow_eq_pow, Real.rpow_def_of_pos (by norm_num), lse]
  rw [show Real.log 2 * (y s - (M + Real.log (den x M r)) / Real.log 2) = (x s - M) - Real.log (den x M r) by
    rw [hx]; field_simp; ring]
  rw [Real.exp_sub, Real.exp_log (den_pos x M r)]

theorem wt_masked (x : Fin n → ℝ) (r s : Fin n) (h : ¬ s ≤ r) : wt x r s = 0 := by
  rw [wt, ex, if_neg h, zero_div]

/-! ## One head -/

variable (q k : Fin n → Fin w → ℝ) (v g : Fin n → Fin e → ℝ)

/-- The scores of query row `r`. -/
def sc (r s : Fin n) : ℝ := (∑ d, q r d * k s d) * Real.log 2

/-- The attention weights. -/
def pr (r s : Fin n) : ℝ := wt (sc q k r) r s

/-- The gradient that reaches the weights. -/
def gp (r s : Fin n) : ℝ := ∑ d, g r d * v s d

/-- The attention's output. -/
def outp (r : Fin n) (d : Fin e) : ℝ := ∑ s, v s d * pr q k r s

/-- The row sum that the softmax's gradient subtracts. -/
def dl (r : Fin n) : ℝ := ∑ s, pr q k r s * gp v g r s

/-- The gradient at the scores. -/
def gs (r s : Fin n) : ℝ := pr q k r s * (gp v g r s - dl q k v g r)

theorem dl_eq_out (r : Fin n) : ∑ d, g r d * outp q k v r d = dl q k v g r := by
  unfold outp dl gp
  simp only [Finset.mul_sum]
  rw [Finset.sum_comm]
  exact Finset.sum_congr rfl fun s _ => Finset.sum_congr rfl fun d _ => by ring

/-- The form in which differentiating the quotient `e / Σ e` leaves the gradient. -/
theorem gs_quotient (M : ℝ) (r s : Fin n) :
    (gp v g r s / den (sc q k r) M r
        + -(∑ s', gp v g r s' * (1 / (den (sc q k r) M r * den (sc q k r) M r)) * ex (sc q k r) M r s'))
      * ex (sc q k r) M r s = gs q k v g r s := by
  have hz := (den_pos (sc q k r) M r).ne'
  have h1 : ∀ s', ex (sc q k r) M r s' = pr q k r s' * den (sc q k r) M r := fun s' => by
    rw [pr, ← ex_div_den _ M]; field_simp
  have h2 : (∑ s', gp v g r s' * (1 / (den (sc q k r) M r * den (sc q k r) M r)) * ex (sc q k r) M r s')
      = dl q k v g r / den (sc q k r) M r := by
    rw [dl, Finset.sum_div]
    exact Finset.sum_congr rfl fun s' _ => by rw [h1 s']; field_simp
  rw [h2, h1 s, gs]; field_simp; ring

end Cert.AttnMath
end
end
-- ==== Proof.RefStages.lean ====
/- The reference's attention, stage by stage, read at an index over finite inputs: scores, exponentials, row sums,
   weights. The kernel's host lines compute the same stages. -/
module

public import proofs.«01_k».proof.Proof.Gen.ReferenceIdeal
public import proofs.«01_k».proof.Proof.Core
public import Idealize.ShloMosaic.Lib.Pointwise
public import Idealize.ShloMosaic.Lib.WordCmp

set_option maxRecDepth 16384

@[expose] public section

noncomputable section

namespace Cert.ReferenceIdeal.Grad

open Idealize.ShloMosaic Idealize.ShloMosaic.TcCoe Idealize.SL.Sem
open Cert.ReferenceIdeal Cert.ReferenceIdeal.Gen Cert.AttnMath

/-- An array of four heads of 256 columns, by head. -/
def heads256 (x : FVec Ideal S4096x1024 .bf16) : FVec Ideal S4096x4x256 .f32 :=
  shapeCast _ (extf .f32 x bitsLt_bf16_f32) shapeCasts_S4096x1024_S4096x4x256

/-- An array of four heads of 128 columns, by head. -/
def heads128 (x : FVec Ideal S4096x512 .bf16) : FVec Ideal S4096x4x128 .f32 :=
  shapeCast _ (extf .f32 x bitsLt_bf16_f32) shapeCasts_S4096x512_S4096x4x128

/-- Which keys a query sees. -/
def seen : IVec S4x4096x4096 1 :=
  broadcastInDim S4x4096x4096 ![1, 2] bcast_S4096x4096_S4x4096x4096_1_2
    (cmpi .sge
      (broadcastInDim S4096x4096 ![0, 1] bcast_S4096x1_S4096x4096_0_1 (broadcastInDim S4096x1 ![0] bcast_S4096_S4096x1_0 (iotaInDim S4096 32 0)))
      (broadcastInDim S4096x4096 ![0, 1] bcast_S1x4096_S4096x4096_0_1 (broadcastInDim S1x4096 ![1] bcast_S4096_S1x4096_1 (iotaInDim S4096 32 0))))

/-- The masked scores. -/
def scores (q k : FVec Ideal S4096x4x256 .f32) : FVec Ideal S4x4096x4096 .f32 :=
  select seen
    (mulf (extf .f32 (truncf .bf16 (Host.dotGeneral dot_S4096x4x256_S4096x4x256_S4x4096x4096_2_2_0_0_1_1 none q k) bitsLt_bf16_f32) bitsLt_bf16_f32)
      (broadcastInDim S4x4096x4096 ![] bcast_S_S4x4096x4096 (Host.log (constant S_ .f32 0x40000000#32))))
    (broadcastInDim S4x4096x4096 ![] bcast_S_S4x4096x4096 (id (constant S_ .f32 0xFF800000#32)))

/-- Their row maxima. -/
def rowMax (s : FVec Ideal S4x4096x4096 .f32) : FVec Ideal S4x4096 .f32 :=
  Host.reduce FloatOps.maximumf s (constant S_ .f32 0xFF800000#32) reducesTo_S4x4096x4096_S4x4096_d2 h_S_

/-- The exponentials of the scores less a row shift. -/
def expo (s : FVec Ideal S4x4096x4096 .f32) (t : FVec Ideal S4x4096 .f32) : FVec Ideal S4x4096x4096 .f32 :=
  Host.exp (subf s (broadcastInDim S4x4096x4096 ![0, 1, 2] bcast_S4x4096x1_S4x4096x4096_0_1_2
    (broadcastInDim S4x4096x1 ![0, 1] bcast_S4x4096_S4x4096x1_0_1 t)))

/-- The shift that softmax takes, of the row maxima. -/
def shift (t : FVec Ideal S4x4096 .f32) : FVec Ideal S4x4096 .f32 :=
  maximumf (broadcastInDim S4x4096 ![] bcast_S_S4x4096 (constant S_ .f32 0xFF800000#32)) t

/-- The rows' sums. -/
def rowSum (x : FVec Ideal S4x4096x4096 .f32) : FVec Ideal S4x4096 .f32 :=
  Host.reduceAdd x (constant S_ .f32 0x00000000#32) reducesTo_S4x4096x4096_S4x4096_d2 h_S_

/-- A row value, kept as a column. -/
def col (x : FVec Ideal S4x4096 .f32) : FVec Ideal S4x4096x1 .f32 :=
  broadcastInDim S4x4096x1 ![0, 1] bcast_S4x4096_S4x4096x1_0_1 x

/-- A column of row values, along the keys. -/
def along (x : FVec Ideal S4x4096x1 .f32) : FVec Ideal S4x4096x4096 .f32 :=
  broadcastInDim S4x4096x4096 ![0, 1, 2] bcast_S4x4096x1_S4x4096x4096_0_1_2 x

/-- The attention weights, of the exponentials and their row sums. -/
def weights (x : FVec Ideal S4x4096x4096 .f32) (z : FVec Ideal S4x4096x1 .f32) : FVec Ideal S4x4096x4096 .f32 :=
  extf .f32 (truncf .bf16 (Host.divf x (along z)) bitsLt_bf16_f32) bitsLt_bf16_f32

/-- The gradient at the weights: the products of the heads' output gradients with the values. -/
def gradWeights (g v : FVec Ideal S4096x4x128 .f32) : FVec Ideal S4x4096x4096 .f32 :=
  extf .f32 (truncf .bf16 (Host.dotGeneral dot_S4x128x4096_S4096x4x128_S4x4096x4096_1_2_2_0_0_1 none
    (transpose S4x128x4096 [1, 2, 0] (extf .f32 (truncf .bf16 g bitsLt_bf16_f32) bitsLt_bf16_f32) transposes_S4096x4x128_S4x128x4096_1_2_0) v) bitsLt_bf16_f32) bitsLt_bf16_f32

/-- The products with the exponentials over the squared row sums. -/
def quotTerm (p x : FVec Ideal S4x4096x4096 .f32) (z : FVec Ideal S4x4096x1 .f32) : FVec Ideal S4x4096x4096 .f32 :=
  mulf (mulf p (along (Host.divf (broadcastInDim S4x4096x1 ![] bcast_S_S4x4096x1 (constant S_ .f32 0x3F800000#32)) (mulf z z)))) x

/-- The gradient at the row sums, from the sums of those products. -/
def gradSum (y : FVec Ideal S4x4096 .f32) : FVec Ideal S4x4096 .f32 :=
  Host.reduceAdd (Host.negf (shapeCast S4x4096x1 y shapeCasts_S4x4096_S4x4096x1)) (constant S_ .f32 0x00000000#32) reducesTo_S4x4096x1_S4x4096_d2 h_S_

/-- The gradient at the products of queries and keys. -/
def gradScores (p x : FVec Ideal S4x4096x4096 .f32) (z : FVec Ideal S4x4096x1 .f32) (w : FVec Ideal S4x4096 .f32) : FVec Ideal S4x4096x4096 .f32 :=
  extf .f32 (truncf .bf16 (mulf (select seen
      (mulf (addf (Host.divf p (along z)) (broadcastInDim S4x4096x4096 ![0, 1] bcast_S4x4096_S4x4096x4096_0_1 w)) x)
      (broadcastInDim S4x4096x4096 ![] bcast_S_S4x4096x4096 (constant S_ .f32 0x00000000#32)))
    (broadcastInDim S4x4096x4096 ![] bcast_S_S4x4096x4096 (Host.log (constant S_ .f32 0x40000000#32)))) bitsLt_bf16_f32) bitsLt_bf16_f32

/-- The gradient at the queries. -/
def gradQ (s : FVec Ideal S4x4096x4096 .f32) (k : FVec Ideal S4096x4x256 .f32) : FVec Ideal S4096x1024 .f32 :=
  shapeCast _ (transpose S4096x4x256 [1, 0, 2] (Host.dotGeneral dot_S4x4096x4096_S4096x4x256_S4x4096x256_2_0_1_2_0_1 none s k)
    transposes_S4x4096x256_S4096x4x256_1_0_2) shapeCasts_S4096x4x256_S4096x1024

/-- The gradient at the keys. -/
def gradK (s : FVec Ideal S4x4096x4096 .f32) (q : FVec Ideal S4096x4x256 .f32) : FVec Ideal S4096x1024 .bf16 :=
  truncf .bf16 (shapeCast _ (transpose S4096x4x256 [1, 0, 2] (Host.dotGeneral dot_S4x4096x4096_S4096x4x256_S4x4096x256_1_0_2_2_0_1 none s q)
    transposes_S4x4096x256_S4096x4x256_1_0_2) shapeCasts_S4096x4x256_S4096x1024) bitsLt_bf16_f32

/-- The gradient at the values. -/
def gradV (g : FVec Ideal S4096x4x128 .f32) (w : FVec Ideal S4x4096x4096 .f32) : FVec Ideal S4096x512 .bf16 :=
  truncf .bf16 (shapeCast _ (transpose S4096x4x128 [2, 0, 1] (Host.dotGeneral dot_S4x128x4096_S4x4096x4096_S4x128x4096_2_1_1_2_0_0 none
    (transpose S4x128x4096 [1, 2, 0] (extf .f32 (truncf .bf16 g bitsLt_bf16_f32) bitsLt_bf16_f32) transposes_S4096x4x128_S4x128x4096_1_2_0) w)
    transposes_S4x128x4096_S4096x4x128_2_0_1) shapeCasts_S4096x4x128_S4096x512) bitsLt_bf16_f32

theorem two_bits : Ideal.ofBits .f32 0x40000000#32 = ((2 : ℝ) : EReal) := by
  rw [show ((2 : ℝ) : EReal) = ((8388608 * (2 ^ 22)⁻¹ : ℝ) : EReal) by norm_num]
  simp [Ideal.ofBits, Ideal.ieee, -EReal.coe_mul]

theorem ninf_bits : Ideal.ofBits .f32 0xFF800000#32 = ⊥ := by
  simp [Ideal.ofBits, Ideal.ieee]

theorem log_two_bits : Ideal.log (Ideal.ofBits .f32 0x40000000#32) = ((Real.log 2 : ℝ) : EReal) := by
  rw [two_bits]; exact log_real 2 (by norm_num)

theorem heads256_at (x : FVec Ideal S4096x1024 .bf16) (r : Fin 4096) (h : Fin 4) (d : Fin 256) :
    heads256 x (ix3 r h d) = x (ix2 r ⟨h.val * 256 + d.val, by omega⟩) := by
  pointwise [heads256]

theorem heads128_at (x : FVec Ideal S4096x512 .bf16) (r : Fin 4096) (h : Fin 4) (d : Fin 128) :
    heads128 x (ix3 r h d) = x (ix2 r ⟨h.val * 128 + d.val, by omega⟩) := by
  pointwise [heads128]

theorem select_seen (h : Fin 4) (r s : Fin 4096) (a b : EReal) :
    Scalar.select (seen (ix3 h r s)) a b = if s ≤ r then a else b := by
  pointwise [seen]
  rw [WordCmp.cmpi_sge_ofNat (by omega) (by omega)]
  by_cases e : s ≤ r
  · rw [if_pos e, decide_eq_true (by exact e : s.val ≤ r.val)]; rfl
  · rw [if_neg e, decide_eq_false (by exact e : ¬ s.val ≤ r.val)]; rfl

theorem scores_ix (q k : FVec Ideal S4096x4x256 .f32) (h : Fin 4) (r s : Fin 4096) :
    scores q k (ix3 h r s) = if s ≤ r then (∑ d : Fin 256, q (ix3 r h d) * k (ix3 s h d)) * ((Real.log 2 : ℝ) : EReal) else ⊥ := by
  pointwise [scores, select_seen]
  rw [log_two_bits, ← ninf_bits]; rfl

theorem rowMax_ix (x : FVec Ideal S4x4096x4096 .f32) (h : Fin 4) (r : Fin 4096) :
    rowMax x (ix2 h r) = Finset.univ.fold max ⊥ fun s : Fin 4096 => x (ix3 h r s) := by
  pointwise [rowMax]
  rw [ninf_bits]

theorem expo_ix (s : FVec Ideal S4x4096x4096 .f32) (t : FVec Ideal S4x4096 .f32) (h : Fin 4) (r u : Fin 4096) :
    expo s t (ix3 h r u) = Ideal.exp (s (ix3 h r u) - t (ix2 h r)) := by
  pointwise [expo]

theorem shift_ix (t : FVec Ideal S4x4096 .f32) (h : Fin 4) (r : Fin 4096) :
    shift t (ix2 h r) = t (ix2 h r) := by
  pointwise [shift]
  rw [ninf_bits]; exact max_eq_right bot_le

theorem rowSum_ix (x : FVec Ideal S4x4096x4096 .f32) (h : Fin 4) (r : Fin 4096) :
    rowSum x (ix2 h r) = ∑ s : Fin 4096, x (ix3 h r s) := by
  pointwise [rowSum]

theorem col_ix (x : FVec Ideal S4x4096 .f32) (h : Fin 4) (r : Fin 4096) (e : Fin 1) : col x (ix3 h r e) = x (ix2 h r) := by
  pointwise [col]

theorem along_ix (z : FVec Ideal S4x4096x1 .f32) (h : Fin 4) (r s : Fin 4096) : along z (ix3 h r s) = z (ix3 h r 0) := by
  pointwise [along]

theorem weights_ix (x : FVec Ideal S4x4096x4096 .f32) (z : FVec Ideal S4x4096x1 .f32) (h : Fin 4) (r s : Fin 4096) :
    weights x z (ix3 h r s) = Ideal.div (x (ix3 h r s)) (z (ix3 h r 0)) := by
  pointwise [weights, along_ix]

theorem gradWeights_ix (g v : FVec Ideal S4096x4x128 .f32) (h : Fin 4) (r s : Fin 4096) :
    gradWeights g v (ix3 h r s) = ∑ d : Fin 128, g (ix3 r h d) * v (ix3 s h d) := by
  pointwise [gradWeights]

theorem quotTerm_ix (p x : FVec Ideal S4x4096x4096 .f32) (z : FVec Ideal S4x4096x1 .f32) (h : Fin 4) (r s : Fin 4096) :
    quotTerm p x z (ix3 h r s) = p (ix3 h r s) * Ideal.div 1 (z (ix3 h r 0) * z (ix3 h r 0)) * x (ix3 h r s) := by
  pointwise [quotTerm, along_ix]

theorem gradSum_ix (y : FVec Ideal S4x4096 .f32) (h : Fin 4) (r : Fin 4096) : gradSum y (ix2 h r) = -y (ix2 h r) := by
  pointwise [gradSum]
  exact Fin.sum_univ_one _

theorem gradScores_ix (p x : FVec Ideal S4x4096x4096 .f32) (z : FVec Ideal S4x4096x1 .f32) (w : FVec Ideal S4x4096 .f32)
    (h : Fin 4) (r s : Fin 4096) :
    gradScores p x z w (ix3 h r s)
      = (if s ≤ r then (Ideal.div (p (ix3 h r s)) (z (ix3 h r 0)) + w (ix2 h r)) * x (ix3 h r s) else 0) * ((Real.log 2 : ℝ) : EReal) := by
  pointwise [gradScores, select_seen, along_ix]
  rw [log_two_bits]

theorem gradQ_ix (s : FVec Ideal S4x4096x4096 .f32) (k : FVec Ideal S4096x4x256 .f32) (r : Fin 4096) (c : Fin 1024) :
    gradQ s k (ix2 r c) = ∑ u : Fin 4096, s (ix3 ⟨c.val / 256, by omega⟩ r u) * k (ix3 u ⟨c.val / 256, by omega⟩ ⟨c.val % 256, by omega⟩) := by
  pointwise [gradQ]

theorem gradK_ix (s : FVec Ideal S4x4096x4096 .f32) (q : FVec Ideal S4096x4x256 .f32) (r : Fin 4096) (c : Fin 1024) :
    gradK s q (ix2 r c) = ∑ u : Fin 4096, s (ix3 ⟨c.val / 256, by omega⟩ u r) * q (ix3 u ⟨c.val / 256, by omega⟩ ⟨c.val % 256, by omega⟩) := by
  pointwise [gradK]

theorem gradV_ix (g : FVec Ideal S4096x4x128 .f32) (w : FVec Ideal S4x4096x4096 .f32) (r : Fin 4096) (c : Fin 512) :
    gradV g w (ix2 r c) = ∑ u : Fin 4096, g (ix3 u ⟨c.val / 128, by omega⟩ ⟨c.val % 128, by omega⟩) * w (ix3 ⟨c.val / 128, by omega⟩ u r) := by
  pointwise [gradV]

end Cert.ReferenceIdeal.Grad
end
end
-- ==== Proof.RefValue.lean ====
/- The reference's three gradients over finite inputs, as real sums: the stages composed. -/
module

public import proofs.«01_k».proof.Proof.RefStages
public import proofs.«01_k».proof.Proof.Gen.ReferenceIdeal.Run

set_option maxRecDepth 16384

@[expose] public section

noncomputable section

namespace Cert.ReferenceIdeal.Grad

open Idealize.ShloMosaic Idealize.ShloMosaic.TcCoe Idealize.SL.Sem
open Cert.ReferenceIdeal Cert.ReferenceIdeal.Gen Cert.AttnMath

/-- What the real inputs are: the array's entries, by head. -/
def Real256 (x : FVec Ideal S4096x1024 .bf16) (y : Fin 4 → Fin 4096 → Fin 256 → ℝ) : Prop :=
  ∀ (r : Fin 4096) (h : Fin 4) (d : Fin 256), x (ix2 r ⟨h.val * 256 + d.val, by omega⟩) = (y h r d : EReal)

/-- The same at 128 columns a head. -/
def Real128 (x : FVec Ideal S4096x512 .bf16) (y : Fin 4 → Fin 4096 → Fin 128 → ℝ) : Prop :=
  ∀ (r : Fin 4096) (h : Fin 4) (d : Fin 128), x (ix2 r ⟨h.val * 128 + d.val, by omega⟩) = (y h r d : EReal)

section
variable {q k : FVec Ideal S4096x1024 .bf16} {y z : Fin 4 → Fin 4096 → Fin 256 → ℝ} (hq : Real256 q y) (hk : Real256 k z)
include hq hk

theorem scores_at (h : Fin 4) (r s : Fin 4096) :
    scores (heads256 q) (heads256 k) (ix3 h r s) = if s ≤ r then (sc (y h) (z h) r s : EReal) else ⊥ := by
  rw [scores_ix]
  refine if_congr Iff.rfl ?_ rfl
  rw [sc, EReal.coe_mul, coe_sum]
  congr 1
  exact Finset.sum_congr rfl fun d _ => by rw [heads256_at, heads256_at, hq, hk, EReal.coe_mul]

theorem rowMax_at (h : Fin 4) (r : Fin 4096) :
    ∃ M : ℝ, rowMax (scores (heads256 q) (heads256 k)) (ix2 h r) = (M : EReal) := by
  obtain ⟨M, hM⟩ := row_max (sc (y h) (z h) r) r
  refine ⟨M, ?_⟩
  rw [← hM, rowMax_ix]
  exact congrArg (fun f => Finset.univ.fold max ⊥ f) (funext fun s => scores_at hq hk h r s)

/-- The exponentials after a real shift. -/
theorem expo_at (t : FVec Ideal S4x4096 .f32) (h : Fin 4) (r : Fin 4096) (M : ℝ) (ht : t (ix2 h r) = (M : EReal)) (s : Fin 4096) :
    expo (scores (heads256 q) (heads256 k)) t (ix3 h r s) = (ex (sc (y h) (z h) r) M r s : EReal) := by
  rw [expo_ix, scores_at hq hk, ht, exp_masked]

theorem rowSum_at (t : FVec Ideal S4x4096 .f32) (h : Fin 4) (r : Fin 4096) (M : ℝ) (ht : t (ix2 h r) = (M : EReal)) :
    rowSum (expo (scores (heads256 q) (heads256 k)) t) (ix2 h r) = (den (sc (y h) (z h) r) M r : EReal) := by
  rw [rowSum_ix, ← sum_ex]
  exact Finset.sum_congr rfl fun s _ => expo_at hq hk t h r M ht s

/-- The attention weights. -/
theorem weights_at (t : FVec Ideal S4x4096 .f32) (h : Fin 4) (r : Fin 4096) (M : ℝ) (ht : t (ix2 h r) = (M : EReal)) (s : Fin 4096) :
    weights (expo (scores (heads256 q) (heads256 k)) t) (col (rowSum (expo (scores (heads256 q) (heads256 k)) t))) (ix3 h r s)
      = (pr (y h) (z h) r s : EReal) := by
  rw [weights_ix, col_ix, expo_at hq hk t h r M ht, rowSum_at hq hk t h r M ht, div_den]; rfl

end

theorem gradWeights_at {v g : FVec Ideal S4096x512 .bf16} {a b : Fin 4 → Fin 4096 → Fin 128 → ℝ} (hv : Real128 v a) (hg : Real128 g b)
    (h : Fin 4) (r s : Fin 4096) :
    gradWeights (heads128 g) (heads128 v) (ix3 h r s) = (gp (a h) (b h) r s : EReal) := by
  rw [gradWeights_ix, gp, coe_sum]
  exact Finset.sum_congr rfl fun d _ => by rw [heads128_at, heads128_at, hg, hv, EReal.coe_mul]

section
variable {q k : FVec Ideal S4096x1024 .bf16} {y z : Fin 4 → Fin 4096 → Fin 256 → ℝ} (hq : Real256 q y) (hk : Real256 k z)
  {v g : FVec Ideal S4096x512 .bf16} {a b : Fin 4 → Fin 4096 → Fin 128 → ℝ} (hv : Real128 v a) (hg : Real128 g b)

/-- The shift the reference takes. -/
def refShift (q k : FVec Ideal S4096x1024 .bf16) : FVec Ideal S4x4096 .f32 := shift (rowMax (scores (heads256 q) (heads256 k)))

/-- The reference's exponentials. -/
def refExpo (q k : FVec Ideal S4096x1024 .bf16) : FVec Ideal S4x4096x4096 .f32 := expo (scores (heads256 q) (heads256 k)) (refShift q k)

/-- The reference's gradient at the products of queries and keys. -/
def refScores (q k : FVec Ideal S4096x1024 .bf16) (v g : FVec Ideal S4096x512 .bf16) : FVec Ideal S4x4096x4096 .f32 :=
  gradScores (gradWeights (heads128 g) (heads128 v)) (refExpo q k) (col (rowSum (refExpo q k)))
    (gradSum (rowSum (quotTerm (gradWeights (heads128 g) (heads128 v)) (refExpo q k) (col (rowSum (refExpo q k))))))

include hq hk in
theorem refShift_at (h : Fin 4) (r : Fin 4096) : ∃ M : ℝ, refShift q k (ix2 h r) = (M : EReal) := by
  obtain ⟨M, hM⟩ := rowMax_at hq hk h r
  exact ⟨M, by rw [refShift, shift_ix, hM]⟩

include hq hk hv hg in
theorem refScores_at (h : Fin 4) (r s : Fin 4096) :
    refScores q k v g (ix3 h r s) = ((gs (y h) (z h) (a h) (b h) r s * Real.log 2 : ℝ) : EReal) := by
  obtain ⟨M, hM⟩ := refShift_at hq hk h r
  have hE : ∀ s, refExpo q k (ix3 h r s) = (ex (sc (y h) (z h) r) M r s : EReal) := expo_at hq hk _ h r M hM
  have hZ : rowSum (refExpo q k) (ix2 h r) = (den (sc (y h) (z h) r) M r : EReal) := rowSum_at hq hk _ h r M hM
  have hz := (den_pos (sc (y h) (z h) r) M r).ne'
  rw [refScores, gradScores_ix]
  refine (congrArg (· * ((Real.log 2 : ℝ) : EReal)) ?_).trans (EReal.coe_mul _ _).symm
  by_cases hs : s ≤ r
  · rw [if_pos hs, gradSum_ix, rowSum_ix, col_ix, hZ, hE, gradWeights_at hv hg]
    have h1 : ∀ u, quotTerm (gradWeights (heads128 g) (heads128 v)) (refExpo q k) (col (rowSum (refExpo q k))) (ix3 h r u)
        = ((gp (a h) (b h) r u * (1 / (den (sc (y h) (z h) r) M r * den (sc (y h) (z h) r) M r)) * ex (sc (y h) (z h) r) M r u : ℝ) : EReal) := fun u => by
      rw [quotTerm_ix, col_ix, hZ, hE, gradWeights_at hv hg, ← EReal.coe_mul, ← EReal.coe_one, div_real _ _ (mul_ne_zero hz hz), ← EReal.coe_mul,
        ← EReal.coe_mul]
    simp only [h1]
    rw [← coe_sum, div_real _ _ hz, ← EReal.coe_neg, ← EReal.coe_add, ← EReal.coe_mul, gs_quotient]
  · rw [if_neg hs, gs, pr, wt_masked _ _ _ hs, zero_mul]; rfl

include hq hk hv hg in
theorem refQ_at (r : Fin 4096) (c : Fin 1024) :
    gradQ (refScores q k v g) (heads256 k) (ix2 r c)
      = ((∑ s, gs (y ⟨c.val / 256, by omega⟩) (z ⟨c.val / 256, by omega⟩) (a ⟨c.val / 256, by omega⟩) (b ⟨c.val / 256, by omega⟩) r s
          * Real.log 2 * z ⟨c.val / 256, by omega⟩ s ⟨c.val % 256, by omega⟩ : ℝ) : EReal) := by
  rw [gradQ_ix, coe_sum]
  exact Finset.sum_congr rfl fun s _ => by rw [refScores_at hq hk hv hg, heads256_at, hk, ← EReal.coe_mul]

include hq hk hv hg in
theorem refK_at (r : Fin 4096) (c : Fin 1024) :
    gradK (refScores q k v g) (heads256 q) (ix2 r c)
      = ((∑ s, gs (y ⟨c.val / 256, by omega⟩) (z ⟨c.val / 256, by omega⟩) (a ⟨c.val / 256, by omega⟩) (b ⟨c.val / 256, by omega⟩) s r
          * Real.log 2 * y ⟨c.val / 256, by omega⟩ s ⟨c.val % 256, by omega⟩ : ℝ) : EReal) := by
  rw [gradK_ix, coe_sum]
  exact Finset.sum_congr rfl fun s _ => by rw [refScores_at hq hk hv hg, heads256_at, hq, ← EReal.coe_mul]

include hq hk hg in
theorem refV_at (r : Fin 4096) (c : Fin 512) :
    gradV (heads128 g) (weights (refExpo q k) (col (rowSum (refExpo q k)))) (ix2 r c)
      = ((∑ s, b ⟨c.val / 128, by omega⟩ s ⟨c.val % 128, by omega⟩ * pr (y ⟨c.val / 128, by omega⟩) (z ⟨c.val / 128, by omega⟩) s r : ℝ) : EReal) := by
  rw [gradV_ix, coe_sum]
  refine Finset.sum_congr rfl fun s _ => ?_
  obtain ⟨M, hM⟩ := refShift_at hq hk ⟨c.val / 128, by omega⟩ s
  rw [refExpo, weights_at hq hk _ _ s M hM, heads128_at, hg, EReal.coe_mul]

end

/-- The reference's results are those stages. -/
theorem res_q (m : (ℓ : Loc nD τ sig) → Buf (Elt Ideal) ℓ) (c : Dev nD) :
    Value.res_out0 m c = gradQ (refScores (m ((c.tc : Thread nD τ).loc main_arg0)) (m ((c.tc : Thread nD τ).loc main_arg1))
      (m ((c.tc : Thread nD τ).loc main_arg2)) (m ((c.tc : Thread nD τ).loc main_arg3))) (heads256 (m ((c.tc : Thread nD τ).loc main_arg1))) := rfl

theorem res_k (m : (ℓ : Loc nD τ sig) → Buf (Elt Ideal) ℓ) (c : Dev nD) :
    Value.res_out1 m c = gradK (refScores (m ((c.tc : Thread nD τ).loc main_arg0)) (m ((c.tc : Thread nD τ).loc main_arg1))
      (m ((c.tc : Thread nD τ).loc main_arg2)) (m ((c.tc : Thread nD τ).loc main_arg3))) (heads256 (m ((c.tc : Thread nD τ).loc main_arg0))) := rfl

theorem res_v (m : (ℓ : Loc nD τ sig) → Buf (Elt Ideal) ℓ) (c : Dev nD) :
    Value.res_out2 m c = gradV (heads128 (m ((c.tc : Thread nD τ).loc main_arg3)))
      (weights (refExpo (m ((c.tc : Thread nD τ).loc main_arg0)) (m ((c.tc : Thread nD τ).loc main_arg1)))
        (col (rowSum (refExpo (m ((c.tc : Thread nD τ).loc main_arg0)) (m ((c.tc : Thread nD τ).loc main_arg1)))))) := rfl

end Cert.ReferenceIdeal.Grad
end
end
-- ==== Proof.HostVals.lean ====
/- The two operands that the kernel's host lines compute — the logarithms of the rows' sums and the rows' products of
   output gradient and output — read at an index over finite inputs. -/
module

public import proofs.«01_k».proof.Proof.Gen.KernelIdeal.Frame
public import proofs.«01_k».proof.Proof.RefValue
public import Idealize.ShloMosaic.Lib.Pipeline.ValueKit

set_option maxRecDepth 200000

@[expose] public section

noncomputable section

namespace Cert.KernelIdeal.Grad

open Idealize.ShloMosaic Idealize.ShloMosaic.TcCoe Idealize.SL.Sem
open Cert.KernelIdeal Cert.KernelIdeal.Gen Cert.AttnMath
open Cert.ReferenceIdeal.Grad (heads256 heads128 scores rowMax expo shift rowSum col weights refShift refExpo Real256 Real128)

/-- The logarithm of the rows' sums, base two, of the row maxima and the sums under them. -/
def logSum (x s : FVec Ideal S4x4096 .f32) : FVec Ideal S4x4096 .f32 :=
  Host.divf (addf x (Host.log s)) (broadcastInDim S4x4096 ![] bcast_S_S4x4096 (Host.log (constant S_ .f32 0x40000000#32)))

/-- By query, then head. -/
def byRow (x : FVec Ideal S4x4096 .f32) : FVec Ideal S4096x4 .f32 := transpose S4096x4 [1, 0] x transposes_S4x4096_S4096x4_1_0

/-- A value of each query and head, along 128 lanes. -/
def lanes (x : FVec Ideal S4096x4 .f32) : FVec Ideal S4096x512 .f32 :=
  shapeCast _ (broadcastInDim S4096x4x128 ![0, 1, 2] bcast_S4096x4x1_S4096x4x128_0_1_2 (broadcastInDim S4096x4x1 ![0, 1] bcast_S4096x4_S4096x4x1_0_1 x))
    shapeCasts_S4096x4x128_S4096x512

/-- The attention's output. -/
def output (v : FVec Ideal S4096x4x128 .f32) (w : FVec Ideal S4x4096x4096 .f32) : FVec Ideal S4096x4x128 .f32 :=
  extf .f32 (truncf .bf16 (transpose S4096x4x128 [2, 0, 1] (Host.dotGeneral dot_S4096x4x128_S4x4096x4096_S4x128x4096_0_2_2_1_1_0 none v w)
    transposes_S4x128x4096_S4096x4x128_2_0_1) bitsLt_bf16_f32) bitsLt_bf16_f32

/-- The rows' products of two arrays of heads. -/
def rowDot (g o : FVec Ideal S4096x4x128 .f32) : FVec Ideal S4096x4 .f32 :=
  Host.reduceAdd (mulf g o) (constant S_ .f32 0x00000000#32) reducesTo_S4096x4x128_S4096x4_d2 h_S_

theorem logSum_ix (x s : FVec Ideal S4x4096 .f32) (h : Fin 4) (r : Fin 4096) :
    logSum x s (ix2 h r) = Ideal.div (x (ix2 h r) + Ideal.log (s (ix2 h r))) ((Real.log 2 : ℝ) : EReal) := by
  rw [← Cert.ReferenceIdeal.Grad.log_two_bits]
  pointwise [logSum]

theorem byRow_ix (x : FVec Ideal S4x4096 .f32) (h : Fin 4) (r : Fin 4096) : byRow x (ix2 r h) = x (ix2 h r) := by
  pointwise [byRow]

theorem lanes_ix (x : FVec Ideal S4096x4 .f32) (r : Fin 4096) (h : Fin 4) (d : Fin 128) :
    lanes x (ix2 r (⟨h.val * 128 + d.val, by omega⟩ : Fin 512)) = x (ix2 r h) := by
  pointwise [lanes]

theorem output_ix (v : FVec Ideal S4096x4x128 .f32) (w : FVec Ideal S4x4096x4096 .f32) (r : Fin 4096) (h : Fin 4) (d : Fin 128) :
    output v w (ix3 r h d) = ∑ s : Fin 4096, v (ix3 s h d) * w (ix3 h r s) := by
  pointwise [output]

theorem rowDot_ix (g o : FVec Ideal S4096x4x128 .f32) (r : Fin 4096) (h : Fin 4) :
    rowDot g o (ix2 r h) = ∑ d : Fin 128, g (ix3 r h d) * o (ix3 r h d) := by
  pointwise [rowDot]

variable (m : (ℓ : Loc nD τ sig) → Buf (Elt Ideal) ℓ) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)

theorem after_app {l₁ l₂ : List (HloOp τ sig (Elt Ideal))} (W : Valuation τ sig (Elt Ideal)) :
    StableHlo.after (l₁ ++ l₂) W = StableHlo.after l₂ (StableHlo.after l₁ W) := by
  induction l₁ generalizing W with
  | nil => rfl
  | cons op l ih => exact ih _

/-- The last host lines, over what the lines before left. -/
theorem lse_tail (W : Valuation τ sig (Elt Ideal)) :
    StableHlo.after hostOps0_2 W (Proc.devRef .tc main_v54)
      = lanes (byRow (logSum (rowMax (W (Proc.devRef .tc main_v18))) (rowSum (expo (W (Proc.devRef .tc main_v18)) (rowMax (W (Proc.devRef .tc main_v18))))))) := by
  simp only [hostOps0_2]
  after_results_simp
  rfl

theorem delta_tail (W : Valuation τ sig (Elt Ideal)) :
    StableHlo.after hostOps0_2 W (Proc.devRef .tc main_v57)
      = lanes (rowDot (heads128 (W (Proc.devRef .tc main_arg3))) (output (W (Proc.devRef .tc main_v5))
        (weights (expo (W (Proc.devRef .tc main_v18)) (shift (rowMax (W (Proc.devRef .tc main_v18)))))
          (col (rowSum (expo (W (Proc.devRef .tc main_v18)) (shift (rowMax (W (Proc.devRef .tc main_v18)))))))))) := by
  simp only [hostOps0_2]
  after_results_simp
  rfl

/-- The scores, before them. -/
theorem scores_head (W : Valuation τ sig (Elt Ideal)) :
    StableHlo.after hostOps0_1 (StableHlo.after hostOps0 W) (Proc.devRef .tc main_v18)
      = scores (heads256 (W (Proc.devRef .tc main_arg0))) (heads256 (W (Proc.devRef .tc main_arg1))) := by
  simp only [hostOps0, hostOps0_1, StableHlo.TRef.nullary, StableHlo.TRef.ternary, StableHlo.TRef.unary, StableHlo.TRef.toBuf, StableHlo.TRef.ofBuf, cast_eq]
  after_results_simp
  rfl

theorem values_head (W : Valuation τ sig (Elt Ideal)) :
    StableHlo.after hostOps0_1 (StableHlo.after hostOps0 W) (Proc.devRef .tc main_v5) = heads128 (W (Proc.devRef .tc main_arg2)) := by
  simp only [hostOps0, hostOps0_1, StableHlo.TRef.nullary, StableHlo.TRef.ternary, StableHlo.TRef.unary, StableHlo.TRef.toBuf, StableHlo.TRef.ofBuf, cast_eq]
  after_results_simp
  rfl

theorem grads_head (W : Valuation τ sig (Elt Ideal)) :
    StableHlo.after hostOps0_1 (StableHlo.after hostOps0 W) (Proc.devRef .tc main_arg3) = W (Proc.devRef .tc main_arg3) := by
  simp only [hostOps0, hostOps0_1, StableHlo.TRef.nullary, StableHlo.TRef.ternary, StableHlo.TRef.unary, StableHlo.TRef.toBuf, StableHlo.TRef.ofBuf, cast_eq]
  after_results_simp

theorem entry_split : StableHlo.after (List.flatten [hostOps0, hostOps0_1, hostOps0_2]) (fun b => m (c, b))
    = StableHlo.after hostOps0_2 (StableHlo.after hostOps0_1 (StableHlo.after (hostOps0 (F := Ideal)) (fun b => m (c, b)))) := by
  simp only [List.flatten_cons, List.flatten_nil, List.append_nil, after_app]

theorem lse_lanes : V m c main_v54
    = lanes (byRow (logSum (rowMax (scores (heads256 (arg0 m c)) (heads256 (arg1 m c))))
        (rowSum (expo (scores (heads256 (arg0 m c)) (heads256 (arg1 m c))) (rowMax (scores (heads256 (arg0 m c)) (heads256 (arg1 m c)))))))) :=
  (congrFun (entry_split m c) _).trans ((lse_tail _).trans (by rw [scores_head]))

theorem delta_lanes : V m c main_v57
    = lanes (rowDot (heads128 (arg3 m c)) (output (heads128 (arg2 m c))
        (weights (refExpo (arg0 m c) (arg1 m c)) (col (rowSum (refExpo (arg0 m c) (arg1 m c))))))) :=
  (congrFun (entry_split m c) _).trans ((delta_tail _).trans (by rw [scores_head, values_head, grads_head]; rfl))

section
variable {q k : FVec Ideal S4096x1024 .bf16} {y z : Fin 4 → Fin 4096 → Fin 256 → ℝ} (hq : Real256 q y) (hk : Real256 k z)
include hq hk

/-- The logarithms are real and undo a softmax. -/
theorem lse_at (h : Fin 4) (r : Fin 4096) : ∃ M : ℝ, ∀ d : Fin 128,
    lanes (byRow (logSum (rowMax (scores (heads256 q) (heads256 k))) (rowSum (expo (scores (heads256 q) (heads256 k)) (rowMax (scores (heads256 q) (heads256 k)))))))
      (ix2 r (⟨h.val * 128 + d.val, by omega⟩ : Fin 512)) = (lse (sc (y h) (z h) r) M r : EReal) := by
  obtain ⟨M, hM⟩ := Cert.ReferenceIdeal.Grad.rowMax_at hq hk h r
  refine ⟨M, fun d => ?_⟩
  rw [lanes_ix, byRow_ix, logSum_ix, hM, Cert.ReferenceIdeal.Grad.rowSum_at hq hk _ h r M hM, lse_ideal]

/-- The rows' products are real and what the softmax gradient takes off. -/
theorem delta_at {v g : FVec Ideal S4096x512 .bf16} {a b : Fin 4 → Fin 4096 → Fin 128 → ℝ} (hv : Real128 v a) (hg : Real128 g b)
    (h : Fin 4) (r : Fin 4096) (d : Fin 128) :
    lanes (rowDot (heads128 g) (output (heads128 v) (weights (refExpo q k) (col (rowSum (refExpo q k))))))
      (ix2 r (⟨h.val * 128 + d.val, by omega⟩ : Fin 512)) = (dl (y h) (z h) (a h) (b h) r : EReal) := by
  obtain ⟨M, hM⟩ := Cert.ReferenceIdeal.Grad.refShift_at hq hk h r
  rw [lanes_ix, rowDot_ix, ← dl_eq_out, coe_sum]
  refine Finset.sum_congr rfl fun e _ => ?_
  rw [output_ix, Cert.ReferenceIdeal.Grad.heads128_at, hg, EReal.coe_mul]
  refine congrArg ((b h r e : EReal) * ·) ?_
  rw [outp, coe_sum]
  refine Finset.sum_congr rfl fun s _ => ?_
  rw [refExpo, Cert.ReferenceIdeal.Grad.weights_at hq hk _ h r M hM, Cert.ReferenceIdeal.Grad.heads128_at, hv, EReal.coe_mul]

end

end Cert.KernelIdeal.Grad
end
end
-- ==== Proof.Tile.lean ====
/- One tile of the attention gradient over real blocks: what a grid point adds to each accumulator is a real sum. -/
module

public import proofs.«01_k».proof.Proof.Payloads
public import proofs.«01_k».proof.Proof.Core

set_option maxRecDepth 16384

@[expose] public section

noncomputable section

namespace Cert.KernelIdeal.Grad

open Idealize.ShloMosaic Idealize.ShloMosaic.TcCoe Idealize.SL.Sem
open Cert.KernelIdeal Cert.KernelIdeal.Gen Cert.AttnMath

section
variable (Y Z : Fin 4096 → Fin 256 → ℝ) (A B : Fin 4096 → Fin 128 → ℝ) (R C : Fin 512 → Fin 4096)

/-- What the tile adds to the values' gradient. -/
def tv (b : Fin 512) (d : Fin 128) : ℝ := ∑ a, pr Y Z (R a) (C b) * B (R a) d

/-- What it adds to the keys' gradient. -/
def tk (b : Fin 512) (d : Fin 256) : ℝ := ∑ a, gs Y Z A B (R a) (C b) * Y (R a) d

/-- What it adds to the queries' gradient. -/
def tq (a : Fin 512) (d : Fin 256) : ℝ := ∑ b, gs Y Z A B (R a) (C b) * Z (C b) d

/-- The blocks of one tile are real: rows `R` of queries, output gradients, logarithms and row sums, rows `C` of keys
    and values. -/
structure RealTile (q k : FVec Ideal S512x256 .bf16) (v o : FVec Ideal S512x128 .bf16) (l e : FVec Ideal S512x128 .f32) : Prop where
  hq : ∀ (a : Fin 512) (d : Fin 256), q (ix2 a d) = (Y (R a) d : EReal)
  hk : ∀ (b : Fin 512) (d : Fin 256), k (ix2 b d) = (Z (C b) d : EReal)
  hv : ∀ (b : Fin 512) (d : Fin 128), v (ix2 b d) = (A (C b) d : EReal)
  ho : ∀ (a : Fin 512) (d : Fin 128), o (ix2 a d) = (B (R a) d : EReal)
  hl : ∀ a : Fin 512, ∃ M : ℝ, ∀ x : Fin 128, l (ix2 a x) = (lse (sc Y Z (R a)) M (R a) : EReal)
  he : ∀ (a : Fin 512) (x : Fin 128), e (ix2 a x) = (dl Y Z A B (R a) : EReal)

end

section
variable {Y Z : Fin 4096 → Fin 256 → ℝ} {A B : Fin 4096 → Fin 128 → ℝ} {R C : Fin 512 → Fin 4096}
  {q k : FVec Ideal S512x256 .bf16} {v o : FVec Ideal S512x128 .bf16} {l e : FVec Ideal S512x128 .f32}
  (T : RealTile Y Z A B R C q k v o l e)
include T

theorem score_real (a b : Fin 512) :
    (∑ d : Fin 256, q (ix2 a d) * k (ix2 b d)) = ((∑ d, Y (R a) d * Z (C b) d : ℝ) : EReal) := by
  rw [coe_sum]
  exact Finset.sum_congr rfl fun d _ => by rw [T.hq, T.hk, EReal.coe_mul]

theorem value_real (a b : Fin 512) :
    (∑ d : Fin 128, o (ix2 a d) * v (ix2 b d)) = ((gp A B (R a) (C b) : ℝ) : EReal) := by
  rw [gp, coe_sum]
  exact Finset.sum_congr rfl fun d _ => by rw [T.ho, T.hv, EReal.coe_mul]

/-- A probability of a tile under the diagonal. -/
theorem prob_real (a b : Fin 512) (h : C b ≤ R a) : k0_pay11 (F := Ideal) q k l (ix2 a b) = (pr Y Z (R a) (C b) : EReal) := by
  choose M hM using T.hl
  rw [pay11_at q k l (fun a => (lse (sc Y Z (R a)) (M a) (R a) : EReal)) hM, score_real T]
  exact exp2_lse (sc Y Z (R a)) (fun s => ∑ d, Y (R a) d * Z s d) (fun s => rfl) (M a) (R a) (C b) h

/-- A probability of a tile on the diagonal, where later keys count nothing. -/
theorem prob_diag_real (n : ℕ) (hn : n < 8) (hR : ∀ a, (R a).val = 512 * n + a.val) (hC : ∀ b, (C b).val = 512 * n + b.val) (a b : Fin 512) :
    k0_pay15 (F := Ideal) (BitVec.ofNat 32 n) (BitVec.ofNat 32 n) q k l (ix2 a b) = (pr Y Z (R a) (C b) : EReal) := by
  choose M hM using T.hl
  rw [pay15_at n hn q k l (fun a => (lse (sc Y Z (R a)) (M a) (R a) : EReal)) hM, score_real T]
  by_cases h : b.val ≤ a.val
  · rw [if_pos h]
    exact exp2_lse (sc Y Z (R a)) (fun s => ∑ d, Y (R a) d * Z s d) (fun s => rfl) (M a) (R a) (C b) (by
      show (C b).val ≤ (R a).val; rw [hR, hC]; omega)
  · rw [if_neg h, pr, wt_masked _ _ _ (by show ¬ (C b).val ≤ (R a).val; rw [hR, hC]; omega)]; rfl

theorem scoreGrad_real (a b : Fin 512) (h : C b ≤ R a) :
    k0_pay12 (F := Ideal) q k l o v e (ix2 a b) = (gs Y Z A B (R a) (C b) : EReal) := by
  rw [pay12_at q k l o v e (fun a => (dl Y Z A B (R a) : EReal)) T.he, prob_real T a b h, value_real T, gs, EReal.coe_mul, EReal.coe_sub]

theorem scoreGrad_diag_real (n : ℕ) (hn : n < 8) (hR : ∀ a, (R a).val = 512 * n + a.val) (hC : ∀ b, (C b).val = 512 * n + b.val) (a b : Fin 512) :
    k0_pay16 (F := Ideal) (BitVec.ofNat 32 n) (BitVec.ofNat 32 n) q k l o v e (ix2 a b) = (gs Y Z A B (R a) (C b) : EReal) := by
  rw [pay16_at _ _ q k l o v e (fun a => (dl Y Z A B (R a) : EReal)) T.he, prob_diag_real T n hn hR hC a b, value_real T, gs, EReal.coe_mul, EReal.coe_sub]

theorem dv_real (h : ∀ a b, C b ≤ R a) (s : FVec Ideal S512x128 .f32) (b : Fin 512) (d : Fin 128) :
    k0_pay13 (F := Ideal) q k l s o (ix2 b d) = s (ix2 b d) + (tv Y Z B R C b d : EReal) := by
  rw [pay13_at, tv, coe_sum]
  exact congrArg (s (ix2 b d) + ·) (Finset.sum_congr rfl fun a _ => by rw [prob_real T a b (h a b), T.ho, EReal.coe_mul])

theorem dv_diag_real (n : ℕ) (hn : n < 8) (hR : ∀ a, (R a).val = 512 * n + a.val) (hC : ∀ b, (C b).val = 512 * n + b.val)
    (s : FVec Ideal S512x128 .f32) (b : Fin 512) (d : Fin 128) :
    k0_pay17 (F := Ideal) (BitVec.ofNat 32 n) (BitVec.ofNat 32 n) q k l s o (ix2 b d) = s (ix2 b d) + (tv Y Z B R C b d : EReal) := by
  rw [pay17_at, tv, coe_sum]
  exact congrArg (s (ix2 b d) + ·) (Finset.sum_congr rfl fun a _ => by rw [prob_diag_real T n hn hR hC a b, T.ho, EReal.coe_mul])

theorem dk_real (h : ∀ a b, C b ≤ R a) (s : FVec Ideal S512x256 .f32) (b : Fin 512) (d : Fin 256) :
    k0_pay14 (F := Ideal) q k l o v e s q (ix2 b d) = s (ix2 b d) + (tk Y Z A B R C b d : EReal) := by
  rw [pay14_at, tk, coe_sum]
  exact congrArg (s (ix2 b d) + ·) (Finset.sum_congr rfl fun a _ => by rw [scoreGrad_real T a b (h a b), T.hq, EReal.coe_mul])

theorem dk_diag_real (n : ℕ) (hn : n < 8) (hR : ∀ a, (R a).val = 512 * n + a.val) (hC : ∀ b, (C b).val = 512 * n + b.val)
    (s : FVec Ideal S512x256 .f32) (b : Fin 512) (d : Fin 256) :
    k0_pay6 (F := Ideal) (k0_pay16 (F := Ideal) (BitVec.ofNat 32 n) (BitVec.ofNat 32 n) q k l o v e) s q (ix2 b d)
      = s (ix2 b d) + (tk Y Z A B R C b d : EReal) := by
  rw [pay6_at, tk, coe_sum]
  exact congrArg (s (ix2 b d) + ·) (Finset.sum_congr rfl fun a _ => by rw [scoreGrad_diag_real T n hn hR hC a b, T.hq, EReal.coe_mul])

theorem dq_real (h : ∀ a b, C b ≤ R a) (s : FVec Ideal S512x256 .f32) (a : Fin 512) (d : Fin 256) :
    k0_pay5 (F := Ideal) (k0_pay12 (F := Ideal) q k l o v e) s k (ix2 a d) = s (ix2 a d) + (tq Y Z A B R C a d : EReal) := by
  rw [pay5_at, tq, coe_sum]
  exact congrArg (s (ix2 a d) + ·) (Finset.sum_congr rfl fun b _ => by rw [scoreGrad_real T a b (h a b), T.hk, EReal.coe_mul])

theorem dq_diag_real (n : ℕ) (hn : n < 8) (hR : ∀ a, (R a).val = 512 * n + a.val) (hC : ∀ b, (C b).val = 512 * n + b.val)
    (s : FVec Ideal S512x256 .f32) (a : Fin 512) (d : Fin 256) :
    k0_pay7 (F := Ideal) (k0_pay16 (F := Ideal) (BitVec.ofNat 32 n) (BitVec.ofNat 32 n) q k l o v e) s k (ix2 a d)
      = s (ix2 a d) + (tq Y Z A B R C a d : EReal) := by
  rw [pay7_at, tq, coe_sum]
  exact congrArg (s (ix2 a d) + ·) (Finset.sum_congr rfl fun b _ => by rw [scoreGrad_diag_real T n hn hR hC a b, T.hk, EReal.coe_mul])

end

end Cert.KernelIdeal.Grad
end
end
-- ==== Proof.Point.lean ====
/- What one grid point adds to each accumulator, over finite inputs: real sums over its tile, and nothing above the diagonal. -/
module

public import proofs.«01_k».proof.Proof.State
public import proofs.«01_k».proof.Proof.Reads
public import proofs.«01_k».proof.Proof.HostVals
public import proofs.«01_k».proof.Proof.Tile

set_option maxRecDepth 16384

@[expose] public section

noncomputable section

namespace Cert.KernelIdeal.Grad

open Idealize.ShloMosaic Idealize.ShloMosaic.TcCoe Idealize.SL.Sem
open Cert.KernelIdeal Cert.KernelIdeal.Gen Cert.AttnMath
open Cert.ReferenceIdeal.Grad (Real256 Real128)

/-- A grid point is one of seven. -/
theorem seven (t : ℕ) :
    (t % 64 = 0 ∧ t % 8 = 0 ∧ ¬ t / 8 % 8 + 1 ≤ t % 8 ∧ t / 8 % 8 = t % 8 ∧ ¬ t % 8 = 7 ∧ ¬ t % 64 = 63)
    ∨ (¬ t % 64 = 0 ∧ ¬ t % 8 = 0 ∧ t / 8 % 8 + 1 ≤ t % 8 ∧ ¬ t / 8 % 8 = t % 8 ∧ ¬ t % 8 = 7 ∧ ¬ t % 64 = 63)
    ∨ (¬ t % 64 = 0 ∧ ¬ t % 8 = 0 ∧ t / 8 % 8 + 1 ≤ t % 8 ∧ ¬ t / 8 % 8 = t % 8 ∧ t % 8 = 7 ∧ ¬ t % 64 = 63)
    ∨ (¬ t % 64 = 0 ∧ t % 8 = 0 ∧ ¬ t / 8 % 8 + 1 ≤ t % 8 ∧ ¬ t / 8 % 8 = t % 8 ∧ ¬ t % 8 = 7 ∧ ¬ t % 64 = 63)
    ∨ (¬ t % 64 = 0 ∧ ¬ t % 8 = 0 ∧ ¬ t / 8 % 8 + 1 ≤ t % 8 ∧ t / 8 % 8 = t % 8 ∧ ¬ t % 8 = 7 ∧ ¬ t % 64 = 63)
    ∨ (¬ t % 64 = 0 ∧ ¬ t % 8 = 0 ∧ ¬ t / 8 % 8 + 1 ≤ t % 8 ∧ ¬ t / 8 % 8 = t % 8 ∧ ¬ t % 8 = 7 ∧ ¬ t % 64 = 63)
    ∨ (¬ t % 64 = 0 ∧ ¬ t % 8 = 0 ∧ ¬ t / 8 % 8 + 1 ≤ t % 8 ∧ t / 8 % 8 = t % 8 ∧ t % 8 = 7 ∧ t % 64 = 63) := by
  rcases Nat.lt_trichotomy (t / 8 % 8) (t % 8) with h | h | h
  · by_cases h7 : t % 8 = 7
    · refine Or.inr (Or.inr (Or.inl ⟨?_, ?_, ?_, ?_, ?_, ?_⟩)) <;> omega
    · refine Or.inr (Or.inl ⟨?_, ?_, ?_, ?_, ?_, ?_⟩) <;> omega
  · by_cases h0 : t % 64 = 0
    · refine Or.inl ⟨?_, ?_, ?_, ?_, ?_, ?_⟩ <;> omega
    · by_cases h7 : t % 64 = 63
      · refine Or.inr (Or.inr (Or.inr (Or.inr (Or.inr (Or.inr (⟨?_, ?_, ?_, ?_, ?_, ?_⟩)))))) <;> omega
      · refine Or.inr (Or.inr (Or.inr (Or.inr (Or.inl ⟨?_, ?_, ?_, ?_, ?_, ?_⟩)))) <;> omega
  · by_cases h0 : t % 8 = 0
    · refine Or.inr (Or.inr (Or.inr (Or.inl ⟨?_, ?_, ?_, ?_, ?_, ?_⟩))) <;> omega
    · refine Or.inr (Or.inr (Or.inr (Or.inr (Or.inr (Or.inl ⟨?_, ?_, ?_, ?_, ?_, ?_⟩))))) <;> omega

/-- Above the diagonal a tile adds nothing. -/
theorem pr_above (Y Z : Fin 4096 → Fin 256 → ℝ) {i j : Fin 8} (h : i < j) (a b : Fin 512) : pr Y Z (row i a) (row j b) = 0 :=
  wt_masked _ _ _ (by show ¬ 512 * j.val + b.val ≤ 512 * i.val + a.val; have h' : i.val < j.val := h; omega)
theorem gs_above (Y Z : Fin 4096 → Fin 256 → ℝ) (A B : Fin 4096 → Fin 128 → ℝ) {i j : Fin 8} (h : i < j) (a b : Fin 512) :
    gs Y Z A B (row i a) (row j b) = 0 := by rw [gs, pr_above Y Z h, zero_mul]
theorem tv_above (Y Z : Fin 4096 → Fin 256 → ℝ) (B : Fin 4096 → Fin 128 → ℝ) {i j : Fin 8} (h : i < j) (b : Fin 512) (d : Fin 128) :
    tv Y Z B (row i) (row j) b d = 0 := Finset.sum_eq_zero fun a _ => by rw [pr_above Y Z h, zero_mul]
theorem tk_above (Y Z : Fin 4096 → Fin 256 → ℝ) (A B : Fin 4096 → Fin 128 → ℝ) {i j : Fin 8} (h : i < j) (b : Fin 512) (d : Fin 256) :
    tk Y Z A B (row i) (row j) b d = 0 := Finset.sum_eq_zero fun a _ => by rw [gs_above Y Z A B h, zero_mul]
theorem tq_above (Y Z : Fin 4096 → Fin 256 → ℝ) (A B : Fin 4096 → Fin 128 → ℝ) {i j : Fin 8} (h : i < j) (a : Fin 512) (d : Fin 256) :
    tq Y Z A B (row i) (row j) a d = 0 := Finset.sum_eq_zero fun b _ => by rw [gs_above Y Z A B h, zero_mul]

theorem row_below {i j : Fin 8} (h : j < i) (a b : Fin 512) : row j b ≤ row i a := by
  show 512 * j.val + b.val ≤ 512 * i.val + a.val
  have h' : j.val < i.val := h
  omega

theorem row_block (ρ : Fin 8) (a : Fin 512) : (row ρ a).val / 512 = ρ.val := by show (512 * ρ.val + a.val) / 512 = ρ.val; omega

section
variable (m : (ℓ : Loc nD τ sig) → Buf (Elt Ideal) ℓ) (c : Dev nD) {y z : Fin 4 → Fin 4096 → Fin 256 → ℝ} {a b : Fin 4 → Fin 4096 → Fin 128 → ℝ}
  (hq : Real256 (arg0 m c) y) (hk : Real256 (arg1 m c) z) (hv : Real128 (arg2 m c) a) (hg : Real128 (arg3 m c) b) (t : Fin cfg0.N)
include hq hk hv hg

/-- The blocks of a point are real. -/
theorem tile : RealTile (y (hd t)) (z (hd t)) (a (hd t)) (b (hd t)) (row (rq t)) (row (jk t))
    (iblk m c 0 t) (iblk m c 1 t) (iblk m c 2 t) (iblk m c 3 t) (iblk m c 4 t) (iblk m c 5 t) where
  hq r d := by rw [block0, V_main_arg0]; exact hq _ _ _
  hk r d := by rw [block1, V_main_arg1]; exact hk _ _ _
  hv r d := by rw [block2, V_main_arg2]; exact hv _ _ _
  ho r d := by rw [block3, V_main_arg3]; exact hg _ _ _
  hl r := by
    obtain ⟨M, hM⟩ := lse_at hq hk (hd t) (row (rq t) r)
    exact ⟨M, fun d => by rw [block4, lse_lanes]; exact hM d⟩
  he r d := by rw [block5, delta_lanes]; exact delta_at hq hk hv hg (hd t) (row (rq t) r) d

theorem tile_of (h : jk t ≤ iq t) : RealTile (y (hd t)) (z (hd t)) (a (hd t)) (b (hd t)) (row (iq t)) (row (jk t))
    (iblk m c 0 t) (iblk m c 1 t) (iblk m c 2 t) (iblk m c 3 t) (iblk m c 4 t) (iblk m c 5 t) := by
  have T := tile m c hq hk hv hg t
  rwa [show rq t = iq t from max_eq_left h] at T

/-- What a point adds to the keys' accumulator. -/
theorem point_dk (r : Fin 512) (d : Fin 256) : (outsAt0 m c t.val t.isLt).2.2.2.1 (ix2 r d)
    = (if t.val % 8 = 0 then 0 else (before m c t).2.2.2.1 (ix2 r d)) + (tk (y (hd t)) (z (hd t)) (a (hd t)) (b (hd t)) (row (iq t)) (row (jk t)) r d : EReal) := by
  rcases seven t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · have hb : jk t = iq t := Fin.ext h3
    have T := tile_of m c hq hk hv hg t hb.le
    rw [A_dk m c t h0 h1 h2 h3 h4 h5, if_pos h1]
    try unfold onDiag
    rw [hb] at T ⊢
    rw [dk_diag_real T (iq t).val (iq t).isLt (fun _ => rfl) (fun _ => rfl)]
    rw [pay2_at]
  · have hb : jk t < iq t := by show t.val / 8 % 8 < t.val % 8; omega
    have T := tile_of m c hq hk hv hg t hb.le
    rw [B_dk m c t h0 h1 h2 h3 h4 h5, if_neg h1, dk_real T (fun _ _ => row_below hb _ _)]
  · have hb : jk t < iq t := by show t.val / 8 % 8 < t.val % 8; omega
    have T := tile_of m c hq hk hv hg t hb.le
    rw [C_dk m c t h0 h1 h2 h3 h4 h5, if_neg h1, dk_real T (fun _ _ => row_below hb _ _)]
  · have hb : iq t < jk t := by show t.val % 8 < t.val / 8 % 8; omega
    rw [D_dk m c t h0 h1 h2 h3 h4 h5, if_pos h1, tk_above _ _ _ _ hb, EReal.coe_zero, add_zero]
    exact pay2_at _
  · have hb : jk t = iq t := Fin.ext h3
    have T := tile_of m c hq hk hv hg t hb.le
    rw [E_dk m c t h0 h1 h2 h3 h4 h5, if_neg h1]
    try unfold onDiag
    rw [hb] at T ⊢
    rw [dk_diag_real T (iq t).val (iq t).isLt (fun _ => rfl) (fun _ => rfl)]
  · have hb : iq t < jk t := by show t.val % 8 < t.val / 8 % 8; omega
    rw [F_dk m c t h0 h1 h2 h3 h4 h5, if_neg h1, tk_above _ _ _ _ hb, EReal.coe_zero, add_zero]
  · have hb : jk t = iq t := Fin.ext h3
    have T := tile_of m c hq hk hv hg t hb.le
    rw [G_dk m c t h0 h1 h2 h3 h4 h5, if_neg h1]
    try unfold onDiag
    rw [hb] at T ⊢
    rw [dk_diag_real T (iq t).val (iq t).isLt (fun _ => rfl) (fun _ => rfl)]

/-- What a point adds to the values' accumulator. -/
theorem point_dv (r : Fin 512) (d : Fin 128) : (outsAt0 m c t.val t.isLt).2.2.2.2 (ix2 r d)
    = (if t.val % 8 = 0 then 0 else (before m c t).2.2.2.2 (ix2 r d)) + (tv (y (hd t)) (z (hd t)) (b (hd t)) (row (iq t)) (row (jk t)) r d : EReal) := by
  rcases seven t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · have hb : jk t = iq t := Fin.ext h3
    have T := tile_of m c hq hk hv hg t hb.le
    rw [A_dv m c t h0 h1 h2 h3 h4 h5, if_pos h1]
    try unfold onDiag
    rw [hb] at T ⊢
    rw [dv_diag_real T (iq t).val (iq t).isLt (fun _ => rfl) (fun _ => rfl)]
    rw [pay3_at]
  · have hb : jk t < iq t := by show t.val / 8 % 8 < t.val % 8; omega
    have T := tile_of m c hq hk hv hg t hb.le
    rw [B_dv m c t h0 h1 h2 h3 h4 h5, if_neg h1, dv_real T (fun _ _ => row_below hb _ _)]
  · have hb : jk t < iq t := by show t.val / 8 % 8 < t.val % 8; omega
    have T := tile_of m c hq hk hv hg t hb.le
    rw [C_dv m c t h0 h1 h2 h3 h4 h5, if_neg h1, dv_real T (fun _ _ => row_below hb _ _)]
  · have hb : iq t < jk t := by show t.val % 8 < t.val / 8 % 8; omega
    rw [D_dv m c t h0 h1 h2 h3 h4 h5, if_pos h1, tv_above _ _ _ hb, EReal.coe_zero, add_zero]
    exact pay3_at _
  · have hb : jk t = iq t := Fin.ext h3
    have T := tile_of m c hq hk hv hg t hb.le
    rw [E_dv m c t h0 h1 h2 h3 h4 h5, if_neg h1]
    try unfold onDiag
    rw [hb] at T ⊢
    rw [dv_diag_real T (iq t).val (iq t).isLt (fun _ => rfl) (fun _ => rfl)]
  · have hb : iq t < jk t := by show t.val % 8 < t.val / 8 % 8; omega
    rw [F_dv m c t h0 h1 h2 h3 h4 h5, if_neg h1, tv_above _ _ _ hb, EReal.coe_zero, add_zero]
  · have hb : jk t = iq t := Fin.ext h3
    have T := tile_of m c hq hk hv hg t hb.le
    rw [G_dv m c t h0 h1 h2 h3 h4 h5, if_neg h1]
    try unfold onDiag
    rw [hb] at T ⊢
    rw [dv_diag_real T (iq t).val (iq t).isLt (fun _ => rfl) (fun _ => rfl)]

/-- What a point adds to the queries' gradient, before its last point scales it. -/
theorem point_dq (h63 : ¬ t.val % 64 = 63) (ρ : Fin 8) (r : Fin 512) (d : Fin 256) : (outsAt0 m c t.val t.isLt).1 (ix2 (row ρ r) d)
    = (if t.val % 64 = 0 then 0 else (before m c t).1 (ix2 (row ρ r) d)) + (if ρ = iq t then (tq (y (hd t)) (z (hd t)) (a (hd t)) (b (hd t)) (row (iq t)) (row (jk t)) r d : EReal) else 0) := by
  rcases seven t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · have hb : jk t = iq t := Fin.ext h3
    have T := tile_of m c hq hk hv hg t hb.le
    by_cases hρ : ρ = iq t
    · subst hρ
      rw [A_dq_in m c t h0 h1 h2 h3 h4 h5, if_pos h0, if_pos rfl]
      try unfold onDiag
      rw [hb] at T ⊢
      rw [dq_diag_real T (iq t).val (iq t).isLt (fun _ => rfl) (fun _ => rfl)]
      exact congrArg (· + _) (pay1_at _)
    · rw [A_dq_out m c t h0 h1 h2 h3 h4 h5 _ _ (by rw [row_block]; exact fun e => hρ (Fin.ext e)), if_pos h0, if_neg hρ, add_zero]
      exact pay1_at _
  · have hb : jk t < iq t := by show t.val / 8 % 8 < t.val % 8; omega
    have T := tile_of m c hq hk hv hg t hb.le
    by_cases hρ : ρ = iq t
    · subst hρ
      rw [B_dq_in m c t h0 h1 h2 h3 h4 h5, if_neg h0, if_pos rfl]
      rw [dq_real T (fun _ _ => row_below hb _ _)]
      rfl
    · rw [B_dq_out m c t h0 h1 h2 h3 h4 h5 _ _ (by rw [row_block]; exact fun e => hρ (Fin.ext e)), if_neg h0, if_neg hρ, add_zero]
  · have hb : jk t < iq t := by show t.val / 8 % 8 < t.val % 8; omega
    have T := tile_of m c hq hk hv hg t hb.le
    by_cases hρ : ρ = iq t
    · subst hρ
      rw [C_dq_in m c t h0 h1 h2 h3 h4 h5, if_neg h0, if_pos rfl]
      rw [dq_real T (fun _ _ => row_below hb _ _)]
      rfl
    · rw [C_dq_out m c t h0 h1 h2 h3 h4 h5 _ _ (by rw [row_block]; exact fun e => hρ (Fin.ext e)), if_neg h0, if_neg hρ, add_zero]
  · have hb : iq t < jk t := by show t.val % 8 < t.val / 8 % 8; omega
    rw [D_dq m c t h0 h1 h2 h3 h4 h5, if_neg h0, tq_above _ _ _ _ hb, EReal.coe_zero, ite_self, add_zero]
  · have hb : jk t = iq t := Fin.ext h3
    have T := tile_of m c hq hk hv hg t hb.le
    by_cases hρ : ρ = iq t
    · subst hρ
      rw [E_dq_in m c t h0 h1 h2 h3 h4 h5, if_neg h0, if_pos rfl]
      try unfold onDiag
      rw [hb] at T ⊢
      rw [dq_diag_real T (iq t).val (iq t).isLt (fun _ => rfl) (fun _ => rfl)]
      rfl
    · rw [E_dq_out m c t h0 h1 h2 h3 h4 h5 _ _ (by rw [row_block]; exact fun e => hρ (Fin.ext e)), if_neg h0, if_neg hρ, add_zero]
  · have hb : iq t < jk t := by show t.val % 8 < t.val / 8 % 8; omega
    rw [F_dq m c t h0 h1 h2 h3 h4 h5, if_neg h0, tq_above _ _ _ _ hb, EReal.coe_zero, ite_self, add_zero]
  · exact absurd h5 h63

/-- And what the last point of a head does to it. -/
theorem point_dq_last (h63 : t.val % 64 = 63) (ρ : Fin 8) (r : Fin 512) (d : Fin 256) : (outsAt0 m c t.val t.isLt).1 (ix2 (row ρ r) d)
    = ((before m c t).1 (ix2 (row ρ r) d) + (if ρ = iq t then (tq (y (hd t)) (z (hd t)) (a (hd t)) (b (hd t)) (row (iq t)) (row (jk t)) r d : EReal) else 0)) * ((Real.log 2 : ℝ) : EReal) := by
  have h0 : ¬ t.val % 64 = 0 := by omega
  have h1 : ¬ t.val % 8 = 0 := by omega
  have h2 : ¬ t.val / 8 % 8 + 1 ≤ t.val % 8 := by omega
  have h3 : t.val / 8 % 8 = t.val % 8 := by omega
  have h4 : t.val % 8 = 7 := by omega
  have hb : jk t = iq t := Fin.ext h3
  have T := tile_of m c hq hk hv hg t hb.le
  by_cases hρ : ρ = iq t
  · subst hρ
    rw [G_dq_in m c t h0 h1 h2 h3 h4 h63, if_pos rfl]
    try unfold onDiag
    rw [hb] at T ⊢
    rw [dq_diag_real T (iq t).val (iq t).isLt (fun _ => rfl) (fun _ => rfl)]
    rfl
  · rw [G_dq_out m c t h0 h1 h2 h3 h4 h63 _ _ (by rw [row_block]; exact fun e => hρ (Fin.ext e)), if_neg hρ, add_zero]

omit hq hk hv hg in
/-- At its last point a block of keys is flushed. -/
theorem point_o7 (h7 : t.val % 8 = 7) (r : Fin 512) (d : Fin 256) : (outsAt0 m c t.val t.isLt).2.1 (ix2 r d)
    = (outsAt0 m c t.val t.isLt).2.2.2.1 (ix2 r d) * ((Real.log 2 : ℝ) : EReal) := by
  rcases seven t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · exact absurd h7 h4
  · exact absurd h7 h4
  · rw [C_o7 m c t h0 h1 h2 h3 h4 h5, pay8_at]
  · exact absurd h7 h4
  · exact absurd h7 h4
  · exact absurd h7 h4
  · rw [G_o7 m c t h0 h1 h2 h3 h4 h5, pay8_at]

omit hq hk hv hg in
theorem point_o8 (h7 : t.val % 8 = 7) (r : Fin 512) (d : Fin 128) : (outsAt0 m c t.val t.isLt).2.2.1 (ix2 r d)
    = (outsAt0 m c t.val t.isLt).2.2.2.2 (ix2 r d) := by
  rcases seven t.val with ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩ | ⟨h0, h1, h2, h3, h4, h5⟩
  · exact absurd h7 h4
  · exact absurd h7 h4
  · rw [C_o8 m c t h0 h1 h2 h3 h4 h5, pay9_at]
  · exact absurd h7 h4
  · exact absurd h7 h4
  · exact absurd h7 h4
  · rw [G_o8 m c t h0 h1 h2 h3 h4 h5, pay9_at]

end

end Cert.KernelIdeal.Grad
end
end
-- ==== Proof.Invariant.lean ====
/- What the points of a block of keys, and those of a head, leave together: real sums over all rows. -/
module

public import proofs.«01_k».proof.Proof.Point

set_option maxRecDepth 16384

@[expose] public section

noncomputable section

namespace Cert.KernelIdeal.Grad

open Idealize.ShloMosaic Idealize.ShloMosaic.TcCoe Idealize.SL.Sem
open Cert.KernelIdeal Cert.KernelIdeal.Gen Cert.AttnMath
open Cert.ReferenceIdeal.Grad (Real256 Real128)

/-- A sequence that starts over every `P` points and adds a real number at each is a sum. -/
theorem accum {N : ℕ} (P K : ℕ) (hP : ∀ n k, n % P = k + 1 → (n - 1) % P = k) (f : (n : ℕ) → n < N → EReal) (G : ℕ → ℝ)
    (hs : ∀ (n : ℕ) (hn : n < N), n % P < K → f n hn = (if n % P = 0 then 0 else f (n - 1) (Nat.lt_of_le_of_lt (Nat.sub_le _ _) hn)) + (G n : EReal)) :
    ∀ (k n : ℕ) (hn : n < N), n % P = k → k < K → f n hn = ((∑ x ∈ Finset.range (k + 1), G (n - k + x) : ℝ) : EReal) := by
  intro k
  induction k with
  | zero =>
    intro n hn h hk
    rw [hs n hn (by omega), if_pos h, zero_add, Finset.sum_range_one]
    rfl
  | succ k ih =>
    intro n hn h hk
    have hle : k + 1 ≤ n := h ▸ Nat.mod_le n P
    rw [hs n hn (by omega), if_neg (by omega), ih (n - 1) _ (hP n k h) (by omega), Finset.sum_range_succ _ (k + 1), EReal.coe_add,
      show n - (k + 1) + (k + 1) = n by omega]
    refine congrArg (· + (G n : EReal)) (congrArg _ (Finset.sum_congr rfl fun x _ => congrArg G ?_))
    omega

/-- A sum over the rows, block by block. -/
theorem sum_rows (f : Fin 4096 → ℝ) : ∑ i : Fin 8, ∑ a : Fin 512, f (row i a) = ∑ s, f s := by
  rw [Fin.sum_univ_tiles 8 512 rfl f]
  refine Finset.sum_congr rfl fun i _ => Finset.sum_congr rfl fun a _ => congrArg f (Fin.ext ?_)
  show 512 * i.val + a.val = i.val * 512 + a.val
  omega

/-- The query block, key block and head of a point, of any number. -/
def iN (n : ℕ) : Fin 8 := ⟨n % 8, by omega⟩
def jN (n : ℕ) : Fin 8 := ⟨n / 8 % 8, by omega⟩
def hN (n : ℕ) : Fin 4 := ⟨n / 64 % 4, by omega⟩

theorem hd_eq (t : Fin cfg0.N) : hd t = hN t.val :=
  Fin.ext (by show t.val / 64 = t.val / 64 % 4; have h : t.val < 256 := t.isLt; omega)

theorem iN_at (h j i : ℕ) (hi : i < 8) : iN (64 * h + 8 * j + i) = ⟨i, hi⟩ := Fin.ext (by show (64 * h + 8 * j + i) % 8 = i; omega)
theorem jN_at (h j i : ℕ) (hj : j < 8) (hi : i < 8) : jN (64 * h + 8 * j + i) = ⟨j, hj⟩ :=
  Fin.ext (by show (64 * h + 8 * j + i) / 8 % 8 = j; omega)
theorem hN_at (h j i : ℕ) (hh : h < 4) (hj : j < 8) (hi : i < 8) : hN (64 * h + 8 * j + i) = ⟨h, hh⟩ :=
  Fin.ext (by show (64 * h + 8 * j + i) / 64 % 4 = h; omega)

section
variable (m : (ℓ : Loc nD τ sig) → Buf (Elt Ideal) ℓ) (c : Dev nD) {y z : Fin 4 → Fin 4096 → Fin 256 → ℝ} {a b : Fin 4 → Fin 4096 → Fin 128 → ℝ}
  (hq : Real256 (arg0 m c) y) (hk : Real256 (arg1 m c) z) (hv : Real128 (arg2 m c) a) (hg : Real128 (arg3 m c) b)
include hq hk hv hg

/-- The keys' gradient of a block, as its last point flushes it. -/
theorem keys_block (h : Fin 4) (j : Fin 8) (hn : 64 * h.val + 8 * j.val + 7 < cfg0.N) (r : Fin 512) (d : Fin 256) :
    (outsAt0 m c (64 * h.val + 8 * j.val + 7) hn).2.1 (ix2 r d)
      = ((∑ s, gs (y h) (z h) (a h) (b h) s (row j r) * Real.log 2 * y h s d : ℝ) : EReal) := by
  refine (point_o7 m c ⟨_, hn⟩ (by show (64 * h.val + 8 * j.val + 7) % 8 = 7; omega) r d).trans ?_
  have key := accum 8 8 (by intro n k h; omega) (fun n hn => (outsAt0 m c n hn).2.2.2.1 (ix2 r d))
    (fun n => tk (y (hN n)) (z (hN n)) (a (hN n)) (b (hN n)) (row (iN n)) (row (jN n)) r d)
    (fun n hn _ => by rw [← hd_eq ⟨n, hn⟩]; exact point_dk m c hq hk hv hg ⟨n, hn⟩ r d) 7 _ hn (by omega) (by omega)
  refine (congrArg (· * ((Real.log 2 : ℝ) : EReal)) key).trans ?_
  rw [← EReal.coe_mul, ← sum_rows, Finset.sum_range, Finset.sum_mul]
  refine congrArg _ (Finset.sum_congr rfl fun i _ => ?_)
  have e : 64 * h.val + 8 * j.val + 7 - 7 + i.val = 64 * h.val + 8 * j.val + i.val := by omega
  rw [e, iN_at _ _ _ i.isLt, jN_at _ _ _ j.isLt i.isLt, hN_at _ _ _ h.isLt j.isLt i.isLt, tk, Finset.sum_mul]
  exact Finset.sum_congr rfl fun x _ => by ring

/-- The values' gradient of a block. -/
theorem values_block (h : Fin 4) (j : Fin 8) (hn : 64 * h.val + 8 * j.val + 7 < cfg0.N) (r : Fin 512) (d : Fin 128) :
    (outsAt0 m c (64 * h.val + 8 * j.val + 7) hn).2.2.1 (ix2 r d)
      = ((∑ s, b h s d * pr (y h) (z h) s (row j r) : ℝ) : EReal) := by
  refine (point_o8 m c ⟨_, hn⟩ (by show (64 * h.val + 8 * j.val + 7) % 8 = 7; omega) r d).trans ?_
  have key := accum 8 8 (by intro n k h; omega) (fun n hn => (outsAt0 m c n hn).2.2.2.2 (ix2 r d))
    (fun n => tv (y (hN n)) (z (hN n)) (b (hN n)) (row (iN n)) (row (jN n)) r d)
    (fun n hn _ => by rw [← hd_eq ⟨n, hn⟩]; exact point_dv m c hq hk hv hg ⟨n, hn⟩ r d) 7 _ hn (by omega) (by omega)
  refine key.trans ?_
  rw [← sum_rows, Finset.sum_range]
  refine congrArg _ (Finset.sum_congr rfl fun i _ => ?_)
  have e : 64 * h.val + 8 * j.val + 7 - 7 + i.val = 64 * h.val + 8 * j.val + i.val := by omega
  rw [e, iN_at _ _ _ i.isLt, jN_at _ _ _ j.isLt i.isLt, hN_at _ _ _ h.isLt j.isLt i.isLt, tv]
  exact Finset.sum_congr rfl fun x _ => mul_comm _ _

/-- The queries' gradient of a head. -/
theorem queries_head (h : Fin 4) (hn : 64 * h.val + 63 < cfg0.N) (ρ : Fin 8) (r : Fin 512) (d : Fin 256) :
    (outsAt0 m c (64 * h.val + 63) hn).1 (ix2 (row ρ r) d)
      = ((∑ s, gs (y h) (z h) (a h) (b h) (row ρ r) s * Real.log 2 * z h s d : ℝ) : EReal) := by
  refine (point_dq_last m c hq hk hv hg ⟨_, hn⟩ (by show (64 * h.val + 63) % 64 = 63; omega) ρ r d).trans ?_
  let G : ℕ → ℝ := fun n => if ρ = iN n then tq (y (hN n)) (z (hN n)) (a (hN n)) (b (hN n)) (row (iN n)) (row (jN n)) r d else 0
  have hG : ∀ t : Fin cfg0.N, (if ρ = iq t then (tq (y (hd t)) (z (hd t)) (a (hd t)) (b (hd t)) (row (iq t)) (row (jk t)) r d : EReal) else 0) = (G t.val : EReal) := by
    intro t
    rw [hd_eq]
    show _ = (((if ρ = iN t.val then _ else 0) : ℝ) : EReal)
    by_cases hρ : ρ = iq t
    · rw [if_pos hρ, if_pos (show ρ = iN t.val from hρ)]; rfl
    · rw [if_neg hρ, if_neg (show ¬ ρ = iN t.val from hρ)]; rfl
  have key := accum 64 63 (by intro n k h; omega) (fun n hn => (outsAt0 m c n hn).1 (ix2 (row ρ r) d)) G
    (fun n hn h' => by rw [← hG ⟨n, hn⟩]; exact point_dq m c hq hk hv hg ⟨n, hn⟩ (by show ¬ n % 64 = 63; omega) ρ r d)
    62 (64 * h.val + 62) (by omega) (by omega) (by omega)
  rw [hG]
  refine (congrArg (fun w : EReal => (w + (G (64 * h.val + 63) : EReal)) * ((Real.log 2 : ℝ) : EReal)) key).trans ?_
  rw [← EReal.coe_add, ← EReal.coe_mul, ← sum_rows]
  have e : (∑ x ∈ Finset.range (62 + 1), G (64 * h.val + 62 - 62 + x)) + G (64 * h.val + 63) = ∑ x ∈ Finset.range 64, G (64 * h.val + x) := by
    rw [Finset.sum_range_succ _ 63]
    rfl
  rw [e, Finset.sum_range, Fin.sum_univ_tiles 8 8 rfl, Finset.sum_mul]
  refine congrArg _ (Finset.sum_congr rfl fun j _ => ?_)
  have e2 : ∀ i : Fin 8, G (64 * h.val + (j.val * 8 + i.val)) = if ρ = i then tq (y h) (z h) (a h) (b h) (row ρ) (row j) r d else 0 := by
    intro i
    have e3 : 64 * h.val + (j.val * 8 + i.val) = 64 * h.val + 8 * j.val + i.val := by omega
    show (if ρ = iN _ then tq (y (hN _)) (z (hN _)) (a (hN _)) (b (hN _)) (row (iN _)) (row (jN _)) r d else 0) = _
    rw [e3, iN_at _ _ _ i.isLt, jN_at _ _ _ j.isLt i.isLt, hN_at _ _ _ h.isLt j.isLt i.isLt]
    by_cases hρ : ρ = i
    · subst hρ; rfl
    · rw [if_neg hρ, if_neg (show ¬ ρ = ⟨i.val, i.isLt⟩ from hρ)]
  rw [Finset.sum_congr rfl fun i _ => e2 i, Finset.sum_ite_eq, if_pos (Finset.mem_univ _), tq, Finset.sum_mul]
  exact Finset.sum_congr rfl fun x _ => by ring

end

end Cert.KernelIdeal.Grad
end
end
-- ==== Proof.Arrays.lean ====
/- The three arrays that the kernel leaves are the reference's three gradients. -/
module

public import proofs.«01_k».proof.Proof.Invariant

set_option maxRecDepth 16384

@[expose] public section

noncomputable section

namespace Cert.KernelIdeal.Grad

open Idealize.ShloMosaic Idealize.ShloMosaic.TcCoe Idealize.SL.Sem
open Cert.KernelIdeal Cert.KernelIdeal.Gen Cert.AttnMath
open Cert.ReferenceIdeal.Grad (Real256 Real128 heads256 heads128 refScores refExpo gradQ gradK gradV weights col rowSum refQ_at refK_at refV_at)

theorem win6_at (t : Fin cfg0.N) : win0_6.index t (0 : Fin 2) = 0 ∧ win0_6.index t (1 : Fin 2) = (hd t).val :=
  (by decide +kernel : ∀ t : Fin grid0.N, win0_6.index t (0 : Fin 2) = 0 ∧ win0_6.index t (1 : Fin 2) = (hd t).val) t
theorem win7_at (t : Fin cfg0.N) : win0_7.index t (0 : Fin 2) = (jk t).val ∧ win0_7.index t (1 : Fin 2) = (hd t).val := win1_at t
theorem win8_at (t : Fin cfg0.N) : win0_8.index t (0 : Fin 2) = (jk t).val ∧ win0_8.index t (1 : Fin 2) = (hd t).val := win1_at t

section
variable {q k : FVec Ideal S4096x1024 .bf16} {v g : FVec Ideal S4096x512 .bf16}
  {y z : Fin 4 → Fin 4096 → Fin 256 → ℝ} {a b : Fin 4 → Fin 4096 → Fin 128 → ℝ}
  (hq : Real256 q y) (hk : Real256 k z) (hv : Real128 v a) (hg : Real128 g b)
include hq hk

include hv hg in
theorem refQ_lane (r : Fin 4096) (h : Fin 4) (d : Fin 256) : gradQ (refScores q k v g) (heads256 k) (ix2 r (lane256 h d))
    = ((∑ s, gs (y h) (z h) (a h) (b h) r s * Real.log 2 * z h s d : ℝ) : EReal) := by
  have e : (⟨(lane256 h d).val / 256, by have := (lane256 h d).isLt; omega⟩ : Fin 4) = h := Fin.ext (by show (h.val * 256 + d.val) / 256 = h.val; omega)
  have e' : (⟨(lane256 h d).val % 256, by omega⟩ : Fin 256) = d := Fin.ext (by show (h.val * 256 + d.val) % 256 = d.val; omega)
  rw [refQ_at hq hk hv hg, e, e']

include hv hg in
theorem refK_lane (r : Fin 4096) (h : Fin 4) (d : Fin 256) : gradK (refScores q k v g) (heads256 q) (ix2 r (lane256 h d))
    = ((∑ s, gs (y h) (z h) (a h) (b h) s r * Real.log 2 * y h s d : ℝ) : EReal) := by
  have e : (⟨(lane256 h d).val / 256, by have := (lane256 h d).isLt; omega⟩ : Fin 4) = h := Fin.ext (by show (h.val * 256 + d.val) / 256 = h.val; omega)
  have e' : (⟨(lane256 h d).val % 256, by omega⟩ : Fin 256) = d := Fin.ext (by show (h.val * 256 + d.val) % 256 = d.val; omega)
  rw [refK_at hq hk hv hg, e, e']

include hg in
theorem refV_lane (r : Fin 4096) (h : Fin 4) (d : Fin 128) : gradV (heads128 g) (weights (refExpo q k) (col (rowSum (refExpo q k)))) (ix2 r (lane128 h d))
    = ((∑ s, b h s d * pr (y h) (z h) s r : ℝ) : EReal) := by
  have e : (⟨(lane128 h d).val / 128, by have := (lane128 h d).isLt; omega⟩ : Fin 4) = h := Fin.ext (by show (h.val * 128 + d.val) / 128 = h.val; omega)
  have e' : (⟨(lane128 h d).val % 128, by omega⟩ : Fin 128) = d := Fin.ext (by show (h.val * 128 + d.val) % 128 = d.val; omega)
  rw [refV_at hq hk hg, e, e']

end

section
variable (m : (ℓ : Loc nD τ sig) → Buf (Elt Ideal) ℓ) (c : Dev nD) {y z : Fin 4 → Fin 4096 → Fin 256 → ℝ} {a b : Fin 4 → Fin 4096 → Fin 128 → ℝ}
  (hq : Real256 (arg0 m c) y) (hk : Real256 (arg1 m c) z) (hv : Real128 (arg2 m c) a) (hg : Real128 (arg3 m c) b)

theorem outs_congr {n n' : ℕ} (e : n = n') (hn : n < cfg0.N) (hn' : n' < cfg0.N) : outsAt0 m c n hn = outsAt0 m c n' hn' := by
  subst e; rfl

include hq hk hv hg

/-- What the last point of a head leaves of the queries' gradient. -/
theorem after_q (t : Fin cfg0.N) (h63 : t.val % 64 = 63) (x : Fin 4096) (d : Fin 256) :
    (outsAt0 m c t.val t.isLt).1 (ix2 x d) = gradQ (refScores (arg0 m c) (arg1 m c) (arg2 m c) (arg3 m c)) (heads256 (arg1 m c)) (ix2 x (lane256 (hd t) d)) := by
  have e : t.val = 64 * (hd t).val + 63 := by show t.val = 64 * (t.val / 64) + 63; omega
  rw [refQ_lane hq hk hv hg, outs_congr m c e t.isLt (e ▸ t.isLt)]
  have er : row ⟨x.val / 512, by omega⟩ ⟨x.val % 512, by omega⟩ = x := Fin.ext (by show 512 * (x.val / 512) + x.val % 512 = x.val; omega)
  rw [← er]
  exact queries_head m c hq hk hv hg (hd t) _ _ _ d

theorem after_k (t : Fin cfg0.N) (h7 : t.val % 8 = 7) (r : Fin 512) (d : Fin 256) :
    (outsAt0 m c t.val t.isLt).2.1 (ix2 r d) = gradK (refScores (arg0 m c) (arg1 m c) (arg2 m c) (arg3 m c)) (heads256 (arg0 m c)) (ix2 (row (jk t) r) (lane256 (hd t) d)) := by
  have e : t.val = 64 * (hd t).val + 8 * (jk t).val + 7 := by show t.val = 64 * (t.val / 64) + 8 * (t.val / 8 % 8) + 7; omega
  rw [refK_lane hq hk hv hg, outs_congr m c e t.isLt (e ▸ t.isLt)]
  exact keys_block m c hq hk hv hg (hd t) (jk t) _ r d

theorem after_v (t : Fin cfg0.N) (h7 : t.val % 8 = 7) (r : Fin 512) (d : Fin 128) :
    (outsAt0 m c t.val t.isLt).2.2.1 (ix2 r d)
      = gradV (heads128 (arg3 m c)) (weights (refExpo (arg0 m c) (arg1 m c)) (col (rowSum (refExpo (arg0 m c) (arg1 m c))))) (ix2 (row (jk t) r) (lane128 (hd t) d)) := by
  have e : t.val = 64 * (hd t).val + 8 * (jk t).val + 7 := by show t.val = 64 * (t.val / 64) + 8 * (t.val / 8 % 8) + 7; omega
  rw [refV_lane hq hk hg, outs_congr m c e t.isLt (e ▸ t.isLt)]
  exact values_block m c hq hk hv hg (hd t) (jk t) _ r d

theorem array_q : (dats m 0 c).arrAt 6 cfg0.N = gradQ (refScores (arg0 m c) (arg1 m c) (arg2 m c) (arg3 m c)) (heads256 (arg1 m c)) := by
  refine (dats m 0 c).arrAt_eq_of_cover 6 _ (fun t hf => ?_) (fun i => ?_)
  · have h63 : t.val % 64 = 63 := (flush0_6 t).mp hf
    show (cfg0.win 6).cut (grid0.coords t) ((dats m 0 c).after 6 t) = _
    rw [after0_6]
    funext x
    have e1 : ((cfg0.win 6).xinj (grid0.coords t) x : S4096x256.Idx) = ix2 (x 0 : Fin 4096) (x 1 : Fin 256) := Shape.idx_ext₂ rfl rfl
    have e2 : (ix2 (x 0 : Fin 4096) (lane256 (hd t) (x 1 : Fin 256)) : S4096x1024.Idx) = ((cfg0.win 6).blk t).view.emb x := by
      refine Shape.idx_ext₂ ?_ ?_
      · show (x 0).val = win0_6.index t (0 : Fin 2) * 4096 + 1 * (x 0).val
        rw [(win6_at t).1]; omega
      · show (hd t).val * 256 + (x 1).val = win0_6.index t (1 : Fin 2) * 256 + 1 * (x 1).val
        rw [(win6_at t).2]; omega
    show (outsAt0 m c t.val t.isLt).1 ((cfg0.win 6).xinj (grid0.coords t) x) = (gradQ (refScores (arg0 m c) (arg1 m c) (arg2 m c) (arg3 m c)) (heads256 (arg1 m c))) (((cfg0.win 6).blk t).view.emb x)
    exact (congrArg (outsAt0 m c t.val t.isLt).1 e1).trans ((after_q m c hq hk hv hg t h63 (x 0 : Fin 4096) (x 1)).trans (congrArg (gradQ (refScores (arg0 m c) (arg1 m c) (arg2 m c) (arg3 m c)) (heads256 (arg1 m c))) e2))
  · have hi0 : (i 0).val < 4096 := (i 0).isLt
    have hi1 : (i 1).val < 1024 := (i 1).isLt
    let t : Fin cfg0.N := ⟨64 * ((i 1).val / 256) + 63, by show _ < 256; omega⟩
    refine ⟨t, (flush0_6 t).mpr (by show (64 * ((i 1).val / 256) + 63) % 64 = 63; omega), ?_⟩
    show i ∈ ((View.whole main_v58_0).slice (win0_6.rect t)).set
    rw [View.set_slice_whole]
    refine Rect.mem_set_unit.mpr fun ax => ?_
    fin_cases ax
    · show win0_6.index t (0 : Fin 2) * 4096 ≤ (i 0).val ∧ (i 0).val < win0_6.index t (0 : Fin 2) * 4096 + 4096
      rw [(win6_at t).1]; omega
    · show win0_6.index t (1 : Fin 2) * 256 ≤ (i 1).val ∧ (i 1).val < win0_6.index t (1 : Fin 2) * 256 + 256
      rw [(win6_at t).2]
      show (64 * ((i 1).val / 256) + 63) / 64 * 256 ≤ _ ∧ _ < (64 * ((i 1).val / 256) + 63) / 64 * 256 + 256
      omega

theorem array_k : (dats m 0 c).arrAt 7 cfg0.N = gradK (refScores (arg0 m c) (arg1 m c) (arg2 m c) (arg3 m c)) (heads256 (arg0 m c)) := by
  refine (dats m 0 c).arrAt_eq_of_cover 7 _ (fun t hf => ?_) (fun i => ?_)
  · have h7 : t.val % 8 = 7 := (flush0_7 t).mp hf
    show (cfg0.win 7).cut (grid0.coords t) ((dats m 0 c).after 7 t) = _
    rw [after0_7]
    funext x
    have e1 : ((cfg0.win 7).xinj (grid0.coords t) x : S512x256.Idx) = ix2 (x 0 : Fin 512) (x 1 : Fin 256) := Shape.idx_ext₂ rfl rfl
    have e2 : (ix2 (row (jk t) (x 0 : Fin 512)) (lane256 (hd t) (x 1 : Fin 256)) : S4096x1024.Idx) = ((cfg0.win 7).blk t).view.emb x := by
      refine Shape.idx_ext₂ ?_ ?_
      · show 512 * (jk t).val + (x 0).val = win0_7.index t (0 : Fin 2) * 512 + 1 * (x 0).val
        rw [(win7_at t).1]; omega
      · show (hd t).val * 256 + (x 1).val = win0_7.index t (1 : Fin 2) * 256 + 1 * (x 1).val
        rw [(win7_at t).2]; omega
    show (outsAt0 m c t.val t.isLt).2.1 ((cfg0.win 7).xinj (grid0.coords t) x) = (gradK (refScores (arg0 m c) (arg1 m c) (arg2 m c) (arg3 m c)) (heads256 (arg0 m c))) (((cfg0.win 7).blk t).view.emb x)
    exact (congrArg (outsAt0 m c t.val t.isLt).2.1 e1).trans ((after_k m c hq hk hv hg t h7 (x 0 : Fin 512) (x 1)).trans (congrArg (gradK (refScores (arg0 m c) (arg1 m c) (arg2 m c) (arg3 m c)) (heads256 (arg0 m c))) e2))
  · have hi0 : (i 0).val < 4096 := (i 0).isLt
    have hi1 : (i 1).val < 1024 := (i 1).isLt
    let t : Fin cfg0.N := ⟨8 * ((i 0).val / 512 + 8 * ((i 1).val / 256)) + 7, by show _ < 256; omega⟩
    refine ⟨t, (flush0_7 t).mpr (by show (8 * ((i 0).val / 512 + 8 * ((i 1).val / 256)) + 7) % 8 = 7; omega), ?_⟩
    show i ∈ ((View.whole main_v58_1).slice (win0_7.rect t)).set
    rw [View.set_slice_whole]
    refine Rect.mem_set_unit.mpr fun ax => ?_
    fin_cases ax
    · show win0_7.index t (0 : Fin 2) * 512 ≤ (i 0).val ∧ (i 0).val < win0_7.index t (0 : Fin 2) * 512 + 512
      rw [(win7_at t).1]
      show (8 * ((i 0).val / 512 + 8 * ((i 1).val / 256)) + 7) / 8 % 8 * 512 ≤ _ ∧ _ < (8 * ((i 0).val / 512 + 8 * ((i 1).val / 256)) + 7) / 8 % 8 * 512 + 512
      omega
    · show win0_7.index t (1 : Fin 2) * 256 ≤ (i 1).val ∧ (i 1).val < win0_7.index t (1 : Fin 2) * 256 + 256
      rw [(win7_at t).2]
      show (8 * ((i 0).val / 512 + 8 * ((i 1).val / 256)) + 7) / 64 * 256 ≤ _ ∧ _ < (8 * ((i 0).val / 512 + 8 * ((i 1).val / 256)) + 7) / 64 * 256 + 256
      omega

theorem array_v : (dats m 0 c).arrAt 8 cfg0.N
    = gradV (heads128 (arg3 m c)) (weights (refExpo (arg0 m c) (arg1 m c)) (col (rowSum (refExpo (arg0 m c) (arg1 m c))))) := by
  refine (dats m 0 c).arrAt_eq_of_cover 8 _ (fun t hf => ?_) (fun i => ?_)
  · have h7 : t.val % 8 = 7 := (flush0_8 t).mp hf
    show (cfg0.win 8).cut (grid0.coords t) ((dats m 0 c).after 8 t) = _
    rw [after0_8]
    funext x
    have e1 : ((cfg0.win 8).xinj (grid0.coords t) x : S512x128.Idx) = ix2 (x 0 : Fin 512) (x 1 : Fin 128) := Shape.idx_ext₂ rfl rfl
    have e2 : (ix2 (row (jk t) (x 0 : Fin 512)) (lane128 (hd t) (x 1 : Fin 128)) : S4096x512.Idx) = ((cfg0.win 8).blk t).view.emb x := by
      refine Shape.idx_ext₂ ?_ ?_
      · show 512 * (jk t).val + (x 0).val = win0_8.index t (0 : Fin 2) * 512 + 1 * (x 0).val
        rw [(win8_at t).1]; omega
      · show (hd t).val * 128 + (x 1).val = win0_8.index t (1 : Fin 2) * 128 + 1 * (x 1).val
        rw [(win8_at t).2]; omega
    show (outsAt0 m c t.val t.isLt).2.2.1 ((cfg0.win 8).xinj (grid0.coords t) x) = (gradV (heads128 (arg3 m c)) (weights (refExpo (arg0 m c) (arg1 m c)) (col (rowSum (refExpo (arg0 m c) (arg1 m c)))))) (((cfg0.win 8).blk t).view.emb x)
    exact (congrArg (outsAt0 m c t.val t.isLt).2.2.1 e1).trans ((after_v m c hq hk hv hg t h7 (x 0 : Fin 512) (x 1)).trans (congrArg (gradV (heads128 (arg3 m c)) (weights (refExpo (arg0 m c) (arg1 m c)) (col (rowSum (refExpo (arg0 m c) (arg1 m c)))))) e2))
  · have hi0 : (i 0).val < 4096 := (i 0).isLt
    have hi1 : (i 1).val < 512 := (i 1).isLt
    let t : Fin cfg0.N := ⟨8 * ((i 0).val / 512 + 8 * ((i 1).val / 128)) + 7, by show _ < 256; omega⟩
    refine ⟨t, (flush0_8 t).mpr (by show (8 * ((i 0).val / 512 + 8 * ((i 1).val / 128)) + 7) % 8 = 7; omega), ?_⟩
    show i ∈ ((View.whole main_v58_2).slice (win0_8.rect t)).set
    rw [View.set_slice_whole]
    refine Rect.mem_set_unit.mpr fun ax => ?_
    fin_cases ax
    · show win0_8.index t (0 : Fin 2) * 512 ≤ (i 0).val ∧ (i 0).val < win0_8.index t (0 : Fin 2) * 512 + 512
      rw [(win8_at t).1]
      show (8 * ((i 0).val / 512 + 8 * ((i 1).val / 128)) + 7) / 8 % 8 * 512 ≤ _ ∧ _ < (8 * ((i 0).val / 512 + 8 * ((i 1).val / 128)) + 7) / 8 % 8 * 512 + 512
      omega
    · show win0_8.index t (1 : Fin 2) * 128 ≤ (i 1).val ∧ (i 1).val < win0_8.index t (1 : Fin 2) * 128 + 128
      rw [(win8_at t).2]
      show (8 * ((i 0).val / 512 + 8 * ((i 1).val / 128)) + 7) / 64 * 128 ≤ _ ∧ _ < (8 * ((i 0).val / 512 + 8 * ((i 1).val / 128)) + 7) / 64 * 128 + 128
      omega

end

end Cert.KernelIdeal.Grad
end
end
-- ==== Proof.Finite.lean ====
/- What the precondition says: every element of the four arguments is a real number. -/
module

public import proofs.«01_k».proof.Defs
public import Idealize.ShloMosaic.Lib.ReduceAll
public import Idealize.ShloMosaic.PureOps.Ideal.Laws
public import Idealize.ShloMosaic.Lib.Affine

set_option maxRecDepth 16384

@[expose] public section

noncomputable section

namespace Cert.Finite

open Idealize.ShloMosaic

/-- The shape relations of the precondition's operations. -/
instance facts : Cert.Pre_finite.Facts where
  bitsLt_bf16_f32 := by decide
  bcast_S_S4096x1024 := by decide
  reducesTo_S4096x1024_S_d0_1 := by decide
  h_S_ := by decide
  bcast_S_S4096x512 := by decide
  reducesTo_S4096x512_S_d0_1 := by decide

/-- An extended real whose magnitude lies below infinity is a real. -/
theorem coe_of_lt (x : EReal) (h : Ideal.cmp .olt (max x (-x)) (Ideal.ofBits .f32 0x7F800000#32) = 1#1) : ((x.toReal : ℝ) : EReal) = x := by
  have top : Ideal.ofBits .f32 0x7F800000#32 = ⊤ := by simp [Ideal.ofBits, Ideal.ieee]
  rw [top] at h
  have lt : max x (-x) < ⊤ := by
    by_contra hn
    rw [show Ideal.cmp .olt (max x (-x)) ⊤ = BitVec.ofBool (decide (max x (-x) < ⊤)) from rfl, decide_eq_false hn] at h
    exact absurd h (by decide)
  have l1 : x < ⊤ := lt_of_le_of_lt (le_max_left _ _) lt
  have l2 : -x < ⊤ := lt_of_le_of_lt (le_max_right _ _) lt
  refine EReal.coe_toReal (ne_of_lt l1) fun hb => ?_
  rw [hb, EReal.neg_bot] at l2
  exact absurd l2 (lt_irrefl _)

/-- A conjunction over all elements that is one says it of each. -/
theorem each {S : Shape} {axes : List (Fin S.rank)} (x : FVec Ideal S .bf16) (lt : FTy.bits .bf16 < FTy.bits .f32)
    (hb : Cert.Pre_finite.S_.BroadcastsInDim S (![] : Fin 0 → Fin S.rank)) (hr : S.ReducesTo axes Cert.Pre_finite.S_) (h0 : 0 < Cert.Pre_finite.S_.numel)
    (j : Cert.Pre_finite.S_.Idx)
    (e : Host.reduce IntOp.andi (cmpf .olt (Host.absf (extf .f32 x lt)) (broadcastInDim S ![] hb (constant (F := Ideal) Cert.Pre_finite.S_ .f32 0x7F800000#32)))
      (constantI Cert.Pre_finite.S_ 1 1#1) hr h0 j = 1#1) (i : S.Idx) : (((x i : EReal).toReal : ℝ) : EReal) = x i := by
  haveI : Subsingleton Cert.Pre_finite.S_.Idx := ⟨fun a b => funext fun k => k.elim0⟩
  exact coe_of_lt _ (Host.reduce_andi_all _ _ hr h0 j e i)

/-- The precondition, read. -/
theorem reals (q k : FVec Ideal Cert.Pre_finite.S4096x1024 .bf16) (v g : FVec Ideal Cert.Pre_finite.S4096x512 .bf16)
    (h : Cert.Pre_finite.fn (F := Ideal) q k v g = fun _ => 1#1) :
    (∀ i, (((q i : EReal).toReal : ℝ) : EReal) = q i) ∧ (∀ i, (((k i : EReal).toReal : ℝ) : EReal) = k i)
      ∧ (∀ i, (((v i : EReal).toReal : ℝ) : EReal) = v i) ∧ (∀ i, (((g i : EReal).toReal : ℝ) : EReal) = g i) := by
  have h' := congrFun h (fun k => k.elim0)
  simp only [Cert.Pre_finite.fn, Cert.Pre_finite.fn_part1, andi] at h'
  obtain ⟨h1, h2⟩ := IntOp.andi_eq_one.mp h'
  obtain ⟨hq, hk⟩ := IntOp.andi_eq_one.mp h1
  obtain ⟨hv, hg⟩ := IntOp.andi_eq_one.mp h2
  exact ⟨fun i => each q _ _ _ _ _ hq i, fun i => each k _ _ _ _ _ hk i, fun i => each v _ _ _ _ _ hv i, fun i => each g _ _ _ _ _ hg i⟩

end Cert.Finite
end
end
-- ==== Proof.Attention.lean ====
/- The claims about the gradient of the attention. -/
module

public import proofs.«01_k».proof.Defs
public import proofs.«01_k».proof.Proof.Gen.Kernel.Frame
public import proofs.«01_k».proof.Proof.Arrays
public import proofs.«01_k».proof.Proof.Finite
public import Idealize.ShloMosaic.Lib.Claim

set_option maxRecDepth 16384

@[expose] public section

noncomputable section

namespace Cert.Attention

open Idealize.ShloMosaic Idealize.ShloMosaic.TcCoe Idealize.SL.Sem
open Cert.ReferenceIdeal.Grad (Real256 Real128 heads256 heads128 refScores refExpo gradQ gradK gradV weights col rowSum)
open Cert.KernelIdeal.Grad (arg0 arg1 arg2 arg3 array_q array_k array_v)

/-- A two-axis array of reals, cut into its heads. -/
theorem real256 (x : FVec Ideal ⟨2, ![4096, 1024]⟩ .bf16) (h : ∀ i, (((x i : EReal).toReal : ℝ) : EReal) = x i) :
    Real256 x fun hd r d => (x (ix2 r ⟨hd.val * 256 + d.val, by omega⟩) : EReal).toReal := fun r hd d => (h _).symm
theorem real128 (x : FVec Ideal ⟨2, ![4096, 512]⟩ .bf16) (h : ∀ i, (((x i : EReal).toReal : ℝ) : EReal) = x i) :
    Real128 x fun hd r d => (x (ix2 r ⟨hd.val * 128 + d.val, by omega⟩) : EReal).toReal := fun r hd d => (h _).symm

theorem frame_kernel : Cert.quiescent_Kernel (hKernel := Cert.Kernel.Gen.facts) := fun m ρ _ => Cert.Kernel.Gen.frame m ρ
theorem frame_ideal : Cert.quiescent_KernelIdeal (hKernelIdeal := Cert.KernelIdeal.Gen.facts) := fun m ρ _ => Cert.KernelIdeal.Gen.frame m ρ
theorem frame_ideal_pre : Cert.quiescent_KernelIdeal_pre_finite (hKernelIdeal := Cert.KernelIdeal.Gen.facts) (hPre_finite := Cert.Finite.facts) :=
  fun m ρ _ => Cert.KernelIdeal.Gen.frame m ρ
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩) (Cert.ReferenceIdeal.Value.run m ρ)
theorem frame_reference_pre : Cert.quiescent_ReferenceIdeal_pre_finite (hReferenceIdeal := Cert.ReferenceIdeal.Gen.facts) (hPre_finite := Cert.Finite.facts) :=
  fun m ρ _ => frame_reference m ρ trivial
theorem preserves : Cert.preserves_Kernel_KernelIdeal :=
  IdealRules.named_const.statement Cert.KernelIdeal.κ "ln2" .f32 0x3F317218#32 ((Real.log 2 : ℝ) : EReal) rfl

section
open Cert.KernelIdeal Cert.KernelIdeal.Gen

/-- The idealized kernel's run from arguments that hold reals: its three results are the reference's terms. -/
theorem run_kernel (m : (ℓ : Loc nD τ sig) → Buf (Elt Ideal) ℓ) (ρ : Dev nD → PrngReg) (hpre : Cert.Pre_KernelIdeal_finite m) :
    θ_run (defs (F := Ideal)) (onTc (τ := τ) (main (F := Ideal))) ⟨m, fun _ => 0, ρ⟩ fun r => ∀ c : Dev nD,
      r.2.mem ((c.tc : Thread nD τ).loc main_v58_0) = gradQ (refScores (arg0 m c) (arg1 m c) (arg2 m c) (arg3 m c)) (heads256 (arg1 m c))
      ∧ r.2.mem ((c.tc : Thread nD τ).loc main_v58_1) = gradK (refScores (arg0 m c) (arg1 m c) (arg2 m c) (arg3 m c)) (heads256 (arg0 m c))
      ∧ r.2.mem ((c.tc : Thread nD τ).loc main_v58_2)
        = gradV (heads128 (arg3 m c)) (weights (refExpo (arg0 m c) (arg1 m c)) (col (rowSum (refExpo (arg0 m c) (arg1 m c)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (θ_run_and (run_main m ρ) (frame m ρ))
  obtain ⟨hr0, hr1, hr2, hr3⟩ := Cert.Finite.reals _ _ _ _ (hpre c)
  have hq := real256 (arg0 m c) hr0
  have hk := real256 (arg1 m c) hr1
  have hv := real128 (arg2 m c) hr2
  have hg := real128 (arg3 m c) hr3
  exact ⟨((h.1 c).1 6).trans (array_q m c hq hk hv hg), ((h.1 c).1 7).trans (array_k m c hq hk hv hg), ((h.1 c).1 8).trans (array_v m c hq hk hv hg), h.2.1 c⟩

end

theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre agree
  refine ⟨_, _, _, run_kernel m ρ hpre, (θ_run Cert.ReferenceIdeal.defs _ _).mono (fun r h c => ?_) (Cert.ReferenceIdeal.Value.run m' ρ')⟩
  obtain ⟨e0, e1, e2, e3⟩ := agree c
  obtain ⟨h0, h1, h2, hargs⟩ := h c
  refine ⟨h0.trans ?_, h1.trans ?_, h2.trans ?_, hargs⟩
  · refine (Cert.ReferenceIdeal.Grad.res_q m' c).trans ?_
    rw [e0, e1, e2, e3]
  · refine (Cert.ReferenceIdeal.Grad.res_k m' c).trans ?_
    rw [e0, e1, e2, e3]
  · refine (Cert.ReferenceIdeal.Grad.res_v m' c).trans ?_
    rw [e0, e1, e3]

end Cert.Attention
end
end
-- ==== Proof.FfnMath.lean ====
/- Extended-real arithmetic of the feed-forward calls: a scale taken out of a sum, and the slope of the gate. -/
module

public import Idealize.ShloMosaic.Lib.Pointwise

set_option maxRecDepth 16384

@[expose] public section

noncomputable section

namespace Cert.FfnMath

open Idealize.ShloMosaic

/-- The scale of the feed-forward's output. -/
def half : EReal := Ideal.ofBits .f32 0x3F000000#32

theorem half_eq : half = ((1 / 2 : ℝ) : EReal) := by
  unfold half
  simp [Ideal.ofBits, Ideal.ieee, -EReal.coe_mul]
  norm_num

/-- The scale taken out of a sum, whatever the terms are. -/
theorem sum_half {ι : Type*} (s : Finset ι) (f : ι → EReal) : ∑ i ∈ s, half * f i = half * ∑ i ∈ s, f i := by
  classical
  have h0 : (0 : EReal) ≤ half := by rw [half_eq]; exact_mod_cast (by norm_num : (0 : ℝ) ≤ 1 / 2)
  have h1 : half ≠ ⊤ := by rw [half_eq]; exact EReal.coe_ne_top _
  induction s using Finset.induction_on with
  | empty => simp
  | insert a s ha ih => rw [Finset.sum_insert ha, Finset.sum_insert ha, ih, EReal.left_distrib_of_nonneg_of_ne_top h0 h1]

/-- The gate's sigmoid. -/
def sigma (x : EReal) : EReal := Ideal.div 1 (1 + Ideal.exp (-x))

/-- Its slope by the sigmoid and by the square of the reciprocal: equal at every extended real, whatever `a` multiplies. -/
theorem slope (g a : EReal) :
    a * sigma g + (0 - (0 - (g * a) * Ideal.div 1 ((1 + Ideal.exp (-g)) * (1 + Ideal.exp (-g)))) * Ideal.exp (-g))
      = a * sigma g + (g * a) * (sigma g * (1 - sigma g)) := by
  have key : Ideal.div 1 ((1 + Ideal.exp (-g)) * (1 + Ideal.exp (-g))) * Ideal.exp (-g) = sigma g * (1 - sigma g) := by
    induction g with
    | bot =>
      have e : Ideal.exp (-(⊥ : EReal)) = ⊤ := rfl
      have s : sigma ⊥ = 0 := by
        unfold sigma Ideal.div
        rw [e, EReal.add_top_of_ne_bot (by decide)]
        simp
      rw [s, e, EReal.add_top_of_ne_bot (by decide)]
      simp [Ideal.div]
    | top =>
      have e : Ideal.exp (-(⊤ : EReal)) = 0 := rfl
      have s : sigma ⊤ = 1 := by
        unfold sigma Ideal.div
        rw [e]
        simp
      rw [s, e]
      have h : (1 : EReal) - 1 = 0 := by rw [← EReal.coe_one, ← EReal.coe_sub]; simp
      rw [h, mul_zero, mul_zero]
    | coe x =>
      have hx := Real.exp_pos (-x)
      have e : Ideal.exp (-(x : EReal)) = ((Real.exp (-x) : ℝ) : EReal) := rfl
      have d : ∀ y : ℝ, y ≠ 0 → Ideal.div 1 (y : EReal) = ((1 / y : ℝ) : EReal) := by
        intro y hy
        unfold Ideal.div
        rw [if_neg (by exact_mod_cast hy), ← EReal.coe_one, ← EReal.coe_inv, ← EReal.coe_mul]
        congr 1
      have p : (1 : EReal) + ((Real.exp (-x) : ℝ) : EReal) = ((1 + Real.exp (-x) : ℝ) : EReal) := by
        rw [EReal.coe_add, EReal.coe_one]
      unfold sigma
      rw [e, p, ← EReal.coe_mul, d _ (by positivity), d _ (by positivity), ← EReal.coe_one, ← EReal.coe_sub, ← EReal.coe_mul, ← EReal.coe_mul]
      congr 1
      field_simp
      ring
  rw [zero_sub, zero_sub, ← EReal.neg_mul, neg_neg, mul_assoc, key]

end Cert.FfnMath
end
end
-- ==== Proof.FfnOut.lean ====
/- The feed-forward's output: the kernel's blocks are the reference's. -/
module

public import proofs.«01_k».proof.Defs
public import proofs.«01_k».proof.Proof.FfnMath
public import proofs.«01_k».proof.Proof.Gen.Out.Frame
public import proofs.«01_k».proof.Proof.Gen.OutIdeal.Frame
public import proofs.«01_k».proof.Proof.Gen.OutReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.OutReferenceIdeal.Ffn

open Idealize.ShloMosaic Idealize.ShloMosaic.TcCoe Idealize.SL.Sem
open Cert.OutReferenceIdeal Cert.OutReferenceIdeal.Gen Cert.FfnMath

/-- The reference's result. -/
def out (x : FVec Ideal S4096x1024 .f32) (a : FVec Ideal S4096x2816 .bf16) (w : FVec Ideal S2816x1024 .bf16) : FVec Ideal S4096x1024 .f32 :=
  addf x (mulf (broadcastInDim S4096x1024 ![] bcast_S_S4096x1024 (constant S_ .f32 0x3F000000#32))
    (Host.dotGeneral dot_S4096x2816_S2816x1024_S4096x1024_1_0_0_1_n_n none (extf .f32 a bitsLt_bf16_f32) (extf .f32 w bitsLt_bf16_f32)))

theorem out_at (x : FVec Ideal S4096x1024 .f32) (a : FVec Ideal S4096x2816 .bf16) (w : FVec Ideal S2816x1024 .bf16) (p : Fin 4096) (q : Fin 1024) :
    out x a w (ix2 p q) = x (ix2 p q) + half * ∑ k : Fin 2816, a (ix2 p k) * w (ix2 k q) := by
  pointwise [out]
  rfl

end Cert.OutReferenceIdeal.Ffn

namespace Cert.OutIdeal.Ffn

open Idealize.ShloMosaic Idealize.ShloMosaic.TcCoe Idealize.SL.Sem
open Cert.OutIdeal Cert.OutIdeal.Gen Cert.FfnMath Cert.OutReferenceIdeal.Ffn

theorem pay1_at (j : S1024x1024.Idx) : k0_pay1 (F := Ideal) j = 0 := by
  pointwise [k0_pay1]
theorem pay2_at (s : FVec Ideal S1024x1024 .f32) (a : FVec Ideal S1024x2816 .bf16) (w : FVec Ideal S2816x1024 .bf16) (p q : Fin 1024) :
    k0_pay2 (F := Ideal) s a w (ix2 p q) = s (ix2 p q) + ∑ k : Fin 2816, a (ix2 p k) * w (ix2 k q) := by
  pointwise [k0_pay2]
theorem pay3_at (s x : FVec Ideal S1024x1024 .f32) (j : S1024x1024.Idx) : k0_pay3 (F := Ideal) s x j = s j * half + x j := by
  pointwise [k0_pay3]
  rfl

/-- The array's row and column of a row and a column of the point's block. -/
def rowOf (t : Fin cfg0.N) (a : Fin 1024) : Fin 4096 := ⟨t.val * 1024 + a.val, by have h : t.val < 4 := t.isLt; omega⟩

theorem win0_at (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem win1_at (t : Fin cfg0.N) : win0_1.index t (0 : Fin 2) = 0 ∧ win0_1.index t (1 : Fin 2) = 0 :=
  (by decide +kernel : ∀ t : Fin grid0.N, win0_1.index t (0 : Fin 2) = 0 ∧ win0_1.index t (1 : Fin 2) = 0) t
theorem win2_at (t : Fin cfg0.N) : win0_2.index t (0 : Fin 2) = t.val ∧ win0_2.index t (1 : Fin 2) = 0 :=
  (by decide +kernel : ∀ t : Fin grid0.N, win0_2.index t (0 : Fin 2) = t.val ∧ win0_2.index t (1 : Fin 2) = 0) t
theorem win3_at (t : Fin cfg0.N) : win0_3.index t (0 : Fin 2) = t.val ∧ win0_3.index t (1 : Fin 2) = 0 :=
  (by decide +kernel : ∀ t : Fin grid0.N, win0_3.index t (0 : Fin 2) = t.val ∧ win0_3.index t (1 : Fin 2) = 0) t

variable (m : (ℓ : Loc nD τ sig) → Buf (Elt Ideal) ℓ) (c : Dev nD) (t : Fin cfg0.N)

abbrev arg0 : FVec Ideal S4096x1024 .f32 := m ((c : Thread nD τ).loc main_arg0)
abbrev arg1 : FVec Ideal S4096x2816 .bf16 := m ((c : Thread nD τ).loc main_arg1)
abbrev arg2 : FVec Ideal S2816x1024 .bf16 := m ((c : Thread nD τ).loc main_arg2)

theorem block0 (a : Fin 1024) (b : Fin 2816) : iblk m c 0 t (ix2 a b) = arg1 m c (ix2 (rowOf t a) b) :=
  congrArg (V m c main_arg1) (Shape.idx_ext₂
    (by show win0_0.index t (0 : Fin 2) * 1024 + 1 * a.val = t.val * 1024 + a.val; rw [(win0_at t).1]; omega)
    (by show win0_0.index t (1 : Fin 2) * 2816 + 1 * b.val = b.val; rw [(win0_at t).2]; omega))
theorem block1 (a : Fin 2816) (b : Fin 1024) : iblk m c 1 t (ix2 a b) = arg2 m c (ix2 a b) :=
  congrArg (V m c main_arg2) (Shape.idx_ext₂
    (by show win0_1.index t (0 : Fin 2) * 2816 + 1 * a.val = a.val; rw [(win1_at t).1]; omega)
    (by show win0_1.index t (1 : Fin 2) * 1024 + 1 * b.val = b.val; rw [(win1_at t).2]; omega))
theorem block2 (a : Fin 1024) (b : Fin 1024) : iblk m c 2 t (ix2 a b) = arg0 m c (ix2 (rowOf t a) b) :=
  congrArg (V m c main_arg0) (Shape.idx_ext₂
    (by show win0_2.index t (0 : Fin 2) * 1024 + 1 * a.val = t.val * 1024 + a.val; rw [(win2_at t).1]; omega)
    (by show win0_2.index t (1 : Fin 2) * 1024 + 1 * b.val = b.val; rw [(win2_at t).2]; omega))

theorem after3 : (dats m 0 c).after 3 t = k0_pay3 (F := Ideal) (k0_pay2 (F := Ideal) (k0_pay1 (F := Ideal)) (iblk m c 0 t) (iblk m c 1 t)) (iblk m c 2 t) := by
  rw [after0_3]
  unfold outsAt0
  frame_out

theorem point3 (p q : Fin 1024) : (dats m 0 c).after 3 t (ix2 p q) = out (arg0 m c) (arg1 m c) (arg2 m c) (ix2 (rowOf t p) q) := by
  rw [after3, pay3_at, out_at, add_comm, mul_comm]
  refine congrArg₂ (· + ·) (block2 m c t p q) (congrArg (half * ·) ?_)
  refine (pay2_at _ _ _ p q).trans ?_
  rw [pay1_at, zero_add]
  exact Finset.sum_congr rfl fun k _ => congrArg₂ (· * ·) (block0 m c t p k) (block1 m c t k q)

theorem array3 : (dats m 0 c).arrAt 3 cfg0.N = out (arg0 m c) (arg1 m c) (arg2 m c) := by
  refine (dats m 0 c).arrAt_eq_of_cover 3 _ (fun t _ => ?_) (fun i => ?_)
  · show (cfg0.win 3).cut (grid0.coords t) ((dats m 0 c).after 3 t) = _
    funext x
    have e1 : ((cfg0.win 3).xinj (grid0.coords t) x : S1024x1024.Idx) = ix2 (x 0 : Fin 1024) (x 1 : Fin 1024) := Shape.idx_ext₂ rfl rfl
    have e2 : (ix2 (rowOf t (x 0 : Fin 1024)) (x 1 : Fin 1024) : S4096x1024.Idx) = ((cfg0.win 3).blk t).view.emb x := by
      refine Shape.idx_ext₂ ?_ ?_
      · show t.val * 1024 + (x 0).val = win0_3.index t (0 : Fin 2) * 1024 + 1 * (x 0).val
        rw [(win3_at t).1]; omega
      · show (x 1).val = win0_3.index t (1 : Fin 2) * 1024 + 1 * (x 1).val
        rw [(win3_at t).2]; omega
    show (dats m 0 c).after 3 t ((cfg0.win 3).xinj (grid0.coords t) x) = out (arg0 m c) (arg1 m c) (arg2 m c) (((cfg0.win 3).blk t).view.emb x)
    exact (congrArg ((dats m 0 c).after 3 t) e1).trans ((point3 m c t (x 0 : Fin 1024) (x 1 : Fin 1024)).trans (congrArg (out (arg0 m c) (arg1 m c) (arg2 m c)) e2))
  · have hi0 : (i 0).val < 4096 := (i 0).isLt
    have hi1 : (i 1).val < 1024 := (i 1).isLt
    let t : Fin cfg0.N := ⟨(i 0).val / 1024, by show _ < 4; omega⟩
    refine ⟨t, flush0_3 t, ?_⟩
    show i ∈ ((View.whole main_v0).slice (win0_3.rect t)).set
    rw [View.set_slice_whole]
    refine Rect.mem_set_unit.mpr fun ax => ?_
    fin_cases ax
    · show win0_3.index t (0 : Fin 2) * 1024 ≤ (i 0).val ∧ (i 0).val < win0_3.index t (0 : Fin 2) * 1024 + 1024
      rw [(win3_at t).1]
      show ((i 0).val / 1024) * 1024 ≤ _ ∧ _ < ((i 0).val / 1024) * 1024 + 1024
      omega
    · show win0_3.index t (1 : Fin 2) * 1024 ≤ (i 1).val ∧ (i 1).val < win0_3.index t (1 : Fin 2) * 1024 + 1024
      rw [(win3_at t).2]
      omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (array3 m c), h.2.1 c⟩) (θ_run_and (run_main m ρ) (frame m ρ))

end Cert.OutIdeal.Ffn

namespace Cert.FfnOut

open Idealize.ShloMosaic Idealize.ShloMosaic.TcCoe Idealize.SL.Sem

theorem frame_kernel : Cert.quiescent_Out (hOut := Cert.Out.Gen.facts) := fun m ρ _ => Cert.Out.Gen.frame m ρ
theorem frame_ideal : Cert.quiescent_OutIdeal (hOutIdeal := Cert.OutIdeal.Gen.facts) := fun m ρ _ => Cert.OutIdeal.Gen.frame m ρ
theorem frame_reference : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩) (Cert.OutReferenceIdeal.Value.run m ρ)
theorem preserves : Cert.preserves_Out_OutIdeal := trivial

theorem algebraic : Cert.algebraic_OutIdeal_OutReferenceIdeal (hOutIdeal := Cert.OutIdeal.Gen.facts)
    (hOutReferenceIdeal := Cert.OutReferenceIdeal.Gen.facts) := by
  intro m ρ m' ρ' _ agree
  refine ⟨_, Cert.OutIdeal.Ffn.run m ρ, (θ_run Cert.OutReferenceIdeal.defs _ _).mono (fun r h c => ?_) (Cert.OutReferenceIdeal.Value.run m' ρ')⟩
  obtain ⟨e0, e1, e2⟩ := agree c
  refine ⟨(h c).1.trans ?_, (h c).2⟩
  · rw [e0, e1, e2]
    rfl

end Cert.FfnOut
end
end
-- ==== Proof.FfnUp.lean ====
/- The feed-forward's first two products and its gate: the kernel's blocks are the reference's. -/
module

public import proofs.«01_k».proof.Defs
public import proofs.«01_k».proof.Proof.FfnMath
public import proofs.«01_k».proof.Proof.Gen.Up.Frame
public import proofs.«01_k».proof.Proof.Gen.UpIdeal.Frame
public import proofs.«01_k».proof.Proof.Gen.UpReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.UpReferenceIdeal.Ffn

open Idealize.ShloMosaic Idealize.ShloMosaic.TcCoe Idealize.SL.Sem
open Cert.UpReferenceIdeal Cert.UpReferenceIdeal.Gen Cert.FfnMath

/-- The reference's product with one of the two weights. -/
def prodF (h : FVec Ideal S4096x1024 .bf16) (w : FVec Ideal S2816x1024 .bf16) : FVec Ideal S4096x2816 .f32 :=
  Host.dotGeneral dot_S4096x1024_S1024x2816_S4096x2816_1_0_0_1_n_n none (extf .f32 h bitsLt_bf16_f32)
    (transpose S1024x2816 [1, 0] (extf .f32 w bitsLt_bf16_f32) transposes_S2816x1024_S1024x2816_1_0)

/-- The reference's results. -/
def prod (h : FVec Ideal S4096x1024 .bf16) (w : FVec Ideal S2816x1024 .bf16) : FVec Ideal S4096x2816 .bf16 :=
  truncf .bf16 (prodF h w) bitsLt_bf16_f32
def act (h : FVec Ideal S4096x1024 .bf16) (wg wu : FVec Ideal S2816x1024 .bf16) : FVec Ideal S4096x2816 .bf16 :=
  truncf .bf16 (mulf (mulf (prodF h wg) (Host.divf (broadcastInDim S4096x2816 ![] bcast_S_S4096x2816 (constant S_ .f32 0x3F800000#32))
    (addf (broadcastInDim S4096x2816 ![] bcast_S_S4096x2816 (constant S_ .f32 0x3F800000#32)) (Host.exp (Host.negf (prodF h wg))))))
    (prodF h wu)) bitsLt_bf16_f32

theorem prodF_at (h : FVec Ideal S4096x1024 .bf16) (w : FVec Ideal S2816x1024 .bf16) (p : Fin 4096) (q : Fin 2816) :
    prodF h w (ix2 p q) = ∑ k : Fin 1024, h (ix2 p k) * w (ix2 q k) := by
  pointwise [prodF]
theorem prod_at (h : FVec Ideal S4096x1024 .bf16) (w : FVec Ideal S2816x1024 .bf16) (j : S4096x2816.Idx) : prod h w j = prodF h w j := by
  pointwise [prod]
theorem act_at (h : FVec Ideal S4096x1024 .bf16) (wg wu : FVec Ideal S2816x1024 .bf16) (j : S4096x2816.Idx) :
    act h wg wu j = prodF h wg j * sigma (prodF h wg j) * prodF h wu j := by
  unfold sigma
  pointwise [act]

end Cert.UpReferenceIdeal.Ffn

namespace Cert.UpIdeal.Ffn

open Idealize.ShloMosaic Idealize.ShloMosaic.TcCoe Idealize.SL.Sem
open Cert.UpIdeal Cert.UpIdeal.Gen Cert.FfnMath Cert.UpReferenceIdeal.Ffn

theorem pay1_at (h : FVec Ideal S1024x1024 .bf16) (w : FVec Ideal S1408x1024 .bf16) (p : Fin 1024) (q : Fin 1408) :
    k0_pay1 (F := Ideal) h w (ix2 p q) = ∑ k : Fin 1024, h (ix2 p k) * w (ix2 q k) := by
  pointwise [k0_pay1]
theorem pay2_at (h : FVec Ideal S1024x1024 .bf16) (w : FVec Ideal S1408x1024 .bf16) (p : Fin 1024) (q : Fin 1408) :
    k0_pay2 (F := Ideal) h w (ix2 p q) = ∑ k : Fin 1024, h (ix2 p k) * w (ix2 q k) := by
  pointwise [k0_pay2]
theorem pay3_at (h : FVec Ideal S1024x1024 .bf16) (w : FVec Ideal S1408x1024 .bf16) (j : S1024x1408.Idx) :
    k0_pay3 (F := Ideal) h w j = k0_pay1 (F := Ideal) h w j := by
  pointwise [k0_pay3]
theorem pay4_at (h : FVec Ideal S1024x1024 .bf16) (w : FVec Ideal S1408x1024 .bf16) (j : S1024x1408.Idx) :
    k0_pay4 (F := Ideal) h w j = k0_pay2 (F := Ideal) h w j := by
  pointwise [k0_pay4]
theorem pay5_at (h : FVec Ideal S1024x1024 .bf16) (wg wu : FVec Ideal S1408x1024 .bf16) (j : S1024x1408.Idx) :
    k0_pay5 (F := Ideal) h wg wu j = k0_pay1 (F := Ideal) h wg j * sigma (k0_pay1 (F := Ideal) h wg j) * k0_pay2 (F := Ideal) h wu j := by
  unfold sigma
  rw [← zero_sub]
  pointwise [k0_pay5]

/-- The array's row and column of a row and a column of the point's block. -/
def rowOf (t : Fin cfg0.N) (a : Fin 1024) : Fin 4096 := ⟨t.val % 4 * 1024 + a.val, by have h : t.val < 8 := t.isLt; omega⟩
def colOf (t : Fin cfg0.N) (a : Fin 1408) : Fin 2816 := ⟨t.val / 4 * 1408 + a.val, by have h : t.val < 8 := t.isLt; omega⟩
theorem win0_at (t : Fin cfg0.N) : win0_0.index t (0 : Fin 2) = t.val % 4 ∧ win0_0.index t (1 : Fin 2) = 0 :=
  (by decide +kernel : ∀ t : Fin grid0.N, win0_0.index t (0 : Fin 2) = t.val % 4 ∧ win0_0.index t (1 : Fin 2) = 0) t
theorem win1_at (t : Fin cfg0.N) : win0_1.index t (0 : Fin 2) = t.val / 4 ∧ win0_1.index t (1 : Fin 2) = 0 :=
  (by decide +kernel : ∀ t : Fin grid0.N, win0_1.index t (0 : Fin 2) = t.val / 4 ∧ win0_1.index t (1 : Fin 2) = 0) t
theorem win2_at (t : Fin cfg0.N) : win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0) t
theorem win3_at (t : Fin cfg0.N) : win0_3.index t (0 : Fin 2) = t.val % 4 ∧ win0_3.index t (1 : Fin 2) = t.val / 4 :=
  (by decide +kernel : ∀ t : Fin grid0.N, win0_3.index t (0 : Fin 2) = t.val % 4 ∧ win0_3.index t (1 : Fin 2) = t.val / 4) t
theorem win4_at (t : Fin cfg0.N) : win0_4.index t (0 : Fin 2) = t.val % 4 ∧ win0_4.index t (1 : Fin 2) = t.val / 4 :=
  (by decide +kernel : ∀ t : Fin grid0.N, win0_4.index t (0 : Fin 2) = t.val % 4 ∧ win0_4.index t (1 : Fin 2) = t.val / 4) t
theorem win5_at (t : Fin cfg0.N) : win0_5.index t (0 : Fin 2) = t.val % 4 ∧ win0_5.index t (1 : Fin 2) = t.val / 4 :=
  (by decide +kernel : ∀ t : Fin grid0.N, win0_5.index t (0 : Fin 2) = t.val % 4 ∧ win0_5.index t (1 : Fin 2) = t.val / 4) t

variable (m : (ℓ : Loc nD τ sig) → Buf (Elt Ideal) ℓ) (c : Dev nD) (t : Fin cfg0.N)

abbrev arg0 : FVec Ideal S4096x1024 .bf16 := m ((c : Thread nD τ).loc main_arg0)
abbrev arg1 : FVec Ideal S2816x1024 .bf16 := m ((c : Thread nD τ).loc main_arg1)
abbrev arg2 : FVec Ideal S2816x1024 .bf16 := m ((c : Thread nD τ).loc main_arg2)

theorem block0 (a : Fin 1024) (b : Fin 1024) : iblk m c 0 t (ix2 a b) = arg0 m c (ix2 (rowOf t a) b) :=
  congrArg (V m c main_arg0) (Shape.idx_ext₂
    (by show win0_0.index t (0 : Fin 2) * 1024 + 1 * a.val = t.val % 4 * 1024 + a.val; rw [(win0_at t).1]; omega)
    (by show win0_0.index t (1 : Fin 2) * 1024 + 1 * b.val = b.val; rw [(win0_at t).2]; omega))
theorem block1 (a : Fin 1408) (b : Fin 1024) : iblk m c 1 t (ix2 a b) = arg1 m c (ix2 (colOf t a) b) :=
  congrArg (V m c main_arg1) (Shape.idx_ext₂
    (by show win0_1.index t (0 : Fin 2) * 1408 + 1 * a.val = t.val / 4 * 1408 + a.val; rw [(win1_at t).1]; omega)
    (by show win0_1.index t (1 : Fin 2) * 1024 + 1 * b.val = b.val; rw [(win1_at t).2]; omega))
theorem block2 (a : Fin 1408) (b : Fin 1024) : iblk m c 2 t (ix2 a b) = arg2 m c (ix2 (colOf t a) b) :=
  congrArg (V m c main_arg2) (Shape.idx_ext₂
    (by show win0_2.index t (0 : Fin 2) * 1408 + 1 * a.val = t.val / 4 * 1408 + a.val; rw [(win2_at t).1]; omega)
    (by show win0_2.index t (1 : Fin 2) * 1024 + 1 * b.val = b.val; rw [(win2_at t).2]; omega))

theorem after3 : (dats m 0 c).after 3 t = k0_pay3 (F := Ideal) (iblk m c 0 t) (iblk m c 1 t) := by
  rw [after0_3]
  frame_out
theorem after4 : (dats m 0 c).after 4 t = k0_pay4 (F := Ideal) (iblk m c 0 t) (iblk m c 2 t) := by
  rw [after0_4]
  frame_out
theorem after5 : (dats m 0 c).after 5 t = k0_pay5 (F := Ideal) (iblk m c 0 t) (iblk m c 1 t) (iblk m c 2 t) := by
  rw [after0_5]
  frame_out

theorem gate_at (p : Fin 1024) (q : Fin 1408) : k0_pay1 (F := Ideal) (iblk m c 0 t) (iblk m c 1 t) (ix2 p q)
    = prodF (arg0 m c) (arg1 m c) (ix2 (rowOf t p) (colOf t q)) := by
  refine (pay1_at _ _ p q).trans ?_
  rw [prodF_at]
  exact Finset.sum_congr rfl fun k _ => congrArg₂ (· * ·) (block0 m c t p k) (block1 m c t q k)
theorem up_at (p : Fin 1024) (q : Fin 1408) : k0_pay2 (F := Ideal) (iblk m c 0 t) (iblk m c 2 t) (ix2 p q)
    = prodF (arg0 m c) (arg2 m c) (ix2 (rowOf t p) (colOf t q)) := by
  refine (pay2_at _ _ p q).trans ?_
  rw [prodF_at]
  exact Finset.sum_congr rfl fun k _ => congrArg₂ (· * ·) (block0 m c t p k) (block2 m c t q k)

theorem point3 (p : Fin 1024) (q : Fin 1408) : (dats m 0 c).after 3 t (ix2 p q)
    = prod (arg0 m c) (arg1 m c) (ix2 (rowOf t p) (colOf t q)) := by
  rw [after3, prod_at]
  exact (pay3_at _ _ _).trans (gate_at m c t p q)
theorem point4 (p : Fin 1024) (q : Fin 1408) : (dats m 0 c).after 4 t (ix2 p q)
    = prod (arg0 m c) (arg2 m c) (ix2 (rowOf t p) (colOf t q)) := by
  rw [after4, prod_at]
  exact (pay4_at _ _ _).trans (up_at m c t p q)
theorem point5 (p : Fin 1024) (q : Fin 1408) : (dats m 0 c).after 5 t (ix2 p q)
    = act (arg0 m c) (arg1 m c) (arg2 m c) (ix2 (rowOf t p) (colOf t q)) := by
  rw [after5, act_at, ← gate_at m c t p q, ← up_at m c t p q]
  exact pay5_at _ _ _ _

theorem array3 : (dats m 0 c).arrAt 3 cfg0.N = prod (arg0 m c) (arg1 m c) := by
  refine (dats m 0 c).arrAt_eq_of_cover 3 _ (fun t _ => ?_) (fun i => ?_)
  · show (cfg0.win 3).cut (grid0.coords t) ((dats m 0 c).after 3 t) = _
    funext x
    have e1 : ((cfg0.win 3).xinj (grid0.coords t) x : S1024x1408.Idx) = ix2 (x 0 : Fin 1024) (x 1 : Fin 1408) := Shape.idx_ext₂ rfl rfl
    have e2 : (ix2 (rowOf t (x 0 : Fin 1024)) (colOf t (x 1 : Fin 1408)) : S4096x2816.Idx) = ((cfg0.win 3).blk t).view.emb x := by
      refine Shape.idx_ext₂ ?_ ?_
      · show t.val % 4 * 1024 + (x 0).val = win0_3.index t (0 : Fin 2) * 1024 + 1 * (x 0).val
        rw [(win3_at t).1]; omega
      · show t.val / 4 * 1408 + (x 1).val = win0_3.index t (1 : Fin 2) * 1408 + 1 * (x 1).val
        rw [(win3_at t).2]; omega
    show (dats m 0 c).after 3 t ((cfg0.win 3).xinj (grid0.coords t) x) = prod (arg0 m c) (arg1 m c) (((cfg0.win 3).blk t).view.emb x)
    exact (congrArg ((dats m 0 c).after 3 t) e1).trans ((point3 m c t (x 0 : Fin 1024) (x 1 : Fin 1408)).trans (congrArg (prod (arg0 m c) (arg1 m c)) e2))
  · have hi0 : (i 0).val < 4096 := (i 0).isLt
    have hi1 : (i 1).val < 2816 := (i 1).isLt
    let t : Fin cfg0.N := ⟨(i 1).val / 1408 * 4 + (i 0).val / 1024, by show _ < 8; omega⟩
    refine ⟨t, flush0_3 t, ?_⟩
    show i ∈ ((View.whole main_v0_0).slice (win0_3.rect t)).set
    rw [View.set_slice_whole]
    refine Rect.mem_set_unit.mpr fun ax => ?_
    fin_cases ax
    · show win0_3.index t (0 : Fin 2) * 1024 ≤ (i 0).val ∧ (i 0).val < win0_3.index t (0 : Fin 2) * 1024 + 1024
      rw [(win3_at t).1]
      show ((i 1).val / 1408 * 4 + (i 0).val / 1024) % 4 * 1024 ≤ _ ∧ _ < ((i 1).val / 1408 * 4 + (i 0).val / 1024) % 4 * 1024 + 1024
      omega
    · show win0_3.index t (1 : Fin 2) * 1408 ≤ (i 1).val ∧ (i 1).val < win0_3.index t (1 : Fin 2) * 1408 + 1408
      rw [(win3_at t).2]
      show ((i 1).val / 1408 * 4 + (i 0).val / 1024) / 4 * 1408 ≤ _ ∧ _ < ((i 1).val / 1408 * 4 + (i 0).val / 1024) / 4 * 1408 + 1408
      omega

theorem array4 : (dats m 0 c).arrAt 4 cfg0.N = prod (arg0 m c) (arg2 m c) := by
  refine (dats m 0 c).arrAt_eq_of_cover 4 _ (fun t _ => ?_) (fun i => ?_)
  · show (cfg0.win 4).cut (grid0.coords t) ((dats m 0 c).after 4 t) = _
    funext x
    have e1 : ((cfg0.win 4).xinj (grid0.coords t) x : S1024x1408.Idx) = ix2 (x 0 : Fin 1024) (x 1 : Fin 1408) := Shape.idx_ext₂ rfl rfl
    have e2 : (ix2 (rowOf t (x 0 : Fin 1024)) (colOf t (x 1 : Fin 1408)) : S4096x2816.Idx) = ((cfg0.win 4).blk t).view.emb x := by
      refine Shape.idx_ext₂ ?_ ?_
      · show t.val % 4 * 1024 + (x 0).val = win0_4.index t (0 : Fin 2) * 1024 + 1 * (x 0).val
        rw [(win4_at t).1]; omega
      · show t.val / 4 * 1408 + (x 1).val = win0_4.index t (1 : Fin 2) * 1408 + 1 * (x 1).val
        rw [(win4_at t).2]; omega
    show (dats m 0 c).after 4 t ((cfg0.win 4).xinj (grid0.coords t) x) = prod (arg0 m c) (arg2 m c) (((cfg0.win 4).blk t).view.emb x)
    exact (congrArg ((dats m 0 c).after 4 t) e1).trans ((point4 m c t (x 0 : Fin 1024) (x 1 : Fin 1408)).trans (congrArg (prod (arg0 m c) (arg2 m c)) e2))
  · have hi0 : (i 0).val < 4096 := (i 0).isLt
    have hi1 : (i 1).val < 2816 := (i 1).isLt
    let t : Fin cfg0.N := ⟨(i 1).val / 1408 * 4 + (i 0).val / 1024, by show _ < 8; omega⟩
    refine ⟨t, flush0_4 t, ?_⟩
    show i ∈ ((View.whole main_v0_1).slice (win0_4.rect t)).set
    rw [View.set_slice_whole]
    refine Rect.mem_set_unit.mpr fun ax => ?_
    fin_cases ax
    · show win0_4.index t (0 : Fin 2) * 1024 ≤ (i 0).val ∧ (i 0).val < win0_4.index t (0 : Fin 2) * 1024 + 1024
      rw [(win4_at t).1]
      show ((i 1).val / 1408 * 4 + (i 0).val / 1024) % 4 * 1024 ≤ _ ∧ _ < ((i 1).val / 1408 * 4 + (i 0).val / 1024) % 4 * 1024 + 1024
      omega
    · show win0_4.index t (1 : Fin 2) * 1408 ≤ (i 1).val ∧ (i 1).val < win0_4.index t (1 : Fin 2) * 1408 + 1408
      rw [(win4_at t).2]
      show ((i 1).val / 1408 * 4 + (i 0).val / 1024) / 4 * 1408 ≤ _ ∧ _ < ((i 1).val / 1408 * 4 + (i 0).val / 1024) / 4 * 1408 + 1408
      omega

theorem array5 : (dats m 0 c).arrAt 5 cfg0.N = act (arg0 m c) (arg1 m c) (arg2 m c) := by
  refine (dats m 0 c).arrAt_eq_of_cover 5 _ (fun t _ => ?_) (fun i => ?_)
  · show (cfg0.win 5).cut (grid0.coords t) ((dats m 0 c).after 5 t) = _
    funext x
    have e1 : ((cfg0.win 5).xinj (grid0.coords t) x : S1024x1408.Idx) = ix2 (x 0 : Fin 1024) (x 1 : Fin 1408) := Shape.idx_ext₂ rfl rfl
    have e2 : (ix2 (rowOf t (x 0 : Fin 1024)) (colOf t (x 1 : Fin 1408)) : S4096x2816.Idx) = ((cfg0.win 5).blk t).view.emb x := by
      refine Shape.idx_ext₂ ?_ ?_
      · show t.val % 4 * 1024 + (x 0).val = win0_5.index t (0 : Fin 2) * 1024 + 1 * (x 0).val
        rw [(win5_at t).1]; omega
      · show t.val / 4 * 1408 + (x 1).val = win0_5.index t (1 : Fin 2) * 1408 + 1 * (x 1).val
        rw [(win5_at t).2]; omega
    show (dats m 0 c).after 5 t ((cfg0.win 5).xinj (grid0.coords t) x) = act (arg0 m c) (arg1 m c) (arg2 m c) (((cfg0.win 5).blk t).view.emb x)
    exact (congrArg ((dats m 0 c).after 5 t) e1).trans ((point5 m c t (x 0 : Fin 1024) (x 1 : Fin 1408)).trans (congrArg (act (arg0 m c) (arg1 m c) (arg2 m c)) e2))
  · have hi0 : (i 0).val < 4096 := (i 0).isLt
    have hi1 : (i 1).val < 2816 := (i 1).isLt
    let t : Fin cfg0.N := ⟨(i 1).val / 1408 * 4 + (i 0).val / 1024, by show _ < 8; omega⟩
    refine ⟨t, flush0_5 t, ?_⟩
    show i ∈ ((View.whole main_v0_2).slice (win0_5.rect t)).set
    rw [View.set_slice_whole]
    refine Rect.mem_set_unit.mpr fun ax => ?_
    fin_cases ax
    · show win0_5.index t (0 : Fin 2) * 1024 ≤ (i 0).val ∧ (i 0).val < win0_5.index t (0 : Fin 2) * 1024 + 1024
      rw [(win5_at t).1]
      show ((i 1).val / 1408 * 4 + (i 0).val / 1024) % 4 * 1024 ≤ _ ∧ _ < ((i 1).val / 1408 * 4 + (i 0).val / 1024) % 4 * 1024 + 1024
      omega
    · show win0_5.index t (1 : Fin 2) * 1408 ≤ (i 1).val ∧ (i 1).val < win0_5.index t (1 : Fin 2) * 1408 + 1408
      rw [(win5_at t).2]
      show ((i 1).val / 1408 * 4 + (i 0).val / 1024) / 4 * 1408 ≤ _ ∧ _ < ((i 1).val / 1408 * 4 + (i 0).val / 1024) / 4 * 1408 + 1408
      omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = prod (arg0 m c) (arg1 m c)
      ∧ r.2.mem ((c.tc : Thread nD τ).loc main_v0_1) = prod (arg0 m c) (arg2 m c)
      ∧ r.2.mem ((c.tc : Thread nD τ).loc main_v0_2) = act (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (array3 m c), ((h.1 c).1 4).trans (array4 m c), ((h.1 c).1 5).trans (array5 m c), h.2.1 c⟩) (θ_run_and (run_main m ρ) (frame m ρ))

end Cert.UpIdeal.Ffn

namespace Cert.FfnUp

open Idealize.ShloMosaic Idealize.ShloMosaic.TcCoe Idealize.SL.Sem

theorem frame_kernel : Cert.quiescent_Up (hUp := Cert.Up.Gen.facts) := fun m ρ _ => Cert.Up.Gen.frame m ρ
theorem frame_ideal : Cert.quiescent_UpIdeal (hUpIdeal := Cert.UpIdeal.Gen.facts) := fun m ρ _ => Cert.UpIdeal.Gen.frame m ρ
theorem frame_reference : Cert.quiescent_UpReferenceIdeal (hUpReferenceIdeal := Cert.UpReferenceIdeal.Gen.facts) := fun m ρ _ =>
  (θ_run Cert.UpReferenceIdeal.defs _ _).mono (fun r h => ⟨fun c => (h c).2.2.2, sem_eq_zero_of_no_sems (by decide) r.2⟩) (Cert.UpReferenceIdeal.Value.run m ρ)
theorem preserves : Cert.preserves_Up_UpIdeal := trivial

theorem algebraic : Cert.algebraic_UpIdeal_UpReferenceIdeal (hUpIdeal := Cert.UpIdeal.Gen.facts)
    (hUpReferenceIdeal := Cert.UpReferenceIdeal.Gen.facts) := by
  intro m ρ m' ρ' _ agree
  refine ⟨_, _, _, Cert.UpIdeal.Ffn.run m ρ, (θ_run Cert.UpReferenceIdeal.defs _ _).mono (fun r h c => ?_) (Cert.UpReferenceIdeal.Value.run m' ρ')⟩
  obtain ⟨e0, e1, e2⟩ := agree c
  refine ⟨(h c).1.trans ?_, (h c).2.1.trans ?_, (h c).2.2.1.trans ?_, (h c).2.2.2⟩
  · rw [e0, e1]
    rfl
  · rw [e0, e2]
    rfl
  · rw [e0, e1, e2]
    rfl

end Cert.FfnUp
end
end
-- ==== Proof.FfnDh.lean ====
/- The gradient that goes back through the feed-forward's first two products: the kernel's blocks are the reference's. -/
module

public import proofs.«01_k».proof.Defs
public import proofs.«01_k».proof.Proof.FfnMath
public import proofs.«01_k».proof.Proof.Gen.Dh.Frame
public import proofs.«01_k».proof.Proof.Gen.DhIdeal.Frame
public import proofs.«01_k».proof.Proof.Gen.DhReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.DhReferenceIdeal.Ffn

open Idealize.ShloMosaic Idealize.ShloMosaic.TcCoe Idealize.SL.Sem
open Cert.DhReferenceIdeal Cert.DhReferenceIdeal.Gen Cert.FfnMath

/-- The reference's result. -/
def back (dg du : FVec Ideal S4096x2816 .bf16) (wg wu : FVec Ideal S2816x1024 .bf16) : FVec Ideal S4096x1024 .bf16 :=
  truncf .bf16 (addf
    (Host.dotGeneral dot_S4096x2816_S1024x2816_S4096x1024_1_1_0_0_n_n none (extf .f32 du bitsLt_bf16_f32)
      (transpose S1024x2816 [1, 0] (extf .f32 wu bitsLt_bf16_f32) transposes_S2816x1024_S1024x2816_1_0))
    (Host.dotGeneral dot_S4096x2816_S1024x2816_S4096x1024_1_1_0_0_n_n none (extf .f32 dg bitsLt_bf16_f32)
      (transpose S1024x2816 [1, 0] (extf .f32 wg bitsLt_bf16_f32) transposes_S2816x1024_S1024x2816_1_0))) bitsLt_bf16_f32

theorem back_at (dg du : FVec Ideal S4096x2816 .bf16) (wg wu : FVec Ideal S2816x1024 .bf16) (p : Fin 4096) (q : Fin 1024) :
    back dg du wg wu (ix2 p q) = (∑ k : Fin 2816, dg (ix2 p k) * wg (ix2 k q)) + ∑ k : Fin 2816, du (ix2 p k) * wu (ix2 k q) := by
  rw [add_comm]
  pointwise [back]

end Cert.DhReferenceIdeal.Ffn

namespace Cert.DhIdeal.Ffn

open Idealize.ShloMosaic Idealize.ShloMosaic.TcCoe Idealize.SL.Sem
open Cert.DhIdeal Cert.DhIdeal.Gen Cert.FfnMath Cert.DhReferenceIdeal.Ffn

theorem pay1_at (g : FVec Ideal S512x2816 .bf16) (wg : FVec Ideal S2816x1024 .bf16) (u : FVec Ideal S512x2816 .bf16) (wu : FVec Ideal S2816x1024 .bf16)
    (p : Fin 512) (q : Fin 1024) : k0_pay1 (F := Ideal) g wg u wu (ix2 p q)
      = (∑ k : Fin 2816, g (ix2 p k) * wg (ix2 k q)) + ∑ k : Fin 2816, u (ix2 p k) * wu (ix2 k q) := by
  pointwise [k0_pay1]

/-- The array's row and column of a row and a column of the point's block. -/
def rowOf (t : Fin cfg0.N) (a : Fin 512) : Fin 4096 := ⟨t.val * 512 + a.val, by have h : t.val < 8 := t.isLt; omega⟩

theorem win0_at (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem win1_at (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t
theorem win2_at (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem win3_at (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t
theorem win4_at (t : Fin cfg0.N) : win0_4.index t (0 : Fin 2) = t.val ∧ win0_4.index t (1 : Fin 2) = 0 :=
  (by decide +kernel : ∀ t : Fin grid0.N, win0_4.index t (0 : Fin 2) = t.val ∧ win0_4.index t (1 : Fin 2) = 0) t

variable (m : (ℓ : Loc nD τ sig) → Buf (Elt Ideal) ℓ) (c : Dev nD) (t : Fin cfg0.N)

abbrev arg0 : FVec Ideal S4096x2816 .bf16 := m ((c : Thread nD τ).loc main_arg0)
abbrev arg1 : FVec Ideal S4096x2816 .bf16 := m ((c : Thread nD τ).loc main_arg1)
abbrev arg2 : FVec Ideal S2816x1024 .bf16 := m ((c : Thread nD τ).loc main_arg2)
abbrev arg3 : FVec Ideal S2816x1024 .bf16 := m ((c : Thread nD τ).loc main_arg3)

theorem block0 (a : Fin 512) (b : Fin 2816) : iblk m c 0 t (ix2 a b) = arg0 m c (ix2 (rowOf t a) b) :=
  congrArg (V m c main_arg0) (Shape.idx_ext₂
    (by show win0_0.index t (0 : Fin 2) * 512 + 1 * a.val = t.val * 512 + a.val; rw [(win0_at t).1]; omega)
    (by show win0_0.index t (1 : Fin 2) * 2816 + 1 * b.val = b.val; rw [(win0_at t).2]; omega))
theorem block1 (a : Fin 512) (b : Fin 2816) : iblk m c 1 t (ix2 a b) = arg1 m c (ix2 (rowOf t a) b) :=
  congrArg (V m c main_arg1) (Shape.idx_ext₂
    (by show win0_1.index t (0 : Fin 2) * 512 + 1 * a.val = t.val * 512 + a.val; rw [(win1_at t).1]; omega)
    (by show win0_1.index t (1 : Fin 2) * 2816 + 1 * b.val = b.val; rw [(win1_at t).2]; omega))
theorem block2 (a : Fin 2816) (b : Fin 1024) : iblk m c 2 t (ix2 a b) = arg2 m c (ix2 a b) :=
  congrArg (V m c main_arg2) (Shape.idx_ext₂
    (by show win0_2.index t (0 : Fin 2) * 2816 + 1 * a.val = a.val; rw [(win2_at t).1]; omega)
    (by show win0_2.index t (1 : Fin 2) * 1024 + 1 * b.val = b.val; rw [(win2_at t).2]; omega))
theorem block3 (a : Fin 2816) (b : Fin 1024) : iblk m c 3 t (ix2 a b) = arg3 m c (ix2 a b) :=
  congrArg (V m c main_arg3) (Shape.idx_ext₂
    (by show win0_3.index t (0 : Fin 2) * 2816 + 1 * a.val = a.val; rw [(win3_at t).1]; omega)
    (by show win0_3.index t (1 : Fin 2) * 1024 + 1 * b.val = b.val; rw [(win3_at t).2]; omega))

theorem after4 : (dats m 0 c).after 4 t = k0_pay1 (F := Ideal) (iblk m c 0 t) (iblk m c 2 t) (iblk m c 1 t) (iblk m c 3 t) := by
  rw [after0_4]
  frame_out

theorem point4 (p : Fin 512) (q : Fin 1024) : (dats m 0 c).after 4 t (ix2 p q)
    = back (arg0 m c) (arg1 m c) (arg2 m c) (arg3 m c) (ix2 (rowOf t p) q) := by
  rw [after4, back_at]
  refine (pay1_at _ _ _ _ p q).trans ?_
  exact congrArg₂ (· + ·) (Finset.sum_congr rfl fun k _ => congrArg₂ (· * ·) (block0 m c t p k) (block2 m c t k q))
    (Finset.sum_congr rfl fun k _ => congrArg₂ (· * ·) (block1 m c t p k) (block3 m c t k q))

theorem array4 : (dats m 0 c).arrAt 4 cfg0.N = back (arg0 m c) (arg1 m c) (arg2 m c) (arg3 m c) := by
  refine (dats m 0 c).arrAt_eq_of_cover 4 _ (fun t _ => ?_) (fun i => ?_)
  · show (cfg0.win 4).cut (grid0.coords t) ((dats m 0 c).after 4 t) = _
    funext x
    have e1 : ((cfg0.win 4).xinj (grid0.coords t) x : S512x1024.Idx) = ix2 (x 0 : Fin 512) (x 1 : Fin 1024) := Shape.idx_ext₂ rfl rfl
    have e2 : (ix2 (rowOf t (x 0 : Fin 512)) (x 1 : Fin 1024) : S4096x1024.Idx) = ((cfg0.win 4).blk t).view.emb x := by
      refine Shape.idx_ext₂ ?_ ?_
      · show t.val * 512 + (x 0).val = win0_4.index t (0 : Fin 2) * 512 + 1 * (x 0).val
        rw [(win4_at t).1]; omega
      · show (x 1).val = win0_4.index t (1 : Fin 2) * 1024 + 1 * (x 1).val
        rw [(win4_at t).2]; omega
    show (dats m 0 c).after 4 t ((cfg0.win 4).xinj (grid0.coords t) x) = back (arg0 m c) (arg1 m c) (arg2 m c) (arg3 m c) (((cfg0.win 4).blk t).view.emb x)
    exact (congrArg ((dats m 0 c).after 4 t) e1).trans ((point4 m c t (x 0 : Fin 512) (x 1 : Fin 1024)).trans (congrArg (back (arg0 m c) (arg1 m c) (arg2 m c) (arg3 m c)) e2))
  · have hi0 : (i 0).val < 4096 := (i 0).isLt
    have hi1 : (i 1).val < 1024 := (i 1).isLt
    let t : Fin cfg0.N := ⟨(i 0).val / 512, by show _ < 8; omega⟩
    refine ⟨t, flush0_4 t, ?_⟩
    show i ∈ ((View.whole main_v0).slice (win0_4.rect t)).set
    rw [View.set_slice_whole]
    refine Rect.mem_set_unit.mpr fun ax => ?_
    fin_cases ax
    · show win0_4.index t (0 : Fin 2) * 512 ≤ (i 0).val ∧ (i 0).val < win0_4.index t (0 : Fin 2) * 512 + 512
      rw [(win4_at t).1]
      show ((i 0).val / 512) * 512 ≤ _ ∧ _ < ((i 0).val / 512) * 512 + 512
      omega
    · show win0_4.index t (1 : Fin 2) * 1024 ≤ (i 1).val ∧ (i 1).val < win0_4.index t (1 : Fin 2) * 1024 + 1024
      rw [(win4_at t).2]
      omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = back (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (array4 m c), h.2.1 c⟩) (θ_run_and (run_main m ρ) (frame m ρ))

end Cert.DhIdeal.Ffn

namespace Cert.FfnDh

open Idealize.ShloMosaic Idealize.ShloMosaic.TcCoe Idealize.SL.Sem

theorem frame_kernel : Cert.quiescent_Dh (hDh := Cert.Dh.Gen.facts) := fun m ρ _ => Cert.Dh.Gen.frame m ρ
theorem frame_ideal : Cert.quiescent_DhIdeal (hDhIdeal := Cert.DhIdeal.Gen.facts) := fun m ρ _ => Cert.DhIdeal.Gen.frame m ρ
theorem frame_reference : Cert.quiescent_DhReferenceIdeal (hDhReferenceIdeal := Cert.DhReferenceIdeal.Gen.facts) := fun m ρ _ =>
  (θ_run Cert.DhReferenceIdeal.defs _ _).mono (fun r h => ⟨fun c => (h c).2, sem_eq_zero_of_no_sems (by decide) r.2⟩) (Cert.DhReferenceIdeal.Value.run m ρ)
theorem preserves : Cert.preserves_Dh_DhIdeal := trivial

theorem algebraic : Cert.algebraic_DhIdeal_DhReferenceIdeal (hDhIdeal := Cert.DhIdeal.Gen.facts)
    (hDhReferenceIdeal := Cert.DhReferenceIdeal.Gen.facts) := by
  intro m ρ m' ρ' _ agree
  refine ⟨_, Cert.DhIdeal.Ffn.run m ρ, (θ_run Cert.DhReferenceIdeal.defs _ _).mono (fun r h c => ?_) (Cert.DhReferenceIdeal.Value.run m' ρ')⟩
  obtain ⟨e0, e1, e2, e3⟩ := agree c
  refine ⟨(h c).1.trans ?_, (h c).2⟩
  · rw [e0, e1, e2, e3]
    rfl

end Cert.FfnDh
end
end
-- ==== Proof.FfnIn.lean ====
/- The gradient of the feed-forward's first two weights, one call each: the kernel's blocks, accumulated over four groups
   of rows, are the reference's. -/
module

public import proofs.«01_k».proof.Defs
public import proofs.«01_k».proof.Proof.FfnMath
public import proofs.«01_k».proof.Proof.Gen.In.Frame
public import proofs.«01_k».proof.Proof.Gen.InIdeal.Frame
public import proofs.«01_k».proof.Proof.Gen.InReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.InReferenceIdeal.Ffn

open Idealize.ShloMosaic Idealize.ShloMosaic.TcCoe Idealize.SL.Sem
open Cert.InReferenceIdeal Cert.InReferenceIdeal.Gen Cert.FfnMath

/-- The reference's result. -/
def grad (a : FVec Ideal S4096x2816 .bf16) (g : FVec Ideal S4096x1024 .bf16) : FVec Ideal S2816x1024 .bf16 :=
  truncf .bf16 (transpose S2816x1024 [1, 0] (transpose S1024x2816 [1, 0] (Host.dotGeneral dot_S4096x2816_S4096x1024_S2816x1024_0_0_1_1_n_n none
    (extf .f32 a bitsLt_bf16_f32) (extf .f32 g bitsLt_bf16_f32)) transposes_S2816x1024_S1024x2816_1_0)
    transposes_S1024x2816_S2816x1024_1_0) bitsLt_bf16_f32

theorem grad_at (a : FVec Ideal S4096x2816 .bf16) (g : FVec Ideal S4096x1024 .bf16) (p : Fin 2816) (q : Fin 1024) :
    grad a g (ix2 p q) = ∑ k : Fin 4096, a (ix2 k p) * g (ix2 k q) := by
  pointwise [grad]

end Cert.InReferenceIdeal.Ffn

namespace Cert.InIdeal.Ffn

open Idealize.ShloMosaic Idealize.ShloMosaic.TcCoe Idealize.SL.Sem
open Cert.InIdeal Cert.InIdeal.Gen Cert.FfnMath
open Cert.InReferenceIdeal.Ffn (grad grad_at)

theorem pay1_at (j : S1408x1024.Idx) : k0_pay1 (F := Ideal) j = 0 := by
  pointwise [k0_pay1]

theorem pay2_at (s : FVec Ideal S1408x1024 .f32) (a : FVec Ideal S1024x1408 .bf16) (g : FVec Ideal S1024x1024 .bf16) (p : Fin 1408) (q : Fin 1024) :
    k0_pay2 (F := Ideal) s a g (ix2 p q) = s (ix2 p q) + ∑ k : Fin 1024, a (ix2 k p) * g (ix2 k q) := by
  pointwise [k0_pay2]

theorem pay3_at (s : FVec Ideal S1408x1024 .f32) (j : S1408x1024.Idx) : k0_pay3 (F := Ideal) s j = s j := by
  pointwise [k0_pay3]

/-- Row `k` of the group `s` of rows, and column `p` of the block `i` of columns. -/
def row (s : Fin 4) (k : Fin 1024) : Fin 4096 := ⟨s.val * 1024 + k.val, by omega⟩
def lane (i : Fin 2) (p : Fin 1408) : Fin 2816 := ⟨i.val * 1408 + p.val, by omega⟩

/-- The block of columns and the group of rows of a point. -/
def blkOf (t : Fin cfg0.N) : Fin 2 := ⟨t.val / 4, by have h : t.val < 8 := t.isLt; omega⟩
def grpOf (t : Fin cfg0.N) : Fin 4 := ⟨t.val % 4, by omega⟩

theorem win0_at (t : Fin cfg0.N) : win0_0.index t (0 : Fin 2) = (grpOf t).val ∧ win0_0.index t (1 : Fin 2) = (blkOf t).val :=
  (by decide +kernel : ∀ t : Fin grid0.N, win0_0.index t (0 : Fin 2) = (grpOf t).val ∧ win0_0.index t (1 : Fin 2) = (blkOf t).val) t
theorem win1_at (t : Fin cfg0.N) : win0_1.index t (0 : Fin 2) = (grpOf t).val ∧ win0_1.index t (1 : Fin 2) = 0 :=
  (by decide +kernel : ∀ t : Fin grid0.N, win0_1.index t (0 : Fin 2) = (grpOf t).val ∧ win0_1.index t (1 : Fin 2) = 0) t
theorem win2_at (t : Fin cfg0.N) : win0_2.index t (0 : Fin 2) = (blkOf t).val ∧ win0_2.index t (1 : Fin 2) = 0 :=
  (by decide +kernel : ∀ t : Fin grid0.N, win0_2.index t (0 : Fin 2) = (blkOf t).val ∧ win0_2.index t (1 : Fin 2) = 0) t

variable (m : (ℓ : Loc nD τ sig) → Buf (Elt Ideal) ℓ) (c : Dev nD) (t : Fin cfg0.N)

abbrev arg0 : FVec Ideal S4096x2816 .bf16 := m ((c : Thread nD τ).loc main_arg0)
abbrev arg1 : FVec Ideal S4096x1024 .bf16 := m ((c : Thread nD τ).loc main_arg1)

theorem block0 (k : Fin 1024) (p : Fin 1408) : iblk m c 0 t (ix2 k p) = arg0 m c (ix2 (row (grpOf t) k) (lane (blkOf t) p)) :=
  congrArg (V m c main_arg0) (Shape.idx_ext₂
    (by show win0_0.index t (0 : Fin 2) * 1024 + 1 * k.val = (grpOf t).val * 1024 + k.val; rw [(win0_at t).1]; omega)
    (by show win0_0.index t (1 : Fin 2) * 1408 + 1 * p.val = (blkOf t).val * 1408 + p.val; rw [(win0_at t).2]; omega))
theorem block1 (k q : Fin 1024) : iblk m c 1 t (ix2 k q) = arg1 m c (ix2 (row (grpOf t) k) q) :=
  congrArg (V m c main_arg1) (Shape.idx_ext₂
    (by show win0_1.index t (0 : Fin 2) * 1024 + 1 * k.val = (grpOf t).val * 1024 + k.val; rw [(win1_at t).1]; omega)
    (by show win0_1.index t (1 : Fin 2) * 1024 + 1 * q.val = q.val; rw [(win1_at t).2]; omega))

theorem first (h0 : t.val % 4 = 0) : (outsAt0 m c t.val t.isLt).2 = k0_pay2 (F := Ideal) (k0_pay1 (F := Ideal)) (iblk m c 0 t) (iblk m c 1 t) := by
  rw [outsAt0_A m c t h0 (by omega)]
  dsimp only
  frame_out

theorem later (h0 : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    frame_out
    simp only [read_unread_whole]
  · rw [outsAt0_B m c t h0 h1]
    dsimp only
    frame_out
    simp only [read_unread_whole]

theorem written (h1 : t.val % 4 = 3) : (outsAt0 m c t.val t.isLt).1 = k0_pay3 (F := Ideal) (outsAt0 m c t.val t.isLt).2 := by
  rw [later m c t (by omega), outsAt0_C m c t (by omega) h1]
  dsimp only
  frame_out
  simp only [read_unread_whole]

/-- What a point adds to the block that is being accumulated. -/
def term (t : Fin cfg0.N) (i : S1408x1024.Idx) : EReal :=
  ∑ k : Fin 1024, arg0 m c (ix2 (row (grpOf t) k) (lane (blkOf t) (i 0 : Fin 1408))) * arg1 m c (ix2 (row (grpOf t) k) (i 1 : Fin 1024))

theorem add_at (s : FVec Ideal S1408x1024 .f32) (i : S1408x1024.Idx) :
    k0_pay2 (F := Ideal) s (iblk m c 0 t) (iblk m c 1 t) i = s i + term m c t i := by
  have e : (ix2 (i 0 : Fin 1408) (i 1 : Fin 1024) : S1408x1024.Idx) = i := Shape.idx_ext₂ rfl rfl
  have h := pay2_at s (iblk m c 0 t) (iblk m c 1 t) (i 0 : Fin 1408) (i 1 : Fin 1024)
  rw [e] at h
  rw [h]
  exact congrArg (s i + ·) (Finset.sum_congr rfl fun k _ =>
    congrArg₂ (· * ·) (block0 m c t k (i 0 : Fin 1408)) (block1 m c t k (i 1 : Fin 1024)))

/-- The block after its four groups of rows. -/
theorem block_sum (h1 : t.val % 4 = 3) (p : Fin 1408) (q : Fin 1024) : (outsAt0 m c t.val t.isLt).2 (ix2 p q)
    = ∑ k : Fin 4096, arg0 m c (ix2 k (lane (blkOf t) p)) * arg1 m c (ix2 k q) := by
  rw [Pipeline.eq_sum_fin_of_reset_step_apply_of_flush (fun n h => (outsAt0 m c n h).2) 4 (fun _ => (0 : EReal)) (term m c)
    (fun t h i => by
      rw [first m c t h, add_at, pay1_at])
    (fun t h i => by
      rw [later m c t h, add_at]) t h1 (ix2 p q), zero_add,
    Fin.sum_univ_tiles 4 1024 rfl (fun k : Fin 4096 => arg0 m c (ix2 k (lane (blkOf t) p)) * arg1 m c (ix2 k q))]
  refine Finset.sum_congr rfl fun s _ => Finset.sum_congr rfl fun k _ => ?_
  have hs : grpOf ⟨4 * (t.val / 4) + s.val, Pipeline.run_point_lt_of_flush t h1 s⟩ = s := Fin.ext (by show (4 * (t.val / 4) + s.val) % 4 = s.val; omega)
  have hb : blkOf ⟨4 * (t.val / 4) + s.val, Pipeline.run_point_lt_of_flush t h1 s⟩ = blkOf t := Fin.ext (by show (4 * (t.val / 4) + s.val) / 4 = t.val / 4; omega)
  rw [hs, hb]
  rfl

theorem after_at (h1 : t.val % 4 = 3) (p : Fin 1408) (q : Fin 1024) : (outsAt0 m c t.val t.isLt).1 (ix2 p q)
    = grad (arg0 m c) (arg1 m c) (ix2 (lane (blkOf t) p) q) := by
  rw [written m c t h1, pay3_at, block_sum m c t h1, grad_at]

theorem array : (dats m 0 c).arrAt 2 cfg0.N = grad (arg0 m c) (arg1 m c) := by
  refine (dats m 0 c).arrAt_eq_of_cover 2 _ (fun t hf => ?_) (fun i => ?_)
  · have h3 : t.val % 4 = 3 := (flush0_2 t).mp hf
    show (cfg0.win 2).cut (grid0.coords t) ((dats m 0 c).after 2 t) = _
    rw [after0_2]
    funext x
    have e1 : ((cfg0.win 2).xinj (grid0.coords t) x : S1408x1024.Idx) = ix2 (x 0 : Fin 1408) (x 1 : Fin 1024) := Shape.idx_ext₂ rfl rfl
    have e2 : (ix2 (lane (blkOf t) (x 0 : Fin 1408)) (x 1 : Fin 1024) : S2816x1024.Idx) = ((cfg0.win 2).blk t).view.emb x := by
      refine Shape.idx_ext₂ ?_ ?_
      · show (blkOf t).val * 1408 + (x 0).val = win0_2.index t (0 : Fin 2) * 1408 + 1 * (x 0).val
        rw [(win2_at t).1]; omega
      · show (x 1).val = win0_2.index t (1 : Fin 2) * 1024 + 1 * (x 1).val
        rw [(win2_at t).2]; omega
    show (outsAt0 m c t.val t.isLt).1 ((cfg0.win 2).xinj (grid0.coords t) x) = grad (arg0 m c) (arg1 m c) (((cfg0.win 2).blk t).view.emb x)
    exact (congrArg (outsAt0 m c t.val t.isLt).1 e1).trans ((after_at m c t h3 (x 0 : Fin 1408) (x 1)).trans (congrArg (grad (arg0 m c) (arg1 m c)) e2))
  · have hi0 : (i 0).val < 2816 := (i 0).isLt
    have hi1 : (i 1).val < 1024 := (i 1).isLt
    let t : Fin cfg0.N := ⟨4 * ((i 0).val / 1408) + 3, by show _ < 8; omega⟩
    refine ⟨t, (flush0_2 t).mpr (by show (4 * ((i 0).val / 1408) + 3) % 4 = 3; omega), ?_⟩
    show i ∈ ((View.whole main_v0).slice (win0_2.rect t)).set
    rw [View.set_slice_whole]
    refine Rect.mem_set_unit.mpr fun ax => ?_
    fin_cases ax
    · show win0_2.index t (0 : Fin 2) * 1408 ≤ (i 0).val ∧ (i 0).val < win0_2.index t (0 : Fin 2) * 1408 + 1408
      rw [(win2_at t).1]
      show (4 * ((i 0).val / 1408) + 3) / 4 * 1408 ≤ _ ∧ _ < (4 * ((i 0).val / 1408) + 3) / 4 * 1408 + 1408
      omega
    · show win0_2.index t (1 : Fin 2) * 1024 ≤ (i 1).val ∧ (i 1).val < win0_2.index t (1 : Fin 2) * 1024 + 1024
      rw [(win2_at t).2]; omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.InIdeal.Ffn

namespace Cert.FfnIn

open Idealize.ShloMosaic Idealize.ShloMosaic.TcCoe Idealize.SL.Sem

theorem frame_kernel : Cert.quiescent_In (hIn := Cert.In.Gen.facts) := fun m ρ _ => Cert.In.Gen.frame m ρ
theorem frame_ideal : Cert.quiescent_InIdeal (hInIdeal := Cert.InIdeal.Gen.facts) := fun m ρ _ => Cert.InIdeal.Gen.frame m ρ
theorem frame_reference : Cert.quiescent_InReferenceIdeal (hInReferenceIdeal := Cert.InReferenceIdeal.Gen.facts) := fun m ρ _ =>
  (θ_run Cert.InReferenceIdeal.defs _ _).mono (fun r h => ⟨fun c => (h c).2, sem_eq_zero_of_no_sems (by decide) r.2⟩) (Cert.InReferenceIdeal.Value.run m ρ)
theorem preserves : Cert.preserves_In_InIdeal := trivial

theorem algebraic : Cert.algebraic_InIdeal_InReferenceIdeal (hInIdeal := Cert.InIdeal.Gen.facts)
    (hInReferenceIdeal := Cert.InReferenceIdeal.Gen.facts) := by
  intro m ρ m' ρ' _ agree
  refine ⟨_, Cert.InIdeal.Ffn.run m ρ, (θ_run Cert.InReferenceIdeal.defs _ _).mono (fun r h c => ?_) (Cert.InReferenceIdeal.Value.run m' ρ')⟩
  obtain ⟨e0, e1⟩ := agree c
  refine ⟨(h c).1.trans ?_, (h c).2⟩
  rw [e0, e1]
  rfl

end Cert.FfnIn
end
end
-- ==== Proof.FfnDown.lean ====
/- The gradient of the feed-forward's second weight: the kernel's blocks, accumulated over four groups of rows, are the
   reference's. -/
module

public import proofs.«01_k».proof.Defs
public import proofs.«01_k».proof.Proof.FfnMath
public import proofs.«01_k».proof.Proof.Gen.Down.Frame
public import proofs.«01_k».proof.Proof.Gen.DownIdeal.Frame
public import proofs.«01_k».proof.Proof.Gen.DownReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.DownReferenceIdeal.Ffn

open Idealize.ShloMosaic Idealize.ShloMosaic.TcCoe Idealize.SL.Sem
open Cert.DownReferenceIdeal Cert.DownReferenceIdeal.Gen Cert.FfnMath

/-- The reference's result. -/
def grad (a : FVec Ideal S4096x2816 .bf16) (g : FVec Ideal S4096x1024 .f32) : FVec Ideal S2816x1024 .bf16 :=
  truncf .bf16 (transpose S2816x1024 [1, 0] (Host.dotGeneral dot_S4096x1024_S4096x2816_S1024x2816_0_0_1_1_n_n none
    (mulf (broadcastInDim S4096x1024 ![] bcast_S_S4096x1024 (constant S_ .f32 0x3F000000#32)) g) (extf .f32 a bitsLt_bf16_f32))
    transposes_S1024x2816_S2816x1024_1_0) bitsLt_bf16_f32

theorem grad_at (a : FVec Ideal S4096x2816 .bf16) (g : FVec Ideal S4096x1024 .f32) (p : Fin 2816) (q : Fin 1024) :
    grad a g (ix2 p q) = half * ∑ k : Fin 4096, a (ix2 k p) * g (ix2 k q) := by
  rw [← sum_half]
  pointwise [grad]
  exact Finset.sum_congr rfl fun k _ => by rw [mul_assoc, mul_comm (g _)]; rfl

end Cert.DownReferenceIdeal.Ffn

namespace Cert.DownIdeal.Ffn

open Idealize.ShloMosaic Idealize.ShloMosaic.TcCoe Idealize.SL.Sem
open Cert.DownIdeal Cert.DownIdeal.Gen Cert.FfnMath
open Cert.DownReferenceIdeal.Ffn (grad grad_at)

theorem pay1_at (j : S1408x1024.Idx) : k0_pay1 (F := Ideal) j = 0 := by
  pointwise [k0_pay1]

theorem pay2_at (s : FVec Ideal S1408x1024 .f32) (a : FVec Ideal S1024x1408 .bf16) (g : FVec Ideal S1024x1024 .f32) (p : Fin 1408) (q : Fin 1024) :
    k0_pay2 (F := Ideal) s a g (ix2 p q) = s (ix2 p q) + ∑ k : Fin 1024, a (ix2 k p) * g (ix2 k q) := by
  pointwise [k0_pay2]

theorem pay3_at (s : FVec Ideal S1408x1024 .f32) (j : S1408x1024.Idx) : k0_pay3 (F := Ideal) s j = s j * half := by
  pointwise [k0_pay3]
  rfl

/-- Row `k` of the group `s` of rows, and column `p` of the block `i` of columns. -/
def row (s : Fin 4) (k : Fin 1024) : Fin 4096 := ⟨s.val * 1024 + k.val, by omega⟩
def lane (i : Fin 2) (p : Fin 1408) : Fin 2816 := ⟨i.val * 1408 + p.val, by omega⟩

/-- The block of columns and the group of rows of a point. -/
def blkOf (t : Fin cfg0.N) : Fin 2 := ⟨t.val / 4, by have h : t.val < 8 := t.isLt; omega⟩
def grpOf (t : Fin cfg0.N) : Fin 4 := ⟨t.val % 4, by omega⟩

theorem win0_at (t : Fin cfg0.N) : win0_0.index t (0 : Fin 2) = (grpOf t).val ∧ win0_0.index t (1 : Fin 2) = (blkOf t).val :=
  (by decide +kernel : ∀ t : Fin grid0.N, win0_0.index t (0 : Fin 2) = (grpOf t).val ∧ win0_0.index t (1 : Fin 2) = (blkOf t).val) t
theorem win1_at (t : Fin cfg0.N) : win0_1.index t (0 : Fin 2) = (grpOf t).val ∧ win0_1.index t (1 : Fin 2) = 0 :=
  (by decide +kernel : ∀ t : Fin grid0.N, win0_1.index t (0 : Fin 2) = (grpOf t).val ∧ win0_1.index t (1 : Fin 2) = 0) t
theorem win2_at (t : Fin cfg0.N) : win0_2.index t (0 : Fin 2) = (blkOf t).val ∧ win0_2.index t (1 : Fin 2) = 0 :=
  (by decide +kernel : ∀ t : Fin grid0.N, win0_2.index t (0 : Fin 2) = (blkOf t).val ∧ win0_2.index t (1 : Fin 2) = 0) t

variable (m : (ℓ : Loc nD τ sig) → Buf (Elt Ideal) ℓ) (c : Dev nD) (t : Fin cfg0.N)

abbrev arg0 : FVec Ideal S4096x2816 .bf16 := m ((c : Thread nD τ).loc main_arg0)
abbrev arg1 : FVec Ideal S4096x1024 .f32 := m ((c : Thread nD τ).loc main_arg1)

theorem block0 (k : Fin 1024) (p : Fin 1408) : iblk m c 0 t (ix2 k p) = arg0 m c (ix2 (row (grpOf t) k) (lane (blkOf t) p)) :=
  congrArg (V m c main_arg0) (Shape.idx_ext₂
    (by show win0_0.index t (0 : Fin 2) * 1024 + 1 * k.val = (grpOf t).val * 1024 + k.val; rw [(win0_at t).1]; omega)
    (by show win0_0.index t (1 : Fin 2) * 1408 + 1 * p.val = (blkOf t).val * 1408 + p.val; rw [(win0_at t).2]; omega))
theorem block1 (k q : Fin 1024) : iblk m c 1 t (ix2 k q) = arg1 m c (ix2 (row (grpOf t) k) q) :=
  congrArg (V m c main_arg1) (Shape.idx_ext₂
    (by show win0_1.index t (0 : Fin 2) * 1024 + 1 * k.val = (grpOf t).val * 1024 + k.val; rw [(win1_at t).1]; omega)
    (by show win0_1.index t (1 : Fin 2) * 1024 + 1 * q.val = q.val; rw [(win1_at t).2]; omega))

theorem first (h0 : t.val % 4 = 0) : (outsAt0 m c t.val t.isLt).2 = k0_pay2 (F := Ideal) (k0_pay1 (F := Ideal)) (iblk m c 0 t) (iblk m c 1 t) := by
  rw [outsAt0_A m c t h0 (by omega)]
  dsimp only
  frame_out

theorem later (h0 : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    frame_out
    simp only [read_unread_whole]
  · rw [outsAt0_B m c t h0 h1]
    dsimp only
    frame_out
    simp only [read_unread_whole]

theorem written (h1 : t.val % 4 = 3) : (outsAt0 m c t.val t.isLt).1 = k0_pay3 (F := Ideal) (outsAt0 m c t.val t.isLt).2 := by
  rw [later m c t (by omega), outsAt0_C m c t (by omega) h1]
  dsimp only
  frame_out
  simp only [read_unread_whole]

/-- What a point adds to the block that is being accumulated. -/
def term (t : Fin cfg0.N) (i : S1408x1024.Idx) : EReal :=
  ∑ k : Fin 1024, arg0 m c (ix2 (row (grpOf t) k) (lane (blkOf t) (i 0 : Fin 1408))) * arg1 m c (ix2 (row (grpOf t) k) (i 1 : Fin 1024))

theorem add_at (s : FVec Ideal S1408x1024 .f32) (i : S1408x1024.Idx) :
    k0_pay2 (F := Ideal) s (iblk m c 0 t) (iblk m c 1 t) i = s i + term m c t i := by
  have e : (ix2 (i 0 : Fin 1408) (i 1 : Fin 1024) : S1408x1024.Idx) = i := Shape.idx_ext₂ rfl rfl
  have h := pay2_at s (iblk m c 0 t) (iblk m c 1 t) (i 0 : Fin 1408) (i 1 : Fin 1024)
  rw [e] at h
  rw [h]
  exact congrArg (s i + ·) (Finset.sum_congr rfl fun k _ =>
    congrArg₂ (· * ·) (block0 m c t k (i 0 : Fin 1408)) (block1 m c t k (i 1 : Fin 1024)))

/-- The block after its four groups of rows. -/
theorem block_sum (h1 : t.val % 4 = 3) (p : Fin 1408) (q : Fin 1024) : (outsAt0 m c t.val t.isLt).2 (ix2 p q)
    = ∑ k : Fin 4096, arg0 m c (ix2 k (lane (blkOf t) p)) * arg1 m c (ix2 k q) := by
  rw [Pipeline.eq_sum_fin_of_reset_step_apply_of_flush (fun n h => (outsAt0 m c n h).2) 4 (fun _ => (0 : EReal)) (term m c)
    (fun t h i => by
      rw [first m c t h, add_at, pay1_at])
    (fun t h i => by
      rw [later m c t h, add_at]) t h1 (ix2 p q), zero_add,
    Fin.sum_univ_tiles 4 1024 rfl (fun k : Fin 4096 => arg0 m c (ix2 k (lane (blkOf t) p)) * arg1 m c (ix2 k q))]
  refine Finset.sum_congr rfl fun s _ => Finset.sum_congr rfl fun k _ => ?_
  have hs : grpOf ⟨4 * (t.val / 4) + s.val, Pipeline.run_point_lt_of_flush t h1 s⟩ = s := Fin.ext (by show (4 * (t.val / 4) + s.val) % 4 = s.val; omega)
  have hb : blkOf ⟨4 * (t.val / 4) + s.val, Pipeline.run_point_lt_of_flush t h1 s⟩ = blkOf t := Fin.ext (by show (4 * (t.val / 4) + s.val) / 4 = t.val / 4; omega)
  rw [hs, hb]
  rfl

theorem after_at (h1 : t.val % 4 = 3) (p : Fin 1408) (q : Fin 1024) : (outsAt0 m c t.val t.isLt).1 (ix2 p q)
    = grad (arg0 m c) (arg1 m c) (ix2 (lane (blkOf t) p) q) := by
  rw [written m c t h1, pay3_at, block_sum m c t h1, grad_at, mul_comm]

theorem array : (dats m 0 c).arrAt 2 cfg0.N = grad (arg0 m c) (arg1 m c) := by
  refine (dats m 0 c).arrAt_eq_of_cover 2 _ (fun t hf => ?_) (fun i => ?_)
  · have h3 : t.val % 4 = 3 := (flush0_2 t).mp hf
    show (cfg0.win 2).cut (grid0.coords t) ((dats m 0 c).after 2 t) = _
    rw [after0_2]
    funext x
    have e1 : ((cfg0.win 2).xinj (grid0.coords t) x : S1408x1024.Idx) = ix2 (x 0 : Fin 1408) (x 1 : Fin 1024) := Shape.idx_ext₂ rfl rfl
    have e2 : (ix2 (lane (blkOf t) (x 0 : Fin 1408)) (x 1 : Fin 1024) : S2816x1024.Idx) = ((cfg0.win 2).blk t).view.emb x := by
      refine Shape.idx_ext₂ ?_ ?_
      · show (blkOf t).val * 1408 + (x 0).val = win0_2.index t (0 : Fin 2) * 1408 + 1 * (x 0).val
        rw [(win2_at t).1]; omega
      · show (x 1).val = win0_2.index t (1 : Fin 2) * 1024 + 1 * (x 1).val
        rw [(win2_at t).2]; omega
    show (outsAt0 m c t.val t.isLt).1 ((cfg0.win 2).xinj (grid0.coords t) x) = grad (arg0 m c) (arg1 m c) (((cfg0.win 2).blk t).view.emb x)
    exact (congrArg (outsAt0 m c t.val t.isLt).1 e1).trans ((after_at m c t h3 (x 0 : Fin 1408) (x 1)).trans (congrArg (grad (arg0 m c) (arg1 m c)) e2))
  · have hi0 : (i 0).val < 2816 := (i 0).isLt
    have hi1 : (i 1).val < 1024 := (i 1).isLt
    let t : Fin cfg0.N := ⟨4 * ((i 0).val / 1408) + 3, by show _ < 8; omega⟩
    refine ⟨t, (flush0_2 t).mpr (by show (4 * ((i 0).val / 1408) + 3) % 4 = 3; omega), ?_⟩
    show i ∈ ((View.whole main_v0).slice (win0_2.rect t)).set
    rw [View.set_slice_whole]
    refine Rect.mem_set_unit.mpr fun ax => ?_
    fin_cases ax
    · show win0_2.index t (0 : Fin 2) * 1408 ≤ (i 0).val ∧ (i 0).val < win0_2.index t (0 : Fin 2) * 1408 + 1408
      rw [(win2_at t).1]
      show (4 * ((i 0).val / 1408) + 3) / 4 * 1408 ≤ _ ∧ _ < (4 * ((i 0).val / 1408) + 3) / 4 * 1408 + 1408
      omega
    · show win0_2.index t (1 : Fin 2) * 1024 ≤ (i 1).val ∧ (i 1).val < win0_2.index t (1 : Fin 2) * 1024 + 1024
      rw [(win2_at t).2]; omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.DownIdeal.Ffn

namespace Cert.FfnDown

open Idealize.ShloMosaic Idealize.ShloMosaic.TcCoe Idealize.SL.Sem

theorem frame_kernel : Cert.quiescent_Down (hDown := Cert.Down.Gen.facts) := fun m ρ _ => Cert.Down.Gen.frame m ρ
theorem frame_ideal : Cert.quiescent_DownIdeal (hDownIdeal := Cert.DownIdeal.Gen.facts) := fun m ρ _ => Cert.DownIdeal.Gen.frame m ρ
theorem frame_reference : Cert.quiescent_DownReferenceIdeal (hDownReferenceIdeal := Cert.DownReferenceIdeal.Gen.facts) := fun m ρ _ =>
  (θ_run Cert.DownReferenceIdeal.defs _ _).mono (fun r h => ⟨fun c => (h c).2, sem_eq_zero_of_no_sems (by decide) r.2⟩) (Cert.DownReferenceIdeal.Value.run m ρ)
theorem preserves : Cert.preserves_Down_DownIdeal := trivial

theorem algebraic : Cert.algebraic_DownIdeal_DownReferenceIdeal (hDownIdeal := Cert.DownIdeal.Gen.facts)
    (hDownReferenceIdeal := Cert.DownReferenceIdeal.Gen.facts) := by
  intro m ρ m' ρ' _ agree
  refine ⟨_, Cert.DownIdeal.Ffn.run m ρ, (θ_run Cert.DownReferenceIdeal.defs _ _).mono (fun r h c => ?_) (Cert.DownReferenceIdeal.Value.run m' ρ')⟩
  obtain ⟨e0, e1⟩ := agree c
  refine ⟨(h c).1.trans ?_, (h c).2⟩
  rw [e0, e1]
  rfl

end Cert.FfnDown
end
end
-- ==== Proof.FfnGates.lean ====
/- The gradients of the feed-forward's gate and of its other factor: the kernel's blocks are the reference's. -/
module

public import proofs.«01_k».proof.Defs
public import proofs.«01_k».proof.Proof.FfnMath
public import proofs.«01_k».proof.Proof.Gen.Gates.Frame
public import proofs.«01_k».proof.Proof.Gen.GatesIdeal.Frame
public import proofs.«01_k».proof.Proof.Gen.GatesReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.GatesReferenceIdeal.Ffn

open Idealize.ShloMosaic Idealize.ShloMosaic.TcCoe Idealize.SL.Sem
open Cert.GatesReferenceIdeal Cert.GatesReferenceIdeal.Gen Cert.FfnMath

/-- The reference's gradient of the activation. -/
def dact (d : FVec Ideal S4096x1024 .f32) (w : FVec Ideal S2816x1024 .bf16) : FVec Ideal S4096x2816 .f32 :=
  Host.dotGeneral dot_S4096x1024_S2816x1024_S4096x2816_1_1_0_0_n_n none
    (mulf (broadcastInDim S4096x1024 ![] bcast_S_S4096x1024 (constant S_ .f32 0x3F000000#32)) d) (extf .f32 w bitsLt_bf16_f32)

/-- The reference's sigmoid of the gate. -/
def sigR (g : FVec Ideal S4096x2816 .bf16) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf (extf .f32 g bitsLt_bf16_f32))))

/-- The reference's results. -/
def dgate (d : FVec Ideal S4096x1024 .f32) (w : FVec Ideal S2816x1024 .bf16) (g u : FVec Ideal S4096x2816 .bf16) : FVec Ideal S4096x2816 .bf16 :=
  truncf .bf16 (addf (mulf (mulf (dact d w) (extf .f32 u bitsLt_bf16_f32)) (sigR g))
    (mulf (mulf (extf .f32 g bitsLt_bf16_f32) (mulf (dact d w) (extf .f32 u bitsLt_bf16_f32)))
      (mulf (sigR g) (subf (broadcastInDim S4096x2816 ![] bcast_S_S4096x2816 (constant S_ .f32 0x3F800000#32)) (sigR g))))) bitsLt_bf16_f32
def dup (d : FVec Ideal S4096x1024 .f32) (w : FVec Ideal S2816x1024 .bf16) (g : FVec Ideal S4096x2816 .bf16) : FVec Ideal S4096x2816 .bf16 :=
  truncf .bf16 (mulf (mulf (extf .f32 g bitsLt_bf16_f32) (sigR g)) (dact d w)) bitsLt_bf16_f32

theorem dact_at (d : FVec Ideal S4096x1024 .f32) (w : FVec Ideal S2816x1024 .bf16) (p : Fin 4096) (q : Fin 2816) :
    dact d w (ix2 p q) = half * ∑ k : Fin 1024, d (ix2 p k) * w (ix2 q k) := by
  rw [← sum_half]
  pointwise [dact]
  exact Finset.sum_congr rfl fun k _ => by rw [mul_assoc]; rfl
theorem sigR_at (g : FVec Ideal S4096x2816 .bf16) (j : S4096x2816.Idx) : sigR g j = sigma (g j) := by
  unfold sigma
  pointwise [sigR]
theorem dgate_at (d : FVec Ideal S4096x1024 .f32) (w : FVec Ideal S2816x1024 .bf16) (g u : FVec Ideal S4096x2816 .bf16) (j : S4096x2816.Idx) :
    dgate d w g u j = dact d w j * u j * sigma (g j) + (g j * (dact d w j * u j)) * (sigma (g j) * (1 - sigma (g j))) := by
  rw [← sigR_at]
  pointwise [dgate]
theorem dup_at (d : FVec Ideal S4096x1024 .f32) (w : FVec Ideal S2816x1024 .bf16) (g : FVec Ideal S4096x2816 .bf16) (j : S4096x2816.Idx) :
    dup d w g j = g j * sigma (g j) * dact d w j := by
  rw [← sigR_at]
  pointwise [dup]

end Cert.GatesReferenceIdeal.Ffn

namespace Cert.GatesIdeal.Ffn

open Idealize.ShloMosaic Idealize.ShloMosaic.TcCoe Idealize.SL.Sem
open Cert.GatesIdeal Cert.GatesIdeal.Gen Cert.FfnMath Cert.GatesReferenceIdeal.Ffn

theorem pay2_at (g : FVec Ideal S512x1408 .bf16) (j : S512x1408.Idx) : k0_pay2 (F := Ideal) g j = g j := by
  pointwise [k0_pay2]
theorem pay3_at (g : FVec Ideal S512x1408 .bf16) (j : S512x1408.Idx) : k0_pay3 (F := Ideal) g j = Ideal.exp (-(g j)) := by
  rw [← zero_sub, ← pay2_at g j]
  pointwise [k0_pay3]
theorem pay4_at (g : FVec Ideal S512x1408 .bf16) (j : S512x1408.Idx) : k0_pay4 (F := Ideal) g j = 1 + Ideal.exp (-(g j)) := by
  rw [← pay3_at]
  pointwise [k0_pay4]
theorem pay5_at (g : FVec Ideal S512x1408 .bf16) (j : S512x1408.Idx) : k0_pay5 (F := Ideal) g j = sigma (g j) := by
  unfold sigma
  rw [← pay4_at]
  pointwise [k0_pay5]
theorem pay6_at (d : FVec Ideal S512x1024 .f32) (w : FVec Ideal S1408x1024 .bf16) (p : Fin 512) (q : Fin 1408) :
    k0_pay6 (F := Ideal) d w (ix2 p q) = half * ∑ k : Fin 1024, d (ix2 p k) * w (ix2 q k) := by
  pointwise [k0_pay6]
  rfl
theorem pay7_at (d : FVec Ideal S512x1024 .f32) (w : FVec Ideal S1408x1024 .bf16) (g : FVec Ideal S512x1408 .bf16) (j : S512x1408.Idx) :
    k0_pay1 (F := Ideal) (k0_pay7 (F := Ideal) d w g) j = g j * sigma (g j) * k0_pay6 (F := Ideal) d w j := by
  rw [← pay5_at, ← pay2_at g j]
  pointwise [k0_pay1, k0_pay7]
theorem pay8_at (d : FVec Ideal S512x1024 .f32) (w : FVec Ideal S1408x1024 .bf16) (g u : FVec Ideal S512x1408 .bf16) (j : S512x1408.Idx) :
    k0_pay8 (F := Ideal) d w g u j = k0_pay6 (F := Ideal) d w j * u j * sigma (g j)
      + (g j * (k0_pay6 (F := Ideal) d w j * u j)) * (sigma (g j) * (1 - sigma (g j))) := by
  rw [← slope]
  have h : k0_pay8 (F := Ideal) d w g u j = k0_pay6 (F := Ideal) d w j * u j * k0_pay5 (F := Ideal) g j
      + (0 - (0 - (k0_pay2 (F := Ideal) g j * (k0_pay6 (F := Ideal) d w j * u j))
        * Ideal.div 1 (k0_pay4 (F := Ideal) g j * k0_pay4 (F := Ideal) g j)) * k0_pay3 (F := Ideal) g j) := by
    pointwise [k0_pay8]
  rw [h, pay2_at, pay3_at, pay4_at, pay5_at]

/-- The array's row and column of a row and a column of the point's block. -/
def rowOf (t : Fin cfg0.N) (a : Fin 512) : Fin 4096 := ⟨t.val % 8 * 512 + a.val, by have h : t.val < 16 := t.isLt; omega⟩
def colOf (t : Fin cfg0.N) (a : Fin 1408) : Fin 2816 := ⟨t.val / 8 * 1408 + a.val, by have h : t.val < 16 := t.isLt; omega⟩
theorem win0_at (t : Fin cfg0.N) : win0_0.index t (0 : Fin 2) = t.val % 8 ∧ win0_0.index t (1 : Fin 2) = 0 :=
  (by decide +kernel : ∀ t : Fin grid0.N, win0_0.index t (0 : Fin 2) = t.val % 8 ∧ win0_0.index t (1 : Fin 2) = 0) t
theorem win1_at (t : Fin cfg0.N) : win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0) t
theorem win2_at (t : Fin cfg0.N) : win0_2.index t (0 : Fin 2) = t.val % 8 ∧ win0_2.index t (1 : Fin 2) = t.val / 8 :=
  (by decide +kernel : ∀ t : Fin grid0.N, win0_2.index t (0 : Fin 2) = t.val % 8 ∧ win0_2.index t (1 : Fin 2) = t.val / 8) t
theorem win3_at (t : Fin cfg0.N) : win0_3.index t (0 : Fin 2) = t.val % 8 ∧ win0_3.index t (1 : Fin 2) = t.val / 8 :=
  (by decide +kernel : ∀ t : Fin grid0.N, win0_3.index t (0 : Fin 2) = t.val % 8 ∧ win0_3.index t (1 : Fin 2) = t.val / 8) t
theorem win4_at (t : Fin cfg0.N) : win0_4.index t (0 : Fin 2) = t.val % 8 ∧ win0_4.index t (1 : Fin 2) = t.val / 8 :=
  (by decide +kernel : ∀ t : Fin grid0.N, win0_4.index t (0 : Fin 2) = t.val % 8 ∧ win0_4.index t (1 : Fin 2) = t.val / 8) t
theorem win5_at (t : Fin cfg0.N) : win0_5.index t (0 : Fin 2) = t.val % 8 ∧ win0_5.index t (1 : Fin 2) = t.val / 8 :=
  (by decide +kernel : ∀ t : Fin grid0.N, win0_5.index t (0 : Fin 2) = t.val % 8 ∧ win0_5.index t (1 : Fin 2) = t.val / 8) t

variable (m : (ℓ : Loc nD τ sig) → Buf (Elt Ideal) ℓ) (c : Dev nD) (t : Fin cfg0.N)

abbrev arg0 : FVec Ideal S4096x1024 .f32 := m ((c : Thread nD τ).loc main_arg0)
abbrev arg1 : FVec Ideal S2816x1024 .bf16 := m ((c : Thread nD τ).loc main_arg1)
abbrev arg2 : FVec Ideal S4096x2816 .bf16 := m ((c : Thread nD τ).loc main_arg2)
abbrev arg3 : FVec Ideal S4096x2816 .bf16 := m ((c : Thread nD τ).loc main_arg3)

theorem block0 (a : Fin 512) (b : Fin 1024) : iblk m c 0 t (ix2 a b) = arg0 m c (ix2 (rowOf t a) b) :=
  congrArg (V m c main_arg0) (Shape.idx_ext₂
    (by show win0_0.index t (0 : Fin 2) * 512 + 1 * a.val = t.val % 8 * 512 + a.val; rw [(win0_at t).1]; omega)
    (by show win0_0.index t (1 : Fin 2) * 1024 + 1 * b.val = b.val; rw [(win0_at t).2]; omega))
theorem block1 (a : Fin 1408) (b : Fin 1024) : iblk m c 1 t (ix2 a b) = arg1 m c (ix2 (colOf t a) b) :=
  congrArg (V m c main_arg1) (Shape.idx_ext₂
    (by show win0_1.index t (0 : Fin 2) * 1408 + 1 * a.val = t.val / 8 * 1408 + a.val; rw [(win1_at t).1]; omega)
    (by show win0_1.index t (1 : Fin 2) * 1024 + 1 * b.val = b.val; rw [(win1_at t).2]; omega))
theorem block2 (a : Fin 512) (b : Fin 1408) : iblk m c 2 t (ix2 a b) = arg2 m c (ix2 (rowOf t a) (colOf t b)) :=
  congrArg (V m c main_arg2) (Shape.idx_ext₂
    (by show win0_2.index t (0 : Fin 2) * 512 + 1 * a.val = t.val % 8 * 512 + a.val; rw [(win2_at t).1]; omega)
    (by show win0_2.index t (1 : Fin 2) * 1408 + 1 * b.val = t.val / 8 * 1408 + b.val; rw [(win2_at t).2]; omega))
theorem block3 (a : Fin 512) (b : Fin 1408) : iblk m c 3 t (ix2 a b) = arg3 m c (ix2 (rowOf t a) (colOf t b)) :=
  congrArg (V m c main_arg3) (Shape.idx_ext₂
    (by show win0_3.index t (0 : Fin 2) * 512 + 1 * a.val = t.val % 8 * 512 + a.val; rw [(win3_at t).1]; omega)
    (by show win0_3.index t (1 : Fin 2) * 1408 + 1 * b.val = t.val / 8 * 1408 + b.val; rw [(win3_at t).2]; omega))

theorem after4 : (dats m 0 c).after 4 t = k0_pay8 (F := Ideal) (iblk m c 0 t) (iblk m c 1 t) (iblk m c 2 t) (iblk m c 3 t) := by
  rw [after0_4]
  frame_out
theorem after5 : (dats m 0 c).after 5 t = k0_pay1 (F := Ideal) (k0_pay7 (F := Ideal) (iblk m c 0 t) (iblk m c 1 t) (iblk m c 2 t)) := by
  rw [after0_5]
  frame_out

theorem dact_block (p : Fin 512) (q : Fin 1408) : k0_pay6 (F := Ideal) (iblk m c 0 t) (iblk m c 1 t) (ix2 p q)
    = dact (arg0 m c) (arg1 m c) (ix2 (rowOf t p) (colOf t q)) := by
  refine (pay6_at _ _ p q).trans ?_
  rw [dact_at]
  exact congrArg (half * ·) (Finset.sum_congr rfl fun k _ => congrArg₂ (· * ·) (block0 m c t p k) (block1 m c t q k))

theorem point4 (p : Fin 512) (q : Fin 1408) : (dats m 0 c).after 4 t (ix2 p q)
    = dgate (arg0 m c) (arg1 m c) (arg2 m c) (arg3 m c) (ix2 (rowOf t p) (colOf t q)) := by
  rw [after4, dgate_at, ← dact_block m c t p q, ← block2 m c t p q, ← block3 m c t p q]
  exact pay8_at _ _ _ _ _
theorem point5 (p : Fin 512) (q : Fin 1408) : (dats m 0 c).after 5 t (ix2 p q)
    = dup (arg0 m c) (arg1 m c) (arg2 m c) (ix2 (rowOf t p) (colOf t q)) := by
  rw [after5, dup_at, ← dact_block m c t p q, ← block2 m c t p q]
  exact pay7_at _ _ _ _

theorem array4 : (dats m 0 c).arrAt 4 cfg0.N = dgate (arg0 m c) (arg1 m c) (arg2 m c) (arg3 m c) := by
  refine (dats m 0 c).arrAt_eq_of_cover 4 _ (fun t _ => ?_) (fun i => ?_)
  · show (cfg0.win 4).cut (grid0.coords t) ((dats m 0 c).after 4 t) = _
    funext x
    have e1 : ((cfg0.win 4).xinj (grid0.coords t) x : S512x1408.Idx) = ix2 (x 0 : Fin 512) (x 1 : Fin 1408) := Shape.idx_ext₂ rfl rfl
    have e2 : (ix2 (rowOf t (x 0 : Fin 512)) (colOf t (x 1 : Fin 1408)) : S4096x2816.Idx) = ((cfg0.win 4).blk t).view.emb x := by
      refine Shape.idx_ext₂ ?_ ?_
      · show t.val % 8 * 512 + (x 0).val = win0_4.index t (0 : Fin 2) * 512 + 1 * (x 0).val
        rw [(win4_at t).1]; omega
      · show t.val / 8 * 1408 + (x 1).val = win0_4.index t (1 : Fin 2) * 1408 + 1 * (x 1).val
        rw [(win4_at t).2]; omega
    show (dats m 0 c).after 4 t ((cfg0.win 4).xinj (grid0.coords t) x) = dgate (arg0 m c) (arg1 m c) (arg2 m c) (arg3 m c) (((cfg0.win 4).blk t).view.emb x)
    exact (congrArg ((dats m 0 c).after 4 t) e1).trans ((point4 m c t (x 0 : Fin 512) (x 1 : Fin 1408)).trans (congrArg (dgate (arg0 m c) (arg1 m c) (arg2 m c) (arg3 m c)) e2))
  · have hi0 : (i 0).val < 4096 := (i 0).isLt
    have hi1 : (i 1).val < 2816 := (i 1).isLt
    let t : Fin cfg0.N := ⟨(i 1).val / 1408 * 8 + (i 0).val / 512, by show _ < 16; omega⟩
    refine ⟨t, flush0_4 t, ?_⟩
    show i ∈ ((View.whole main_v0_0).slice (win0_4.rect t)).set
    rw [View.set_slice_whole]
    refine Rect.mem_set_unit.mpr fun ax => ?_
    fin_cases ax
    · show win0_4.index t (0 : Fin 2) * 512 ≤ (i 0).val ∧ (i 0).val < win0_4.index t (0 : Fin 2) * 512 + 512
      rw [(win4_at t).1]
      show ((i 1).val / 1408 * 8 + (i 0).val / 512) % 8 * 512 ≤ _ ∧ _ < ((i 1).val / 1408 * 8 + (i 0).val / 512) % 8 * 512 + 512
      omega
    · show win0_4.index t (1 : Fin 2) * 1408 ≤ (i 1).val ∧ (i 1).val < win0_4.index t (1 : Fin 2) * 1408 + 1408
      rw [(win4_at t).2]
      show ((i 1).val / 1408 * 8 + (i 0).val / 512) / 8 * 1408 ≤ _ ∧ _ < ((i 1).val / 1408 * 8 + (i 0).val / 512) / 8 * 1408 + 1408
      omega

theorem array5 : (dats m 0 c).arrAt 5 cfg0.N = dup (arg0 m c) (arg1 m c) (arg2 m c) := by
  refine (dats m 0 c).arrAt_eq_of_cover 5 _ (fun t _ => ?_) (fun i => ?_)
  · show (cfg0.win 5).cut (grid0.coords t) ((dats m 0 c).after 5 t) = _
    funext x
    have e1 : ((cfg0.win 5).xinj (grid0.coords t) x : S512x1408.Idx) = ix2 (x 0 : Fin 512) (x 1 : Fin 1408) := Shape.idx_ext₂ rfl rfl
    have e2 : (ix2 (rowOf t (x 0 : Fin 512)) (colOf t (x 1 : Fin 1408)) : S4096x2816.Idx) = ((cfg0.win 5).blk t).view.emb x := by
      refine Shape.idx_ext₂ ?_ ?_
      · show t.val % 8 * 512 + (x 0).val = win0_5.index t (0 : Fin 2) * 512 + 1 * (x 0).val
        rw [(win5_at t).1]; omega
      · show t.val / 8 * 1408 + (x 1).val = win0_5.index t (1 : Fin 2) * 1408 + 1 * (x 1).val
        rw [(win5_at t).2]; omega
    show (dats m 0 c).after 5 t ((cfg0.win 5).xinj (grid0.coords t) x) = dup (arg0 m c) (arg1 m c) (arg2 m c) (((cfg0.win 5).blk t).view.emb x)
    exact (congrArg ((dats m 0 c).after 5 t) e1).trans ((point5 m c t (x 0 : Fin 512) (x 1 : Fin 1408)).trans (congrArg (dup (arg0 m c) (arg1 m c) (arg2 m c)) e2))
  · have hi0 : (i 0).val < 4096 := (i 0).isLt
    have hi1 : (i 1).val < 2816 := (i 1).isLt
    let t : Fin cfg0.N := ⟨(i 1).val / 1408 * 8 + (i 0).val / 512, by show _ < 16; omega⟩
    refine ⟨t, flush0_5 t, ?_⟩
    show i ∈ ((View.whole main_v0_1).slice (win0_5.rect t)).set
    rw [View.set_slice_whole]
    refine Rect.mem_set_unit.mpr fun ax => ?_
    fin_cases ax
    · show win0_5.index t (0 : Fin 2) * 512 ≤ (i 0).val ∧ (i 0).val < win0_5.index t (0 : Fin 2) * 512 + 512
      rw [(win5_at t).1]
      show ((i 1).val / 1408 * 8 + (i 0).val / 512) % 8 * 512 ≤ _ ∧ _ < ((i 1).val / 1408 * 8 + (i 0).val / 512) % 8 * 512 + 512
      omega
    · show win0_5.index t (1 : Fin 2) * 1408 ≤ (i 1).val ∧ (i 1).val < win0_5.index t (1 : Fin 2) * 1408 + 1408
      rw [(win5_at t).2]
      show ((i 1).val / 1408 * 8 + (i 0).val / 512) / 8 * 1408 ≤ _ ∧ _ < ((i 1).val / 1408 * 8 + (i 0).val / 512) / 8 * 1408 + 1408
      omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = dgate (arg0 m c) (arg1 m c) (arg2 m c) (arg3 m c)
      ∧ r.2.mem ((c.tc : Thread nD τ).loc main_v0_1) = dup (arg0 m c) (arg1 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (array4 m c), ((h.1 c).1 5).trans (array5 m c), h.2.1 c⟩) (θ_run_and (run_main m ρ) (frame m ρ))

end Cert.GatesIdeal.Ffn

namespace Cert.FfnGates

open Idealize.ShloMosaic Idealize.ShloMosaic.TcCoe Idealize.SL.Sem

theorem frame_kernel : Cert.quiescent_Gates (hGates := Cert.Gates.Gen.facts) := fun m ρ _ => Cert.Gates.Gen.frame m ρ
theorem frame_ideal : Cert.quiescent_GatesIdeal (hGatesIdeal := Cert.GatesIdeal.Gen.facts) := fun m ρ _ => Cert.GatesIdeal.Gen.frame m ρ
theorem frame_reference : Cert.quiescent_GatesReferenceIdeal (hGatesReferenceIdeal := Cert.GatesReferenceIdeal.Gen.facts) := fun m ρ _ =>
  (θ_run Cert.GatesReferenceIdeal.defs _ _).mono (fun r h => ⟨fun c => (h c).2.2, sem_eq_zero_of_no_sems (by decide) r.2⟩) (Cert.GatesReferenceIdeal.Value.run m ρ)
theorem preserves : Cert.preserves_Gates_GatesIdeal := trivial

theorem algebraic : Cert.algebraic_GatesIdeal_GatesReferenceIdeal (hGatesIdeal := Cert.GatesIdeal.Gen.facts)
    (hGatesReferenceIdeal := Cert.GatesReferenceIdeal.Gen.facts) := by
  intro m ρ m' ρ' _ agree
  refine ⟨_, _, Cert.GatesIdeal.Ffn.run m ρ, (θ_run Cert.GatesReferenceIdeal.defs _ _).mono (fun r h c => ?_) (Cert.GatesReferenceIdeal.Value.run m' ρ')⟩
  obtain ⟨e0, e1, e2, e3⟩ := agree c
  refine ⟨(h c).1.trans ?_, (h c).2.1.trans ?_, (h c).2.2⟩
  · rw [e0, e1, e2, e3]
    rfl
  · rw [e0, e1, e2]
    rfl

end Cert.FfnGates
end
end
-- ==== Proof.NormMath.lean ====
/- One row of a norm and of its gradient, over the extended reals. -/
module

public import Idealize.ShloMosaic.Lib.Pointwise

set_option maxRecDepth 16384

@[expose] public section

noncomputable section

namespace Cert.NormMath

open Idealize.ShloMosaic

/-- The row's length, the small summand and minus one half, as the float literals of both programs. -/
def len : EReal := Ideal.ofBits .f32 0x44800000#32
def small : EReal := Ideal.ofBits .f32 0x358637BD#32
def minusHalf : EReal := Ideal.ofBits .f32 0xBF000000#32

/-- The row's mean square with the small summand, and the reciprocal of its root. -/
def meanSq (x : Fin 1024 → EReal) : EReal := Ideal.div (∑ k, x k * x k) len + small
def scale (x : Fin 1024 → EReal) : EReal := Ideal.rsqrt (meanSq x)

/-- What the mean square passes back to each element, before that element's factor; `y` is the gradient with the gain. -/
def back (x y : Fin 1024 → EReal) : EReal := Ideal.div ((∑ k, x k * y k) * (minusHalf * Ideal.div (scale x) (meanSq x))) len

/-- The row's gradient at an element, added to what comes in beside it. -/
def gradAt (x y e : Fin 1024 → EReal) (q : Fin 1024) : EReal := y q * scale x + x q * back x y + back x y * x q + e q

end Cert.NormMath
end
end
-- ==== Proof.NormOut.lean ====
/- A norm of the forward pass: the kernel's rows are the reference's. -/
module

public import proofs.«01_k».proof.Defs
public import proofs.«01_k».proof.Proof.NormMath
public import proofs.«01_k».proof.Proof.Gen.Norm.Frame
public import proofs.«01_k».proof.Proof.Gen.NormIdeal.Frame
public import proofs.«01_k».proof.Proof.Gen.NormReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.NormReferenceIdeal.Row

open Idealize.ShloMosaic Idealize.ShloMosaic.TcCoe Idealize.SL.Sem
open Cert.NormReferenceIdeal Cert.NormReferenceIdeal.Gen Cert.NormMath

/-- The reference's result. -/
def scales (x : FVec Ideal S4096x1024 .f32) : FVec Ideal S4096x1 .f32 :=
  Host.rsqrt (addf (Host.divf (broadcastInDim S4096x1 ![0] bcast_S4096_S4096x1_0 (Host.reduceAdd (mulf x x)
    (constant S_ .f32 0x00000000#32) reducesTo_S4096x1024_S4096_d1 h_S_)) (broadcastInDim S4096x1 ![] bcast_S_S4096x1
      (constant S_ .f32 0x44800000#32))) (broadcastInDim S4096x1 ![] bcast_S_S4096x1 (constant S_ .f32 0x358637BD#32)))
def normed (x : FVec Ideal S4096x1024 .f32) (g : FVec Ideal S1x1024 .f32) : FVec Ideal S4096x1024 .bf16 :=
  truncf .bf16 (mulf (mulf x (broadcastInDim S4096x1024 ![0, 1] bcast_S4096x1_S4096x1024_0_1 (scales x)))
    (broadcastInDim S4096x1024 ![0, 1] bcast_S1x1024_S4096x1024_0_1 g)) bitsLt_bf16_f32

theorem scales_at (x : FVec Ideal S4096x1024 .f32) (p : Fin 4096) (z : Fin 1) :
    scales x (ix2 p z) = scale fun k => x (ix2 p k) := by
  pointwise [scales]
  rfl
theorem normed_at (x : FVec Ideal S4096x1024 .f32) (g : FVec Ideal S1x1024 .f32) (p : Fin 4096) (q : Fin 1024) :
    normed x g (ix2 p q) = x (ix2 p q) * scale (fun k => x (ix2 p k)) * g (ix2 0 q) := by
  rw [← scales_at x p 0]
  pointwise [normed]

end Cert.NormReferenceIdeal.Row

namespace Cert.NormIdeal.Row

open Idealize.ShloMosaic Idealize.ShloMosaic.TcCoe Idealize.SL.Sem
open Cert.NormIdeal Cert.NormIdeal.Gen Cert.NormMath Cert.NormReferenceIdeal.Row

theorem pay1_at (x : FVec Ideal S1024x1024 .f32) (g : FVec Ideal S1x1024 .f32) (p q : Fin 1024) :
    k0_pay1 (F := Ideal) x g (ix2 p q) = x (ix2 p q) * scale (fun k => x (ix2 p k)) * g (ix2 0 q) := by
  pointwise [k0_pay1]
  rfl

/-- The array's row of a row of the point's block. -/
def row (t : Fin cfg0.N) (p : Fin 1024) : Fin 4096 := ⟨t.val * 1024 + p.val, by have h : t.val < 4 := t.isLt; omega⟩

theorem wins_at (t : Fin cfg0.N) :
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0)) t

variable (m : (ℓ : Loc nD τ sig) → Buf (Elt Ideal) ℓ) (c : Dev nD) (t : Fin cfg0.N)

abbrev arg0 : FVec Ideal S4096x1024 .f32 := m ((c : Thread nD τ).loc main_arg0)
abbrev arg1 : FVec Ideal S1x1024 .f32 := m ((c : Thread nD τ).loc main_arg1)

theorem block0 (p k : Fin 1024) : iblk m c 0 t (ix2 p k) = arg0 m c (ix2 (row t p) k) :=
  congrArg (V m c main_arg0) (Shape.idx_ext₂
    (by show win0_0.index t (0 : Fin 2) * 1024 + 1 * p.val = t.val * 1024 + p.val; rw [(wins_at t).1.1]; omega)
    (by show win0_0.index t (1 : Fin 2) * 1024 + 1 * k.val = k.val; rw [(wins_at t).1.2]; omega))
theorem block1 (k : Fin 1024) : iblk m c 1 t (ix2 0 k) = arg1 m c (ix2 0 k) :=
  congrArg (V m c main_arg1) (Shape.idx_ext₂
    (by show win0_1.index t (0 : Fin 2) * 1 + 1 * 0 = 0; rw [(wins_at t).2.1.1])
    (by show win0_1.index t (1 : Fin 2) * 1024 + 1 * k.val = k.val; rw [(wins_at t).2.1.2]; omega))

theorem after2 : (dats m 0 c).after 2 t = k0_pay1 (F := Ideal) (iblk m c 0 t) (iblk m c 1 t) := by
  rw [after0_2]
  frame_out

theorem point (p q : Fin 1024) : (dats m 0 c).after 2 t (ix2 p q) = normed (arg0 m c) (arg1 m c) (ix2 (row t p) q) := by
  rw [after2, normed_at]
  exact (pay1_at _ _ p q).trans (congrArg₂ (· * ·) (congrArg₂ (· * ·) (block0 m c t p q)
    (congrArg scale (funext fun k => block0 m c t p k))) (block1 m c t q))

theorem array : (dats m 0 c).arrAt 2 cfg0.N = normed (arg0 m c) (arg1 m c) := by
  refine (dats m 0 c).arrAt_eq_of_cover 2 _ (fun t hf => ?_) (fun i => ?_)
  · show (cfg0.win 2).cut (grid0.coords t) ((dats m 0 c).after 2 t) = _
    funext x
    have e1 : ((cfg0.win 2).xinj (grid0.coords t) x : S1024x1024.Idx) = ix2 (x 0 : Fin 1024) (x 1 : Fin 1024) := Shape.idx_ext₂ rfl rfl
    have e2 : (ix2 (row t (x 0 : Fin 1024)) (x 1 : Fin 1024) : S4096x1024.Idx) = ((cfg0.win 2).blk t).view.emb x := by
      refine Shape.idx_ext₂ ?_ ?_
      · show t.val * 1024 + (x 0).val = win0_2.index t (0 : Fin 2) * 1024 + 1 * (x 0).val
        rw [(wins_at t).2.2.1]; omega
      · show (x 1).val = win0_2.index t (1 : Fin 2) * 1024 + 1 * (x 1).val
        rw [(wins_at t).2.2.2]; omega
    show (dats m 0 c).after 2 t ((cfg0.win 2).xinj (grid0.coords t) x) = normed (arg0 m c) (arg1 m c) (((cfg0.win 2).blk t).view.emb x)
    exact (congrArg ((dats m 0 c).after 2 t) e1).trans ((point m c t (x 0 : Fin 1024) (x 1)).trans (congrArg (normed (arg0 m c) (arg1 m c)) e2))
  · have hi0 : (i 0).val < 4096 := (i 0).isLt
    have hi1 : (i 1).val < 1024 := (i 1).isLt
    let t : Fin cfg0.N := ⟨(i 0).val / 1024, by show _ < 4; omega⟩
    refine ⟨t, flush0_2 t, ?_⟩
    show i ∈ ((View.whole main_v0).slice (win0_2.rect t)).set
    rw [View.set_slice_whole]
    refine Rect.mem_set_unit.mpr fun ax => ?_
    fin_cases ax
    · show win0_2.index t (0 : Fin 2) * 1024 ≤ (i 0).val ∧ (i 0).val < win0_2.index t (0 : Fin 2) * 1024 + 1024
      rw [(wins_at t).2.2.1]
      show (i 0).val / 1024 * 1024 ≤ _ ∧ _ < (i 0).val / 1024 * 1024 + 1024
      omega
    · show win0_2.index t (1 : Fin 2) * 1024 ≤ (i 1).val ∧ (i 1).val < win0_2.index t (1 : Fin 2) * 1024 + 1024
      rw [(wins_at t).2.2.2]; omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = normed (arg0 m c) (arg1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.NormIdeal.Row

namespace Cert.NormOut

open Idealize.ShloMosaic Idealize.ShloMosaic.TcCoe Idealize.SL.Sem

theorem frame_kernel : Cert.quiescent_Norm (hNorm := Cert.Norm.Gen.facts) := fun m ρ _ => Cert.Norm.Gen.frame m ρ
theorem frame_ideal : Cert.quiescent_NormIdeal (hNormIdeal := Cert.NormIdeal.Gen.facts) := fun m ρ _ => Cert.NormIdeal.Gen.frame m ρ
theorem frame_reference : Cert.quiescent_NormReferenceIdeal (hNormReferenceIdeal := Cert.NormReferenceIdeal.Gen.facts) := fun m ρ _ =>
  (θ_run Cert.NormReferenceIdeal.defs _ _).mono (fun r h => ⟨fun c => (h c).2, sem_eq_zero_of_no_sems (by decide) r.2⟩) (Cert.NormReferenceIdeal.Value.run m ρ)
theorem preserves : Cert.preserves_Norm_NormIdeal := trivial

theorem algebraic : Cert.algebraic_NormIdeal_NormReferenceIdeal (hNormIdeal := Cert.NormIdeal.Gen.facts)
    (hNormReferenceIdeal := Cert.NormReferenceIdeal.Gen.facts) := by
  intro m ρ m' ρ' _ agree
  refine ⟨_, Cert.NormIdeal.Row.run m ρ, (θ_run Cert.NormReferenceIdeal.defs _ _).mono (fun r h c => ?_) (Cert.NormReferenceIdeal.Value.run m' ρ')⟩
  obtain ⟨e0, e1⟩ := agree c
  refine ⟨(h c).1.trans ?_, (h c).2⟩
  rw [e0, e1]
  rfl

end Cert.NormOut
end
end
-- ==== Proof.NormGrad.lean ====
/- The gradient of a norm: the kernel's rows are the reference's, and its gradient of the gain, accumulated over four groups
   of rows, is the reference's sum over all rows. -/
module

public import proofs.«01_k».proof.Defs
public import proofs.«01_k».proof.Proof.NormMath
public import proofs.«01_k».proof.Proof.Gen.NormBwd.Frame
public import proofs.«01_k».proof.Proof.Gen.NormBwdIdeal.Frame
public import proofs.«01_k».proof.Proof.Gen.NormBwdReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.NormBwdReferenceIdeal.Row

open Idealize.ShloMosaic Idealize.ShloMosaic.TcCoe Idealize.SL.Sem
open Cert.NormBwdReferenceIdeal Cert.NormBwdReferenceIdeal.Gen Cert.NormMath

/-- The rows' mean squares, the reciprocals of their roots, the gradient with the gain, and what passes back through the mean
    square. -/
def meanSqs (x : FVec Ideal S4096x1024 .f32) : FVec Ideal S4096x1 .f32 :=
  addf (Host.divf (broadcastInDim S4096x1 ![0] bcast_S4096_S4096x1_0 (Host.reduceAdd (mulf x x) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))
def scales (x : FVec Ideal S4096x1024 .f32) : FVec Ideal S4096x1 .f32 := Host.rsqrt (meanSqs x)
def gained (g : FVec Ideal S1x1024 .f32) (d : FVec Ideal S4096x1024 .bf16) : FVec Ideal S4096x1024 .f32 :=
  mulf (extf .f32 d bitsLt_bf16_f32) (broadcastInDim S4096x1024 ![0, 1] bcast_S1x1024_S4096x1024_0_1 g)
def backs (x : FVec Ideal S4096x1024 .f32) (y : FVec Ideal S4096x1024 .f32) : FVec Ideal S4096 .f32 :=
  Host.reduceAdd (Host.divf (mulf (shapeCast _ (Host.reduceAdd (mulf x y) (constant S_ .f32 0x00000000#32)
    reducesTo_S4096x1024_S4096_d1 h_S_) shapeCasts_S4096_S4096x1) (mulf (broadcastInDim S4096x1 ![] bcast_S_S4096x1
      (constant S_ .f32 0xBF000000#32)) (Host.divf (scales x) (meanSqs x))))
    (broadcastInDim S4096x1 ![] bcast_S_S4096x1 (constant S_ .f32 0x44800000#32))) (constant S_ .f32 0x00000000#32)
    reducesTo_S4096x1_S4096_d1 h_S_

/-- The reference's results. -/
def dx (x : FVec Ideal S4096x1024 .f32) (g : FVec Ideal S1x1024 .f32) (d : FVec Ideal S4096x1024 .bf16)
    (e : FVec Ideal S4096x1024 .f32) : FVec Ideal S4096x1024 .f32 :=
  addf (addf (addf (mulf (gained g d) (broadcastInDim S4096x1024 ![0, 1] bcast_S4096x1_S4096x1024_0_1 (scales x)))
    (mulf x (broadcastInDim S4096x1024 ![0] bcast_S4096_S4096x1024_0 (backs x (gained g d)))))
    (mulf (broadcastInDim S4096x1024 ![0] bcast_S4096_S4096x1024_0 (backs x (gained g d))) x)) e
def dg (x : FVec Ideal S4096x1024 .f32) (d : FVec Ideal S4096x1024 .bf16) : FVec Ideal S1x1024 .f32 :=
  shapeCast _ (Host.reduceAdd (mulf (mulf x (broadcastInDim S4096x1024 ![0, 1] bcast_S4096x1_S4096x1024_0_1 (scales x)))
    (extf .f32 d bitsLt_bf16_f32)) (constant S_ .f32 0x00000000#32) reducesTo_S4096x1024_S1024_d0 h_S_) shapeCasts_S1024_S1x1024

theorem meanSqs_at (x : FVec Ideal S4096x1024 .f32) (p : Fin 4096) (z : Fin 1) :
    meanSqs x (ix2 p z) = meanSq fun k => x (ix2 p k) := by
  pointwise [meanSqs]
  rfl
theorem scales_at (x : FVec Ideal S4096x1024 .f32) (p : Fin 4096) (z : Fin 1) :
    scales x (ix2 p z) = scale fun k => x (ix2 p k) := by
  unfold scale
  rw [← meanSqs_at x p z]
  pointwise [scales]
theorem gained_at (g : FVec Ideal S1x1024 .f32) (d : FVec Ideal S4096x1024 .bf16) (p : Fin 4096) (q : Fin 1024) :
    gained g d (ix2 p q) = d (ix2 p q) * g (ix2 0 q) := by
  pointwise [gained]
theorem backs_at (x y : FVec Ideal S4096x1024 .f32) (p : Fin 4096) :
    backs x y (ix1 p) = back (fun k => x (ix2 p k)) fun k => y (ix2 p k) := by
  unfold back
  rw [← meanSqs_at x p 0, ← scales_at x p 0]
  pointwise [backs]
  rw [Fin.sum_univ_one]
  rfl
theorem dx_at (x : FVec Ideal S4096x1024 .f32) (g : FVec Ideal S1x1024 .f32) (d : FVec Ideal S4096x1024 .bf16)
    (e : FVec Ideal S4096x1024 .f32) (p : Fin 4096) (q : Fin 1024) :
    dx x g d e (ix2 p q) = gradAt (fun k => x (ix2 p k)) (fun k => d (ix2 p k) * g (ix2 0 k)) (fun k => e (ix2 p k)) q := by
  have h : (fun k => gained g d (ix2 p k)) = fun k => d (ix2 p k) * g (ix2 0 k) := funext fun k => gained_at g d p k
  unfold gradAt
  rw [← h, ← backs_at, ← scales_at x p 0]
  pointwise [dx]
theorem dg_at (x : FVec Ideal S4096x1024 .f32) (d : FVec Ideal S4096x1024 .bf16) (z : Fin 1) (q : Fin 1024) :
    dg x d (ix2 z q) = ∑ p : Fin 4096, x (ix2 p q) * scale (fun k => x (ix2 p k)) * d (ix2 p q) := by
  pointwise [dg]
  exact Finset.sum_congr rfl fun p _ => by rw [← scales_at x p 0]

end Cert.NormBwdReferenceIdeal.Row

namespace Cert.NormBwdIdeal.Row

open Idealize.ShloMosaic Idealize.ShloMosaic.TcCoe Idealize.SL.Sem
open Cert.NormBwdIdeal Cert.NormBwdIdeal.Gen Cert.NormMath Cert.NormBwdReferenceIdeal.Row

theorem pay1_at (a b : FVec Ideal S1x1024 .f32) (j : S1x1024.Idx) : k0_pay1 (F := Ideal) a b j = b j + a j := by
  pointwise [k0_pay1]
theorem pay2_at (x : FVec Ideal S1024x1024 .f32) (p : Fin 1024) (z : Fin 1) :
    k0_pay2 (F := Ideal) x (ix2 p z) = meanSq fun k => x (ix2 p k) := by
  pointwise [k0_pay2]
  rfl
theorem pay3_at (x : FVec Ideal S1024x1024 .f32) (p : Fin 1024) (z : Fin 1) :
    k0_pay3 (F := Ideal) x (ix2 p z) = scale fun k => x (ix2 p k) := by
  unfold scale
  rw [← pay2_at x p z]
  pointwise [k0_pay3]
theorem pay5_at (x : FVec Ideal S1024x1024 .f32) (d : FVec Ideal S1024x1024 .bf16) (z : Fin 1) (q : Fin 1024) :
    k0_pay5 (F := Ideal) x d (ix2 z q) = ∑ p : Fin 1024, x (ix2 p q) * scale (fun k => x (ix2 p k)) * d (ix2 p q) := by
  pointwise [k0_pay5, k0_pay4]
  exact Finset.sum_congr rfl fun p _ => by rw [← pay3_at x p 0]
theorem pay6_at (x : FVec Ideal S1024x1024 .f32) (d : FVec Ideal S1024x1024 .bf16) (e : FVec Ideal S1024x1024 .f32)
    (g : FVec Ideal S1x1024 .f32) (p q : Fin 1024) : k0_pay6 (F := Ideal) x d e g (ix2 p q)
      = gradAt (fun k => x (ix2 p k)) (fun k => d (ix2 p k) * g (ix2 0 k)) (fun k => e (ix2 p k)) q := by
  unfold gradAt back
  rw [← pay3_at x p 0, ← pay2_at x p 0]
  pointwise [k0_pay6, k0_pay4]
  simp only [Fin.sum_univ_one]
  rfl

/-- Row `p` of the block `s` of rows. -/
def row (s : Fin 4) (p : Fin 1024) : Fin 4096 := ⟨s.val * 1024 + p.val, by omega⟩

/-- The block of rows of a point. -/
def blkOf (t : Fin cfg0.N) : Fin 4 := ⟨t.val, t.isLt⟩

theorem rows_at (t : Fin cfg0.N) :
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_4.index t (0 : Fin 2) = t.val ∧ win0_4.index t (1 : Fin 2) = 0) :=
  (by decide +kernel : ∀ t : Fin grid0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_4.index t (0 : Fin 2) = t.val ∧ win0_4.index t (1 : Fin 2) = 0)) t
theorem gains_at (t : Fin cfg0.N) :
    (win0_3.index t (0 : Fin 2) = 0 ∧ win0_3.index t (1 : Fin 2) = 0) ∧ (win0_5.index t (0 : Fin 2) = 0 ∧ win0_5.index t (1 : Fin 2) = 0) :=
  (by decide +kernel : ∀ t : Fin grid0.N,
    (win0_3.index t (0 : Fin 2) = 0 ∧ win0_3.index t (1 : Fin 2) = 0) ∧ (win0_5.index t (0 : Fin 2) = 0 ∧ win0_5.index t (1 : Fin 2) = 0)) t

variable (m : (ℓ : Loc nD τ sig) → Buf (Elt Ideal) ℓ) (c : Dev nD) (t : Fin cfg0.N)

abbrev arg0 : FVec Ideal S4096x1024 .f32 := m ((c : Thread nD τ).loc main_arg0)
abbrev arg1 : FVec Ideal S1x1024 .f32 := m ((c : Thread nD τ).loc main_arg1)
abbrev arg2 : FVec Ideal S4096x1024 .bf16 := m ((c : Thread nD τ).loc main_arg2)
abbrev arg3 : FVec Ideal S4096x1024 .f32 := m ((c : Thread nD τ).loc main_arg3)

theorem block0 (p k : Fin 1024) : iblk m c 0 t (ix2 p k) = arg0 m c (ix2 (row (blkOf t) p) k) :=
  congrArg (V m c main_arg0) (Shape.idx_ext₂
    (by show win0_0.index t (0 : Fin 2) * 1024 + 1 * p.val = t.val * 1024 + p.val; rw [(rows_at t).1.1]; omega)
    (by show win0_0.index t (1 : Fin 2) * 1024 + 1 * k.val = k.val; rw [(rows_at t).1.2]; omega))
theorem block1 (p k : Fin 1024) : iblk m c 1 t (ix2 p k) = arg2 m c (ix2 (row (blkOf t) p) k) :=
  congrArg (V m c main_arg2) (Shape.idx_ext₂
    (by show win0_1.index t (0 : Fin 2) * 1024 + 1 * p.val = t.val * 1024 + p.val; rw [(rows_at t).2.1.1]; omega)
    (by show win0_1.index t (1 : Fin 2) * 1024 + 1 * k.val = k.val; rw [(rows_at t).2.1.2]; omega))
theorem block2 (p k : Fin 1024) : iblk m c 2 t (ix2 p k) = arg3 m c (ix2 (row (blkOf t) p) k) :=
  congrArg (V m c main_arg3) (Shape.idx_ext₂
    (by show win0_2.index t (0 : Fin 2) * 1024 + 1 * p.val = t.val * 1024 + p.val; rw [(rows_at t).2.2.1.1]; omega)
    (by show win0_2.index t (1 : Fin 2) * 1024 + 1 * k.val = k.val; rw [(rows_at t).2.2.1.2]; omega))
theorem block3 (k : Fin 1024) : iblk m c 3 t (ix2 0 k) = arg1 m c (ix2 0 k) :=
  congrArg (V m c main_arg1) (Shape.idx_ext₂
    (by show win0_3.index t (0 : Fin 2) * 1 + 1 * 0 = 0; rw [(gains_at t).1.1])
    (by show win0_3.index t (1 : Fin 2) * 1024 + 1 * k.val = k.val; rw [(gains_at t).1.2]; omega))

theorem dx_written : (outsAt0 m c t.val t.isLt).1 = k0_pay6 (F := Ideal) (iblk m c 0 t) (iblk m c 1 t) (iblk m c 2 t) (iblk m c 3 t) := by
  have ht : t.val < 4 := t.isLt
  by_cases h0 : t.val % 4 = 0
  · rw [outsAt0_A m c t h0 (by omega)]
    dsimp only
    frame_out
  · rw [outsAt0_B m c t h0 (by omega)]
    dsimp only
    frame_out

theorem first (h0 : t.val % 4 = 0) : (outsAt0 m c t.val t.isLt).2 = k0_pay5 (F := Ideal) (iblk m c 0 t) (iblk m c 1 t) := by
  have ht : t.val < 4 := t.isLt
  rw [outsAt0_A m c t h0 (by omega)]
  dsimp only
  frame_out

theorem later (h0 : ¬ t.val % 4 = 0) : (outsAt0 m c t.val t.isLt).2
    = k0_pay1 (F := Ideal) (k0_pay5 (F := Ideal) (iblk m c 0 t) (iblk m c 1 t))
        (outsAt0 m c (t.val - 1) (Nat.lt_of_le_of_lt (Nat.sub_le _ _) t.isLt)).2 := by
  rw [outsAt0_B m c t h0 (by omega)]
  dsimp only
  frame_out

/-- What a point adds to the gain's gradient: the sum over its rows. -/
def term (t : Fin cfg0.N) (i : S1x1024.Idx) : EReal := ∑ p : Fin 1024,
  arg0 m c (ix2 (row (blkOf t) p) (i 1 : Fin 1024)) * scale (fun k => arg0 m c (ix2 (row (blkOf t) p) k))
    * arg2 m c (ix2 (row (blkOf t) p) (i 1 : Fin 1024))

theorem added (i : S1x1024.Idx) : k0_pay5 (F := Ideal) (iblk m c 0 t) (iblk m c 1 t) i = term m c t i := by
  have e : (ix2 (i 0 : Fin 1) (i 1 : Fin 1024) : S1x1024.Idx) = i := Shape.idx_ext₂ rfl rfl
  have h := pay5_at (iblk m c 0 t) (iblk m c 1 t) (i 0 : Fin 1) (i 1 : Fin 1024)
  rw [e] at h
  rw [h]
  exact Finset.sum_congr rfl fun p _ => congrArg₂ (· * ·) (congrArg₂ (· * ·) (block0 m c t p (i 1 : Fin 1024))
    (congrArg scale (funext fun k => block0 m c t p k))) (block1 m c t p (i 1 : Fin 1024))

theorem gain_sum (h1 : t.val % 4 = 3) (z : Fin 1) (q : Fin 1024) :
    (outsAt0 m c t.val t.isLt).2 (ix2 z q) = dg (arg0 m c) (arg2 m c) (ix2 z q) := by
  have ht : t.val < 4 := t.isLt
  rw [Pipeline.eq_sum_fin_of_reset_step_apply_of_flush (fun n h => (outsAt0 m c n h).2) 4 (fun _ => (0 : EReal)) (term m c)
    (fun t h i => by rw [first m c t h, added, zero_add])
    (fun t h i => by rw [later m c t h, pay1_at, added]) t h1 (ix2 z q), zero_add, dg_at,
    Fin.sum_univ_tiles 4 1024 rfl (fun p : Fin 4096 => arg0 m c (ix2 p q) * scale (fun k => arg0 m c (ix2 p k)) * arg2 m c (ix2 p q))]
  refine Finset.sum_congr rfl fun s _ => Finset.sum_congr rfl fun k _ => ?_
  have hs : blkOf ⟨4 * (t.val / 4) + s.val, Pipeline.run_point_lt_of_flush t h1 s⟩ = s := Fin.ext (by show 4 * (t.val / 4) + s.val = s.val; omega)
  rw [hs]
  rfl

theorem dx_point (p q : Fin 1024) : (outsAt0 m c t.val t.isLt).1 (ix2 p q)
    = dx (arg0 m c) (arg1 m c) (arg2 m c) (arg3 m c) (ix2 (row (blkOf t) p) q) := by
  rw [dx_written m c t, dx_at]
  refine (pay6_at _ _ _ _ p q).trans ?_
  exact congrFun (congr (congr (congrArg gradAt (funext fun k => block0 m c t p k))
    (funext fun k => congrArg₂ (fun a b : EReal => a * b) (block1 m c t p k) (block3 m c t k))) (funext fun k => block2 m c t p k)) q

theorem dx_array : (dats m 0 c).arrAt 4 cfg0.N = dx (arg0 m c) (arg1 m c) (arg2 m c) (arg3 m c) := by
  refine (dats m 0 c).arrAt_eq_of_cover 4 _ (fun t hf => ?_) (fun i => ?_)
  · show (cfg0.win 4).cut (grid0.coords t) ((dats m 0 c).after 4 t) = _
    rw [after0_4]
    funext x
    have e1 : ((cfg0.win 4).xinj (grid0.coords t) x : S1024x1024.Idx) = ix2 (x 0 : Fin 1024) (x 1 : Fin 1024) := Shape.idx_ext₂ rfl rfl
    have e2 : (ix2 (row (blkOf t) (x 0 : Fin 1024)) (x 1 : Fin 1024) : S4096x1024.Idx) = ((cfg0.win 4).blk t).view.emb x := by
      refine Shape.idx_ext₂ ?_ ?_
      · show t.val * 1024 + (x 0).val = win0_4.index t (0 : Fin 2) * 1024 + 1 * (x 0).val
        rw [(rows_at t).2.2.2.1]; omega
      · show (x 1).val = win0_4.index t (1 : Fin 2) * 1024 + 1 * (x 1).val
        rw [(rows_at t).2.2.2.2]; omega
    show (outsAt0 m c t.val t.isLt).1 ((cfg0.win 4).xinj (grid0.coords t) x) = dx (arg0 m c) (arg1 m c) (arg2 m c) (arg3 m c) (((cfg0.win 4).blk t).view.emb x)
    exact (congrArg (outsAt0 m c t.val t.isLt).1 e1).trans ((dx_point m c t (x 0 : Fin 1024) (x 1)).trans (congrArg (dx (arg0 m c) (arg1 m c) (arg2 m c) (arg3 m c)) e2))
  · have hi0 : (i 0).val < 4096 := (i 0).isLt
    have hi1 : (i 1).val < 1024 := (i 1).isLt
    let t : Fin cfg0.N := ⟨(i 0).val / 1024, by show _ < 4; omega⟩
    refine ⟨t, flush0_4 t, ?_⟩
    show i ∈ ((View.whole main_v0_0).slice (win0_4.rect t)).set
    rw [View.set_slice_whole]
    refine Rect.mem_set_unit.mpr fun ax => ?_
    fin_cases ax
    · show win0_4.index t (0 : Fin 2) * 1024 ≤ (i 0).val ∧ (i 0).val < win0_4.index t (0 : Fin 2) * 1024 + 1024
      rw [(rows_at t).2.2.2.1]
      show (i 0).val / 1024 * 1024 ≤ _ ∧ _ < (i 0).val / 1024 * 1024 + 1024
      omega
    · show win0_4.index t (1 : Fin 2) * 1024 ≤ (i 1).val ∧ (i 1).val < win0_4.index t (1 : Fin 2) * 1024 + 1024
      rw [(rows_at t).2.2.2.2]; omega

theorem dg_array : (dats m 0 c).arrAt 5 cfg0.N = dg (arg0 m c) (arg2 m c) := by
  refine (dats m 0 c).arrAt_eq_of_cover 5 _ (fun t hf => ?_) (fun i => ?_)
  · have h3 : t.val % 4 = 3 := (flush0_5 t).mp hf
    show (cfg0.win 5).cut (grid0.coords t) ((dats m 0 c).after 5 t) = _
    rw [after0_5]
    funext x
    have e1 : ((cfg0.win 5).xinj (grid0.coords t) x : S1x1024.Idx) = ix2 (x 0 : Fin 1) (x 1 : Fin 1024) := Shape.idx_ext₂ rfl rfl
    have e2 : (ix2 (x 0 : Fin 1) (x 1 : Fin 1024) : S1x1024.Idx) = ((cfg0.win 5).blk t).view.emb x := by
      refine Shape.idx_ext₂ ?_ ?_
      · show (x 0).val = win0_5.index t (0 : Fin 2) * 1 + 1 * (x 0).val
        rw [(gains_at t).2.1]; omega
      · show (x 1).val = win0_5.index t (1 : Fin 2) * 1024 + 1 * (x 1).val
        rw [(gains_at t).2.2]; omega
    show (outsAt0 m c t.val t.isLt).2 ((cfg0.win 5).xinj (grid0.coords t) x) = dg (arg0 m c) (arg2 m c) (((cfg0.win 5).blk t).view.emb x)
    exact (congrArg (outsAt0 m c t.val t.isLt).2 e1).trans ((gain_sum m c t h3 (x 0 : Fin 1) (x 1)).trans (congrArg (dg (arg0 m c) (arg2 m c)) e2))
  · have hi0 : (i 0).val < 1 := (i 0).isLt
    have hi1 : (i 1).val < 1024 := (i 1).isLt
    let t : Fin cfg0.N := ⟨3, by decide⟩
    refine ⟨t, (flush0_5 t).mpr rfl, ?_⟩
    show i ∈ ((View.whole main_v0_1).slice (win0_5.rect t)).set
    rw [View.set_slice_whole]
    refine Rect.mem_set_unit.mpr fun ax => ?_
    fin_cases ax
    · show win0_5.index t (0 : Fin 2) * 1 ≤ (i 0).val ∧ (i 0).val < win0_5.index t (0 : Fin 2) * 1 + 1
      rw [(gains_at t).2.1]; omega
    · show win0_5.index t (1 : Fin 2) * 1024 ≤ (i 1).val ∧ (i 1).val < win0_5.index t (1 : Fin 2) * 1024 + 1024
      rw [(gains_at t).2.2]; omega

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = dx (arg0 m c) (arg1 m c) (arg2 m c) (arg3 m c)
      ∧ r.2.mem ((c.tc : Thread nD τ).loc main_v0_1) = dg (arg0 m c) (arg2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (dx_array m c), ((h.1 c).1 5).trans (dg_array m c), h.2.1 c⟩)
    (θ_run_and (run_main m ρ) (frame m ρ))

end Cert.NormBwdIdeal.Row

namespace Cert.NormGrad

open Idealize.ShloMosaic Idealize.ShloMosaic.TcCoe Idealize.SL.Sem

theorem frame_kernel : Cert.quiescent_NormBwd (hNormBwd := Cert.NormBwd.Gen.facts) := fun m ρ _ => Cert.NormBwd.Gen.frame m ρ
theorem frame_ideal : Cert.quiescent_NormBwdIdeal (hNormBwdIdeal := Cert.NormBwdIdeal.Gen.facts) := fun m ρ _ => Cert.NormBwdIdeal.Gen.frame m ρ
theorem frame_reference : Cert.quiescent_NormBwdReferenceIdeal (hNormBwdReferenceIdeal := Cert.NormBwdReferenceIdeal.Gen.facts) := fun m ρ _ =>
  (θ_run Cert.NormBwdReferenceIdeal.defs _ _).mono (fun r h => ⟨fun c => (h c).2.2, sem_eq_zero_of_no_sems (by decide) r.2⟩) (Cert.NormBwdReferenceIdeal.Value.run m ρ)
theorem preserves : Cert.preserves_NormBwd_NormBwdIdeal := trivial

theorem algebraic : Cert.algebraic_NormBwdIdeal_NormBwdReferenceIdeal (hNormBwdIdeal := Cert.NormBwdIdeal.Gen.facts)
    (hNormBwdReferenceIdeal := Cert.NormBwdReferenceIdeal.Gen.facts) := by
  intro m ρ m' ρ' _ agree
  refine ⟨_, _, Cert.NormBwdIdeal.Row.run m ρ, (θ_run Cert.NormBwdReferenceIdeal.defs _ _).mono (fun r h c => ?_) (Cert.NormBwdReferenceIdeal.Value.run m' ρ')⟩
  obtain ⟨e0, e1, e2, e3⟩ := agree c
  refine ⟨(h c).1.trans ?_, (h c).2.1.trans ?_, (h c).2.2⟩
  · rw [e0, e1, e2, e3]; rfl
  · rw [e0, e2]; rfl

end Cert.NormGrad
end
end
-- ==== Proof.MixOut.lean ====
/- The mixer's output projection: the kernel's blocks are the reference's. -/
module

public import proofs.«01_k».proof.Defs
public import proofs.«01_k».proof.Proof.Gen.Mix.Frame
public import proofs.«01_k».proof.Proof.Gen.MixIdeal.Frame
public import proofs.«01_k».proof.Proof.Gen.MixReferenceIdeal.Run
public import Idealize.ShloMosaic.Lib.Pipeline.ValueKit
public import Idealize.ShloMosaic.Lib.Claim

set_option maxRecDepth 16384

@[expose] public section

noncomputable section

namespace Cert.MixReferenceIdeal.Proj

open Idealize.ShloMosaic
open Cert.MixReferenceIdeal Cert.MixReferenceIdeal.Gen

/-- The reference's result. -/
def out (x : FVec Ideal S4096x1024 .f32) (a : FVec Ideal S4096x1024 .bf16) (w : FVec Ideal S1024x1024 .bf16) : FVec Ideal S4096x1024 .f32 :=
  addf x (Host.dotGeneral dot_S4096x1024_S1024x1024_S4096x1024_1_0_0_1_n_n none (extf .f32 a bitsLt_bf16_f32) (extf .f32 w bitsLt_bf16_f32))

end Cert.MixReferenceIdeal.Proj

namespace Cert.MixIdeal.Proj

open Idealize.ShloMosaic Idealize.ShloMosaic.TcCoe Idealize.SL.Sem
open Cert.MixIdeal Cert.MixIdeal.Gen
open Cert.MixReferenceIdeal.Proj (out)

/-- Which block each window holds at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

theorem array : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (array m c), h.2.1 c⟩) (θ_run_and (run_main m ρ) (frame m ρ))

end Cert.MixIdeal.Proj

namespace Cert.MixOut

open Idealize.ShloMosaic Idealize.ShloMosaic.TcCoe Idealize.SL.Sem

theorem frame_kernel : Cert.quiescent_Mix (hMix := Cert.Mix.Gen.facts) := fun m ρ _ => Cert.Mix.Gen.frame m ρ
theorem frame_ideal : Cert.quiescent_MixIdeal (hMixIdeal := Cert.MixIdeal.Gen.facts) := fun m ρ _ => Cert.MixIdeal.Gen.frame m ρ
theorem frame_reference : Cert.quiescent_MixReferenceIdeal (hMixReferenceIdeal := Cert.MixReferenceIdeal.Gen.facts) := fun m ρ _ =>
  (θ_run Cert.MixReferenceIdeal.defs _ _).mono (fun r h => ⟨fun c => (h c).2, sem_eq_zero_of_no_sems (by decide) r.2⟩) (Cert.MixReferenceIdeal.Value.run m ρ)
theorem preserves : Cert.preserves_Mix_MixIdeal := trivial

theorem algebraic : Cert.algebraic_MixIdeal_MixReferenceIdeal (hMixIdeal := Cert.MixIdeal.Gen.facts)
    (hMixReferenceIdeal := Cert.MixReferenceIdeal.Gen.facts) := by
  intro m ρ m' ρ' _ agree
  refine ⟨_, Cert.MixIdeal.Proj.run m ρ, (θ_run Cert.MixReferenceIdeal.defs _ _).mono (fun r h c => ?_) (Cert.MixReferenceIdeal.Value.run m' ρ')⟩
  obtain ⟨e0, e1, e2⟩ := agree c
  refine ⟨(h c).1.trans ?_, (h c).2⟩
  rw [e0, e1, e2]
  rfl

end Cert.MixOut
end
end
-- ==== Proof.MixGrad.lean ====
/- The gradient that reaches the mixer's output through its projection: the kernel's blocks are the reference's. -/
module

public import proofs.«01_k».proof.Defs
public import proofs.«01_k».proof.Proof.Gen.MixDx.Frame
public import proofs.«01_k».proof.Proof.Gen.MixDxIdeal.Frame
public import proofs.«01_k».proof.Proof.Gen.MixDxReferenceIdeal.Run
public import Idealize.ShloMosaic.Lib.Pipeline.ValueKit
public import Idealize.ShloMosaic.Lib.Claim

set_option maxRecDepth 16384

@[expose] public section

noncomputable section

namespace Cert.MixDxReferenceIdeal.Proj

open Idealize.ShloMosaic
open Cert.MixDxReferenceIdeal Cert.MixDxReferenceIdeal.Gen

/-- The reference's result. -/
def out (a : FVec Ideal S4096x1024 .f32) (w : FVec Ideal S1024x1024 .bf16) : FVec Ideal S4096x1024 .bf16 :=
  truncf .bf16 (Host.dotGeneral dot_S4096x1024_S1024x1024_S4096x1024_1_1_0_0_n_n none a (extf .f32 w bitsLt_bf16_f32)) bitsLt_bf16_f32

end Cert.MixDxReferenceIdeal.Proj

namespace Cert.MixDxIdeal.Proj

open Idealize.ShloMosaic Idealize.ShloMosaic.TcCoe Idealize.SL.Sem
open Cert.MixDxIdeal Cert.MixDxIdeal.Gen
open Cert.MixDxReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.MixDxIdeal.Proj

namespace Cert.MixGrad

open Idealize.ShloMosaic Idealize.ShloMosaic.TcCoe Idealize.SL.Sem

theorem frame_kernel : Cert.quiescent_MixDx (hMixDx := Cert.MixDx.Gen.facts) := fun m ρ _ => Cert.MixDx.Gen.frame m ρ
theorem frame_ideal : Cert.quiescent_MixDxIdeal (hMixDxIdeal := Cert.MixDxIdeal.Gen.facts) := fun m ρ _ => Cert.MixDxIdeal.Gen.frame m ρ
theorem frame_reference : Cert.quiescent_MixDxReferenceIdeal (hMixDxReferenceIdeal := Cert.MixDxReferenceIdeal.Gen.facts) := fun m ρ _ =>
  (θ_run Cert.MixDxReferenceIdeal.defs _ _).mono (fun r h => ⟨fun c => (h c).2, sem_eq_zero_of_no_sems (by decide) r.2⟩) (Cert.MixDxReferenceIdeal.Value.run m ρ)
theorem preserves : Cert.preserves_MixDx_MixDxIdeal := trivial

theorem algebraic : Cert.algebraic_MixDxIdeal_MixDxReferenceIdeal (hMixDxIdeal := Cert.MixDxIdeal.Gen.facts)
    (hMixDxReferenceIdeal := Cert.MixDxReferenceIdeal.Gen.facts) := by
  intro m ρ m' ρ' _ agree
  refine ⟨_, Cert.MixDxIdeal.Proj.run m ρ, (θ_run Cert.MixDxReferenceIdeal.defs _ _).mono (fun r h c => ?_) (Cert.MixDxReferenceIdeal.Value.run m' ρ')⟩
  obtain ⟨e0, e1⟩ := agree c
  refine ⟨(h c).1.trans ?_, (h c).2⟩
  rw [e0, e1]
  rfl

end Cert.MixGrad
end
end
-- ==== Proof.MixWeight.lean ====
/- The gradient of the mixer's output weight: the kernel's block, accumulated over four groups of rows, is the reference's. -/
module

public import proofs.«01_k».proof.Defs
public import proofs.«01_k».proof.Proof.Gen.MixDw.Frame
public import proofs.«01_k».proof.Proof.Gen.MixDwIdeal.Frame
public import proofs.«01_k».proof.Proof.Gen.MixDwReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.MixDwReferenceIdeal.Proj

open Idealize.ShloMosaic
open Cert.MixDwReferenceIdeal Cert.MixDwReferenceIdeal.Gen

/-- The reference's result. -/
def grad (a : FVec Ideal S4096x1024 .bf16) (g : FVec Ideal S4096x1024 .f32) : FVec Ideal S1024x1024 .bf16 :=
  truncf .bf16 (transpose S1024x1024 [1, 0] (Host.dotGeneral dot_S4096x1024_S4096x1024_S1024x1024_0_0_1_1_n_n none g
    (extf .f32 a bitsLt_bf16_f32)) transposes_S1024x1024_S1024x1024_1_0) bitsLt_bf16_f32

end Cert.MixDwReferenceIdeal.Proj

namespace Cert.MixDwIdeal.Proj

open Idealize.ShloMosaic Idealize.ShloMosaic.TcCoe Idealize.SL.Sem
open Cert.MixDwIdeal Cert.MixDwIdeal.Gen
open Cert.MixDwReferenceIdeal.Proj (grad)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD) (t : Fin cfg0.N)

theorem first (h : t.val % 4 = 0) : (outsAt0 m c t.val t.isLt).2 = k0_pay2 (F := Ideal) (k0_pay1 (F := Ideal)) (iblk m c 0 t) (iblk m c 1 t) := by
  rw [outsAt0_A m c t h (by omega)]
  dsimp only
  frame_out

theorem later (h : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h h1]; dsimp only; frame_out; simp only [read_unread_whole]
  · rw [outsAt0_B m c t h h1]; dsimp only; frame_out; simp only [read_unread_whole]

theorem written (h : t.val % 4 = 3) : (outsAt0 m c t.val t.isLt).1 = k0_pay3 (F := Ideal) (outsAt0 m c t.val t.isLt).2 := by
  rw [later m c t (by omega), outsAt0_C m c t (by omega) h]
  dsimp only
  frame_out
  simp only [read_unread_whole]

theorem zero_at (i : S1024x1024.Idx) : k0_pay1 (F := Ideal) i = 0 := by
  pointwise [k0_pay1]

/-- What a group of rows adds to the block. -/
theorem add_at (s : FVec Ideal S1024x1024 .f32) (a : FVec Ideal S1024x1024 .bf16) (g : FVec Ideal S1024x1024 .f32) (i : S1024x1024.Idx) :
    k0_pay2 (F := Ideal) s a g i = s i + ∑ k : Fin 1024, g (ix2 k (i 1)) * a (ix2 k (i 0)) := by
  pointwise [k0_pay2]
  exact congrArg (s i + ·) (Finset.sum_congr rfl fun k _ => mul_comm _ _)

theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, written m c t h]
  pointwise [k0_pay3, grad]
  rw [Pipeline.eq_sum_fin_of_reset_step_apply_of_flush (fun n h => (outsAt0 m c n h).2) 4 (fun _ => (0 : EReal)) _
    (fun t h i => by rw [first m c t h, add_at, zero_at])
    (fun t h i => by rw [later m c t h, add_at]) t h, zero_add]
  have ht : t.val < 4 := t.isLt
  refine Fin.sum_mul_add_congr fun s k hl => ?_
  blk_point [iblk, V, idx t, idx ⟨_, Pipeline.run_point_lt_of_flush t h s⟩]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.MixDwIdeal.Proj

namespace Cert.MixWeight

open Idealize.ShloMosaic Idealize.ShloMosaic.TcCoe Idealize.SL.Sem

theorem frame_kernel : Cert.quiescent_MixDw (hMixDw := Cert.MixDw.Gen.facts) := fun m ρ _ => Cert.MixDw.Gen.frame m ρ
theorem frame_ideal : Cert.quiescent_MixDwIdeal (hMixDwIdeal := Cert.MixDwIdeal.Gen.facts) := fun m ρ _ => Cert.MixDwIdeal.Gen.frame m ρ
theorem frame_reference : Cert.quiescent_MixDwReferenceIdeal (hMixDwReferenceIdeal := Cert.MixDwReferenceIdeal.Gen.facts) := fun m ρ _ =>
  (θ_run Cert.MixDwReferenceIdeal.defs _ _).mono (fun r h => ⟨fun c => (h c).2, sem_eq_zero_of_no_sems (by decide) r.2⟩) (Cert.MixDwReferenceIdeal.Value.run m ρ)
theorem preserves : Cert.preserves_MixDw_MixDwIdeal := trivial

theorem algebraic : Cert.algebraic_MixDwIdeal_MixDwReferenceIdeal (hMixDwIdeal := Cert.MixDwIdeal.Gen.facts)
    (hMixDwReferenceIdeal := Cert.MixDwReferenceIdeal.Gen.facts) := by
  intro m ρ m' ρ' _ agree
  refine ⟨_, Cert.MixDwIdeal.Proj.run m ρ, (θ_run Cert.MixDwReferenceIdeal.defs _ _).mono (fun r h c => ?_) (Cert.MixDwReferenceIdeal.Value.run m' ρ')⟩
  obtain ⟨e0, e1⟩ := agree c
  refine ⟨(h c).1.trans ?_, (h c).2⟩
  rw [e0, e1]
  rfl

end Cert.MixWeight
end
end
-- ==== Proof.QueryOut.lean ====
/- The queries of the cross-attention: the kernel's blocks are the reference's. -/
module

public import proofs.«01_k».proof.Defs
public import proofs.«01_k».proof.Proof.Gen.Query.Frame
public import proofs.«01_k».proof.Proof.Gen.QueryIdeal.Frame
public import proofs.«01_k».proof.Proof.Gen.QueryReferenceIdeal.Run
public import Idealize.ShloMosaic.Lib.Pipeline.ValueKit
public import Idealize.ShloMosaic.Lib.Claim

set_option maxRecDepth 16384

@[expose] public section

noncomputable section

namespace Cert.QueryReferenceIdeal.Proj

open Idealize.ShloMosaic
open Cert.QueryReferenceIdeal Cert.QueryReferenceIdeal.Gen

/-- The reference's result. -/
def out (a : FVec Ideal S4096x1024 .bf16) (w : FVec Ideal S1024x512 .bf16) : FVec Ideal S4096x512 .f32 :=
  Host.dotGeneral dot_S4096x1024_S1024x512_S4096x512_1_0_0_1_n_n none (extf .f32 a bitsLt_bf16_f32) (extf .f32 w bitsLt_bf16_f32)

end Cert.QueryReferenceIdeal.Proj

namespace Cert.QueryIdeal.Proj

open Idealize.ShloMosaic Idealize.ShloMosaic.TcCoe Idealize.SL.Sem
open Cert.QueryIdeal Cert.QueryIdeal.Gen
open Cert.QueryReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.QueryIdeal.Proj

namespace Cert.QueryOut

open Idealize.ShloMosaic Idealize.ShloMosaic.TcCoe Idealize.SL.Sem

theorem frame_kernel : Cert.quiescent_Query (hQuery := Cert.Query.Gen.facts) := fun m ρ _ => Cert.Query.Gen.frame m ρ
theorem frame_ideal : Cert.quiescent_QueryIdeal (hQueryIdeal := Cert.QueryIdeal.Gen.facts) := fun m ρ _ => Cert.QueryIdeal.Gen.frame m ρ
theorem frame_reference : Cert.quiescent_QueryReferenceIdeal (hQueryReferenceIdeal := Cert.QueryReferenceIdeal.Gen.facts) := fun m ρ _ =>
  (θ_run Cert.QueryReferenceIdeal.defs _ _).mono (fun r h => ⟨fun c => (h c).2, sem_eq_zero_of_no_sems (by decide) r.2⟩) (Cert.QueryReferenceIdeal.Value.run m ρ)
theorem preserves : Cert.preserves_Query_QueryIdeal := trivial

theorem algebraic : Cert.algebraic_QueryIdeal_QueryReferenceIdeal (hQueryIdeal := Cert.QueryIdeal.Gen.facts)
    (hQueryReferenceIdeal := Cert.QueryReferenceIdeal.Gen.facts) := by
  intro m ρ m' ρ' _ agree
  refine ⟨_, Cert.QueryIdeal.Proj.run m ρ, (θ_run Cert.QueryReferenceIdeal.defs _ _).mono (fun r h c => ?_) (Cert.QueryReferenceIdeal.Value.run m' ρ')⟩
  obtain ⟨e0, e1⟩ := agree c
  refine ⟨(h c).1.trans ?_, (h c).2⟩
  rw [e0, e1]
  rfl

end Cert.QueryOut
end
end
-- ==== Proof.QueryGrad.lean ====
/- The gradient that reaches the queries' input through their projection: the kernel's blocks are the reference's. -/
module

public import proofs.«01_k».proof.Defs
public import proofs.«01_k».proof.Proof.Gen.QueryDx.Frame
public import proofs.«01_k».proof.Proof.Gen.QueryDxIdeal.Frame
public import proofs.«01_k».proof.Proof.Gen.QueryDxReferenceIdeal.Run
public import Idealize.ShloMosaic.Lib.Pipeline.ValueKit
public import Idealize.ShloMosaic.Lib.Claim

set_option maxRecDepth 16384

@[expose] public section

noncomputable section

namespace Cert.QueryDxReferenceIdeal.Proj

open Idealize.ShloMosaic
open Cert.QueryDxReferenceIdeal Cert.QueryDxReferenceIdeal.Gen

/-- The reference's result. -/
def out (g : FVec Ideal S4096x512 .bf16) (w : FVec Ideal S1024x512 .bf16) : FVec Ideal S4096x1024 .bf16 :=
  truncf .bf16 (Host.dotGeneral dot_S4096x512_S1024x512_S4096x1024_1_1_0_0_n_n none (extf .f32 g bitsLt_bf16_f32)
    (extf .f32 w bitsLt_bf16_f32)) bitsLt_bf16_f32

end Cert.QueryDxReferenceIdeal.Proj

namespace Cert.QueryDxIdeal.Proj

open Idealize.ShloMosaic Idealize.ShloMosaic.TcCoe Idealize.SL.Sem
open Cert.QueryDxIdeal Cert.QueryDxIdeal.Gen
open Cert.QueryDxReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.QueryDxIdeal.Proj

namespace Cert.QueryGrad

open Idealize.ShloMosaic Idealize.ShloMosaic.TcCoe Idealize.SL.Sem

theorem frame_kernel : Cert.quiescent_QueryDx (hQueryDx := Cert.QueryDx.Gen.facts) := fun m ρ _ => Cert.QueryDx.Gen.frame m ρ
theorem frame_ideal : Cert.quiescent_QueryDxIdeal (hQueryDxIdeal := Cert.QueryDxIdeal.Gen.facts) := fun m ρ _ => Cert.QueryDxIdeal.Gen.frame m ρ
theorem frame_reference : Cert.quiescent_QueryDxReferenceIdeal (hQueryDxReferenceIdeal := Cert.QueryDxReferenceIdeal.Gen.facts) := fun m ρ _ =>
  (θ_run Cert.QueryDxReferenceIdeal.defs _ _).mono (fun r h => ⟨fun c => (h c).2, sem_eq_zero_of_no_sems (by decide) r.2⟩)
    (Cert.QueryDxReferenceIdeal.Value.run m ρ)
theorem preserves : Cert.preserves_QueryDx_QueryDxIdeal := trivial

theorem algebraic : Cert.algebraic_QueryDxIdeal_QueryDxReferenceIdeal (hQueryDxIdeal := Cert.QueryDxIdeal.Gen.facts)
    (hQueryDxReferenceIdeal := Cert.QueryDxReferenceIdeal.Gen.facts) := by
  intro m ρ m' ρ' _ agree
  refine ⟨_, Cert.QueryDxIdeal.Proj.run m ρ,
    (θ_run Cert.QueryDxReferenceIdeal.defs _ _).mono (fun r h c => ?_) (Cert.QueryDxReferenceIdeal.Value.run m' ρ')⟩
  obtain ⟨e0, e1⟩ := agree c
  refine ⟨(h c).1.trans ?_, (h c).2⟩
  rw [e0, e1]
  rfl

end Cert.QueryGrad
end
end
-- ==== Proof.QueryWeight.lean ====
/- The gradient of the queries' weight: the kernel's block, accumulated over four groups of rows, is the reference's. -/
module

public import proofs.«01_k».proof.Defs
public import proofs.«01_k».proof.Proof.Gen.QueryDw.Frame
public import proofs.«01_k».proof.Proof.Gen.QueryDwIdeal.Frame
public import proofs.«01_k».proof.Proof.Gen.QueryDwReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.QueryDwReferenceIdeal.Proj

open Idealize.ShloMosaic
open Cert.QueryDwReferenceIdeal Cert.QueryDwReferenceIdeal.Gen

/-- The reference's result. -/
def grad (h : FVec Ideal S4096x1024 .bf16) (g : FVec Ideal S4096x512 .bf16) : FVec Ideal S1024x512 .bf16 :=
  truncf .bf16 (transpose S1024x512 [1, 0] (Host.dotGeneral dot_S4096x512_S4096x1024_S512x1024_0_0_1_1_n_n none
    (extf .f32 g bitsLt_bf16_f32) (extf .f32 h bitsLt_bf16_f32)) transposes_S512x1024_S1024x512_1_0) bitsLt_bf16_f32

end Cert.QueryDwReferenceIdeal.Proj

namespace Cert.QueryDwIdeal.Proj

open Idealize.ShloMosaic Idealize.ShloMosaic.TcCoe Idealize.SL.Sem
open Cert.QueryDwIdeal Cert.QueryDwIdeal.Gen
open Cert.QueryDwReferenceIdeal.Proj (grad)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD) (t : Fin cfg0.N)

theorem first (h : t.val % 4 = 0) : (outsAt0 m c t.val t.isLt).2 = k0_pay2 (F := Ideal) (k0_pay1 (F := Ideal)) (iblk m c 0 t) (iblk m c 1 t) := by
  rw [outsAt0_A m c t h (by omega)]
  dsimp only
  frame_out

theorem later (h : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h h1]; dsimp only; frame_out; simp only [read_unread_whole]
  · rw [outsAt0_B m c t h h1]; dsimp only; frame_out; simp only [read_unread_whole]

theorem written (h : t.val % 4 = 3) : (outsAt0 m c t.val t.isLt).1 = k0_pay3 (F := Ideal) (outsAt0 m c t.val t.isLt).2 := by
  rw [later m c t (by omega), outsAt0_C m c t (by omega) h]
  dsimp only
  frame_out
  simp only [read_unread_whole]

theorem zero_at (i : S1024x512.Idx) : k0_pay1 (F := Ideal) i = 0 := by
  pointwise [k0_pay1]

/-- What a group of rows adds to the block. -/
theorem add_at (s : FVec Ideal S1024x512 .f32) (a : FVec Ideal S1024x1024 .bf16) (g : FVec Ideal S1024x512 .bf16) (i : S1024x512.Idx) :
    k0_pay2 (F := Ideal) s a g i = s i + ∑ k : Fin 1024, g (ix2 k (i 1)) * a (ix2 k (i 0)) := by
  pointwise [k0_pay2]
  exact congrArg (s i + ·) (Finset.sum_congr rfl fun k _ => mul_comm _ _)

theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, written m c t h]
  pointwise [k0_pay3, grad]
  rw [Pipeline.eq_sum_fin_of_reset_step_apply_of_flush (fun n h => (outsAt0 m c n h).2) 4 (fun _ => (0 : EReal)) _
    (fun t h i => by rw [first m c t h, add_at, zero_at])
    (fun t h i => by rw [later m c t h, add_at]) t h, zero_add]
  have ht : t.val < 4 := t.isLt
  refine Fin.sum_mul_add_congr fun s k hl => ?_
  blk_point [iblk, V, idx t, idx ⟨_, Pipeline.run_point_lt_of_flush t h s⟩]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.QueryDwIdeal.Proj

namespace Cert.QueryWeight

open Idealize.ShloMosaic Idealize.ShloMosaic.TcCoe Idealize.SL.Sem

theorem frame_kernel : Cert.quiescent_QueryDw (hQueryDw := Cert.QueryDw.Gen.facts) := fun m ρ _ => Cert.QueryDw.Gen.frame m ρ
theorem frame_ideal : Cert.quiescent_QueryDwIdeal (hQueryDwIdeal := Cert.QueryDwIdeal.Gen.facts) := fun m ρ _ => Cert.QueryDwIdeal.Gen.frame m ρ
theorem frame_reference : Cert.quiescent_QueryDwReferenceIdeal (hQueryDwReferenceIdeal := Cert.QueryDwReferenceIdeal.Gen.facts) := fun m ρ _ =>
  (θ_run Cert.QueryDwReferenceIdeal.defs _ _).mono (fun r h => ⟨fun c => (h c).2, sem_eq_zero_of_no_sems (by decide) r.2⟩)
    (Cert.QueryDwReferenceIdeal.Value.run m ρ)
theorem preserves : Cert.preserves_QueryDw_QueryDwIdeal := trivial

theorem algebraic : Cert.algebraic_QueryDwIdeal_QueryDwReferenceIdeal (hQueryDwIdeal := Cert.QueryDwIdeal.Gen.facts)
    (hQueryDwReferenceIdeal := Cert.QueryDwReferenceIdeal.Gen.facts) := by
  intro m ρ m' ρ' _ agree
  refine ⟨_, Cert.QueryDwIdeal.Proj.run m ρ,
    (θ_run Cert.QueryDwReferenceIdeal.defs _ _).mono (fun r h c => ?_) (Cert.QueryDwReferenceIdeal.Value.run m' ρ')⟩
  obtain ⟨e0, e1⟩ := agree c
  refine ⟨(h c).1.trans ?_, (h c).2⟩
  rw [e0, e1]
  rfl

end Cert.QueryWeight
end
end
-- ==== Proof.ReadOut.lean ====
/- The cross-attention's output projection, whose weight is stored transposed: the kernel's blocks are the reference's. -/
module

public import proofs.«01_k».proof.Defs
public import proofs.«01_k».proof.Proof.Gen.Read.Frame
public import proofs.«01_k».proof.Proof.Gen.ReadIdeal.Frame
public import proofs.«01_k».proof.Proof.Gen.ReadReferenceIdeal.Run
public import Idealize.ShloMosaic.Lib.Pipeline.ValueKit
public import Idealize.ShloMosaic.Lib.Claim

set_option maxRecDepth 16384

@[expose] public section

noncomputable section

namespace Cert.ReadReferenceIdeal.Proj

open Idealize.ShloMosaic
open Cert.ReadReferenceIdeal Cert.ReadReferenceIdeal.Gen

/-- The reference's result. -/
def out (x : FVec Ideal S4096x1024 .f32) (o : FVec Ideal S4096x512 .bf16) (w : FVec Ideal S1024x512 .bf16) : FVec Ideal S4096x1024 .f32 :=
  addf x (Host.dotGeneral dot_S4096x512_S512x1024_S4096x1024_1_0_0_1_n_n none (extf .f32 o bitsLt_bf16_f32)
    (transpose S512x1024 [1, 0] (extf .f32 w bitsLt_bf16_f32) transposes_S1024x512_S512x1024_1_0))

end Cert.ReadReferenceIdeal.Proj

namespace Cert.ReadIdeal.Proj

open Idealize.ShloMosaic Idealize.ShloMosaic.TcCoe Idealize.SL.Sem
open Cert.ReadIdeal Cert.ReadIdeal.Gen
open Cert.ReadReferenceIdeal.Proj (out)

/-- Which block each window holds at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

theorem array : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (array m c), h.2.1 c⟩) (θ_run_and (run_main m ρ) (frame m ρ))

end Cert.ReadIdeal.Proj

namespace Cert.ReadOut

open Idealize.ShloMosaic Idealize.ShloMosaic.TcCoe Idealize.SL.Sem

theorem frame_kernel : Cert.quiescent_Read (hRead := Cert.Read.Gen.facts) := fun m ρ _ => Cert.Read.Gen.frame m ρ
theorem frame_ideal : Cert.quiescent_ReadIdeal (hReadIdeal := Cert.ReadIdeal.Gen.facts) := fun m ρ _ => Cert.ReadIdeal.Gen.frame m ρ
theorem frame_reference : Cert.quiescent_ReadReferenceIdeal (hReadReferenceIdeal := Cert.ReadReferenceIdeal.Gen.facts) := fun m ρ _ =>
  (θ_run Cert.ReadReferenceIdeal.defs _ _).mono (fun r h => ⟨fun c => (h c).2, sem_eq_zero_of_no_sems (by decide) r.2⟩)
    (Cert.ReadReferenceIdeal.Value.run m ρ)
theorem preserves : Cert.preserves_Read_ReadIdeal := trivial

theorem algebraic : Cert.algebraic_ReadIdeal_ReadReferenceIdeal (hReadIdeal := Cert.ReadIdeal.Gen.facts)
    (hReadReferenceIdeal := Cert.ReadReferenceIdeal.Gen.facts) := by
  intro m ρ m' ρ' _ agree
  refine ⟨_, Cert.ReadIdeal.Proj.run m ρ, (θ_run Cert.ReadReferenceIdeal.defs _ _).mono (fun r h c => ?_) (Cert.ReadReferenceIdeal.Value.run m' ρ')⟩
  obtain ⟨e0, e1, e2⟩ := agree c
  refine ⟨(h c).1.trans ?_, (h c).2⟩
  rw [e0, e1, e2]
  rfl

end Cert.ReadOut
end
end
-- ==== Proof.ReadGrad.lean ====
/- The gradient that reaches the cross-attention's heads through the output projection, whose weight is stored transposed:
   the kernel's blocks are the reference's. -/
module

public import proofs.«01_k».proof.Defs
public import proofs.«01_k».proof.Proof.Gen.ReadDx.Frame
public import proofs.«01_k».proof.Proof.Gen.ReadDxIdeal.Frame
public import proofs.«01_k».proof.Proof.Gen.ReadDxReferenceIdeal.Run
public import Idealize.ShloMosaic.Lib.Pipeline.ValueKit
public import Idealize.ShloMosaic.Lib.Claim

set_option maxRecDepth 16384

@[expose] public section

noncomputable section

namespace Cert.ReadDxReferenceIdeal.Proj

open Idealize.ShloMosaic
open Cert.ReadDxReferenceIdeal Cert.ReadDxReferenceIdeal.Gen

/-- The reference's result. -/
def out (g : FVec Ideal S4096x1024 .f32) (w : FVec Ideal S1024x512 .bf16) : FVec Ideal S4096x512 .bf16 :=
  truncf .bf16 (Host.dotGeneral dot_S4096x1024_S512x1024_S4096x512_1_1_0_0_n_n none g
    (transpose S512x1024 [1, 0] (extf .f32 w bitsLt_bf16_f32) transposes_S1024x512_S512x1024_1_0)) bitsLt_bf16_f32

end Cert.ReadDxReferenceIdeal.Proj

namespace Cert.ReadDxIdeal.Proj

open Idealize.ShloMosaic Idealize.ShloMosaic.TcCoe Idealize.SL.Sem
open Cert.ReadDxIdeal Cert.ReadDxIdeal.Gen
open Cert.ReadDxReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.ReadDxIdeal.Proj

namespace Cert.ReadGrad

open Idealize.ShloMosaic Idealize.ShloMosaic.TcCoe Idealize.SL.Sem

theorem frame_kernel : Cert.quiescent_ReadDx (hReadDx := Cert.ReadDx.Gen.facts) := fun m ρ _ => Cert.ReadDx.Gen.frame m ρ
theorem frame_ideal : Cert.quiescent_ReadDxIdeal (hReadDxIdeal := Cert.ReadDxIdeal.Gen.facts) := fun m ρ _ => Cert.ReadDxIdeal.Gen.frame m ρ
theorem frame_reference : Cert.quiescent_ReadDxReferenceIdeal (hReadDxReferenceIdeal := Cert.ReadDxReferenceIdeal.Gen.facts) := fun m ρ _ =>
  (θ_run Cert.ReadDxReferenceIdeal.defs _ _).mono (fun r h => ⟨fun c => (h c).2, sem_eq_zero_of_no_sems (by decide) r.2⟩)
    (Cert.ReadDxReferenceIdeal.Value.run m ρ)
theorem preserves : Cert.preserves_ReadDx_ReadDxIdeal := trivial

theorem algebraic : Cert.algebraic_ReadDxIdeal_ReadDxReferenceIdeal (hReadDxIdeal := Cert.ReadDxIdeal.Gen.facts)
    (hReadDxReferenceIdeal := Cert.ReadDxReferenceIdeal.Gen.facts) := by
  intro m ρ m' ρ' _ agree
  refine ⟨_, Cert.ReadDxIdeal.Proj.run m ρ,
    (θ_run Cert.ReadDxReferenceIdeal.defs _ _).mono (fun r h c => ?_) (Cert.ReadDxReferenceIdeal.Value.run m' ρ')⟩
  obtain ⟨e0, e1⟩ := agree c
  refine ⟨(h c).1.trans ?_, (h c).2⟩
  rw [e0, e1]
  rfl

end Cert.ReadGrad
end
end
-- ==== Proof.ReadWeight.lean ====
/- The gradient of the cross-attention's output weight, stored transposed: the kernel's block, accumulated over four groups
   of rows, is the reference's. -/
module

public import proofs.«01_k».proof.Defs
public import proofs.«01_k».proof.Proof.Gen.ReadDw.Frame
public import proofs.«01_k».proof.Proof.Gen.ReadDwIdeal.Frame
public import proofs.«01_k».proof.Proof.Gen.ReadDwReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.ReadDwReferenceIdeal.Proj

open Idealize.ShloMosaic
open Cert.ReadDwReferenceIdeal Cert.ReadDwReferenceIdeal.Gen

/-- The reference's result. -/
def grad (g : FVec Ideal S4096x1024 .f32) (o : FVec Ideal S4096x512 .bf16) : FVec Ideal S1024x512 .bf16 :=
  truncf .bf16 (transpose S1024x512 [1, 0] (transpose S512x1024 [1, 0] (Host.dotGeneral dot_S4096x1024_S4096x512_S1024x512_0_0_1_1_n_n none g
    (extf .f32 o bitsLt_bf16_f32)) transposes_S1024x512_S512x1024_1_0) transposes_S512x1024_S1024x512_1_0) bitsLt_bf16_f32

end Cert.ReadDwReferenceIdeal.Proj

namespace Cert.ReadDwIdeal.Proj

open Idealize.ShloMosaic Idealize.ShloMosaic.TcCoe Idealize.SL.Sem
open Cert.ReadDwIdeal Cert.ReadDwIdeal.Gen
open Cert.ReadDwReferenceIdeal.Proj (grad)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD) (t : Fin cfg0.N)

theorem first (h : t.val % 4 = 0) : (outsAt0 m c t.val t.isLt).2 = k0_pay2 (F := Ideal) (k0_pay1 (F := Ideal)) (iblk m c 0 t) (iblk m c 1 t) := by
  rw [outsAt0_A m c t h (by omega)]
  dsimp only
  frame_out

theorem later (h : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h h1]; dsimp only; frame_out; simp only [read_unread_whole]
  · rw [outsAt0_B m c t h h1]; dsimp only; frame_out; simp only [read_unread_whole]

theorem written (h : t.val % 4 = 3) : (outsAt0 m c t.val t.isLt).1 = k0_pay3 (F := Ideal) (outsAt0 m c t.val t.isLt).2 := by
  rw [later m c t (by omega), outsAt0_C m c t (by omega) h]
  dsimp only
  frame_out
  simp only [read_unread_whole]

theorem zero_at (i : S1024x512.Idx) : k0_pay1 (F := Ideal) i = 0 := by
  pointwise [k0_pay1]

/-- What a group of rows adds to the block. -/
theorem add_at (s : FVec Ideal S1024x512 .f32) (g : FVec Ideal S1024x1024 .f32) (o : FVec Ideal S1024x512 .bf16) (i : S1024x512.Idx) :
    k0_pay2 (F := Ideal) s g o i = s i + ∑ k : Fin 1024, g (ix2 k (i 0)) * o (ix2 k (i 1)) := by
  pointwise [k0_pay2]

theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, written m c t h]
  pointwise [k0_pay3, grad]
  rw [Pipeline.eq_sum_fin_of_reset_step_apply_of_flush (fun n h => (outsAt0 m c n h).2) 4 (fun _ => (0 : EReal)) _
    (fun t h i => by rw [first m c t h, add_at, zero_at])
    (fun t h i => by rw [later m c t h, add_at]) t h, zero_add]
  have ht : t.val < 4 := t.isLt
  refine Fin.sum_mul_add_congr fun s k hl => ?_
  blk_point [iblk, V, idx t, idx ⟨_, Pipeline.run_point_lt_of_flush t h s⟩]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.ReadDwIdeal.Proj

namespace Cert.ReadWeight

open Idealize.ShloMosaic Idealize.ShloMosaic.TcCoe Idealize.SL.Sem

theorem frame_kernel : Cert.quiescent_ReadDw (hReadDw := Cert.ReadDw.Gen.facts) := fun m ρ _ => Cert.ReadDw.Gen.frame m ρ
theorem frame_ideal : Cert.quiescent_ReadDwIdeal (hReadDwIdeal := Cert.ReadDwIdeal.Gen.facts) := fun m ρ _ => Cert.ReadDwIdeal.Gen.frame m ρ
theorem frame_reference : Cert.quiescent_ReadDwReferenceIdeal (hReadDwReferenceIdeal := Cert.ReadDwReferenceIdeal.Gen.facts) := fun m ρ _ =>
  (θ_run Cert.ReadDwReferenceIdeal.defs _ _).mono (fun r h => ⟨fun c => (h c).2, sem_eq_zero_of_no_sems (by decide) r.2⟩)
    (Cert.ReadDwReferenceIdeal.Value.run m ρ)
theorem preserves : Cert.preserves_ReadDw_ReadDwIdeal := trivial

theorem algebraic : Cert.algebraic_ReadDwIdeal_ReadDwReferenceIdeal (hReadDwIdeal := Cert.ReadDwIdeal.Gen.facts)
    (hReadDwReferenceIdeal := Cert.ReadDwReferenceIdeal.Gen.facts) := by
  intro m ρ m' ρ' _ agree
  refine ⟨_, Cert.ReadDwIdeal.Proj.run m ρ,
    (θ_run Cert.ReadDwReferenceIdeal.defs _ _).mono (fun r h c => ?_) (Cert.ReadDwReferenceIdeal.Value.run m' ρ')⟩
  obtain ⟨e0, e1⟩ := agree c
  refine ⟨(h c).1.trans ?_, (h c).2⟩
  rw [e0, e1]
  rfl

end Cert.ReadWeight
end
end
-- ==== Proof.UkvOut.lean ====
/- The keys and values from their latents, by a weight that is stored transposed: the kernel's blocks are the reference's. -/
module

public import proofs.«01_k».proof.Defs
public import proofs.«01_k».proof.Proof.Gen.Ukv.Frame
public import proofs.«01_k».proof.Proof.Gen.UkvIdeal.Frame
public import proofs.«01_k».proof.Proof.Gen.UkvReferenceIdeal.Run
public import Idealize.ShloMosaic.Lib.Pipeline.ValueKit
public import Idealize.ShloMosaic.Lib.Claim

set_option maxRecDepth 16384

@[expose] public section

noncomputable section

namespace Cert.UkvReferenceIdeal.Proj

open Idealize.ShloMosaic
open Cert.UkvReferenceIdeal Cert.UkvReferenceIdeal.Gen

/-- The reference's result. -/
def out (a : FVec Ideal S4096x256 .bf16) (w : FVec Ideal S1024x256 .bf16) : FVec Ideal S4096x1024 .bf16 :=
  truncf .bf16 (Host.dotGeneral dot_S4096x256_S256x1024_S4096x1024_1_0_0_1_n_n none (extf .f32 a bitsLt_bf16_f32)
    (transpose S256x1024 [1, 0] (extf .f32 w bitsLt_bf16_f32) transposes_S1024x256_S256x1024_1_0)) bitsLt_bf16_f32

end Cert.UkvReferenceIdeal.Proj

namespace Cert.UkvIdeal.Proj

open Idealize.ShloMosaic Idealize.ShloMosaic.TcCoe Idealize.SL.Sem
open Cert.UkvIdeal Cert.UkvIdeal.Gen
open Cert.UkvReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.UkvIdeal.Proj

namespace Cert.UkvOut

open Idealize.ShloMosaic Idealize.ShloMosaic.TcCoe Idealize.SL.Sem

theorem frame_kernel : Cert.quiescent_Ukv (hUkv := Cert.Ukv.Gen.facts) := fun m ρ _ => Cert.Ukv.Gen.frame m ρ
theorem frame_ideal : Cert.quiescent_UkvIdeal (hUkvIdeal := Cert.UkvIdeal.Gen.facts) := fun m ρ _ => Cert.UkvIdeal.Gen.frame m ρ
theorem frame_reference : Cert.quiescent_UkvReferenceIdeal (hUkvReferenceIdeal := Cert.UkvReferenceIdeal.Gen.facts) := fun m ρ _ =>
  (θ_run Cert.UkvReferenceIdeal.defs _ _).mono (fun r h => ⟨fun c => (h c).2, sem_eq_zero_of_no_sems (by decide) r.2⟩)
    (Cert.UkvReferenceIdeal.Value.run m ρ)
theorem preserves : Cert.preserves_Ukv_UkvIdeal := trivial

theorem algebraic : Cert.algebraic_UkvIdeal_UkvReferenceIdeal (hUkvIdeal := Cert.UkvIdeal.Gen.facts)
    (hUkvReferenceIdeal := Cert.UkvReferenceIdeal.Gen.facts) := by
  intro m ρ m' ρ' _ agree
  refine ⟨_, Cert.UkvIdeal.Proj.run m ρ, (θ_run Cert.UkvReferenceIdeal.defs _ _).mono (fun r h c => ?_) (Cert.UkvReferenceIdeal.Value.run m' ρ')⟩
  obtain ⟨e0, e1⟩ := agree c
  refine ⟨(h c).1.trans ?_, (h c).2⟩
  rw [e0, e1]
  rfl

end Cert.UkvOut
end
end
-- ==== Proof.UkvGrad.lean ====
/- The gradient that reaches the latents of the keys and values: the kernel's blocks are the reference's. -/
module

public import proofs.«01_k».proof.Defs
public import proofs.«01_k».proof.Proof.Gen.UkvDx.Frame
public import proofs.«01_k».proof.Proof.Gen.UkvDxIdeal.Frame
public import proofs.«01_k».proof.Proof.Gen.UkvDxReferenceIdeal.Run
public import Idealize.ShloMosaic.Lib.Pipeline.ValueKit
public import Idealize.ShloMosaic.Lib.Claim

set_option maxRecDepth 16384

@[expose] public section

noncomputable section

namespace Cert.UkvDxReferenceIdeal.Proj

open Idealize.ShloMosaic
open Cert.UkvDxReferenceIdeal Cert.UkvDxReferenceIdeal.Gen

/-- The reference's result. -/
def out (g : FVec Ideal S4096x1024 .bf16) (w : FVec Ideal S1024x256 .bf16) : FVec Ideal S4096x256 .bf16 :=
  truncf .bf16 (Host.dotGeneral dot_S4096x1024_S256x1024_S4096x256_1_1_0_0_n_n none (extf .f32 g bitsLt_bf16_f32)
    (transpose S256x1024 [1, 0] (extf .f32 w bitsLt_bf16_f32) transposes_S1024x256_S256x1024_1_0)) bitsLt_bf16_f32

end Cert.UkvDxReferenceIdeal.Proj

namespace Cert.UkvDxIdeal.Proj

open Idealize.ShloMosaic Idealize.ShloMosaic.TcCoe Idealize.SL.Sem
open Cert.UkvDxIdeal Cert.UkvDxIdeal.Gen
open Cert.UkvDxReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.UkvDxIdeal.Proj

namespace Cert.UkvGrad

open Idealize.ShloMosaic Idealize.ShloMosaic.TcCoe Idealize.SL.Sem

theorem frame_kernel : Cert.quiescent_UkvDx (hUkvDx := Cert.UkvDx.Gen.facts) := fun m ρ _ => Cert.UkvDx.Gen.frame m ρ
theorem frame_ideal : Cert.quiescent_UkvDxIdeal (hUkvDxIdeal := Cert.UkvDxIdeal.Gen.facts) := fun m ρ _ => Cert.UkvDxIdeal.Gen.frame m ρ
theorem frame_reference : Cert.quiescent_UkvDxReferenceIdeal (hUkvDxReferenceIdeal := Cert.UkvDxReferenceIdeal.Gen.facts) := fun m ρ _ =>
  (θ_run Cert.UkvDxReferenceIdeal.defs _ _).mono (fun r h => ⟨fun c => (h c).2, sem_eq_zero_of_no_sems (by decide) r.2⟩)
    (Cert.UkvDxReferenceIdeal.Value.run m ρ)
theorem preserves : Cert.preserves_UkvDx_UkvDxIdeal := trivial

theorem algebraic : Cert.algebraic_UkvDxIdeal_UkvDxReferenceIdeal (hUkvDxIdeal := Cert.UkvDxIdeal.Gen.facts)
    (hUkvDxReferenceIdeal := Cert.UkvDxReferenceIdeal.Gen.facts) := by
  intro m ρ m' ρ' _ agree
  refine ⟨_, Cert.UkvDxIdeal.Proj.run m ρ, (θ_run Cert.UkvDxReferenceIdeal.defs _ _).mono (fun r h c => ?_) (Cert.UkvDxReferenceIdeal.Value.run m' ρ')⟩
  obtain ⟨e0, e1⟩ := agree c
  refine ⟨(h c).1.trans ?_, (h c).2⟩
  rw [e0, e1]
  rfl

end Cert.UkvGrad
end
end
-- ==== Proof.UkvWeight.lean ====
/- The gradient of the keys' and values' weight, stored transposed: the kernel's block, accumulated over four groups of rows,
   is the reference's. -/
module

public import proofs.«01_k».proof.Defs
public import proofs.«01_k».proof.Proof.Gen.UkvDw.Frame
public import proofs.«01_k».proof.Proof.Gen.UkvDwIdeal.Frame
public import proofs.«01_k».proof.Proof.Gen.UkvDwReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.UkvDwReferenceIdeal.Proj

open Idealize.ShloMosaic
open Cert.UkvDwReferenceIdeal Cert.UkvDwReferenceIdeal.Gen

/-- The reference's result. -/
def grad (g : FVec Ideal S4096x1024 .bf16) (a : FVec Ideal S4096x256 .bf16) : FVec Ideal S1024x256 .bf16 :=
  truncf .bf16 (transpose S1024x256 [1, 0] (transpose S256x1024 [1, 0] (Host.dotGeneral dot_S4096x1024_S4096x256_S1024x256_0_0_1_1_n_n none
    (extf .f32 g bitsLt_bf16_f32) (extf .f32 a bitsLt_bf16_f32)) transposes_S1024x256_S256x1024_1_0) transposes_S256x1024_S1024x256_1_0)
    bitsLt_bf16_f32

end Cert.UkvDwReferenceIdeal.Proj

namespace Cert.UkvDwIdeal.Proj

open Idealize.ShloMosaic Idealize.ShloMosaic.TcCoe Idealize.SL.Sem
open Cert.UkvDwIdeal Cert.UkvDwIdeal.Gen
open Cert.UkvDwReferenceIdeal.Proj (grad)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD) (t : Fin cfg0.N)

theorem first (h : t.val % 4 = 0) : (outsAt0 m c t.val t.isLt).2 = k0_pay2 (F := Ideal) (k0_pay1 (F := Ideal)) (iblk m c 0 t) (iblk m c 1 t) := by
  rw [outsAt0_A m c t h (by omega)]
  dsimp only
  frame_out

theorem later (h : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h h1]; dsimp only; frame_out; simp only [read_unread_whole]
  · rw [outsAt0_B m c t h h1]; dsimp only; frame_out; simp only [read_unread_whole]

theorem written (h : t.val % 4 = 3) : (outsAt0 m c t.val t.isLt).1 = k0_pay3 (F := Ideal) (outsAt0 m c t.val t.isLt).2 := by
  rw [later m c t (by omega), outsAt0_C m c t (by omega) h]
  dsimp only
  frame_out
  simp only [read_unread_whole]

theorem zero_at (i : S1024x256.Idx) : k0_pay1 (F := Ideal) i = 0 := by
  pointwise [k0_pay1]

/-- What a group of rows adds to the block. -/
theorem add_at (s : FVec Ideal S1024x256 .f32) (g : FVec Ideal S1024x1024 .bf16) (a : FVec Ideal S1024x256 .bf16) (i : S1024x256.Idx) :
    k0_pay2 (F := Ideal) s g a i = s i + ∑ k : Fin 1024, g (ix2 k (i 0)) * a (ix2 k (i 1)) := by
  pointwise [k0_pay2]

theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, written m c t h]
  pointwise [k0_pay3, grad]
  rw [Pipeline.eq_sum_fin_of_reset_step_apply_of_flush (fun n h => (outsAt0 m c n h).2) 4 (fun _ => (0 : EReal)) _
    (fun t h i => by rw [first m c t h, add_at, zero_at])
    (fun t h i => by rw [later m c t h, add_at]) t h, zero_add]
  have ht : t.val < 4 := t.isLt
  refine Fin.sum_mul_add_congr fun s k hl => ?_
  blk_point [iblk, V, idx t, idx ⟨_, Pipeline.run_point_lt_of_flush t h s⟩]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.UkvDwIdeal.Proj

namespace Cert.UkvWeight

open Idealize.ShloMosaic Idealize.ShloMosaic.TcCoe Idealize.SL.Sem

theorem frame_kernel : Cert.quiescent_UkvDw (hUkvDw := Cert.UkvDw.Gen.facts) := fun m ρ _ => Cert.UkvDw.Gen.frame m ρ
theorem frame_ideal : Cert.quiescent_UkvDwIdeal (hUkvDwIdeal := Cert.UkvDwIdeal.Gen.facts) := fun m ρ _ => Cert.UkvDwIdeal.Gen.frame m ρ
theorem frame_reference : Cert.quiescent_UkvDwReferenceIdeal (hUkvDwReferenceIdeal := Cert.UkvDwReferenceIdeal.Gen.facts) := fun m ρ _ =>
  (θ_run Cert.UkvDwReferenceIdeal.defs _ _).mono (fun r h => ⟨fun c => (h c).2, sem_eq_zero_of_no_sems (by decide) r.2⟩)
    (Cert.UkvDwReferenceIdeal.Value.run m ρ)
theorem preserves : Cert.preserves_UkvDw_UkvDwIdeal := trivial

theorem algebraic : Cert.algebraic_UkvDwIdeal_UkvDwReferenceIdeal (hUkvDwIdeal := Cert.UkvDwIdeal.Gen.facts)
    (hUkvDwReferenceIdeal := Cert.UkvDwReferenceIdeal.Gen.facts) := by
  intro m ρ m' ρ' _ agree
  refine ⟨_, Cert.UkvDwIdeal.Proj.run m ρ, (θ_run Cert.UkvDwReferenceIdeal.defs _ _).mono (fun r h c => ?_) (Cert.UkvDwReferenceIdeal.Value.run m' ρ')⟩
  obtain ⟨e0, e1⟩ := agree c
  refine ⟨(h c).1.trans ?_, (h c).2⟩
  rw [e0, e1]
  rfl

end Cert.UkvWeight
end
end
-- ==== Proof.GluOut.lean ====
/- The product of the scan's gate: the kernel's blocks are the reference's. -/
module

public import proofs.«01_k».proof.Defs
public import proofs.«01_k».proof.Proof.Gen.Glu.Frame
public import proofs.«01_k».proof.Proof.Gen.GluIdeal.Frame
public import proofs.«01_k».proof.Proof.Gen.GluReferenceIdeal.Run
public import Idealize.ShloMosaic.Lib.Pipeline.ValueKit
public import Idealize.ShloMosaic.Lib.Claim

set_option maxRecDepth 16384

@[expose] public section

noncomputable section

namespace Cert.GluReferenceIdeal.Proj

open Idealize.ShloMosaic
open Cert.GluReferenceIdeal Cert.GluReferenceIdeal.Gen

/-- The reference's result. -/
def out (a : FVec Ideal S4096x512 .f32) (w : FVec Ideal S512x512 .bf16) : FVec Ideal S4096x512 .f32 :=
  Host.dotGeneral dot_S4096x512_S512x512_S4096x512_1_0_0_1_n_n none a (extf .f32 w bitsLt_bf16_f32)

end Cert.GluReferenceIdeal.Proj

namespace Cert.GluIdeal.Proj

open Idealize.ShloMosaic Idealize.ShloMosaic.TcCoe Idealize.SL.Sem
open Cert.GluIdeal Cert.GluIdeal.Gen
open Cert.GluReferenceIdeal.Proj (out)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.GluIdeal.Proj

namespace Cert.GluOut

open Idealize.ShloMosaic Idealize.ShloMosaic.TcCoe Idealize.SL.Sem

theorem frame_kernel : Cert.quiescent_Glu (hGlu := Cert.Glu.Gen.facts) := fun m ρ _ => Cert.Glu.Gen.frame m ρ
theorem frame_ideal : Cert.quiescent_GluIdeal (hGluIdeal := Cert.GluIdeal.Gen.facts) := fun m ρ _ => Cert.GluIdeal.Gen.frame m ρ
theorem frame_reference : Cert.quiescent_GluReferenceIdeal (hGluReferenceIdeal := Cert.GluReferenceIdeal.Gen.facts) := fun m ρ _ =>
  (θ_run Cert.GluReferenceIdeal.defs _ _).mono (fun r h => ⟨fun c => (h c).2, sem_eq_zero_of_no_sems (by decide) r.2⟩)
    (Cert.GluReferenceIdeal.Value.run m ρ)
theorem preserves : Cert.preserves_Glu_GluIdeal := trivial

theorem algebraic : Cert.algebraic_GluIdeal_GluReferenceIdeal (hGluIdeal := Cert.GluIdeal.Gen.facts)
    (hGluReferenceIdeal := Cert.GluReferenceIdeal.Gen.facts) := by
  intro m ρ m' ρ' _ agree
  refine ⟨_, Cert.GluIdeal.Proj.run m ρ, (θ_run Cert.GluReferenceIdeal.defs _ _).mono (fun r h c => ?_) (Cert.GluReferenceIdeal.Value.run m' ρ')⟩
  obtain ⟨e0, e1⟩ := agree c
  refine ⟨(h c).1.trans ?_, (h c).2⟩
  rw [e0, e1]
  rfl

end Cert.GluOut
end
end
-- ==== Proof.GluGrad.lean ====
/- The gradient that reaches the scan's gated activation, through the gate's product and past it: the kernel's blocks are the
   reference's. -/
module

public import proofs.«01_k».proof.Defs
public import proofs.«01_k».proof.Proof.Gen.GluDx.Frame
public import proofs.«01_k».proof.Proof.Gen.GluDxIdeal.Frame
public import proofs.«01_k».proof.Proof.Gen.GluDxReferenceIdeal.Run
public import Idealize.ShloMosaic.Lib.Pipeline.ValueKit
public import Idealize.ShloMosaic.Lib.Claim

set_option maxRecDepth 16384

@[expose] public section

noncomputable section

namespace Cert.GluDxReferenceIdeal.Proj

open Idealize.ShloMosaic
open Cert.GluDxReferenceIdeal Cert.GluDxReferenceIdeal.Gen

/-- The reference's result. -/
def out (dz : FVec Ideal S4096x512 .bf16) (w : FVec Ideal S512x512 .bf16) (dg : FVec Ideal S4096x512 .f32) : FVec Ideal S4096x512 .f32 :=
  addf dg (Host.dotGeneral dot_S4096x512_S512x512_S4096x512_1_1_0_0_n_n none (extf .f32 dz bitsLt_bf16_f32) (extf .f32 w bitsLt_bf16_f32))

end Cert.GluDxReferenceIdeal.Proj

namespace Cert.GluDxIdeal.Proj

open Idealize.ShloMosaic Idealize.ShloMosaic.TcCoe Idealize.SL.Sem
open Cert.GluDxIdeal Cert.GluDxIdeal.Gen
open Cert.GluDxReferenceIdeal.Proj (out)

/-- Which block each window holds at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ) (c : Dev nD)

theorem array : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  pointwise [k0_pay3, k0_pay2, k0_pay1, out]
  blk_point [iblk, V, idx t]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
        = out (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (array m c), h.2.1 c⟩) (θ_run_and (run_main m ρ) (frame m ρ))

end Cert.GluDxIdeal.Proj

namespace Cert.GluGrad

open Idealize.ShloMosaic Idealize.ShloMosaic.TcCoe Idealize.SL.Sem

theorem frame_kernel : Cert.quiescent_GluDx (hGluDx := Cert.GluDx.Gen.facts) := fun m ρ _ => Cert.GluDx.Gen.frame m ρ
theorem frame_ideal : Cert.quiescent_GluDxIdeal (hGluDxIdeal := Cert.GluDxIdeal.Gen.facts) := fun m ρ _ => Cert.GluDxIdeal.Gen.frame m ρ
theorem frame_reference : Cert.quiescent_GluDxReferenceIdeal (hGluDxReferenceIdeal := Cert.GluDxReferenceIdeal.Gen.facts) := fun m ρ _ =>
  (θ_run Cert.GluDxReferenceIdeal.defs _ _).mono (fun r h => ⟨fun c => (h c).2, sem_eq_zero_of_no_sems (by decide) r.2⟩)
    (Cert.GluDxReferenceIdeal.Value.run m ρ)
theorem preserves : Cert.preserves_GluDx_GluDxIdeal := trivial

theorem algebraic : Cert.algebraic_GluDxIdeal_GluDxReferenceIdeal (hGluDxIdeal := Cert.GluDxIdeal.Gen.facts)
    (hGluDxReferenceIdeal := Cert.GluDxReferenceIdeal.Gen.facts) := by
  intro m ρ m' ρ' _ agree
  refine ⟨_, Cert.GluDxIdeal.Proj.run m ρ, (θ_run Cert.GluDxReferenceIdeal.defs _ _).mono (fun r h c => ?_) (Cert.GluDxReferenceIdeal.Value.run m' ρ')⟩
  obtain ⟨e0, e1, e2⟩ := agree c
  refine ⟨(h c).1.trans ?_, (h c).2⟩
  rw [e0, e1, e2]
  rfl

end Cert.GluGrad
end
end
-- ==== Proof.GluWeight.lean ====
/- The gradient of the weight of the scan's gate: the kernel's block, accumulated over four groups of rows, is the reference's. -/
module

public import proofs.«01_k».proof.Defs
public import proofs.«01_k».proof.Proof.Gen.GluDw.Frame
public import proofs.«01_k».proof.Proof.Gen.GluDwIdeal.Frame
public import proofs.«01_k».proof.Proof.Gen.GluDwReferenceIdeal.Run
public import Idealize.ShloMosaic.Lib.Pipeline.ValueKit
public import Idealize.ShloMosaic.Lib.Pipeline.ReadBack
public import Idealize.ShloMosaic.Lib.Claim

set_option maxRecDepth 16384

@[expose] public section

noncomputable section

namespace Cert.GluDwReferenceIdeal.Proj

open Idealize.ShloMosaic
open Cert.GluDwReferenceIdeal Cert.GluDwReferenceIdeal.Gen

/-- The reference's result. -/
def grad (a : FVec Ideal S4096x512 .f32) (dz : FVec Ideal S4096x512 .bf16) : FVec Ideal S512x512 .bf16 :=
  truncf .bf16 (transpose S512x512 [1, 0] (Host.dotGeneral dot_S4096x512_S4096x512_S512x512_0_0_1_1_n_n none
    (extf .f32 dz bitsLt_bf16_f32) a) transposes_S512x512_S512x512_1_0) bitsLt_bf16_f32

end Cert.GluDwReferenceIdeal.Proj

namespace Cert.GluDwIdeal.Proj

open Idealize.ShloMosaic Idealize.ShloMosaic.TcCoe Idealize.SL.Sem
open Cert.GluDwIdeal Cert.GluDwIdeal.Gen
open Cert.GluDwReferenceIdeal.Proj (grad)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ) (c : Dev nD) (t : Fin cfg0.N)

theorem first (h : t.val % 4 = 0) : (outsAt0 m c t.val t.isLt).2 = k0_pay2 (F := Ideal) (k0_pay1 (F := Ideal)) (iblk m c 0 t) (iblk m c 1 t) := by
  rw [outsAt0_A m c t h (by omega)]
  dsimp only
  frame_out

theorem later (h : ¬ t.val % 4 = 0) : (outsAt0 m c t.val t.isLt).2
    = k0_pay2 (F := Ideal) (outsAt0 m c (t.val - 1) (Nat.lt_of_le_of_lt (Nat.sub_le _ _) t.isLt)).2 (iblk m c 0 t) (iblk m c 1 t) := by
  by_cases h1 : t.val % 4 = 3
  · rw [outsAt0_C m c t h h1]; dsimp only; frame_out; simp only [read_unread_whole]
  · rw [outsAt0_B m c t h h1]; dsimp only; frame_out; simp only [read_unread_whole]

theorem written (h : t.val % 4 = 3) : (outsAt0 m c t.val t.isLt).1 = k0_pay3 (F := Ideal) (outsAt0 m c t.val t.isLt).2 := by
  rw [later m c t (by omega), outsAt0_C m c t (by omega) h]
  dsimp only
  frame_out
  simp only [read_unread_whole]

theorem zero_at (i : S512x512.Idx) : k0_pay1 (F := Ideal) i = 0 := by
  pointwise [k0_pay1]

/-- What a group of rows adds to the block. -/
theorem add_at (s : FVec Ideal S512x512 .f32) (a : FVec Ideal S1024x512 .f32) (dz : FVec Ideal S1024x512 .bf16) (i : S512x512.Idx) :
    k0_pay2 (F := Ideal) s a dz i = s i + ∑ k : Fin 1024, dz (ix2 k (i 1)) * a (ix2 k (i 0)) := by
  pointwise [k0_pay2]
  exact congrArg (s i + ·) (Finset.sum_congr rfl fun k _ => mul_comm _ _)

theorem array : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  have h := (flush0_2 t).mp hf
  rw [after0_2, written m c t h]
  pointwise [k0_pay3, grad]
  rw [Pipeline.eq_sum_fin_of_reset_step_apply_of_flush (fun n h => (outsAt0 m c n h).2) 4 (fun _ => (0 : EReal)) _
    (fun t h i => by rw [first m c t h, add_at, zero_at])
    (fun t h i => by rw [later m c t h, add_at]) t h, zero_add]
  have ht : t.val < 4 := t.isLt
  refine Fin.sum_mul_add_congr fun s k hl => ?_
  blk_point [iblk, V, idx t, idx ⟨_, Pipeline.run_point_lt_of_flush t h s⟩]

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = grad (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (array m c), h.2.1 c⟩) (θ_run_and (run_main m ρ) (frame m ρ))

end Cert.GluDwIdeal.Proj

namespace Cert.GluWeight

open Idealize.ShloMosaic Idealize.ShloMosaic.TcCoe Idealize.SL.Sem

theorem frame_kernel : Cert.quiescent_GluDw (hGluDw := Cert.GluDw.Gen.facts) := fun m ρ _ => Cert.GluDw.Gen.frame m ρ
theorem frame_ideal : Cert.quiescent_GluDwIdeal (hGluDwIdeal := Cert.GluDwIdeal.Gen.facts) := fun m ρ _ => Cert.GluDwIdeal.Gen.frame m ρ
theorem frame_reference : Cert.quiescent_GluDwReferenceIdeal (hGluDwReferenceIdeal := Cert.GluDwReferenceIdeal.Gen.facts) := fun m ρ _ =>
  (θ_run Cert.GluDwReferenceIdeal.defs _ _).mono (fun r h => ⟨fun c => (h c).2, sem_eq_zero_of_no_sems (by decide) r.2⟩)
    (Cert.GluDwReferenceIdeal.Value.run m ρ)
theorem preserves : Cert.preserves_GluDw_GluDwIdeal := trivial

theorem algebraic : Cert.algebraic_GluDwIdeal_GluDwReferenceIdeal (hGluDwIdeal := Cert.GluDwIdeal.Gen.facts)
    (hGluDwReferenceIdeal := Cert.GluDwReferenceIdeal.Gen.facts) := by
  intro m ρ m' ρ' _ agree
  refine ⟨_, Cert.GluDwIdeal.Proj.run m ρ, (θ_run Cert.GluDwReferenceIdeal.defs _ _).mono (fun r h c => ?_) (Cert.GluDwReferenceIdeal.Value.run m' ρ')⟩
  obtain ⟨e0, e1⟩ := agree c
  refine ⟨(h c).1.trans ?_, (h c).2⟩
  rw [e0, e1]
  rfl

end Cert.GluWeight
end
end
-- ==== Proof.Cross.lean ====
/- The cross-attention into the memory: each head of a kernel's block is the reference's. -/
module

public import proofs.«01_k».proof.Defs
public import proofs.«01_k».proof.Proof.Gen.Cross.Frame
public import proofs.«01_k».proof.Proof.Gen.CrossIdeal.Frame
public import proofs.«01_k».proof.Proof.Gen.CrossReferenceIdeal.Run
public import Idealize.ShloMosaic.Lib.Pipeline.ValueKit
public import Idealize.ShloMosaic.Lib.Claim

set_option maxRecDepth 16384

@[expose] public section

noncomputable section

namespace Cert.CrossMath

open Idealize.ShloMosaic

/-- The length of a head's row, the small summand and the scale of the scores, as the float literals of both programs. -/
def len : EReal := Ideal.ofBits .f32 0x43000000#32
def small : EReal := Ideal.ofBits .f32 0x358637BD#32
def root : EReal := Ideal.ofBits .f32 0x3DB504F3#32

/-- The reciprocal of the root of a row's mean square. -/
def scale (q : Fin 128 → EReal) : EReal := Ideal.rsqrt (Ideal.div (∑ d, q d * q d) len + small)

/-- A query's score against a key. -/
def score (q g k : Fin 128 → EReal) : EReal := (∑ d, q d * scale q * g d * k d) * root

/-- The weights of a query's scores. -/
def peak (s : Fin 256 → EReal) : EReal := Finset.univ.fold max ⊥ s
def raised (s : Fin 256 → EReal) (j : Fin 256) : EReal := Ideal.exp (s j - peak s)
def weight (s : Fin 256 → EReal) (j : Fin 256) : EReal := Ideal.div (raised s j) (∑ i, raised s i)

/-- A query's output, from one column of the values. -/
def output (q g : Fin 128 → EReal) (k : Fin 256 → Fin 128 → EReal) (v : Fin 256 → EReal) : EReal :=
  ∑ j, weight (fun i => score q g (k i)) j * v j

/-- Where the search for the largest score begins. -/
theorem lowest : Ideal.ofBits .f32 0xFF800000#32 = ⊥ := by
  simp [Ideal.ofBits, Ideal.ieee]

theorem root_eq : root = ((11863283 / 134217728 : ℝ) : EReal) := by
  unfold root
  simp [Ideal.ofBits, Ideal.ieee, -EReal.coe_mul]
  norm_num

/-- The scale of the scores may be taken out of a sum, whatever the terms are. -/
theorem sum_root (s : Finset (Fin 128)) (f k : Fin 128 → EReal) : ∑ d ∈ s, f d * root * k d = (∑ d ∈ s, f d * k d) * root := by
  classical
  have h0 : (0 : EReal) ≤ root := by rw [root_eq]; exact_mod_cast (by norm_num : (0 : ℝ) ≤ 11863283 / 134217728)
  have h1 : root ≠ ⊤ := by rw [root_eq]; exact EReal.coe_ne_top _
  induction s using Finset.induction_on with
  | empty => simp
  | insert a s ha ih =>
    rw [Finset.sum_insert ha, Finset.sum_insert ha, ih, EReal.right_distrib_of_nonneg_of_ne_top h0 h1, mul_right_comm]

/-- The column of a head's row, for a column of the same head. -/
def col (c : Fin 512) (d : Fin 128) : Fin 512 := ⟨c.val / 128 * 128 + d.val, by omega⟩

end Cert.CrossMath

namespace Cert.CrossReferenceIdeal.Heads

open Idealize.ShloMosaic
open Cert.CrossReferenceIdeal Cert.CrossReferenceIdeal.Gen Cert.CrossMath

/-- The reference's heads, its scores, its weights before they are divided, and its result. -/
def queries (q : FVec Ideal S4096x512 .f32) : FVec Ideal S4096x4x128 .f32 := shapeCast _ q shapeCasts_S4096x512_S4096x4x128
def entries (k : FVec Ideal S256x512 .bf16) : FVec Ideal S256x4x128 .f32 := shapeCast _ (extf .f32 k bitsLt_bf16_f32) shapeCasts_S256x512_S256x4x128
def scales (q : FVec Ideal S4096x4x128 .f32) : FVec Ideal S4096x4x1 .f32 :=
  Host.rsqrt (addf (Host.divf (broadcastInDim S4096x4x1 ![0, 1] bcast_S4096x4_S4096x4x1_0_1 (Host.reduceAdd (mulf q q)
    (constant S_ .f32 0x00000000#32) reducesTo_S4096x4x128_S4096x4_d2 h_S_)) (broadcastInDim S4096x4x1 ![] bcast_S_S4096x4x1
    (constant S_ .f32 0x43000000#32))) (broadcastInDim S4096x4x1 ![] bcast_S_S4096x4x1 (constant S_ .f32 0x358637BD#32)))
def normed (q : FVec Ideal S4096x4x128 .f32) (g : FVec Ideal S1x128 .f32) : FVec Ideal S4096x4x128 .f32 :=
  mulf (mulf q (broadcastInDim S4096x4x128 ![0, 1, 2] bcast_S4096x4x1_S4096x4x128_0_1_2 (scales q)))
    (broadcastInDim S4096x4x128 ![0, 1, 2] bcast_S1x1x128_S4096x4x128_0_1_2 (broadcastInDim S1x1x128 ![1, 2] bcast_S1x128_S1x1x128_1_2 g))
def scores (n : FVec Ideal S4096x4x128 .f32) (k : FVec Ideal S256x4x128 .f32) : FVec Ideal S4x4096x256 .f32 :=
  mulf (Host.dotGeneral dot_S4096x4x128_S256x4x128_S4x4096x256_2_2_0_0_1_1 none n k)
    (broadcastInDim S4x4096x256 ![] bcast_S_S4x4096x256 (constant S_ .f32 0x3DB504F3#32))
def tops (s : FVec Ideal S4x4096x256 .f32) : FVec Ideal S4x4096 .f32 :=
  Host.reduce FloatOps.maximumf s (constant S_ .f32 0xFF800000#32) reducesTo_S4x4096x256_S4x4096_d2 h_S_
def peaks (s : FVec Ideal S4x4096x256 .f32) : FVec Ideal S4x4096 .f32 :=
  maximumf (broadcastInDim S4x4096 ![] bcast_S_S4x4096 (constant S_ .f32 0xFF800000#32)) (tops s)
def raisedOf (s : FVec Ideal S4x4096x256 .f32) : FVec Ideal S4x4096x256 .f32 :=
  Host.exp (subf s (broadcastInDim S4x4096x256 ![0, 1, 2] bcast_S4x4096x1_S4x4096x256_0_1_2
    (broadcastInDim S4x4096x1 ![0, 1] bcast_S4x4096_S4x4096x1_0_1 (peaks s))))
def mixed (e : FVec Ideal S4x4096x256 .f32) (v : FVec Ideal S256x4x128 .f32) : FVec Ideal S4096x512 .bf16 :=
  truncf .bf16 (shapeCast _ (transpose S4096x4x128 [2, 0, 1] (Host.dotGeneral dot_S256x4x128_S4x4096x256_S4x128x4096_0_2_2_1_1_0 none v
    (Host.divf e (broadcastInDim S4x4096x256 ![0, 1, 2] bcast_S4x4096x1_S4x4096x256_0_1_2 (broadcastInDim S4x4096x1 ![0, 1]
      bcast_S4x4096_S4x4096x1_0_1 (Host.reduceAdd e (constant S_ .f32 0x00000000#32) reducesTo_S4x4096x256_S4x4096_d2 h_S_)))))
    transposes_S4x128x4096_S4096x4x128_2_0_1) shapeCasts_S4096x4x128_S4096x512) bitsLt_bf16_f32
def out (q : FVec Ideal S4096x512 .f32) (k v : FVec Ideal S256x512 .bf16) (g : FVec Ideal S1x128 .f32) : FVec Ideal S4096x512 .bf16 :=
  mixed (raisedOf (scores (normed (queries q) g) (entries k))) (entries v)

theorem queries_at (q : FVec Ideal S4096x512 .f32) (r : Fin 4096) (h : Fin 4) (d : Fin 128) :
    queries q (ix3 r h d) = q (ix2 r ⟨h.val * 128 + d.val, by omega⟩) := by
  pointwise [queries]

theorem entries_at (k : FVec Ideal S256x512 .bf16) (j : Fin 256) (h : Fin 4) (d : Fin 128) :
    entries k (ix3 j h d) = k (ix2 j ⟨h.val * 128 + d.val, by omega⟩) := by
  pointwise [entries]

theorem scales_at (q : FVec Ideal S4096x4x128 .f32) (r : Fin 4096) (h : Fin 4) (e : Fin 1) :
    scales q (ix3 r h e) = scale (fun d => q (ix3 r h d)) := by
  pointwise [scales]
  rfl

theorem normed_at (q : FVec Ideal S4096x4x128 .f32) (g : FVec Ideal S1x128 .f32) (r : Fin 4096) (h : Fin 4) (d : Fin 128) :
    normed q g (ix3 r h d) = q (ix3 r h d) * scale (fun d => q (ix3 r h d)) * g (ix2 0 d) := by
  rw [← scales_at q r h 0]
  pointwise [normed]

theorem scores_at (q : FVec Ideal S4096x4x128 .f32) (g : FVec Ideal S1x128 .f32) (k : FVec Ideal S256x4x128 .f32) (h : Fin 4) (r : Fin 4096)
    (j : Fin 256) : scores (normed q g) k (ix3 h r j) = score (fun d => q (ix3 r h d)) (fun d => g (ix2 0 d)) (fun d => k (ix3 j h d)) := by
  pointwise [scores, normed_at]
  rfl

theorem tops_at (s : FVec Ideal S4x4096x256 .f32) (h : Fin 4) (r : Fin 4096) :
    tops s (ix2 h r) = Finset.univ.fold max ⊥ fun j : Fin 256 => s (ix3 h r j) := by
  pointwise [tops]
  rw [lowest]

/-- A maximum with the constant that the search begins at is the other argument. -/
theorem max_lowest (x : FVec Ideal S4x4096 .f32) (i : S4x4096.Idx) :
    maximumf (broadcastInDim S4x4096 ![] bcast_S_S4x4096 (constant S_ .f32 0xFF800000#32)) x i = x i := by
  have h : ∀ a b : EReal, a = ⊥ → max a b = b := fun a b e => by rw [e]; exact bot_sup_eq b
  exact h (Ideal.ofBits .f32 0xFF800000#32) (x i) lowest

theorem peaks_at (s : FVec Ideal S4x4096x256 .f32) (h : Fin 4) (r : Fin 4096) : peaks s (ix2 h r) = peak (fun j => s (ix3 h r j)) :=
  (max_lowest (tops s) (ix2 h r)).trans (tops_at s h r)

theorem raisedOf_at (s : FVec Ideal S4x4096x256 .f32) (h : Fin 4) (r : Fin 4096) (j : Fin 256) :
    raisedOf s (ix3 h r j) = raised (fun i => s (ix3 h r i)) j := by
  rw [raised, ← peaks_at]
  pointwise [raisedOf]

theorem mixed_at (e : FVec Ideal S4x4096x256 .f32) (v : FVec Ideal S256x4x128 .f32) (r : Fin 4096) (c : Fin 512) :
    mixed e v (ix2 r c) = ∑ j, Ideal.div (e (ix3 ⟨c.val / 128, by omega⟩ r j)) (∑ i, e (ix3 ⟨c.val / 128, by omega⟩ r i))
      * v (ix3 j ⟨c.val / 128, by omega⟩ ⟨c.val % 128, by omega⟩) := by
  simp only [mul_comm (Ideal.div _ _)]
  pointwise [mixed]

theorem out_at (q : FVec Ideal S4096x512 .f32) (k v : FVec Ideal S256x512 .bf16) (g : FVec Ideal S1x128 .f32) (r : Fin 4096) (c : Fin 512) :
    out q k v g (ix2 r c) = output (fun d => q (ix2 r (col c d))) (fun d => g (ix2 0 d)) (fun j d => k (ix2 j (col c d))) (fun j => v (ix2 j c)) := by
  have e : (⟨c.val / 128 * 128 + c.val % 128, by omega⟩ : Fin 512) = c := Fin.ext (by show c.val / 128 * 128 + c.val % 128 = c.val; omega)
  simp only [out, mixed_at, raisedOf_at, scores_at, queries_at, entries_at, e]
  rfl

end Cert.CrossReferenceIdeal.Heads

namespace Cert.CrossIdeal.Heads

open Idealize.ShloMosaic Idealize.ShloMosaic.TcCoe Idealize.SL.Sem
open Cert.CrossIdeal Cert.CrossIdeal.Gen Cert.CrossMath
open Cert.CrossReferenceIdeal.Heads (out out_at)

/-- One head of the kernel's block, from the head's columns of the queries, the keys and the values. -/
def scores (q : FVec Ideal S1024x128 .f32) (k : FVec Ideal S256x128 .bf16) (g : FVec Ideal S1x128 .f32) : FVec Ideal S1024x256 .f32 :=
  matmul dot_S1024x128_S256x128_S1024x256_1_1_0_0_n_n none (truncf .bf16 (mulf (mulf (mulf q (broadcastTo S1024x128 (rsqrt (addf
      (divf (shapeCast S1024x1 (multiReduction .add [1] S1024 (mulf q q) 0x00000000#32 reduces_S1024x128_S1024 (.inl rfl) rfl)
        shapeCasts_S1024_S1024x1) (broadcast S1024x1 (Scalar.ofBits .f32 0x43000000#32)))
      (broadcast S1024x1 (Scalar.ofBits .f32 0x358637BD#32)))) broadcasts_S1024x1_S1024x128))
    (broadcastTo S1024x128 g broadcasts_S1x128_S1024x128)) (broadcast S1024x128 (Scalar.ofBits .f32 0x3DB504F3#32))) bitsLt_bf16_f32)
    k (constant S1024x256 .f32 0x00000000#32)
def raisedOf (s : FVec Ideal S1024x256 .f32) : FVec Ideal S1024x256 .f32 :=
  exp (subf s (broadcastTo S1024x256 (shapeCast S1024x1 (multiReduction .maximumf [1] S1024 s 0xFF800000#32 reduces_S1024x256_S1024
    (.inl rfl) rfl) shapeCasts_S1024_S1024x1) broadcasts_S1024x1_S1024x256))
def mixed (e : FVec Ideal S1024x256 .f32) (v : FVec Ideal S256x128 .bf16) : FVec Ideal S1024x128 .f32 :=
  matmul dot_S1024x256_S256x128_S1024x128_1_0_0_1_n_n none (truncf .bf16 (divf e (broadcastTo S1024x256 (shapeCast S1024x1
    (multiReduction .add [1] S1024 e 0x00000000#32 reduces_S1024x256_S1024 (.inl rfl) rfl) shapeCasts_S1024_S1024x1)
    broadcasts_S1024x1_S1024x256)) bitsLt_bf16_f32) v (constant S1024x128 .f32 0x00000000#32)
def head (q : FVec Ideal S1024x128 .f32) (k v : FVec Ideal S256x128 .bf16) (g : FVec Ideal S1x128 .f32) : FVec Ideal S1024x128 .f32 :=
  mixed (raisedOf (scores q k g)) v

theorem scores_at (q : FVec Ideal S1024x128 .f32) (k : FVec Ideal S256x128 .bf16) (g : FVec Ideal S1x128 .f32) (p : Fin 1024) (j : Fin 256) :
    scores q k g (ix2 p j) = score (fun d => q (ix2 p d)) (fun d => g (ix2 0 d)) (fun d => k (ix2 j d)) := by
  rw [score, ← sum_root]
  pointwise [scores]
  rfl

theorem raisedOf_at (s : FVec Ideal S1024x256 .f32) (p : Fin 1024) (j : Fin 256) :
    raisedOf s (ix2 p j) = raised (fun i => s (ix2 p i)) j := by
  pointwise [raisedOf]
  rw [lowest]
  rfl

theorem mixed_at (e : FVec Ideal S1024x256 .f32) (v : FVec Ideal S256x128 .bf16) (p : Fin 1024) (d : Fin 128) :
    mixed e v (ix2 p d) = ∑ j, Ideal.div (e (ix2 p j)) (∑ i, e (ix2 p i)) * v (ix2 j d) := by
  pointwise [mixed]

theorem head_at (q : FVec Ideal S1024x128 .f32) (k v : FVec Ideal S256x128 .bf16) (g : FVec Ideal S1x128 .f32) (p : Fin 1024) (d : Fin 128) :
    head q k v g (ix2 p d) = output (fun c => q (ix2 p c)) (fun c => g (ix2 0 c)) (fun j c => k (ix2 j c)) (fun j => v (ix2 j d)) := by
  simp only [head, mixed_at, raisedOf_at, scores_at]
  rfl

/-- The kernel's block is its four heads side by side. -/
theorem block_eq (q : FVec Ideal S1024x512 .f32) (k v : FVec Ideal S256x512 .bf16) (g : FVec Ideal S1x128 .f32) :
    k0_pay1 (F := Ideal) q k v g (k0_pay2 q k v g) (k0_pay6 v g (k0_pay3 q) (k0_pay4 k) (k0_pay5 q)) (k0_pay7 q k g) (k0_pay8 q k g)
    = truncf .bf16 (concatenate S1024x512 1 [
      ⟨S1024x128, head (extractStridedSlice S1024x128 ![0, 0] q slices_S1024x512_o0_0_S1024x128)
        (extractStridedSlice S256x128 ![0, 0] k slices_S256x512_o0_0_S256x128) (extractStridedSlice S256x128 ![0, 0] v slices_S256x512_o0_0_S256x128) g⟩,
      ⟨S1024x128, head (extractStridedSlice S1024x128 ![0, 128] q slices_S1024x512_o0_128_S1024x128)
        (extractStridedSlice S256x128 ![0, 128] k slices_S256x512_o0_128_S256x128) (extractStridedSlice S256x128 ![0, 128] v slices_S256x512_o0_128_S256x128) g⟩,
      ⟨S1024x128, head (extractStridedSlice S1024x128 ![0, 256] q slices_S1024x512_o0_256_S1024x128)
        (extractStridedSlice S256x128 ![0, 256] k slices_S256x512_o0_256_S256x128) (extractStridedSlice S256x128 ![0, 256] v slices_S256x512_o0_256_S256x128) g⟩,
      ⟨S1024x128, head (extractStridedSlice S1024x128 ![0, 384] q slices_S1024x512_o0_384_S1024x128)
        (extractStridedSlice S256x128 ![0, 384] k slices_S256x512_o0_384_S256x128) (extractStridedSlice S256x128 ![0, 384] v slices_S256x512_o0_384_S256x128) g⟩]
      concatenates_S1024x128_S1024x128_S1024x128_S1024x128_S1024x512_d1) bitsLt_bf16_f32 := rfl

/-- The kernel's block. -/
def block (q : FVec Ideal S1024x512 .f32) (k v : FVec Ideal S256x512 .bf16) (g : FVec Ideal S1x128 .f32) : FVec Ideal S1024x512 .bf16 :=
  k0_pay1 (F := Ideal) q k v g (k0_pay2 q k v g) (k0_pay6 v g (k0_pay3 q) (k0_pay4 k) (k0_pay5 q)) (k0_pay7 q k g) (k0_pay8 q k g)

/-- A head's output is that of its columns, however they are named. -/
theorem output_col (q : FVec Ideal S1024x512 .f32) (k v : FVec Ideal S256x512 .bf16) (g : FVec Ideal S1x128 .f32) (p : Fin 1024) (c w : Fin 512)
    (o : Fin 128 → Fin 512) (ho : ∀ d, o d = col c d) (hw : w = c) :
    output (fun d => q (ix2 p (o d))) (fun d => g (ix2 0 d)) (fun j d => k (ix2 j (o d))) (fun j => v (ix2 j w))
    = output (fun d => q (ix2 p (col c d))) (fun d => g (ix2 0 d)) (fun j d => k (ix2 j (col c d))) (fun j => v (ix2 j c)) := by
  rw [funext ho, hw]

theorem block_at (q : FVec Ideal S1024x512 .f32) (k v : FVec Ideal S256x512 .bf16) (g : FVec Ideal S1x128 .f32) (p : Fin 1024) (c : Fin 512) :
    block q k v g (ix2 p c)
    = output (fun d => q (ix2 p (col c d))) (fun d => g (ix2 0 d)) (fun j d => k (ix2 j (col c d))) (fun j => v (ix2 j c)) := by
  rw [block, block_eq]
  pointwise [head_at]
  have hc := c.isLt
  have hd : ∀ d : Fin 128, d.val < 128 := fun d => d.isLt
  have hv : ∀ d, (col c d).val = c.val / 128 * 128 + d.val := fun d => rfl
  by_cases h0 : c.val < 128
  · rw [dif_pos h0]
    exact output_col q k v g p c _ _ (fun d => Fin.ext (by rw [hv]; show d.val = _; omega)) rfl
  rw [dif_neg h0]
  by_cases h1 : c.val - 128 < 128
  · rw [dif_pos h1]
    exact output_col q k v g p c _ _ (fun d => Fin.ext (by rw [hv]; show 128 + d.val = _; omega)) (Fin.ext (by show 128 + (c.val - 128) = c.val; omega))
  rw [dif_neg h1]
  by_cases h2 : c.val - 128 - 128 < 128
  · rw [dif_pos h2]
    exact output_col q k v g p c _ _ (fun d => Fin.ext (by rw [hv]; show 256 + d.val = _; omega))
      (Fin.ext (by show 256 + (c.val - 128 - 128) = c.val; omega))
  rw [dif_neg h2]
  exact output_col q k v g p c _ _ (fun d => Fin.ext (by rw [hv]; show 384 + d.val = _; omega))
    (Fin.ext (by show 384 + (c.val - 128 - 128 - 128) = c.val; omega))

/-- Which block each window holds at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The array's row of a row of the point's block. -/
def row (t : Fin cfg0.N) (p : Fin 1024) : Fin 4096 := ⟨t.val * 1024 + p.val, by have h : t.val < 4 := t.isLt; omega⟩

variable (m : (ℓ : Loc nD τ sig) → Buf (Elt Ideal) ℓ) (c : Dev nD)

abbrev arg0 : FVec Ideal S4096x512 .f32 := m ((c : Thread nD τ).loc main_arg0)
abbrev arg1 : FVec Ideal S256x512 .bf16 := m ((c : Thread nD τ).loc main_arg1)
abbrev arg2 : FVec Ideal S256x512 .bf16 := m ((c : Thread nD τ).loc main_arg2)
abbrev arg3 : FVec Ideal S1x128 .f32 := m ((c : Thread nD τ).loc main_arg3)

theorem block0 (t : Fin cfg0.N) (p : Fin 1024) (k : Fin 512) : iblk m c 0 t (ix2 p k) = arg0 m c (ix2 (row t p) k) :=
  congrArg (V m c main_arg0) (Shape.idx_ext₂
    (by show win0_0.index t (0 : Fin 2) * 1024 + 1 * p.val = t.val * 1024 + p.val; rw [(idx t).1]; show t.val * 1024 + _ = _; omega)
    (by show win0_0.index t (1 : Fin 2) * 512 + 1 * k.val = k.val; rw [(idx t).1]; show 0 * 512 + _ = _; omega))
theorem block1 (t : Fin cfg0.N) (j : Fin 256) (k : Fin 512) : iblk m c 1 t (ix2 j k) = arg1 m c (ix2 j k) :=
  congrArg (V m c main_arg1) (Shape.idx_ext₂
    (by show win0_1.index t (0 : Fin 2) * 256 + 1 * j.val = j.val; rw [(idx t).2.1]; show 0 * 256 + _ = _; omega)
    (by show win0_1.index t (1 : Fin 2) * 512 + 1 * k.val = k.val; rw [(idx t).2.1]; show 0 * 512 + _ = _; omega))
theorem block2 (t : Fin cfg0.N) (j : Fin 256) (k : Fin 512) : iblk m c 2 t (ix2 j k) = arg2 m c (ix2 j k) :=
  congrArg (V m c main_arg2) (Shape.idx_ext₂
    (by show win0_2.index t (0 : Fin 2) * 256 + 1 * j.val = j.val; rw [(idx t).2.2.1]; show 0 * 256 + _ = _; omega)
    (by show win0_2.index t (1 : Fin 2) * 512 + 1 * k.val = k.val; rw [(idx t).2.2.1]; show 0 * 512 + _ = _; omega))
theorem block3 (t : Fin cfg0.N) (k : Fin 128) : iblk m c 3 t (ix2 0 k) = arg3 m c (ix2 0 k) :=
  congrArg (V m c main_arg3) (Shape.idx_ext₂
    (by show win0_3.index t (0 : Fin 2) * 1 + 1 * 0 = 0; rw [(idx t).2.2.2.1]; rfl)
    (by show win0_3.index t (1 : Fin 2) * 128 + 1 * k.val = k.val; rw [(idx t).2.2.2.1]; show 0 * 128 + _ = _; omega))

theorem after4 (t : Fin cfg0.N) : (dats m 0 c).after 4 t = block (iblk m c 0 t) (iblk m c 1 t) (iblk m c 2 t) (iblk m c 3 t) := by
  rw [after0_4]
  frame_out
  rfl

theorem point (t : Fin cfg0.N) (p : Fin 1024) (d : Fin 512) :
    (dats m 0 c).after 4 t (ix2 p d) = out (arg0 m c) (arg1 m c) (arg2 m c) (arg3 m c) (ix2 (row t p) d) := by
  rw [after4, out_at]
  refine (block_at _ _ _ _ p d).trans ?_
  simp only [block0, block1, block2, block3]

theorem array : (dats m 0 c).arrAt 4 cfg0.N = out (arg0 m c) (arg1 m c) (arg2 m c) (arg3 m c) := by
  refine (dats m 0 c).arrAt_eq_of_covers 4 _ (by decide +kernel) fun t hf y => ?_
  have e1 : ((cfg0.win 4).xinj (grid0.coords t) y : S1024x512.Idx) = ix2 (y 0 : Fin 1024) (y 1 : Fin 512) := Shape.idx_ext₂ rfl rfl
  have e2 : (ix2 (row t (y 0 : Fin 1024)) (y 1 : Fin 512) : S4096x512.Idx) = ((cfg0.win 4).blk t).view.emb y := by
    refine Shape.idx_ext₂ ?_ ?_
    · show t.val * 1024 + (y 0).val = win0_4.index t (0 : Fin 2) * 1024 + 1 * (y 0).val
      rw [(idx t).2.2.2.2]; show _ = t.val * 1024 + _; omega
    · show (y 1).val = win0_4.index t (1 : Fin 2) * 512 + 1 * (y 1).val
      rw [(idx t).2.2.2.2]; show _ = 0 * 512 + _; omega
  show (dats m 0 c).after 4 t ((cfg0.win 4).xinj (grid0.coords t) y) = out _ _ _ _ (((cfg0.win 4).blk t).view.emb y)
  exact (congrArg ((dats m 0 c).after 4 t) e1).trans ((point m c t (y 0 : Fin 1024) (y 1)).trans (congrArg (out _ _ _ _) e2))

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = out (arg0 m c) (arg1 m c) (arg2 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (array m c), h.2.1 c⟩) (θ_run_and (run_main m ρ) (frame m ρ))

end Cert.CrossIdeal.Heads

namespace Cert.CrossOut

open Idealize.ShloMosaic Idealize.ShloMosaic.TcCoe Idealize.SL.Sem

theorem frame_kernel : Cert.quiescent_Cross (hCross := Cert.Cross.Gen.facts) := fun m ρ _ => Cert.Cross.Gen.frame m ρ
theorem frame_ideal : Cert.quiescent_CrossIdeal (hCrossIdeal := Cert.CrossIdeal.Gen.facts) := fun m ρ _ => Cert.CrossIdeal.Gen.frame m ρ
theorem frame_reference : Cert.quiescent_CrossReferenceIdeal (hCrossReferenceIdeal := Cert.CrossReferenceIdeal.Gen.facts) := fun m ρ _ =>
  (θ_run Cert.CrossReferenceIdeal.defs _ _).mono (fun r h => ⟨fun c => (h c).2, sem_eq_zero_of_no_sems (by decide) r.2⟩) (Cert.CrossReferenceIdeal.Value.run m ρ)
theorem preserves : Cert.preserves_Cross_CrossIdeal := trivial

theorem algebraic : Cert.algebraic_CrossIdeal_CrossReferenceIdeal (hCrossIdeal := Cert.CrossIdeal.Gen.facts)
    (hCrossReferenceIdeal := Cert.CrossReferenceIdeal.Gen.facts) := by
  intro m ρ m' ρ' _ agree
  refine ⟨_, Cert.CrossIdeal.Heads.run m ρ, (θ_run Cert.CrossReferenceIdeal.defs _ _).mono (fun r h c => ?_) (Cert.CrossReferenceIdeal.Value.run m' ρ')⟩
  obtain ⟨e0, e1, e2, e3⟩ := agree c
  refine ⟨(h c).1.trans ?_, (h c).2⟩
  unfold Cert.CrossIdeal.Heads.arg0 Cert.CrossIdeal.Heads.arg1 Cert.CrossIdeal.Heads.arg2 Cert.CrossIdeal.Heads.arg3
  rw [← e0, ← e1, ← e2, ← e3]
  rfl

end Cert.CrossOut
end
end
-- ==== Proof.ScanMath.lean ====
/- The scan's arithmetic: a recurrence over the complex numbers whose real and imaginary parts the programs hold, run in one
   go and run in pieces that are joined afterwards. -/
module

public import Idealize.ShloMosaic.Lib.Pipeline.ValueKit

@[expose] public section

noncomputable section

namespace Cert.ScanMath

open Idealize.ShloMosaic

/-- The state after `k` steps `s := a s + x`, from zero. -/
def run (a : ℂ) (x : ℕ → ℂ) : ℕ → ℂ
  | 0 => 0
  | k + 1 => a * run a x k + x k

theorem run_congr (a : ℂ) {x y : ℕ → ℂ} {k : ℕ} (h : ∀ i < k, x i = y i) : run a x k = run a y k := by
  induction k with
  | zero => rfl
  | succ k ih => rw [run, run, ih fun i hi => h i (by omega), h k (by omega)]

/-- Running on from `n` steps: what the later inputs leave by themselves, and the state at `n` carried along. -/
theorem run_add (a : ℂ) (x : ℕ → ℂ) (n i : ℕ) : run a x (n + i) = run a (fun k => x (n + k)) i + a ^ i * run a x n := by
  induction i with
  | zero => simp [run]
  | succ i ih => rw [← Nat.add_assoc, run, ih, run, pow_succ]; ring

/-- Two numbers are the parts of a complex one. -/
def Parts (z : ℂ) (p q : EReal) : Prop := p = (z.re : EReal) ∧ q = (z.im : EReal)

theorem Parts.mul {a z : ℂ} {p q r s : EReal} (ha : Parts a p q) (hz : Parts z r s) :
    Parts (a * z) (p * r - q * s) (p * s + q * r) := by
  obtain ⟨rfl, rfl⟩ := ha
  obtain ⟨rfl, rfl⟩ := hz
  exact ⟨by rw [Complex.mul_re]; norm_cast, by rw [Complex.mul_im]; norm_cast⟩
theorem Parts.add {a z : ℂ} {p q r s : EReal} (ha : Parts a p q) (hz : Parts z r s) : Parts (a + z) (p + r) (q + s) := by
  obtain ⟨rfl, rfl⟩ := ha
  obtain ⟨rfl, rfl⟩ := hz
  exact ⟨by rw [Complex.add_re]; norm_cast, by rw [Complex.add_im]; norm_cast⟩
/-- One step of the recurrence. -/
theorem Parts.step {a z x : ℂ} {p q r s u v : EReal} (ha : Parts a p q) (hz : Parts z r s) (hx : Parts x u v) :
    Parts (a * z + x) (p * r - q * s + u) (p * s + q * r + v) := (ha.mul hz).add hx
theorem Parts.zero : Parts 0 0 0 := ⟨by simp, by simp⟩
theorem Parts.one : Parts 1 1 0 := ⟨by simp, by simp⟩

end Cert.ScanMath

end

end
-- ==== Proof.ScanPay.lean ====
/- What the scan kernel's expressions hold at an index: the step of the recurrence, the powers of its factor, and the states
   that the chunks of time start from. -/
module

public import proofs.«01_k».proof.Defs
public import proofs.«01_k».proof.Proof.ScanMath
public import proofs.«01_k».proof.Proof.Gen.ScanIdeal.Frame
public import Idealize.ShloMosaic.Lib.Pipeline.ValueKit
public import Idealize.ShloMosaic.Lib.Pipeline.ReadBack

set_option maxRecDepth 16384

@[expose] public section

noncomputable section

namespace Cert.ScanGrad

open Idealize.ShloMosaic Idealize.ShloMosaic.TcCoe
open Cert.ScanIdeal Cert.ScanIdeal.Gen Cert.ScanMath

abbrev Wide := FVec Ideal S8x512 .f32
abbrev Line := FVec Ideal S1x512 .f32

/-- Two blocks hold the parts of complex numbers. -/
def Both (z : Fin 8 → Fin 512 → ℂ) (p q : Wide) : Prop := ∀ r c, Parts (z r c) (p (ix2 r c)) (q (ix2 r c))
def Row (z : Fin 512 → ℂ) (p q : Line) : Prop := ∀ c, Parts (z c) (p (ix2 0 c)) (q (ix2 0 c))

variable {a : Fin 512 → ℂ} {v28 v30 : Line} (ha : Row a v28 v30)

include ha in
theorem factor : Both (fun _ => a) (k0_pay26 (F := Ideal) v28) (k0_pay27 (F := Ideal) v30) := fun r c => by
  pointwise [k0_pay26, k0_pay27]
  exact ha c
theorem zeros : Both (fun _ _ => 0) (k0_pay28 (F := Ideal)) (k0_pay28 (F := Ideal)) := fun r c => by
  pointwise [k0_pay28]
  exact Parts.zero
theorem ones : Both (fun _ _ => 1) (k0_pay29 (F := Ideal)) (k0_pay28 (F := Ideal)) := fun r c => by
  pointwise [k0_pay29, k0_pay28]
  exact Parts.one
theorem ones' : Both (fun _ _ => 1) (k0_pay7 (F := Ideal)) (k0_pay28 (F := Ideal)) := fun r c => by
  pointwise [k0_pay7, k0_pay28]
  exact Parts.one

include ha in
/-- A trip of the first loop: the step of the recurrence, and the next power of its factor. -/
theorem step {s x : Fin 8 → Fin 512 → ℂ} {p q u v : Wide} (hs : Both s p q) (hx : Both x u v) :
    Both (fun r c => a c * s r c + x r c) (k0_pay30 (F := Ideal) v28 v30 p q u) (k0_pay31 (F := Ideal) v28 v30 p q v) := fun r c => by
  have h := (factor ha r c).step (hs r c) (hx r c)
  pointwise [k0_pay30, k0_pay31]
  exact h
include ha in
theorem power {s : Fin 8 → Fin 512 → ℂ} {p q : Wide} (hs : Both s p q) :
    Both (fun r c => a c * s r c) (k0_pay32 (F := Ideal) v28 v30 p q) (k0_pay33 (F := Ideal) v28 v30 p q) := fun r c => by
  have h := (factor ha r c).mul (hs r c)
  pointwise [k0_pay32, k0_pay33]
  exact h

/-- A trip of the second loop. -/
theorem power' {a s : Fin 8 → Fin 512 → ℂ} {v33 v35 p q : Wide} (ha : Both a v33 v35) (hs : Both s p q) :
    Both (fun r c => a r c * s r c) (k0_pay8 (F := Ideal) v33 v35 p q) (k0_pay9 (F := Ideal) v33 v35 p q) := fun r c => by
  have h := (ha r c).mul (hs r c)
  pointwise [k0_pay8, k0_pay9]
  exact h

/-- A trip of the second loop: what the chunk's start adds to its states. -/
theorem joined {a s x k : Fin 8 → Fin 512 → ℂ} {v33 v35 p q u v v0 v1 v2 v3 v157 v162 : Wide} {v40 : IVec S8x512 32}
    {v150 v164 v167 v168 : Line} (ha : Both a v33 v35) (hs : Both s p q) (hx : Both x u v)
    (hk : Both k (k0_pay5 (F := Ideal) v0 v1 v2 v3 v40 v150 v157 v164 v167 v168) (k0_pay6 (F := Ideal) v0 v1 v2 v3 v40 v150 v162 v164 v167 v168)) :
    Both (fun r c => x r c + a r c * s r c * k r c) (k0_pay10 (F := Ideal) v33 v35 v0 v1 v2 v3 v40 v150 v157 v162 v164 v167 v168 p q u)
      (k0_pay11 (F := Ideal) v33 v35 v0 v1 v2 v3 v40 v150 v157 v162 v164 v167 v168 p q v) := fun r c => by
  have h := (hx r c).add ((power' ha hs r c).mul (hk r c))
  pointwise [k0_pay10, k0_pay11]
  exact h

/-- The states the chunks start from: zero, and from each chunk to the one before it in the array. -/
def start (e : Fin 8 → ℂ) (p : ℂ) : ℕ → ℂ
  | 0 => 0
  | n + 1 => p * start e p n + (if h : n < 8 then e ⟨7 - n, by omega⟩ else 0)

section Chunks

variable {e f : Fin 8 → Fin 512 → ℂ} {v0 v1 v2 v3 : Wide} (he : Both e v0 v1) (hf : Both f v2 v3)

/-- The state the chunk of row `7 - n` starts from, at a column. -/
abbrev startAt (e f : Fin 8 → Fin 512 → ℂ) (n : ℕ) (c : Fin 512) : ℂ := start (fun r => e r c) (f 0 c) n

abbrev r0 : Line := k0_pay34 (F := Ideal)
abbrev i0 : Line := k0_pay35 (F := Ideal)

theorem start0 : Row (startAt e f 0) (k0_pay34 (F := Ideal)) (k0_pay35 (F := Ideal)) := fun c => by
  pointwise [k0_pay34, k0_pay35]
  exact Parts.zero
include he hf in
theorem start1 : Row (startAt e f 1) (k0_pay42 (F := Ideal) v0 (k0_pay40 v2 v3))
    (k0_pay43 (F := Ideal) v1 k0_pay34 (k0_pay39 v3) (k0_pay41 v2)) := fun c => by
  have h := (hf 0 c).step (start0 (e := e) (f := f) c) (he 7 c)
  pointwise [k0_pay42, k0_pay43, k0_pay40, k0_pay41, k0_pay38, k0_pay39]
  exact h
include he hf in
theorem start2 : Row (startAt e f 2) (k0_pay46 (F := Ideal) v0 v1 v2 v3 k0_pay34 (k0_pay39 v3) (k0_pay40 v2 v3) (k0_pay41 v2)) (k0_pay47 (F := Ideal) v0 v1 v2 v3 k0_pay34 (k0_pay39 v3) (k0_pay40 v2 v3) (k0_pay41 v2)) := fun c => by
  have h := (hf 0 c).step (start1 he hf c) (he 6 c)
  pointwise [k0_pay46, k0_pay47, k0_pay44, k0_pay45]
  exact h
include he hf in
theorem start3 : Row (startAt e f 3) (k0_pay51 (F := Ideal) v0 v1 v2 v3 k0_pay34 (k0_pay39 v3) (k0_pay40 v2 v3) (k0_pay41 v2)) (k0_pay52 (F := Ideal) v0 v1 v2 v3 k0_pay34 (k0_pay39 v3) (k0_pay40 v2 v3) (k0_pay41 v2)) := fun c => by
  have h := (hf 0 c).step (start2 he hf c) (he 5 c)
  pointwise [k0_pay51, k0_pay52, k0_pay49, k0_pay50]
  exact h

variable {v106 v108 : Line} (h3 : Row (startAt e f 3) v106 v108)

include he hf h3 in
theorem start4 : Row (startAt e f 4) (k0_pay56 (F := Ideal) v0 v2 v3 v106 v108) (k0_pay57 (F := Ideal) v1 v2 v3 v106 v108) :=
  fun c => by
  have h := (hf 0 c).step (h3 c) (he 4 c)
  pointwise [k0_pay56, k0_pay57, k0_pay54, k0_pay55]
  exact h
include he hf h3 in
theorem start5 : Row (startAt e f 5) (k0_pay60 (F := Ideal) v0 v1 v2 v3 v106 v108)
    (k0_pay61 (F := Ideal) v0 v1 v2 v3 v106 v108) := fun c => by
  have h := (hf 0 c).step (start4 he hf h3 c) (he 3 c)
  pointwise [k0_pay60, k0_pay61, k0_pay58, k0_pay59]
  exact h
include he hf h3 in
theorem start6 : Row (startAt e f 6) (k0_pay1 (F := Ideal) v0 (k0_pay66 v0 v1 v2 v3 v106 v108))
    (k0_pay2 (F := Ideal) v1 (k0_pay60 v0 v1 v2 v3 v106 v108) (k0_pay65 v3) (k0_pay67 v0 v1 v2 v3 v106 v108)) := fun c => by
  have h := (hf 0 c).step (start5 he hf h3 c) (he 2 c)
  pointwise [k0_pay1, k0_pay2, k0_pay66, k0_pay67, k0_pay64, k0_pay65]
  exact h

/-- The rows' own numbers, as the kernel counts them. -/
abbrev ids : IVec S8x512 32 := iota .tc S8x512 32 [0] iota_S8x512_d0_w32

theorem pick (r : Fin 8) (k : ℕ) (hk : k < 8) (x y : EReal) :
    Scalar.select (IntOp.cmpi .eq (BitVec.ofNat 32 r.val) (BitVec.ofNat 32 k)) x y = if r.val = k then x else y := by
  obtain ⟨r, hr⟩ := r
  interval_cases r <;> interval_cases k <;> rfl

/-- Row by row, the states the chunks start from. -/
abbrev head (v0 v1 v2 v3 : Wide) : Wide :=
  k0_pay53 (F := Ideal) v0 v1 v2 v3 ids k0_pay34 k0_pay36 (k0_pay39 v3) (k0_pay40 v2 v3) (k0_pay41 v2)
abbrev head' (v0 v1 v2 v3 : Wide) : Wide :=
  k0_pay48 (F := Ideal) v0 v1 v2 v3 ids k0_pay34 k0_pay37 (k0_pay39 v3) (k0_pay40 v2 v3) (k0_pay41 v2)
abbrev third (v0 v1 v2 v3 : Wide) : Line := k0_pay51 (F := Ideal) v0 v1 v2 v3 k0_pay34 (k0_pay39 v3) (k0_pay40 v2 v3) (k0_pay41 v2)
abbrev third' (v0 v1 v2 v3 : Wide) : Line := k0_pay52 (F := Ideal) v0 v1 v2 v3 k0_pay34 (k0_pay39 v3) (k0_pay40 v2 v3) (k0_pay41 v2)
abbrev fifth (v0 v1 v2 v3 : Wide) : Line := k0_pay60 (F := Ideal) v0 v1 v2 v3 (third v0 v1 v2 v3) (third' v0 v1 v2 v3)
abbrev sixth (v0 v1 v2 v3 : Wide) : Line := k0_pay66 (F := Ideal) v0 v1 v2 v3 (third v0 v1 v2 v3) (third' v0 v1 v2 v3)
abbrev sixth' (v0 v1 v2 v3 : Wide) : Line := k0_pay67 (F := Ideal) v0 v1 v2 v3 (third v0 v1 v2 v3) (third' v0 v1 v2 v3)
abbrev mid (v0 v1 v2 v3 : Wide) : Wide :=
  k0_pay62 (F := Ideal) v0 v1 v2 v3 ids (third v0 v1 v2 v3) (third' v0 v1 v2 v3) (head v0 v1 v2 v3)
abbrev mid' (v0 v1 v2 v3 : Wide) : Wide :=
  k0_pay63 (F := Ideal) v0 v1 v2 v3 ids (head' v0 v1 v2 v3) (third v0 v1 v2 v3) (third' v0 v1 v2 v3)

include he hf in
theorem starts : Both (fun r c => startAt e f (7 - r.val) c)
    (k0_pay5 (F := Ideal) v0 v1 v2 v3 ids (fifth v0 v1 v2 v3) (mid v0 v1 v2 v3) (k0_pay65 v3) (sixth v0 v1 v2 v3) (sixth' v0 v1 v2 v3))
    (k0_pay6 (F := Ideal) v0 v1 v2 v3 ids (fifth v0 v1 v2 v3) (mid' v0 v1 v2 v3) (k0_pay65 v3) (sixth v0 v1 v2 v3) (sixth' v0 v1 v2 v3)) := fun r c => by
  have h0 := start0 (e := e) (f := f) c
  have h1 := start1 he hf c
  have h2 := start2 he hf c
  have h3 := start3 he hf c
  have h4 := start4 he hf (start3 he hf) c
  have h5 := start5 he hf (start3 he hf) c
  have h6 := start6 he hf (start3 he hf) c
  have h7 := (hf 0 c).step h6 (he 1 c)
  pointwise [k0_pay5, k0_pay6, k0_pay3, k0_pay4, mid, mid', k0_pay62, k0_pay63, head, head', k0_pay53, k0_pay48, k0_pay36, k0_pay37, ids]
  simp only [pick, Nat.reduceLT]
  obtain ⟨r, hr⟩ := r
  interval_cases r
  · exact h7
  · exact h6
  · exact h5
  · exact h4
  · exact h3
  · exact h2
  · exact h1
  · exact h0

end Chunks

end Cert.ScanGrad

end

end
-- ==== Proof.ScanLoops.lean ====
/- What the scan kernel's two loops leave: after the first, every chunk of time run from zero; after the second, the states that
   the chunks start from carried into every row. -/
module

public import proofs.«01_k».proof.Defs
public import proofs.«01_k».proof.Proof.ScanPay
public import Idealize.ShloMosaic.Lib.WritesUnit

set_option maxRecDepth 16384

@[expose] public section

noncomputable section

namespace Cert.ScanGrad

open Idealize.ShloMosaic Idealize.ShloMosaic.TcCoe
open Cert.ScanIdeal Cert.ScanIdeal.Gen Cert.ScanMath

abbrev Whole := View sig .tc .vmem S4096x512 .f32
abbrev Piece := View.Piece (Elt Ideal) S4096x512 .f32

/-- Two buffers hold the parts of complex numbers. -/
def Held (v w : Whole) (f : v.ty.Contents (Elt Ideal)) (g : w.ty.Contents (Elt Ideal)) (y : ℕ → Fin 512 → ℂ) : Prop :=
  ∀ (p : Fin 4096) (c : Fin 512), Parts (y p.val c) (v.read (Elt Ideal) f (ix2 p c)) (w.read (Elt Ideal) g (ix2 p c))

theorem Held.congr {v w : Whole} {f : v.ty.Contents (Elt Ideal)} {g : w.ty.Contents (Elt Ideal)} {y z : ℕ → Fin 512 → ℂ}
    (h : Held v w f g y) (e : ∀ p < 4096, ∀ c, y p c = z p c) : Held v w f g z := fun p c => e p.val p.isLt c ▸ h p c

theorem Both.congr {y z : Fin 8 → Fin 512 → ℂ} {p q : Wide} (h : Both y p q) (e : ∀ r c, y r c = z r c) : Both z p q :=
  fun r c => e r c ▸ h r c

section Rows

variable {v w : Whole} {off : Fin 2 → ℕ} {k : ℕ} (hoff : off = ![4088 - 8 * k, 0]) (hk : k < 512)
  (inb : ∀ a, off a + S8x512.size a ≤ S4096x512.size a)

include hoff hk in
/-- The eight rows of a trip, loaded. -/
theorem load {f : v.ty.Contents (Elt Ideal)} {g : w.ty.Contents (Elt Ideal)} {y : ℕ → Fin 512 → ℂ} (h : Held v w f g y) :
    Both (fun r c => y (8 * (511 - k) + r.val) c)
      (v.readAt (Elt Ideal) (Rect.unit (s := S4096x512) off S8x512.size inb).toLoadRect f)
      (w.readAt (Elt Ideal) (Rect.unit (s := S4096x512) off S8x512.size inb).toLoadRect g) := fun r c => by
  subst hoff
  have e := h ⟨8 * (511 - k) + r.val, by omega⟩ c
  have hx : (Rect.unit (s := S4096x512) ![4088 - 8 * k, 0] S8x512.size inb).toLoadRect.idx (ix2 r c)
      = ix2 ⟨8 * (511 - k) + r.val, by omega⟩ c := Shape.idx_ext₂
    (by show 4088 - 8 * k + 1 * r.val = 8 * (511 - k) + r.val; omega) (by show 0 + 1 * c.val = c.val; omega)
  rw [View.readAt_apply, View.readAt_apply, hx]
  exact e

include hoff hk in
/-- The eight rows of a trip, stored. -/
theorem store {f : v.ty.Contents (Elt Ideal)} {g : w.ty.Contents (Elt Ideal)} {L M : List Piece} {y : ℕ → Fin 512 → ℂ}
    (h : Held v w (v.writes (Elt Ideal) f L) (w.writes (Elt Ideal) g M) y) {z : ℕ → Fin 512 → ℂ} {p q : Wide}
    (hz : Both (fun r => z r.val) p q) :
    Held v w (v.writes (Elt Ideal) f (⟨Rect.unit (s := S4096x512) off S8x512.size inb, p⟩ :: L))
      (w.writes (Elt Ideal) g (⟨Rect.unit (s := S4096x512) off S8x512.size inb, q⟩ :: M))
      (fun r c => if r / 8 = 511 - k then z (r % 8) c else y r c) := fun r c => by
  show Parts (if r.val / 8 = 511 - k then z (r.val % 8) c else y r.val c) _ _
  by_cases hr : r.val / 8 = 511 - k
  · have hx : ∀ a, ((ix2 r c : S4096x512.Idx) a).val = (![4088 - 8 * k, 0] : Fin 2 → ℕ) a
        + ((ix2 (⟨r.val % 8, by omega⟩ : Fin 8) c : S8x512.Idx) a).val := Fin.forall_fin_two.mpr
      ⟨by show r.val = 4088 - 8 * k + r.val % 8; omega, by show c.val = 0 + c.val; omega⟩
    have e := hz ⟨r.val % 8, by omega⟩ c
    rw [if_pos hr, View.read_writes_cons_unit_of_mem v f inb p L _ _ hoff hx, View.read_writes_cons_unit_of_mem w g inb q M _ _ hoff hx]
    exact e
  · have ha : ((ix2 r c : S4096x512.Idx) (0 : Fin 2)).val < (![4088 - 8 * k, 0] : Fin 2 → ℕ) (0 : Fin 2)
        ∨ (![4088 - 8 * k, 0] : Fin 2 → ℕ) (0 : Fin 2) + S8x512.size (0 : Fin 2) ≤ ((ix2 r c : S4096x512.Idx) (0 : Fin 2)).val := by
      show r.val < 4088 - 8 * k ∨ 4088 - 8 * k + 8 ≤ r.val
      omega
    rw [if_neg hr, View.read_writes_cons_unit_of_not_mem v f inb p L _ hoff 0 ha, View.read_writes_cons_unit_of_not_mem w g inb q M _ hoff 0 ha]
    exact h r c

end Rows

variable (𝒱 : Variants) (d : Dev nD) (bd : Option 𝒱.V) (i : grid0.Coords) (arg1 : Memref sig .tc .vmem S4096x128 .bf16) (harg1 : arg1.IsWhole)
  (arg2 : Memref sig .tc .vmem S1x512 .f32) (harg2 : arg2.IsWhole) (arg3 : Memref sig .tc .vmem S1x512 .f32) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S4096x512 .f32) (harg6 : arg6.IsWhole) (arg7 : Memref sig .tc .vmem S4096x512 .f32) (harg7 : arg7.IsWhole)
  {G : arg6.view.ty.Contents (Elt Ideal)} {H : arg7.view.ty.Contents (Elt Ideal)} {x : ℕ → Fin 512 → ℂ} {a : Fin 512 → ℂ}

/-- A chunk's inputs, in the order the trips take them. -/
abbrev inputs (x : ℕ → Fin 512 → ℂ) (r : ℕ) (c : Fin 512) (i : ℕ) : ℂ := x (8 * (511 - i) + r) c
/-- What the first loop leaves after `k` trips. -/
def after1 (x : ℕ → Fin 512 → ℂ) (a : Fin 512 → ℂ) (k p : ℕ) (c : Fin 512) : ℂ :=
  if 511 - p / 8 < k then run (a c) (inputs x (p % 8) c) (512 - p / 8) else x p c
/-- What the second loop leaves after `k` trips. -/
def after2 (x z : ℕ → Fin 512 → ℂ) (a : Fin 512 → ℂ) (k p : ℕ) (c : Fin 512) : ℂ :=
  if 511 - p / 8 < k then x p c + a c ^ (512 - p / 8) * z (p % 8) c else x p c

section First

variable (v1 v3 : FVec Ideal S512x128 .bf16) (v28 v30 : Line) (ha : Row a v28 v30)

include ha in
theorem loop1 (hx : Held arg6.view arg7.view G H x) (k : ℕ) (hk : k ≤ 512) :
    Both (fun r c => run (a c) (inputs x r.val c) k)
        (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).1.1
        (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).1.2.1
      ∧ Both (fun r c => a c ^ k)
        (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).1.2.2.1
        (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).1.2.2.2
      ∧ Held arg6.view arg7.view
        (arg6.view.writes (Elt Ideal) G (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).2.1)
        (arg7.view.writes (Elt Ideal) H (st_k0_t1 (F := Ideal) 𝒱 d bd i arg1 harg1 arg2 harg2 arg3 harg3 arg4 harg4 arg5 harg5 arg6 harg6 arg7 harg7 v1 v3 v28 v30 G H (k0_pay28, k0_pay28, k0_pay29, k0_pay28) k).2.2)
        (after1 x a k) := by
  induction k with
  | zero => exact ⟨zeros, ones.congr fun r c => (pow_zero _).symm, fun p c => hx p c⟩
  | succ k ih =>
    obtain ⟨h1, h2, h3⟩ := ih (by omega)
    have e := st_k0_t1_succ (F := Ideal) 𝒱 d bd i arg1 harg1 arg2 harg2 arg3 harg3 arg4 harg4 arg5 harg5 arg6 harg6 arg7 harg7 v1 v3 v28 v30 G H (k0_pay28, k0_pay28, k0_pay29, k0_pay28) ⟨k, hk⟩
    unfold tripR_k0_t1 tripL_k0_t1 trip_k0_t1 at e
    dsimp only at e
    rw [e]
    have hl : Both (fun r c => inputs x r.val c k) _ _ :=
      (load (k := k) (k0_off1_eq ⟨k, hk⟩) hk (k0_off1_inb ⟨k, hk⟩) h3).congr fun r c => if_neg (by have := r.isLt; omega)
    have hs := step ha h1 hl
    refine ⟨hs, (power ha h2).congr fun r c => (pow_succ' _ _).symm, ?_⟩
    refine (store (k := k) (k0_off1_eq ⟨k, hk⟩) hk (k0_off1_inb ⟨k, hk⟩) h3 (z := fun r c => run (a c) (inputs x r c) (k + 1)) hs).congr fun p hp c => ?_
    by_cases hr : p / 8 = 511 - k
    · rw [if_pos hr, after1, if_pos (by omega), show 512 - p / 8 = k + 1 by omega]
    · rw [if_neg hr, after1, after1]
      exact if_congr (by omega) rfl rfl

end First

section Second

variable (v33 v35 v0 v1 v2 v3 : Wide) (v40 : IVec S8x512 32) (v150 : Line) (v157 v162 : Wide) (v164 v167 v168 : Line)
  (ha : Both (fun _ => a) v33 v35) {z : ℕ → Fin 512 → ℂ}
  (hz : Both (fun r => z r.val) (k0_pay5 (F := Ideal) v0 v1 v2 v3 v40 v150 v157 v164 v167 v168)
    (k0_pay6 (F := Ideal) v0 v1 v2 v3 v40 v150 v162 v164 v167 v168))

include ha hz in
theorem loop2 (hx : Held arg6.view arg7.view G H x) (k : ℕ) (hk : k ≤ 512) :
    Both (fun r c => a c ^ k)
        (st_k0_t2 (F := Ideal) 𝒱 d bd i arg1 harg1 arg2 harg2 arg3 harg3 arg4 harg4 arg5 harg5 arg6 harg6 arg7 harg7 v33 v35 v0 v1 v2 v3 v40 v150 v157 v162 v164 v167 v168 G H (k0_pay7, k0_pay28) k).1.1
        (st_k0_t2 (F := Ideal) 𝒱 d bd i arg1 harg1 arg2 harg2 arg3 harg3 arg4 harg4 arg5 harg5 arg6 harg6 arg7 harg7 v33 v35 v0 v1 v2 v3 v40 v150 v157 v162 v164 v167 v168 G H (k0_pay7, k0_pay28) k).1.2
      ∧ Held arg6.view arg7.view
        (arg6.view.writes (Elt Ideal) G (st_k0_t2 (F := Ideal) 𝒱 d bd i arg1 harg1 arg2 harg2 arg3 harg3 arg4 harg4 arg5 harg5 arg6 harg6 arg7 harg7 v33 v35 v0 v1 v2 v3 v40 v150 v157 v162 v164 v167 v168 G H (k0_pay7, k0_pay28) k).2.1)
        (arg7.view.writes (Elt Ideal) H (st_k0_t2 (F := Ideal) 𝒱 d bd i arg1 harg1 arg2 harg2 arg3 harg3 arg4 harg4 arg5 harg5 arg6 harg6 arg7 harg7 v33 v35 v0 v1 v2 v3 v40 v150 v157 v162 v164 v167 v168 G H (k0_pay7, k0_pay28) k).2.2)
        (after2 x z a k) := by
  induction k with
  | zero => exact ⟨ones'.congr fun r c => (pow_zero _).symm, fun p c => hx p c⟩
  | succ k ih =>
    obtain ⟨h2, h3⟩ := ih (by omega)
    have e := st_k0_t2_succ (F := Ideal) 𝒱 d bd i arg1 harg1 arg2 harg2 arg3 harg3 arg4 harg4 arg5 harg5 arg6 harg6 arg7 harg7 v33 v35 v0 v1 v2 v3 v40 v150 v157 v162 v164 v167 v168 G H (k0_pay7, k0_pay28) ⟨k, hk⟩
    unfold tripR_k0_t2 tripL_k0_t2 trip_k0_t2 at e
    dsimp only at e
    rw [e]
    have hl : Both (fun r c => inputs x r.val c k) _ _ :=
      (load (k := k) (k0_off2_eq ⟨k, hk⟩) hk (k0_off2_inb ⟨k, hk⟩) h3).congr fun r c => if_neg (by have := r.isLt; omega)
    have hp := power' ha h2
    have hs := joined ha h2 hl hz
    refine ⟨hp.congr fun r c => (pow_succ' _ _).symm, ?_⟩
    refine (store (k := k) (k0_off2_eq ⟨k, hk⟩) hk (k0_off2_inb ⟨k, hk⟩) h3 (z := fun r c => inputs x r c k + a c * a c ^ k * z r c) hs).congr fun p hp c => ?_
    by_cases hr : p / 8 = 511 - k
    · rw [if_pos hr, after2, if_pos (by omega), show 512 - p / 8 = k + 1 by omega, pow_succ']
      show x (8 * (511 - k) + p % 8) c + _ = _
      rw [show 8 * (511 - k) + p % 8 = p by omega]
    · rw [if_neg hr, after2, after2]
      exact if_congr (by omega) rfl rfl

end Second

end Cert.ScanGrad

end

end
-- ==== Proof.ScanBlock.lean ====
/- What a grid point of the scan kernel leaves in its two buffers: the products of its inputs, and over them the states. -/
module

public import proofs.«01_k».proof.Defs
public import proofs.«01_k».proof.Proof.ScanLoops
public import Idealize.ShloMosaic.Lib.WholeRead

set_option maxRecDepth 16384

@[expose] public section

noncomputable section

namespace Cert.ScanGrad

open Idealize.ShloMosaic Idealize.ShloMosaic.TcCoe
open Cert.ScanIdeal Cert.ScanIdeal.Gen Cert.ScanMath

/-- A product of 1024 of the rows. -/
theorem prod_at (x : FVec Ideal S1024x128 .bf16) (y : FVec Ideal S1x512x128 .bf16) (r : Fin 1024) (c : Fin 512) :
    k0_pay15 (F := Ideal) y x (ix2 r c) = ∑ k : Fin 128, x (ix2 r k) * y (ix3 0 c k) := by
  pointwise [k0_pay15, k0_pay14, k0_pay12]

/-- The products of all the rows. -/
def prods (x : FVec Ideal S4096x128 .bf16) (y : FVec Ideal S1x512x128 .bf16) (p : Fin 4096) (c : Fin 512) : EReal :=
  ∑ k : Fin 128, x (ix2 p k) * y (ix3 0 c k)

section Put

variable {v : Whole} {f : v.ty.Contents (Elt Ideal)} {L : List Piece} {s : Fin 4096 → Fin 512 → EReal}

/-- 1024 rows are stored behind those that already hold what they should. -/
theorem put {o : ℕ} (inb : ∀ a, (![o, 0] : Fin 2 → ℕ) a + (![1024, 512] : Fin 2 → ℕ) a ≤ S4096x512.size a) {w : FVec Ideal S1024x512 .f32}
    (hw : ∀ (r : Fin 1024) (c : Fin 512) (h : o + r.val < 4096), w (ix2 r c) = s ⟨o + r.val, h⟩ c)
    (h : ∀ p : Fin 4096, p.val < o → ∀ c, v.read (Elt Ideal) (v.writes (Elt Ideal) f L) (ix2 p c) = s p c)
    (p : Fin 4096) (hp : p.val < o + 1024) (c : Fin 512) :
    v.read (Elt Ideal) (v.writes (Elt Ideal) f (⟨Rect.unit (s := S4096x512) ![o, 0] ![1024, 512] inb, w⟩ :: L)) (ix2 p c) = s p c := by
  by_cases hr : p.val < o
  · have ha : ((ix2 p c : S4096x512.Idx) (0 : Fin 2)).val < (![o, 0] : Fin 2 → ℕ) (0 : Fin 2)
        ∨ (![o, 0] : Fin 2 → ℕ) (0 : Fin 2) + (![1024, 512] : Fin 2 → ℕ) (0 : Fin 2) ≤ ((ix2 p c : S4096x512.Idx) (0 : Fin 2)).val := Or.inl hr
    rw [View.read_writes_cons_unit_of_not_mem v f inb w L _ rfl 0 ha]
    exact h p hr c
  · have hx : ∀ a, ((ix2 p c : S4096x512.Idx) a).val = (![o, 0] : Fin 2 → ℕ) a
        + ((ix2 (⟨p.val - o, by omega⟩ : Fin 1024) c : S1024x512.Idx) a).val := Fin.forall_fin_two.mpr
      ⟨by show p.val = o + (p.val - o); omega, by show c.val = 0 + c.val; omega⟩
    rw [View.read_writes_cons_unit_of_mem v f inb w L _ _ rfl hx, hw _ c (by show o + (p.val - o) < 4096; omega)]
    exact congrArg (fun i => s i c) (Fin.ext (by show o + (p.val - o) = p.val; omega))

end Put

variable (d : Dev nD) (i : grid0.Coords) (arg1 : Memref sig .tc .vmem S4096x128 .bf16) (harg1 : arg1.IsWhole)
  (arg2 : Memref sig .tc .vmem S1x512 .f32) (harg2 : arg2.IsWhole) (arg3 : Memref sig .tc .vmem S1x512 .f32) (harg3 : arg3.IsWhole)
  (arg4 : Memref sig .tc .vmem S1x512x128 .bf16) (harg4 : arg4.IsWhole) (arg5 : Memref sig .tc .vmem S1x512x128 .bf16) (harg5 : arg5.IsWhole)
  (arg6 : Memref sig .tc .vmem S4096x512 .f32) (harg6 : arg6.IsWhole) (arg7 : Memref sig .tc .vmem S4096x512 .f32) (harg7 : arg7.IsWhole)
  (x0 : FVec Ideal S4096x128 .bf16) (x1 x2 : Line) (x3 x4 : FVec Ideal S1x512x128 .bf16)

/-- Rows of a loaded block. -/
theorem rows_at {o : ℕ} (inb : ∀ a, (![o, 0] : Fin 2 → ℕ) a + (![1024, 128] : Fin 2 → ℕ) a ≤ S4096x128.size a) (r : Fin 1024) (k : Fin 128)
    (h : o + r.val < 4096) : arg1.view.readAt (Elt Ideal) (Rect.unit (s := S4096x128) ![o, 0] ![1024, 128] inb).toLoadRect (harg1.unread x0) (ix2 r k)
      = x0 (ix2 ⟨o + r.val, h⟩ k) := by
  rw [Memref.IsWhole.readAt_unread]
  exact congrArg x0 (Shape.idx_ext₂ (by show o + 1 * r.val = o + r.val; omega) (by show 0 + 1 * k.val = k.val; omega))
theorem all_at (inb : ∀ a, (![0, 0, 0] : Fin 3 → ℕ) a + (![1, 512, 128] : Fin 3 → ℕ) a ≤ S1x512x128.size a) (c : Fin 512) (k : Fin 128) :
    arg4.view.readAt (Elt Ideal) (Rect.unit (s := S1x512x128) ![0, 0, 0] ![1, 512, 128] inb).toLoadRect (harg4.unread x3) (ix3 0 c k)
      = x3 (ix3 0 c k) := by
  rw [Memref.IsWhole.readAt_unread]
  exact congrArg x3 (funext (Fin.forall_fin_succ.mpr ⟨rfl, Fin.forall_fin_two.mpr
    ⟨Fin.ext (by show 0 + 1 * c.val = c.val; omega), Fin.ext (by show 0 + 1 * k.val = k.val; omega)⟩⟩))

theorem prods_at {o : ℕ} (inb : ∀ a, (![o, 0] : Fin 2 → ℕ) a + (![1024, 128] : Fin 2 → ℕ) a ≤ S4096x128.size a)
    (inb' : ∀ a, (![0, 0, 0] : Fin 3 → ℕ) a + (![1, 512, 128] : Fin 3 → ℕ) a ≤ S1x512x128.size a)
    (r : Fin 1024) (c : Fin 512) (h : o + r.val < 4096) :
    k0_pay15 (F := Ideal) (arg4.view.readAt (Elt Ideal) (Rect.unit (s := S1x512x128) ![0, 0, 0] ![1, 512, 128] inb').toLoadRect (harg4.unread x3))
      (arg1.view.readAt (Elt Ideal) (Rect.unit (s := S4096x128) ![o, 0] ![1024, 128] inb).toLoadRect (harg1.unread x0)) (ix2 r c)
      = prods x0 x3 ⟨o + r.val, h⟩ c := by
  rw [prod_at]
  exact Finset.sum_congr rfl fun k _ => by rw [rows_at arg1 harg1 x0 inb r k h, all_at arg4 harg4 x3 inb' c k]

theorem first5 (f : arg6.view.ty.Contents (Elt Ideal)) (p : Fin 4096) (c : Fin 512) :
    arg6.view.read (Elt Ideal) (arg6.view.writes (Elt Ideal) f (kernelRun0_A.sl.H5_4 d arg1 harg1 arg4 harg4 x0 x3)) (ix2 p c)
      = prods x0 x3 p c := by
  unfold kernelRun0_A.sl.H5_4
  exact put (o := 3072) _ (prods_at arg1 harg1 arg4 harg4 x0 x3 _ _) (put (o := 2048) _ (prods_at arg1 harg1 arg4 harg4 x0 x3 _ _)
    (put (o := 1024) _ (prods_at arg1 harg1 arg4 harg4 x0 x3 _ _) (put (o := 0) _ (prods_at arg1 harg1 arg4 harg4 x0 x3 _ _)
      fun p hp => absurd hp (Nat.not_lt_zero _)))) p p.isLt c
theorem first6 (f : arg7.view.ty.Contents (Elt Ideal)) (p : Fin 4096) (c : Fin 512) :
    arg7.view.read (Elt Ideal) (arg7.view.writes (Elt Ideal) f (kernelRun0_A.sl.H6_4 d arg1 harg1 arg5 harg5 x0 x4)) (ix2 p c)
      = prods x0 x4 p c := by
  unfold kernelRun0_A.sl.H6_4
  exact put (o := 3072) _ (prods_at arg1 harg1 arg5 harg5 x0 x4 _ _) (put (o := 2048) _ (prods_at arg1 harg1 arg5 harg5 x0 x4 _ _)
    (put (o := 1024) _ (prods_at arg1 harg1 arg5 harg5 x0 x4 _ _) (put (o := 0) _ (prods_at arg1 harg1 arg5 harg5 x0 x4 _ _)
      fun p hp => absurd hp (Nat.not_lt_zero _)))) p p.isLt c

/-- All of a column's inputs, in the order of the recurrence. -/
def line (x : ℕ → Fin 512 → ℂ) (c : Fin 512) (j : ℕ) : ℂ := x (8 * (511 - j % 512) + (7 - j / 512)) c

/-- The states the chunks start from are the recurrence's, run over the chunks before. -/
theorem start_eq (x : ℕ → Fin 512 → ℂ) (a : ℂ) (c : Fin 512) (n : ℕ) (hn : n ≤ 8) :
    start (fun r => run a (inputs x r.val c) 512) (a ^ 512) n = run a (line x c) (512 * n) := by
  induction n with
  | zero => rfl
  | succ n ih =>
    rw [start, ih (by omega), dif_pos (by omega), show 512 * (n + 1) = 512 * n + 512 by ring, run_add, add_comm]
    refine congrArg (fun z => z + _) (run_congr a fun i hi => ?_)
    show x _ c = x _ c
    exact congrArg (fun k => x k c) (by show 8 * (511 - i) + (7 - n) = 8 * (511 - (512 * n + i) % 512) + (7 - (512 * n + i) / 512); omega)

/-- The state that the chunk of row `r` starts from. -/
def joins (x : ℕ → Fin 512 → ℂ) (a : Fin 512 → ℂ) (r : ℕ) (c : Fin 512) : ℂ :=
  startAt (fun r c => run (a c) (inputs x r.val c) 512) (fun (_ : Fin 8) c => a c ^ 512) (7 - r) c

/-- What the two loops leave together. -/
theorem after_eq (x : ℕ → Fin 512 → ℂ) (a : Fin 512 → ℂ) (p : ℕ) (hp : p < 4096) (c : Fin 512) :
    after2 (after1 x a 512) (joins x a) a 512 p c
      = run (a c) (line x c) (512 * (7 - p % 8) + (512 - p / 8)) := by
  rw [after2, joins, if_pos (by omega), after1, if_pos (by omega), run_add, ← start_eq x (a c) c _ (by omega)]
  refine congrArg (fun z => z + _) (run_congr _ fun i hi => ?_)
  show x _ c = x _ c
  exact congrArg (fun k => x k c) (by omega)

variable {a : Fin 512 → ℂ} {x : ℕ → Fin 512 → ℂ}

/-- A grid point's two buffers, for a factor and products that are finite. -/
theorem held (ha : Row a x1 x2) (hx : ∀ (p : Fin 4096) c, Parts (x p.val c) (prods x0 x3 p c) (prods x0 x4 p c)) :
    Held arg6.view arg7.view
      (arg6.view.writes (Elt Ideal) arg6.view.junk (kernelRun0_A (F := Ideal) d i arg1 harg1 arg2 harg2 arg3 harg3 arg4 harg4 arg5 harg5 arg6 harg6 arg7 harg7 x0 x1 x2 x3 x4).1)
      (arg7.view.writes (Elt Ideal) arg7.view.junk (kernelRun0_A (F := Ideal) d i arg1 harg1 arg2 harg2 arg3 harg3 arg4 harg4 arg5 harg5 arg6 harg6 arg7 harg7 x0 x1 x2 x3 x4).2.1)
      fun p c => run (a c) (line x c) (512 * (7 - p % 8) + (512 - p / 8)) := by
  have h0 : Held arg6.view arg7.view (arg6.view.writes (Elt Ideal) arg6.view.junk (kernelRun0_A.sl.H5_4 d arg1 harg1 arg4 harg4 x0 x3))
      (arg7.view.writes (Elt Ideal) arg7.view.junk (kernelRun0_A.sl.H6_4 d arg1 harg1 arg5 harg5 x0 x4)) x := fun p c => by
    rw [first5, first6]
    exact hx p c
  have hb : ∀ (y : Line) (arg : Memref sig .tc .vmem S1x512 .f32) (harg : arg.IsWhole) (inb : ∀ a, (![0, 0] : Fin 2 → ℕ) a + (![1, 512] : Fin 2 → ℕ) a ≤ S1x512.size a) (c : Fin 512),
      arg.view.readAt (Elt Ideal) (Rect.unit (s := S1x512) ![0, 0] ![1, 512] inb).toLoadRect (harg.unread y) (ix2 0 c) = y (ix2 0 c) :=
    fun y arg harg inb c => by
      rw [Memref.IsWhole.readAt_unread]
      exact congrArg y (Shape.idx_ext₂ rfl (by show 0 + 1 * c.val = c.val; omega))
  have hr : Row a (arg2.view.readAt (Elt Ideal) (Rect.unit (s := S1x512) ![0, 0] ![1, 512] inb_S1x512_S1x512_0_0).toLoadRect (harg2.unread x1))
      (arg3.view.readAt (Elt Ideal) (Rect.unit (s := S1x512) ![0, 0] ![1, 512] inb_S1x512_S1x512_0_0).toLoadRect (harg3.unread x2)) := fun c => by
    rw [hb, hb]
    exact ha c
  have hT : Scf.trips 0#32 (Scalar.addi 0#32 512#32) 1#32 = 512 := by decide
  unfold kernelRun0_A
  dsimp only
  simp only [View.writes_append]
  obtain ⟨hs, hp, h1⟩ := loop1 Variants.none d none i arg1 harg1 arg2 harg2 arg3 harg3 arg4 harg4 arg5 harg5 arg6 harg6 arg7 harg7
    (kernelRun0_A.sl.r d arg4 harg4 x3) (kernelRun0_A.sl.r_1 d arg5 harg5 x4) _ _ hr h0 _ hT.le
  have hs' := hs.congr (z := fun r c => run (a c) (inputs x r.val c) 512) fun _ _ => by rw [hT]
  have hp' := hp.congr (z := fun _ c => a c ^ 512) fun _ _ => by rw [hT]
  exact (loop2 Variants.none d none i arg1 harg1 arg2 harg2 arg3 harg3 arg4 harg4 arg5 harg5 arg6 harg6 arg7 harg7
    _ _ _ _ _ _ _ _ _ _ _ _ _ (factor hr)
    (z := joins x a) (starts hs' hp') h1 _ hT.le).2.congr
    fun p hp c => hT.symm ▸ after_eq x a p hp c

end Cert.ScanGrad

end

end
-- ==== Proof.ScanHost.lean ====
/- The operands that the scan kernel's host lines compute, read at an index: the rows in the order of the chunks, the weights
   set out along a diagonal of blocks, the factor. -/
module

public import proofs.«01_k».proof.Defs
public import proofs.«01_k».proof.Proof.ScanBlock

set_option maxRecDepth 16384

@[expose] public section

noncomputable section

namespace Cert.ScanGrad

open Idealize.ShloMosaic Idealize.ShloMosaic.TcCoe
open Cert.ScanIdeal Cert.ScanIdeal.Gen Cert.ScanMath

/-- The rows by chunk, then time within it, turned to time, then chunk. -/
def byTime (x : FVec Ideal S4096x512 .bf16) : FVec Ideal S4096x512 .bf16 :=
  shapeCast _ (transpose S512x8x512 [1, 0, 2] (shapeCast _ x shapeCasts_S4096x512_S8x512x512) transposes_S8x512x512_S512x8x512_1_0_2)
    shapeCasts_S512x8x512_S4096x512
/-- One where the coordinates agree. -/
def eye : FVec Ideal S8x8 .f32 :=
  uitofp .f32 (cmpi .eq (addi (iotaInDim S8x8 32 0) (broadcastInDim S8x8 ![] bcast_S_S8x8 (constantI S_ 32 0#32))) (iotaInDim S8x8 32 1))
/-- The groups' weights, eight to a block, along its diagonal. -/
def diag (w : FVec Ideal S32x16x64 .f32) : FVec Ideal S4x512x128 .bf16 :=
  truncf .bf16 (shapeCast _ (mulf
    (broadcastInDim S4x8x64x8x16 ![0, 1, 2, 3, 4] bcast_S4x8x64x1x16_S4x8x64x8x16_0_1_2_3_4
      (shapeCast _ (transpose S32x64x16 [0, 2, 1] w transposes_S32x16x64_S32x64x16_0_2_1) shapeCasts_S32x64x16_S4x8x64x1x16))
    (broadcastInDim S4x8x64x8x16 ![0, 1, 2, 3, 4] bcast_S1x8x1x8x1_S4x8x64x8x16_0_1_2_3_4
      (broadcastInDim S1x8x1x8x1 ![1, 3] bcast_S8x8_S1x8x1x8x1_1_3 eye))) shapeCasts_S4x8x64x8x16_S4x512x128) bitsLt_bf16_f32
def flat (a : FVec Ideal S32x64 .f32) : FVec Ideal S1x2048 .f32 := shapeCast _ a shapeCasts_S32x64_S1x2048

theorem byTime_at (x : FVec Ideal S4096x512 .bf16) (s : Fin 512) (k : Fin 8) (q : Fin 512) :
    byTime x (ix2 (⟨s.val * 8 + k.val, by omega⟩ : Fin 4096) q) = x (ix2 (⟨k.val * 512 + s.val, by omega⟩ : Fin 4096) q) := by
  pointwise [byTime]
theorem eye_at (a b : Fin 8) : eye (ix2 a b) = if a = b then 1 else 0 := by
  have h : ∀ a b : Fin 8, IntOp.cmpi .eq (IntOp.addi (BitVec.ofNat 32 a.val) 0#32) (BitVec.ofNat 32 b.val) = if a = b then 1#1 else 0#1 := by
    decide
  pointwise [eye]
  rw [h]
  split
  · show (((1#1 : BitVec 1).toNat : ℝ) : EReal) = 1
    simp
  · show (((0#1 : BitVec 1).toNat : ℝ) : EReal) = 0
    simp
theorem diag_at (w : FVec Ideal S32x16x64 .f32) (g : Fin 4) (a b : Fin 8) (p : Fin 64) (h : Fin 16) :
    diag w (ix3 g (⟨a.val * 64 + p.val, by omega⟩ : Fin 512) (⟨b.val * 16 + h.val, by omega⟩ : Fin 128))
      = w (ix3 (⟨g.val * 8 + a.val, by omega⟩ : Fin 32) h p) * eye (ix2 a b) := by
  pointwise [diag]
theorem flat_at (a : FVec Ideal S32x64 .f32) (z : Fin 1) (g : Fin 32) (p : Fin 64) :
    flat a (ix2 z (⟨g.val * 64 + p.val, by omega⟩ : Fin 2048)) = a (ix2 g p) := by
  pointwise [flat]

variable (m : (ℓ : Loc nD τ sig) → Buf (Elt Ideal) ℓ) (c : Dev nD)

abbrev arg0 : FVec Ideal S4096x512 .bf16 := m ((c : Thread nD τ).loc main_arg0)
abbrev arg1 : FVec Ideal S32x16x64 .f32 := m ((c : Thread nD τ).loc main_arg1)
abbrev arg2 : FVec Ideal S32x16x64 .f32 := m ((c : Thread nD τ).loc main_arg2)
abbrev arg3 : FVec Ideal S32x64 .f32 := m ((c : Thread nD τ).loc main_arg3)
abbrev arg4 : FVec Ideal S32x64 .f32 := m ((c : Thread nD τ).loc main_arg4)

theorem rows_eq : V m c main_v2 = byTime (arg0 m c) := by
  simp only [V, hostOps0]
  after_results_simp
  rfl
theorem weights_eq : V m c main_v16 = diag (arg1 m c) := by
  simp only [V, hostOps0]
  after_results_simp
  rfl
theorem weights_eq' : V m c main_v31 = diag (Host.negf (arg2 m c)) := by
  simp only [V, hostOps0]
  after_results_simp
  rfl
theorem factor_eq : V m c main_v32 = flat (arg3 m c) := by
  simp only [V, hostOps0]
  after_results_simp
  rfl
theorem factor_eq' : V m c main_v34 = Host.negf (flat (arg4 m c)) := by
  simp only [V, hostOps0]
  after_results_simp
  rfl

/-- Row `p` of the array is of this time. -/
def time (p : Fin 4096) : Fin 4096 := ⟨p.val % 8 * 512 + p.val / 8, by omega⟩

theorem byTime_row (x : FVec Ideal S4096x512 .bf16) (p : Fin 4096) (q : Fin 512) : byTime x (ix2 p q) = x (ix2 (time p) q) := by
  have h := byTime_at x ⟨p.val / 8, by omega⟩ ⟨p.val % 8, by omega⟩ q
  exact (congrArg (fun i => byTime x (ix2 i q)) (Fin.ext (by show p.val = p.val / 8 * 8 + p.val % 8; omega))).trans h

section Point

variable (t : Fin cfg0.N)

theorem windows_at :
    (win0_0.index t (0 : Fin 2) = 0 ∧ win0_0.index t (1 : Fin 2) = t.val) ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N,
    (win0_0.index t (0 : Fin 2) = 0 ∧ win0_0.index t (1 : Fin 2) = t.val) ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)) t

/-- The grid point, as a block of eight groups. -/
def blk : Fin 4 := ⟨t.val, t.isLt⟩

theorem block0 (p : Fin 4096) (k : Fin 128) :
    iblk m c 0 t (ix2 p k) = byTime (arg0 m c) (ix2 p (⟨(blk t).val * 128 + k.val, by omega⟩ : Fin 512)) := by
  rw [← rows_eq m c]
  exact congrArg (V m c main_v2) (Shape.idx_ext₂
    (by show win0_0.index t (0 : Fin 2) * 4096 + 1 * p.val = p.val; rw [(windows_at t).1.1]; omega)
    (by show win0_0.index t (1 : Fin 2) * 128 + 1 * k.val = t.val * 128 + k.val; rw [(windows_at t).1.2]; omega))
theorem block1 (z : Fin 1) (q : Fin 512) :
    iblk m c 1 t (ix2 z q) = flat (arg3 m c) (ix2 0 (⟨(blk t).val * 512 + q.val, by omega⟩ : Fin 2048)) := by
  rw [← factor_eq m c]
  exact congrArg (V m c main_v32) (Shape.idx_ext₂
    (by show win0_1.index t (0 : Fin 2) * 1 + 1 * z.val = 0; rw [(windows_at t).2.1.1]; omega)
    (by show win0_1.index t (1 : Fin 2) * 512 + 1 * q.val = t.val * 512 + q.val; rw [(windows_at t).2.1.2]; omega))
theorem block2 (z : Fin 1) (q : Fin 512) :
    iblk m c 2 t (ix2 z q) = Host.negf (flat (arg4 m c)) (ix2 0 (⟨(blk t).val * 512 + q.val, by omega⟩ : Fin 2048)) := by
  rw [← factor_eq' m c]
  exact congrArg (V m c main_v34) (Shape.idx_ext₂
    (by show win0_2.index t (0 : Fin 2) * 1 + 1 * z.val = 0; rw [(windows_at t).2.2.1.1]; omega)
    (by show win0_2.index t (1 : Fin 2) * 512 + 1 * q.val = t.val * 512 + q.val; rw [(windows_at t).2.2.1.2]; omega))
theorem block3 (z : Fin 1) (q : Fin 512) (k : Fin 128) : iblk m c 3 t (ix3 z q k) = diag (arg1 m c) (ix3 (blk t) q k) := by
  rw [← weights_eq m c]
  exact congrArg (V m c main_v16) (funext (Fin.forall_fin_succ.mpr
    ⟨Fin.ext (by show win0_3.index t (0 : Fin 3) * 1 + 1 * z.val = t.val; rw [(windows_at t).2.2.2.1.1]; omega), Fin.forall_fin_two.mpr
    ⟨Fin.ext (by show win0_3.index t (1 : Fin 3) * 512 + 1 * q.val = q.val; rw [(windows_at t).2.2.2.1.2.1]; omega),
      Fin.ext (by show win0_3.index t (2 : Fin 3) * 128 + 1 * k.val = k.val; rw [(windows_at t).2.2.2.1.2.2]; omega)⟩⟩))
theorem block4 (z : Fin 1) (q : Fin 512) (k : Fin 128) : iblk m c 4 t (ix3 z q k) = diag (Host.negf (arg2 m c)) (ix3 (blk t) q k) := by
  rw [← weights_eq' m c]
  exact congrArg (V m c main_v31) (funext (Fin.forall_fin_succ.mpr
    ⟨Fin.ext (by show win0_4.index t (0 : Fin 3) * 1 + 1 * z.val = t.val; rw [(windows_at t).2.2.2.2.1]; omega), Fin.forall_fin_two.mpr
    ⟨Fin.ext (by show win0_4.index t (1 : Fin 3) * 512 + 1 * q.val = q.val; rw [(windows_at t).2.2.2.2.2.1]; omega),
      Fin.ext (by show win0_4.index t (2 : Fin 3) * 128 + 1 * k.val = k.val; rw [(windows_at t).2.2.2.2.2.2]; omega)⟩⟩))

end Point

/-- One row's product with one group's weights. -/
def gain (x : FVec Ideal S4096x512 .bf16) (w : FVec Ideal S32x16x64 .f32) (n : Fin 4096) (g : Fin 32) (q : Fin 64) : EReal :=
  ∑ h : Fin 16, x (ix2 n (⟨g.val * 16 + h.val, by omega⟩ : Fin 512)) * w (ix3 g h q)

/-- A product with the diagonal is a product with the one group's weights. -/
theorem diag_sum (x : Fin 512 → EReal) (w : FVec Ideal S32x16x64 .f32) (g : Fin 4) (a : Fin 8) (q : Fin 64) :
    (∑ k : Fin 128, x (⟨g.val * 128 + k.val, by omega⟩ : Fin 512) * diag w (ix3 g (⟨a.val * 64 + q.val, by omega⟩ : Fin 512) k))
      = ∑ h : Fin 16, x (⟨(g.val * 8 + a.val) * 16 + h.val, by omega⟩ : Fin 512) * w (ix3 (⟨g.val * 8 + a.val, by omega⟩ : Fin 32) h q) := by
  rw [Fin.sum_univ_tiles 8 16 rfl, Finset.sum_eq_single a]
  · refine Finset.sum_congr rfl fun h _ => congrArg₂ (fun a b : EReal => a * b) (congrArg x (Fin.ext ?_)) ?_
    · show g.val * 128 + (a.val * 16 + h.val) = (g.val * 8 + a.val) * 16 + h.val
      omega
    · refine (diag_at w g a a q h).trans ?_
      rw [eye_at, if_pos rfl, mul_one]
  · refine fun b _ hb => Finset.sum_eq_zero fun h _ => ?_
    refine (congrArg (fun z : EReal => x _ * z) ((diag_at w g a b q h).trans ?_)).trans (mul_zero _)
    rw [eye_at, if_neg (Ne.symm hb), mul_zero]
  · exact fun h => absurd (Finset.mem_univ a) h

section Point

variable (t : Fin cfg0.N)

theorem prods_re (p : Fin 4096) (a : Fin 8) (q : Fin 64) :
    prods (iblk m c 0 t) (iblk m c 3 t) p ⟨a.val * 64 + q.val, by omega⟩
      = gain (arg0 m c) (arg1 m c) (time p) ⟨(blk t).val * 8 + a.val, by omega⟩ q := by
  refine (Finset.sum_congr rfl fun k _ => congrArg₂ (fun a b : EReal => a * b) ((block0 m c t p k).trans (byTime_row _ p _))
    (block3 m c t 0 _ k)).trans ?_
  exact diag_sum (fun k => arg0 m c (ix2 (time p) k)) (arg1 m c) (blk t) a q
theorem prods_im (p : Fin 4096) (a : Fin 8) (q : Fin 64) :
    prods (iblk m c 0 t) (iblk m c 4 t) p ⟨a.val * 64 + q.val, by omega⟩
      = gain (arg0 m c) (Host.negf (arg2 m c)) (time p) ⟨(blk t).val * 8 + a.val, by omega⟩ q := by
  refine (Finset.sum_congr rfl fun k _ => congrArg₂ (fun a b : EReal => a * b) ((block0 m c t p k).trans (byTime_row _ p _))
    (block4 m c t 0 _ k)).trans ?_
  exact diag_sum (fun k => arg0 m c (ix2 (time p) k)) (Host.negf (arg2 m c)) (blk t) a q
theorem factor_re (a : Fin 8) (q : Fin 64) :
    iblk m c 1 t (ix2 0 (⟨a.val * 64 + q.val, by omega⟩ : Fin 512)) = arg3 m c (ix2 (⟨(blk t).val * 8 + a.val, by omega⟩ : Fin 32) q) := by
  refine (block1 m c t 0 _).trans ((congrArg (fun k => flat (arg3 m c) (ix2 0 k)) (Fin.ext ?_)).trans
    (flat_at (arg3 m c) 0 ⟨(blk t).val * 8 + a.val, by omega⟩ q))
  show (blk t).val * 512 + (a.val * 64 + q.val) = ((blk t).val * 8 + a.val) * 64 + q.val
  omega
theorem factor_im (a : Fin 8) (q : Fin 64) :
    iblk m c 2 t (ix2 0 (⟨a.val * 64 + q.val, by omega⟩ : Fin 512)) = -(arg4 m c (ix2 (⟨(blk t).val * 8 + a.val, by omega⟩ : Fin 32) q) : EReal) := by
  refine (block2 m c t 0 _).trans (congrArg (fun z : EReal => -z) ((congrArg (fun k => flat (arg4 m c) (ix2 0 k)) (Fin.ext ?_)).trans
    (flat_at (arg4 m c) 0 ⟨(blk t).val * 8 + a.val, by omega⟩ q)))
  show (blk t).val * 512 + (a.val * 64 + q.val) = ((blk t).val * 8 + a.val) * 64 + q.val
  omega

end Point

end Cert.ScanGrad

end

end
-- ==== Proof.ScanKernel.lean ====
/- The scan kernel's two result arrays, for arguments that hold reals: at every time, the parts of the state that the
   recurrence run backwards over the products reaches there. -/
module

public import proofs.«01_k».proof.Defs
public import proofs.«01_k».proof.Proof.ScanHost
public import proofs.«01_k».proof.Proof.Core

set_option maxRecDepth 16384

@[expose] public section

noncomputable section

namespace Cert.ScanGrad

open Idealize.ShloMosaic Idealize.ShloMosaic.TcCoe Idealize.SL.Sem
open Cert.ScanIdeal Cert.ScanIdeal.Gen Cert.ScanMath

section Result

variable (y : FVec Ideal S4096x512 .bf16) (w w' : FVec Ideal S32x16x64 .f32) (a a' : FVec Ideal S32x64 .f32)

/-- Every element is a real number. -/
def Reals {S : Shape} {e : FTy} (x : FVec Ideal S e) : Prop := ∀ i, (((x i : EReal).toReal : ℝ) : EReal) = x i

theorem Reals.negf {S : Shape} {e : FTy} {x : FVec Ideal S e} (h : Reals x) : Reals (Host.negf x) := fun i => by
  show (((-(x i : EReal)).toReal : ℝ) : EReal) = -(x i : EReal)
  rw [← h i]
  norm_cast

/-- A product of reals is real. -/
theorem gain_real {y w} (hy : Reals y) (hw : Reals w) (n : Fin 4096) (g : Fin 32) (q : Fin 64) : ((gain y w n g q).toReal : EReal) = gain y w n g q := by
  have e : gain y w n g q = ((∑ h : Fin 16, (y (ix2 n (⟨g.val * 16 + h.val, by omega⟩ : Fin 512)) : EReal).toReal * (w (ix3 g h q) : EReal).toReal : ℝ) : EReal) := by
    rw [Cert.AttnMath.coe_sum]
    refine Finset.sum_congr rfl fun h _ => ?_
    rw [EReal.coe_mul, hy, hw]
  rw [e, EReal.toReal_coe]

/-- What the recurrence takes in at a time. -/
def input (n : ℕ) (g : Fin 32) (q : Fin 64) : ℂ :=
  if h : n < 4096 then ⟨(gain y w ⟨n, h⟩ g q).toReal, (gain y (Host.negf w') ⟨n, h⟩ g q).toReal⟩ else 0
/-- The factor: the pole's conjugate. -/
def pole (g : Fin 32) (q : Fin 64) : ℂ := ⟨(a (ix2 g q) : EReal).toReal, -(a' (ix2 g q) : EReal).toReal⟩
/-- The state at a time, the recurrence having run down to it from the last. -/
def state (n : ℕ) (g : Fin 32) (q : Fin 64) : ℂ := run (pole a a' g q) (fun j => input y w w' (4095 - j) g q) (4096 - n)

/-- The states' parts, the rows turned to time within a chunk, then chunk. -/
def re : FVec Ideal S4096x2048 .f32 := fun i =>
  ((state y w w' a a' (time (i 0 : Fin 4096)).val (⟨(i 1).val / 64, by have h : (i 1).val < 2048 := (i 1).isLt; omega⟩ : Fin 32)
    (⟨(i 1).val % 64, by omega⟩ : Fin 64)).re : EReal)
def im : FVec Ideal S4096x2048 .f32 := fun i =>
  ((state y w w' a a' (time (i 0 : Fin 4096)).val (⟨(i 1).val / 64, by have h : (i 1).val < 2048 := (i 1).isLt; omega⟩ : Fin 32)
    (⟨(i 1).val % 64, by omega⟩ : Fin 64)).im : EReal)

end Result

variable (m : (ℓ : Loc nD τ sig) → Buf (Elt Ideal) ℓ) (c : Dev nD)

/-- A column's group and its place in it. -/
def grp (t : Fin cfg0.N) (q : Fin 512) : Fin 32 := ⟨(blk t).val * 8 + q.val / 64, by omega⟩
def plc (q : Fin 512) : Fin 64 := ⟨q.val % 64, by omega⟩

theorem col_eq (q : Fin 512) : (⟨(⟨q.val / 64, by omega⟩ : Fin 8).val * 64 + (plc q).val, by simp only [plc]; omega⟩ : Fin 512) = q :=
  Fin.ext (by show q.val / 64 * 64 + q.val % 64 = q.val; omega)

section Point

variable (t : Fin cfg0.N)
  (h0 : Reals (arg0 m c)) (h1 : Reals (arg1 m c)) (h2 : Reals (arg2 m c)) (h3 : Reals (arg3 m c)) (h4 : Reals (arg4 m c))

include h0 h1 h2 h3 h4 in
/-- What a point's run writes to its two buffers. -/
theorem held_at : Held (ms0_5 t).view (ms0_6 t).view
    ((ms0_5 t).view.writes (Elt Ideal) (ms0_5 t).view.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).1)
    ((ms0_6 t).view.writes (Elt Ideal) (ms0_6 t).view.junk (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).2.1)
    fun p q => state (arg0 m c) (arg1 m c) (arg2 m c) (arg3 m c) (arg4 m c) (p % 8 * 512 + p / 8) (grp t q) (plc q) := by
  refine (held (a := fun q => pole (arg3 m c) (arg4 m c) (grp t q) (plc q))
    (x := fun p q => input (arg0 m c) (arg1 m c) (arg2 m c) (p % 8 * 512 + p / 8) (grp t q) (plc q)) _ _ _ _ _ _ _ _ _ _ _ _ _ _ _ _ _ _ _ _ _ ?_ ?_).congr
    fun p hp q => ?_
  · intro q
    have e1 := factor_re m c t ⟨q.val / 64, by omega⟩ (plc q)
    have e2 := factor_im m c t ⟨q.val / 64, by omega⟩ (plc q)
    rw [col_eq] at e1 e2
    refine ⟨e1.trans (h3 _).symm, e2.trans ?_⟩
    rw [← h4]
    exact (EReal.coe_neg _).symm
  · intro p q
    have e1 := prods_re m c t p ⟨q.val / 64, by omega⟩ (plc q)
    have e2 := prods_im m c t p ⟨q.val / 64, by omega⟩ (plc q)
    rw [col_eq] at e1 e2
    have hp : p.val % 8 * 512 + p.val / 8 < 4096 := (time p).isLt
    refine ⟨e1.trans ?_, e2.trans ?_⟩
    · rw [input, dif_pos hp]
      exact (gain_real h0 h1 _ _ _).symm
    · rw [input, dif_pos hp]
      exact (gain_real h0 h2.negf _ _ _).symm
  · have hn : 512 * (7 - p % 8) + (512 - p / 8) = 4096 - (p % 8 * 512 + p / 8) := by omega
    rw [state, hn]
    refine run_congr _ fun j hj => ?_
    have hj' : j < 4096 := by omega
    have e : (8 * (511 - j % 512) + (7 - j / 512)) % 8 * 512 + (8 * (511 - j % 512) + (7 - j / 512)) / 8 = 4095 - j := by omega
    exact congrArg (fun n => input (arg0 m c) (arg1 m c) (arg2 m c) n (grp t q) (plc q)) e

theorem grp_eq (q : Fin 512) : grp t q = (⟨((blk t).val * 512 + q.val) / 64, by omega⟩ : Fin 32) :=
  Fin.ext (by show (blk t).val * 8 + q.val / 64 = ((blk t).val * 512 + q.val) / 64; omega)
theorem plc_eq (q : Fin 512) : plc q = (⟨((blk t).val * 512 + q.val) % 64, by omega⟩ : Fin 64) :=
  Fin.ext (by show q.val % 64 = ((blk t).val * 512 + q.val) % 64; omega)

include h0 h1 h2 h3 h4 in
theorem point_re (p : Fin 4096) (q : Fin 512) : (outsAt0 m c t).1 (ix2 p q)
    = re (arg0 m c) (arg1 m c) (arg2 m c) (arg3 m c) (arg4 m c) (ix2 p (⟨(blk t).val * 512 + q.val, by omega⟩ : Fin 2048)) := by
  refine (View.read_writes_apply_eq VO0_5 VO0_5.junk (ms0_5 t).view _ _ _ (cover0_A_5 _ _ _ _ _ _ _ _ _ _ _ _ _ _ _ _ _ _ _ _ _ _)).trans
    ((held_at m c t h0 h1 h2 h3 h4 p q).1.trans ?_)
  exact congrArg₂ (fun g k => ((state (arg0 m c) (arg1 m c) (arg2 m c) (arg3 m c) (arg4 m c) (p.val % 8 * 512 + p.val / 8) g k).re : EReal))
    (grp_eq t q) (plc_eq t q)
include h0 h1 h2 h3 h4 in
theorem point_im (p : Fin 4096) (q : Fin 512) : (outsAt0 m c t).2 (ix2 p q)
    = im (arg0 m c) (arg1 m c) (arg2 m c) (arg3 m c) (arg4 m c) (ix2 p (⟨(blk t).val * 512 + q.val, by omega⟩ : Fin 2048)) := by
  refine (View.read_writes_apply_eq VO0_6 VO0_6.junk (ms0_6 t).view _ _ _ (cover0_A_6 _ _ _ _ _ _ _ _ _ _ _ _ _ _ _ _ _ _ _ _ _ _)).trans
    ((held_at m c t h0 h1 h2 h3 h4 p q).2.trans ?_)
  exact congrArg₂ (fun g k => ((state (arg0 m c) (arg1 m c) (arg2 m c) (arg3 m c) (arg4 m c) (p.val % 8 * 512 + p.val / 8) g k).im : EReal))
    (grp_eq t q) (plc_eq t q)

theorem outs_at : (win0_5.index t (0 : Fin 2) = 0 ∧ win0_5.index t (1 : Fin 2) = t.val) ∧ (win0_6.index t (0 : Fin 2) = 0 ∧ win0_6.index t (1 : Fin 2) = t.val) :=
  (by decide +kernel : ∀ t : Fin grid0.N,
    (win0_5.index t (0 : Fin 2) = 0 ∧ win0_5.index t (1 : Fin 2) = t.val) ∧ (win0_6.index t (0 : Fin 2) = 0 ∧ win0_6.index t (1 : Fin 2) = t.val)) t

end Point

variable (h0 : Reals (arg0 m c)) (h1 : Reals (arg1 m c)) (h2 : Reals (arg2 m c)) (h3 : Reals (arg3 m c)) (h4 : Reals (arg4 m c))

include h0 h1 h2 h3 h4 in
theorem array_re : (dats m 0 c).arrAt 5 cfg0.N = re (arg0 m c) (arg1 m c) (arg2 m c) (arg3 m c) (arg4 m c) := by
  refine (dats m 0 c).arrAt_eq_of_cover 5 _ (fun t hf => ?_) (fun i => ?_)
  · show (cfg0.win 5).cut (grid0.coords t) ((dats m 0 c).after 5 t) = _
    rw [after0_5]
    funext x
    have e1 : ((cfg0.win 5).xinj (grid0.coords t) x : S4096x512.Idx) = ix2 (x 0 : Fin 4096) (x 1 : Fin 512) := Shape.idx_ext₂ rfl rfl
    have hx : (x 1).val < 512 := (x 1).isLt
    have e2 : (ix2 (x 0 : Fin 4096) (⟨(blk t).val * 512 + (x 1).val, by omega⟩ : Fin 2048) : S4096x2048.Idx) = ((cfg0.win 5).blk t).view.emb x := by
      refine Shape.idx_ext₂ ?_ ?_
      · show (x 0).val = win0_5.index t (0 : Fin 2) * 4096 + 1 * (x 0).val
        rw [(outs_at t).1.1]; omega
      · show t.val * 512 + (x 1).val = win0_5.index t (1 : Fin 2) * 512 + 1 * (x 1).val
        rw [(outs_at t).1.2]; omega
    show (outsAt0 m c t).1 ((cfg0.win 5).xinj (grid0.coords t) x) = re (arg0 m c) (arg1 m c) (arg2 m c) (arg3 m c) (arg4 m c) (((cfg0.win 5).blk t).view.emb x)
    exact (congrArg (outsAt0 m c t).1 e1).trans ((point_re m c t h0 h1 h2 h3 h4 (x 0 : Fin 4096) (x 1 : Fin 512)).trans
      (congrArg (re (arg0 m c) (arg1 m c) (arg2 m c) (arg3 m c) (arg4 m c)) e2))
  · have hi0 : (i 0).val < 4096 := (i 0).isLt
    have hi1 : (i 1).val < 2048 := (i 1).isLt
    let t : Fin cfg0.N := ⟨(i 1).val / 512, by show _ < 4; omega⟩
    refine ⟨t, flush0_5 t, ?_⟩
    show i ∈ ((View.whole main_v35_0).slice (win0_5.rect t)).set
    rw [View.set_slice_whole]
    refine Rect.mem_set_unit.mpr fun ax => ?_
    fin_cases ax
    · show win0_5.index t (0 : Fin 2) * 4096 ≤ (i 0).val ∧ (i 0).val < win0_5.index t (0 : Fin 2) * 4096 + 4096
      rw [(outs_at t).1.1]; omega
    · show win0_5.index t (1 : Fin 2) * 512 ≤ (i 1).val ∧ (i 1).val < win0_5.index t (1 : Fin 2) * 512 + 512
      rw [(outs_at t).1.2]
      show (i 1).val / 512 * 512 ≤ _ ∧ _ < (i 1).val / 512 * 512 + 512
      omega

include h0 h1 h2 h3 h4 in
theorem array_im : (dats m 0 c).arrAt 6 cfg0.N = im (arg0 m c) (arg1 m c) (arg2 m c) (arg3 m c) (arg4 m c) := by
  refine (dats m 0 c).arrAt_eq_of_cover 6 _ (fun t hf => ?_) (fun i => ?_)
  · show (cfg0.win 6).cut (grid0.coords t) ((dats m 0 c).after 6 t) = _
    rw [after0_6]
    funext x
    have e1 : ((cfg0.win 6).xinj (grid0.coords t) x : S4096x512.Idx) = ix2 (x 0 : Fin 4096) (x 1 : Fin 512) := Shape.idx_ext₂ rfl rfl
    have hx : (x 1).val < 512 := (x 1).isLt
    have e2 : (ix2 (x 0 : Fin 4096) (⟨(blk t).val * 512 + (x 1).val, by omega⟩ : Fin 2048) : S4096x2048.Idx) = ((cfg0.win 6).blk t).view.emb x := by
      refine Shape.idx_ext₂ ?_ ?_
      · show (x 0).val = win0_6.index t (0 : Fin 2) * 4096 + 1 * (x 0).val
        rw [(outs_at t).2.1]; omega
      · show t.val * 512 + (x 1).val = win0_6.index t (1 : Fin 2) * 512 + 1 * (x 1).val
        rw [(outs_at t).2.2]; omega
    show (outsAt0 m c t).2 ((cfg0.win 6).xinj (grid0.coords t) x) = im (arg0 m c) (arg1 m c) (arg2 m c) (arg3 m c) (arg4 m c) (((cfg0.win 6).blk t).view.emb x)
    exact (congrArg (outsAt0 m c t).2 e1).trans ((point_im m c t h0 h1 h2 h3 h4 (x 0 : Fin 4096) (x 1 : Fin 512)).trans
      (congrArg (im (arg0 m c) (arg1 m c) (arg2 m c) (arg3 m c) (arg4 m c)) e2))
  · have hi0 : (i 0).val < 4096 := (i 0).isLt
    have hi1 : (i 1).val < 2048 := (i 1).isLt
    let t : Fin cfg0.N := ⟨(i 1).val / 512, by show _ < 4; omega⟩
    refine ⟨t, flush0_6 t, ?_⟩
    show i ∈ ((View.whole main_v35_1).slice (win0_6.rect t)).set
    rw [View.set_slice_whole]
    refine Rect.mem_set_unit.mpr fun ax => ?_
    fin_cases ax
    · show win0_6.index t (0 : Fin 2) * 4096 ≤ (i 0).val ∧ (i 0).val < win0_6.index t (0 : Fin 2) * 4096 + 4096
      rw [(outs_at t).2.1]; omega
    · show win0_6.index t (1 : Fin 2) * 512 ≤ (i 1).val ∧ (i 1).val < win0_6.index t (1 : Fin 2) * 512 + 512
      rw [(outs_at t).2.2]
      show (i 1).val / 512 * 512 ≤ _ ∧ _ < (i 1).val / 512 * 512 + 512
      omega

end Cert.ScanGrad

end

end
-- ==== Proof.ScanRef.lean ====
/- The reference's loop: what its trips have made of the carried states and of the two result arrays, and its results, for
   arguments that hold reals. -/
module

public import proofs.«01_k».proof.Defs
public import proofs.«01_k».proof.Proof.ScanKernel
public import proofs.«01_k».proof.Proof.Gen.ScanReferenceIdeal.Run
public import Idealize.ShloMosaic.Lib.WordCmp

set_option maxRecDepth 16384

@[expose] public section

noncomputable section

namespace Cert.ScanReferenceIdeal.Scan

open Idealize.ShloMosaic Idealize.ShloMosaic.TcCoe Idealize.SL.Sem Idealize.ShloMosaic.StableHlo Idealize.ShloMosaic.WordCmp
open Cert.ScanReferenceIdeal Cert.ScanReferenceIdeal.Gen Cert.ScanReferenceIdeal.Value Cert.ScanMath
open Cert.ScanGrad (Reals Reals.negf gain gain_real input pole state time)

abbrev Seq := FVec Ideal S4096x32x64 .f32
abbrev Grid := FVec Ideal S32x64 .f32
/-- The carried state's parts, the two result arrays, and the parts of the state a trip makes. -/
abbrev carryRe (V : Valuation τ sig (Elt Ideal)) : Grid := V (Proc.devRef .tc main_v14_5)
abbrev carryIm (V : Valuation τ sig (Elt Ideal)) : Grid := V (Proc.devRef .tc main_v14_6)
abbrev outRe (V : Valuation τ sig (Elt Ideal)) : Seq := V (Proc.devRef .tc main_v14_7)
abbrev outIm (V : Valuation τ sig (Elt Ideal)) : Seq := V (Proc.devRef .tc main_v14_8)
abbrev nextRe (V : Valuation τ sig (Elt Ideal)) : Grid := res_main_while0b_v25 V
abbrev nextIm (V : Valuation τ sig (Elt Ideal)) : Grid := res_main_while0b_v26 V

/-- The block's start, as the loop's body spells it. -/
def at0 (v : IVec S_ 32) : Fin 3 → Int := fun k => ((![v, constantI S_ 32 0#32, constantI S_ 32 0#32] : Fin 3 → IVec S_ 32) k (Shape.Idx.first h_S_)).toInt

theorem at0_eq {v : IVec S_ 32} {n : ℕ} (hn : n < 4096) (hv : v = constantI S_ 32 (BitVec.ofNat 32 n)) (k : Fin 3) :
    at0 v k = ((![n, 0, 0] : Fin 3 → ℕ) k : Int) := by
  subst hv
  fin_cases k
  · exact toInt_ofNat_of_lt (by omega)
  · rfl
  · rfl

theorem fits (n : Fin 4096) : S4096x32x64.Slices (![n.val, 0, 0] : Fin 3 → ℕ) S1x32x64 :=
  ⟨rfl, fun k => by
    fin_cases k
    · show n.val + 1 ≤ 4096
      omega
    · show 0 + 32 ≤ 32
      omega
    · show 0 + 64 ≤ 64
      omega⟩

/-- Reading one time's row. -/
theorem row_at (x : Seq) {v : IVec S_ 32} (n : Fin 4096) (hv : v = constantI S_ 32 (BitVec.ofNat 32 n.val)) (g : Fin 32) (q : Fin 64) :
    (shapeCast S32x64 (Host.dynamicSlice S1x32x64 x (at0 v) sliceFits_S4096x32x64_S1x32x64) shapeCasts_S1x32x64_S32x64 : Grid) (ix2 g q) = x (ix3 n g q) := by
  rw [dynamicSlice_eq_extract _ _ _ _ _ (fits n) (at0_eq n.isLt hv)]
  pointwise

/-- Writing one time's row. -/
theorem put_at (x : Seq) (u : Grid) {v : IVec S_ 32} (n : Fin 4096) (hv : v = constantI S_ 32 (BitVec.ofNat 32 n.val)) (p : Fin 4096) (g : Fin 32) (q : Fin 64) :
    (Host.dynamicUpdateSlice x (broadcastInDim S1x32x64 ![1, 2] bcast_S32x64_S1x32x64_1_2 u) (at0 v) updateFits_S4096x32x64_S1x32x64 : Seq) (ix3 p g q)
      = if p = n then u (ix2 g q) else x (ix3 p g q) := by
  rw [dynamicUpdateSlice_eq_update _ _ _ _ _ (fits n) (at0_eq n.isLt hv)]
  pointwise
  by_cases e : p = n
  · rw [if_pos e, dif_pos ⟨by omega, by omega⟩]
  · rw [if_neg e, dif_neg fun h => e (Fin.ext (by omega))]

theorem step7 {V : Valuation τ sig (Elt Ideal)} {o : Seq} {u : Grid} {v : IVec S_ 32} (ho : V (Proc.devRef .tc main_v14_7) = o)
    (hu : res_main_while0b_v25 V = u) (hv : res_main_while0b_v22 V = v) : step_main_v14_7 V
      = Host.dynamicUpdateSlice o (broadcastInDim S1x32x64 ![1, 2] bcast_S32x64_S1x32x64_1_2 u) (at0 v) updateFits_S4096x32x64_S1x32x64 := by
  unfold step_main_v14_7
  rw [ho, hu, hv]
  unfold id at0
  rfl
theorem step8 {V : Valuation τ sig (Elt Ideal)} {o : Seq} {u : Grid} {v : IVec S_ 32} (ho : V (Proc.devRef .tc main_v14_8) = o)
    (hu : res_main_while0b_v26 V = u) (hv : res_main_while0b_v22 V = v) : step_main_v14_8 V
      = Host.dynamicUpdateSlice o (broadcastInDim S1x32x64 ![1, 2] bcast_S32x64_S1x32x64_1_2 u) (at0 v) updateFits_S4096x32x64_S1x32x64 := by
  unfold step_main_v14_8
  rw [ho, hu, hv]
  unfold id at0
  rfl

section Loop

variable (br bi : Seq) (ar ai : Grid) (a : Fin 32 → Fin 64 → ℂ) (b : ℕ → Fin 32 → Fin 64 → ℂ)

/-- What `k` trips have made of the buffers they carry. -/
structure Inv (k : ℕ) (V : Valuation τ sig (Elt Ideal)) : Prop where
  br : V (Proc.devRef .tc main_v14_0) = br
  bi : V (Proc.devRef .tc main_v14_1) = bi
  ar : V (Proc.devRef .tc main_v14_2) = ar
  ai : V (Proc.devRef .tc main_v14_3) = ai
  count : V (Proc.devRef .tc main_v14_4) = constantI S_ 32 (BitVec.ofNat 32 k)
  carry : ∀ g q, Parts (a g q * run (a g q) (fun j => b (4095 - j) g q) k) (carryRe V (ix2 g q))
    (carryIm V (ix2 g q))
  out : ∀ (p : Fin 4096) g q, 4096 - k ≤ p.val → Parts (run (a g q) (fun j => b (4095 - j) g q) (4096 - p.val))
    (outRe V (ix3 p g q)) (outIm V (ix3 p g q))

variable {br bi ar ai a b}
  (ha : ∀ g q, Parts (a g q) (ar (ix2 g q)) (-(ai (ix2 g q) : EReal)))
  (hb : ∀ (n : Fin 4096) g q, Parts (b n.val g q) (br (ix3 n g q)) (bi (ix3 n g q)))

include ha hb in
theorem Inv.step {k : ℕ} (hk : k < 4096) {V : Valuation τ sig (Elt Ideal)} (h : Inv br bi ar ai a b k V) :
    Inv br bi ar ai a b (k + 1) (STEP V) := by
  obtain ⟨n, hn⟩ : ∃ n : Fin 4096, n.val = 4095 - k := ⟨⟨4095 - k, by omega⟩, rfl⟩
  have hv : res_main_while0b_v22 V = constantI S_ 32 (BitVec.ofNat 32 n.val) := by
    unfold res_main_while0b_v22
    rw [h.count]
    rw [hn]
    funext i
    show 4096#32 - BitVec.ofNat 32 k - 1#32 = BitVec.ofNat 32 (4095 - k)
    apply BitVec.eq_of_toNat_eq
    simp only [BitVec.toNat_sub, BitVec.toNat_ofNat]
    omega
  have e5 : ∀ g q, nextRe V (ix2 g q) = (carryRe V (ix2 g q) : EReal) + br (ix3 n g q) := fun g q => by
    unfold nextRe res_main_while0b_v25
    rw [h.br]
    exact congrArg (fun z : EReal => (carryRe V (ix2 g q) : EReal) + z) (row_at br n hv g q)
  have e6 : ∀ g q, nextIm V (ix2 g q) = (carryIm V (ix2 g q) : EReal) + bi (ix3 n g q) := fun g q => by
    unfold nextIm res_main_while0b_v26
    rw [h.bi]
    exact congrArg (fun z : EReal => (carryIm V (ix2 g q) : EReal) + z) (row_at bi n hv g q)
  have ho : ∀ g q, Parts (run (a g q) (fun j => b (4095 - j) g q) (k + 1)) (nextRe V (ix2 g q)) (nextIm V (ix2 g q)) :=
    fun g q => by
      rw [e5, e6]
      have hbn := hb n g q
      rw [hn] at hbn
      exact (h.carry g q).add hbn
  refine ⟨(STEP_main_v14_0 V).trans h.br, (STEP_main_v14_1 V).trans h.bi, (STEP_main_v14_2 V).trans h.ar, (STEP_main_v14_3 V).trans h.ai,
    (STEP_main_v14_4 V).trans ?_, fun g q => ?_, fun p g q hp => ?_⟩
  · unfold step_main_v14_4
    rw [h.count]
    funext i
    show BitVec.ofNat 32 k + 1#32 = BitVec.ofNat 32 (k + 1)
    rw [BitVec.ofNat_add]
  · unfold carryRe carryIm
    rw [STEP_main_v14_5, STEP_main_v14_6]
    unfold step_main_v14_5 step_main_v14_6
    rw [h.ar, h.ai]
    obtain ⟨er, ei⟩ := (ha g q).mul (ho g q)
    refine ⟨Eq.trans ?_ er, Eq.trans ?_ ei⟩
    · show (ai (ix2 g q) : EReal) * (nextIm V (ix2 g q) : EReal) + (ar (ix2 g q) : EReal) * (nextRe V (ix2 g q) : EReal) = _
      rw [EReal.neg_mul, sub_eq_add_neg, neg_neg, add_comm]
    · show (ar (ix2 g q) : EReal) * (nextIm V (ix2 g q) : EReal) + (ai (ix2 g q) : EReal) * -(nextRe V (ix2 g q) : EReal) = _
      rw [EReal.neg_mul, mul_neg]
  · have w7 : outRe (STEP V) (ix3 p g q) = if p = n then nextRe V (ix2 g q) else outRe V (ix3 p g q) :=
      (congrFun ((STEP_main_v14_7 V).trans (step7 rfl rfl hv)) (ix3 p g q)).trans (put_at (outRe V) (nextRe V) n rfl p g q)
    have w8 : outIm (STEP V) (ix3 p g q) = if p = n then nextIm V (ix2 g q) else outIm V (ix3 p g q) :=
      (congrFun ((STEP_main_v14_8 V).trans (step8 rfl rfl hv)) (ix3 p g q)).trans (put_at (outIm V) (nextIm V) n rfl p g q)
    rw [w7, w8]
    by_cases e : p = n
    · have hl : 4096 - p.val = k + 1 := by rw [e, hn]; omega
      rw [if_pos e, if_pos e, hl]
      exact ho g q
    · rw [if_neg e, if_neg e]
      have hne : p.val ≠ 4095 - k := fun h => e (Fin.ext (h.trans hn.symm))
      exact h.out p g q (by omega)

include ha hb in
theorem Inv.iterate {V : Valuation τ sig (Elt Ideal)} (h : Inv br bi ar ai a b 0 V) : ∀ k ≤ 4096, Inv br bi ar ai a b k (STEP^[k] V)
  | 0, _ => h
  | k + 1, hk => by
    rw [Function.iterate_succ_apply']
    exact (Inv.iterate h k (by omega)).step ha hb (by omega)

end Loop

section Entry

variable (m : (ℓ : Loc nD τ sig) → Buf (Elt Ideal) ℓ) (c : Dev nD)

abbrev arg0 : FVec Ideal S4096x512 .bf16 := m ((c : Thread nD τ).loc main_arg0)
abbrev arg1 : FVec Ideal S32x16x64 .f32 := m ((c : Thread nD τ).loc main_arg1)
abbrev arg2 : FVec Ideal S32x16x64 .f32 := m ((c : Thread nD τ).loc main_arg2)
abbrev arg3 : FVec Ideal S32x64 .f32 := m ((c : Thread nD τ).loc main_arg3)
abbrev arg4 : FVec Ideal S32x64 .f32 := m ((c : Thread nD τ).loc main_arg4)

/-- The rows by time, group and place. -/
def split (x : FVec Ideal S4096x512 .bf16) : FVec Ideal S4096x32x16 .f32 := shapeCast _ (extf .f32 x bitsLt_bf16_f32) shapeCasts_S4096x512_S4096x32x16
/-- Their product with the groups' weights. -/
def apply (y : FVec Ideal S4096x32x16 .f32) (w : FVec Ideal S32x16x64 .f32) : Seq :=
  transpose S4096x32x64 [1, 0, 2] (Host.dotGeneral dot_S32x16x4096_S32x16x64_S32x4096x64_1_1_2_2_0_0 none
    (transpose S32x16x4096 [1, 2, 0] y transposes_S4096x32x16_S32x16x4096_1_2_0) w) transposes_S32x4096x64_S4096x32x64_1_0_2

theorem split_at (x : FVec Ideal S4096x512 .bf16) (n : Fin 4096) (g : Fin 32) (h : Fin 16) :
    split x (ix3 n g h) = x (ix2 n (⟨g.val * 16 + h.val, by omega⟩ : Fin 512)) := by
  pointwise [split]
theorem apply_at (y : FVec Ideal S4096x32x16 .f32) (w : FVec Ideal S32x16x64 .f32) (n : Fin 4096) (g : Fin 32) (q : Fin 64) :
    apply y w (ix3 n g q) = ∑ h : Fin 16, y (ix3 n g h) * w (ix3 g h q) := by
  pointwise [apply]

def zeros : Grid := broadcastInDim S32x64 ![] bcast_S_S32x64 (constant S_ .f32 0x00000000#32)

theorem entry0 : entryContents preI m c (Proc.devRef .tc main_v14_0) = apply (split (arg0 m c)) (arg1 m c) := by
  simp only [entryContents, preI, afterL_cons, afterL_nil, hostOps0]
  after_results_simp
  rfl
theorem entry1 : entryContents preI m c (Proc.devRef .tc main_v14_1) = apply (Host.negf (split (arg0 m c))) (arg2 m c) := by
  simp only [entryContents, preI, afterL_cons, afterL_nil, hostOps0]
  after_results_simp
  rfl
theorem entry2 : entryContents preI m c (Proc.devRef .tc main_v14_2) = arg3 m c := by
  simp only [entryContents, preI, afterL_cons, afterL_nil, hostOps0]
  after_results_simp
  rfl
theorem entry3 : entryContents preI m c (Proc.devRef .tc main_v14_3) = arg4 m c := by
  simp only [entryContents, preI, afterL_cons, afterL_nil, hostOps0]
  after_results_simp
  rfl
theorem entry5 : entryContents preI m c (Proc.devRef .tc main_v14_5) = zeros := by
  simp only [entryContents, preI, afterL_cons, afterL_nil, hostOps0]
  after_results_simp
  rfl
theorem entry6 : entryContents preI m c (Proc.devRef .tc main_v14_6) = zeros := by
  simp only [entryContents, preI, afterL_cons, afterL_nil, hostOps0]
  after_results_simp
  rfl

theorem zero_at (g : Fin 32) (q : Fin 64) : zeros (ix2 g q) = 0 := by
  pointwise [zeros]

variable (h0 : Reals (arg0 m c)) (h1 : Reals (arg1 m c)) (h2 : Reals (arg2 m c)) (h3 : Reals (arg3 m c)) (h4 : Reals (arg4 m c))

include h3 h4 in
theorem pole_parts (g : Fin 32) (q : Fin 64) : Parts (pole (arg3 m c) (arg4 m c) g q) (arg3 m c (ix2 g q)) (-(arg4 m c (ix2 g q) : EReal)) := by
  refine ⟨(h3 _).symm, ?_⟩
  rw [← h4]
  exact (EReal.coe_neg _).symm

include h0 h1 h2 in
theorem input_parts (n : Fin 4096) (g : Fin 32) (q : Fin 64) : Parts (input (arg0 m c) (arg1 m c) (arg2 m c) n.val g q)
    (apply (split (arg0 m c)) (arg1 m c) (ix3 n g q)) (apply (Host.negf (split (arg0 m c))) (arg2 m c) (ix3 n g q)) := by
  have er : apply (split (arg0 m c)) (arg1 m c) (ix3 n g q) = gain (arg0 m c) (arg1 m c) n g q := by
    rw [apply_at, gain]
    exact Finset.sum_congr rfl fun h _ => congrArg (fun z : EReal => z * arg1 m c (ix3 g h q)) (split_at _ n g h)
  have ei : apply (Host.negf (split (arg0 m c))) (arg2 m c) (ix3 n g q) = gain (arg0 m c) (Host.negf (arg2 m c)) n g q := by
    rw [apply_at, gain]
    refine Finset.sum_congr rfl fun h _ => ?_
    show -(split (arg0 m c) (ix3 n g h) : EReal) * (arg2 m c (ix3 g h q) : EReal) = (arg0 m c _ : EReal) * -(arg2 m c (ix3 g h q) : EReal)
    rw [split_at, neg_mul, mul_neg]
  rw [er, ei, input, dif_pos n.isLt]
  exact ⟨(gain_real h0 h1 _ _ _).symm, (gain_real h0 h2.negf _ _ _).symm⟩

theorem entry : Inv (apply (split (arg0 m c)) (arg1 m c)) (apply (Host.negf (split (arg0 m c))) (arg2 m c)) (arg3 m c) (arg4 m c)
    (pole (arg3 m c) (arg4 m c)) (input (arg0 m c) (arg1 m c) (arg2 m c)) 0 (entryContents preI m c) := by
  refine ⟨entry0 m c, entry1 m c, entry2 m c, entry3 m c, ctr_entry m c, fun g q => ?_, fun p g q hp => ?_⟩
  · unfold carryRe carryIm
    rw [entry5, entry6, zero_at]
    show Parts (_ * (0 : ℂ)) 0 0
    rw [mul_zero]
    exact Parts.zero
  · exact absurd p.isLt (by omega)

/-- The order the reference's last lines put the rows in. -/
def order (x : Seq) : FVec Ideal S4096x2048 .f32 :=
  shapeCast _ (transpose S512x8x2048 [1, 0, 2] (shapeCast _ x shapeCasts_S4096x32x64_S8x512x2048) transposes_S8x512x2048_S512x8x2048_1_0_2)
    shapeCasts_S512x8x2048_S4096x2048

theorem order_at (x : Seq) (s : Fin 512) (k : Fin 8) (g : Fin 32) (q : Fin 64) :
    order x (ix2 (⟨s.val * 8 + k.val, by omega⟩ : Fin 4096) (⟨g.val * 64 + q.val, by omega⟩ : Fin 2048))
      = x (ix3 (⟨k.val * 512 + s.val, by omega⟩ : Fin 4096) g q) := by
  pointwise [order]

theorem order_row (x : Seq) (i : S4096x2048.Idx) : order x i
    = x (ix3 (time (i 0 : Fin 4096)) (⟨(i 1).val / 64, by have h : (i 1).val < 2048 := (i 1).isLt; omega⟩ : Fin 32) (⟨(i 1).val % 64, by omega⟩ : Fin 64)) := by
  have hi0 : (i 0).val < 4096 := (i 0).isLt
  have hi1 : (i 1).val < 2048 := (i 1).isLt
  refine (congrArg (order x) (Shape.idx_ext₂ ?_ ?_)).trans
    (order_at x ⟨(i 0).val / 8, by omega⟩ ⟨(i 0).val % 8, by omega⟩ ⟨(i 1).val / 64, by omega⟩ ⟨(i 1).val % 64, by omega⟩)
  · show (i 0).val = (i 0).val / 8 * 8 + (i 0).val % 8
    omega
  · show (i 1).val = (i 1).val / 64 * 64 + (i 1).val % 64
    omega

include h0 h1 h2 h3 h4 in
theorem result_re : out_main_v17 (STEP^[4096] (entryContents preI m c))
    = Cert.ScanGrad.re (arg0 m c) (arg1 m c) (arg2 m c) (arg3 m c) (arg4 m c) := by
  have h := (entry m c).iterate (pole_parts m c h3 h4) (input_parts m c h0 h1 h2) 4096 le_rfl
  funext i
  exact (order_row (outRe (STEP^[4096] (entryContents preI m c))) i).trans (h.out _ _ _ (by omega)).1
include h0 h1 h2 h3 h4 in
theorem result_im : out_main_v20 (STEP^[4096] (entryContents preI m c))
    = Cert.ScanGrad.im (arg0 m c) (arg1 m c) (arg2 m c) (arg3 m c) (arg4 m c) := by
  have h := (entry m c).iterate (pole_parts m c h3 h4) (input_parts m c h0 h1 h2) 4096 le_rfl
  funext i
  exact (order_row (outIm (STEP^[4096] (entryContents preI m c))) i).trans (h.out _ _ _ (by omega)).2

end Entry

end Cert.ScanReferenceIdeal.Scan

end

end
-- ==== Proof.ScanGrad.lean ====
/- The claims about the gradient of the state-space states. -/
module

public import proofs.«01_k».proof.Defs
public import proofs.«01_k».proof.Proof.Gen.Scan.Frame
public import proofs.«01_k».proof.Proof.ScanKernel
public import proofs.«01_k».proof.Proof.ScanRef
public import proofs.«01_k».proof.Proof.Finite
public import Idealize.ShloMosaic.Lib.Claim

set_option maxRecDepth 16384

@[expose] public section

noncomputable section

namespace Cert.ScanGrad

open Idealize.ShloMosaic Idealize.ShloMosaic.TcCoe Idealize.SL.Sem

/-- The shape relations of the precondition's operations. -/
instance finite : Cert.Pre_finite_scan.Facts where
  bitsLt_bf16_f32 := by decide
  bcast_S_S4096x512 := by decide
  reducesTo_S4096x512_S_d0_1 := by decide
  h_S_ := by decide
  bcast_S_S32x16x64 := by decide
  reducesTo_S32x16x64_S_d0_1_2 := by decide
  bcast_S_S32x64 := by decide
  reducesTo_S32x64_S_d0_1 := by decide

/-- A conjunction over all elements of an array that is one says it of each. -/
theorem Reals.of_all {S : Shape} {axes : List (Fin S.rank)} {e : FTy} (x : FVec Ideal S e)
    (hb : Cert.Pre_finite_scan.S_.BroadcastsInDim S (![] : Fin 0 → Fin S.rank)) (hr : S.ReducesTo axes Cert.Pre_finite_scan.S_)
    (h0 : 0 < Cert.Pre_finite_scan.S_.numel) (j : Cert.Pre_finite_scan.S_.Idx)
    (h : Host.reduce IntOp.andi (cmpf (F := Ideal) (φ := .f32) .olt (Host.absf (F := Ideal) (φ := .f32) fun i => x i)
      (broadcastInDim S ![] hb (constant (F := Ideal) Cert.Pre_finite_scan.S_ .f32 0x7F800000#32)))
      (constantI Cert.Pre_finite_scan.S_ 1 1#1) hr h0 j = 1#1) : Reals x := fun i => by
  haveI : Subsingleton Cert.Pre_finite_scan.S_.Idx := ⟨fun a b => funext fun k => k.elim0⟩
  exact Cert.Finite.coe_of_lt _ (Host.reduce_andi_all _ _ hr h0 j h i)

/-- The precondition, read: every element of the five arguments is a real number. -/
theorem reals (y : FVec Ideal Cert.Pre_finite_scan.S4096x512 .bf16) (w w' : FVec Ideal Cert.Pre_finite_scan.S32x16x64 .f32)
    (a a' : FVec Ideal Cert.Pre_finite_scan.S32x64 .f32) (h : Cert.Pre_finite_scan.fn (F := Ideal) y w w' a a' = fun _ => 1#1) :
    Reals y ∧ Reals w ∧ Reals w' ∧ Reals a ∧ Reals a' := by
  have h' := congrFun h (fun k => k.elim0)
  simp only [Cert.Pre_finite_scan.fn, Cert.Pre_finite_scan.fn_part1, andi] at h'
  obtain ⟨hy, h1⟩ := IntOp.andi_eq_one.mp h'
  obtain ⟨h2, h3⟩ := IntOp.andi_eq_one.mp h1
  obtain ⟨hw, hw'⟩ := IntOp.andi_eq_one.mp h2
  obtain ⟨ha, ha'⟩ := IntOp.andi_eq_one.mp h3
  exact ⟨.of_all y _ _ _ _ hy, .of_all w _ _ _ _ hw, .of_all w' _ _ _ _ hw', .of_all a _ _ _ _ ha, .of_all a' _ _ _ _ ha'⟩

theorem frame_kernel : Cert.quiescent_Scan (hScan := Cert.Scan.Gen.facts) := fun m ρ _ => Cert.Scan.Gen.frame m ρ
theorem frame_ideal : Cert.quiescent_ScanIdeal (hScanIdeal := Cert.ScanIdeal.Gen.facts) := fun m ρ _ => Cert.ScanIdeal.Gen.frame m ρ
theorem frame_ideal_pre : Cert.quiescent_ScanIdeal_pre_finite_scan (hScanIdeal := Cert.ScanIdeal.Gen.facts) (hPre_finite_scan := finite) :=
  fun m ρ _ => Cert.ScanIdeal.Gen.frame m ρ
theorem frame_reference : Cert.quiescent_ScanReferenceIdeal (hScanReferenceIdeal := Cert.ScanReferenceIdeal.Gen.facts) := fun m ρ _ =>
  (θ_run Cert.ScanReferenceIdeal.defs _ _).mono (fun r h => ⟨fun c => (h c).2.2, sem_eq_zero_of_no_sems (by decide) r.2⟩) (Cert.ScanReferenceIdeal.Value.run m ρ)
theorem frame_reference_pre : Cert.quiescent_ScanReferenceIdeal_pre_finite_scan (hScanReferenceIdeal := Cert.ScanReferenceIdeal.Gen.facts)
    (hPre_finite_scan := finite) := fun m ρ _ => frame_reference m ρ trivial
theorem preserves : Cert.preserves_Scan_ScanIdeal := trivial

section
open Cert.ScanIdeal Cert.ScanIdeal.Gen

/-- The idealized kernel's run from arguments that hold reals: its two results are the parts of the recurrence's states. -/
theorem run_kernel (m : (ℓ : Loc nD τ sig) → Buf (Elt Ideal) ℓ) (ρ : Dev nD → PrngReg) (hpre : Cert.Pre_ScanIdeal_finite_scan m) :
    θ_run (defs (F := Ideal)) (onTc (τ := τ) (main (F := Ideal))) ⟨m, fun _ => 0, ρ⟩ fun r => ∀ c : Dev nD,
      r.2.mem ((c.tc : Thread nD τ).loc main_v35_0) = re (arg0 m c) (arg1 m c) (arg2 m c) (arg3 m c) (arg4 m c)
      ∧ r.2.mem ((c.tc : Thread nD τ).loc main_v35_1) = im (arg0 m c) (arg1 m c) (arg2 m c) (arg3 m c) (arg4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (run_main m ρ) (frame m ρ))
  obtain ⟨h0, h1, h2, h3, h4⟩ := reals _ _ _ _ _ (hpre c)
  exact ⟨((h.1 c).1 5).trans (array_re m c h0 h1 h2 h3 h4), ((h.1 c).1 6).trans (array_im m c h0 h1 h2 h3 h4), h.2.1 c⟩

end

theorem algebraic : Cert.algebraic_ScanIdeal_ScanReferenceIdeal_pre_finite_scan (hScanIdeal := Cert.ScanIdeal.Gen.facts)
    (hScanReferenceIdeal := Cert.ScanReferenceIdeal.Gen.facts) (hPre_finite_scan := finite) := by
  intro m ρ m' ρ' hpre agree
  refine ⟨_, _, run_kernel m ρ hpre, (θ_run Cert.ScanReferenceIdeal.defs _ _).mono (fun r h c => ?_) (Cert.ScanReferenceIdeal.Value.run m' ρ')⟩
  obtain ⟨r0, r1, r2, r3, r4⟩ := reals _ _ _ _ _ (hpre c)
  obtain ⟨e0, e1, e2, e3, e4⟩ := agree c
  obtain ⟨h0, h1, hargs⟩ := h c
  have s0 : Cert.ScanReferenceIdeal.Scan.arg0 m' c = arg0 m c := e0
  have s1 : Cert.ScanReferenceIdeal.Scan.arg1 m' c = arg1 m c := e1
  have s2 : Cert.ScanReferenceIdeal.Scan.arg2 m' c = arg2 m c := e2
  have s3 : Cert.ScanReferenceIdeal.Scan.arg3 m' c = arg3 m c := e3
  have s4 : Cert.ScanReferenceIdeal.Scan.arg4 m' c = arg4 m c := e4
  have x := Cert.ScanReferenceIdeal.Scan.result_re m' c
  have y := Cert.ScanReferenceIdeal.Scan.result_im m' c
  rw [s0, s1, s2, s3, s4] at x y
  exact ⟨h0.trans (x r0 r1 r2 r3 r4), h1.trans (y r0 r1 r2 r3 r4), hargs⟩

end Cert.ScanGrad
end
end
-- ==== Proof.lean ====
/- The certificate: every claim of the statement, from the modules under Proof/. -/
module

public import proofs.«01_k».proof.Defs
public import proofs.«01_k».proof.Proof.Attention
public import proofs.«01_k».proof.Proof.FfnOut
public import proofs.«01_k».proof.Proof.FfnUp
public import proofs.«01_k».proof.Proof.FfnDh
public import proofs.«01_k».proof.Proof.FfnIn
public import proofs.«01_k».proof.Proof.FfnDown
public import proofs.«01_k».proof.Proof.FfnGates
public import proofs.«01_k».proof.Proof.NormOut
public import proofs.«01_k».proof.Proof.NormGrad
public import proofs.«01_k».proof.Proof.MixOut
public import proofs.«01_k».proof.Proof.MixGrad
public import proofs.«01_k».proof.Proof.MixWeight
public import proofs.«01_k».proof.Proof.QueryOut
public import proofs.«01_k».proof.Proof.QueryGrad
public import proofs.«01_k».proof.Proof.QueryWeight
public import proofs.«01_k».proof.Proof.ReadOut
public import proofs.«01_k».proof.Proof.ReadGrad
public import proofs.«01_k».proof.Proof.ReadWeight
public import proofs.«01_k».proof.Proof.UkvOut
public import proofs.«01_k».proof.Proof.UkvGrad
public import proofs.«01_k».proof.Proof.UkvWeight
public import proofs.«01_k».proof.Proof.GluOut
public import proofs.«01_k».proof.Proof.GluGrad
public import proofs.«01_k».proof.Proof.GluWeight
public import proofs.«01_k».proof.Proof.Cross
public import proofs.«01_k».proof.Proof.ScanGrad

@[expose] public section

noncomputable section

namespace Cert.Proof

theorem claim : Cert.Claim :=
  ⟨Cert.Kernel.Gen.facts, Cert.KernelIdeal.Gen.facts, Cert.ReferenceIdeal.Gen.facts,
    Cert.Gates.Gen.facts, Cert.GatesIdeal.Gen.facts, Cert.GatesReferenceIdeal.Gen.facts,
    Cert.Down.Gen.facts, Cert.DownIdeal.Gen.facts, Cert.DownReferenceIdeal.Gen.facts,
    Cert.In.Gen.facts, Cert.InIdeal.Gen.facts, Cert.InReferenceIdeal.Gen.facts,
    Cert.Dh.Gen.facts, Cert.DhIdeal.Gen.facts, Cert.DhReferenceIdeal.Gen.facts,
    Cert.Up.Gen.facts, Cert.UpIdeal.Gen.facts, Cert.UpReferenceIdeal.Gen.facts,
    Cert.Out.Gen.facts, Cert.OutIdeal.Gen.facts, Cert.OutReferenceIdeal.Gen.facts,
    Cert.Norm.Gen.facts, Cert.NormIdeal.Gen.facts, Cert.NormReferenceIdeal.Gen.facts,
    Cert.NormBwd.Gen.facts, Cert.NormBwdIdeal.Gen.facts, Cert.NormBwdReferenceIdeal.Gen.facts,
    Cert.Mix.Gen.facts, Cert.MixIdeal.Gen.facts, Cert.MixReferenceIdeal.Gen.facts,
    Cert.MixDx.Gen.facts, Cert.MixDxIdeal.Gen.facts, Cert.MixDxReferenceIdeal.Gen.facts,
    Cert.MixDw.Gen.facts, Cert.MixDwIdeal.Gen.facts, Cert.MixDwReferenceIdeal.Gen.facts,
    Cert.Query.Gen.facts, Cert.QueryIdeal.Gen.facts, Cert.QueryReferenceIdeal.Gen.facts,
    Cert.QueryDx.Gen.facts, Cert.QueryDxIdeal.Gen.facts, Cert.QueryDxReferenceIdeal.Gen.facts,
    Cert.QueryDw.Gen.facts, Cert.QueryDwIdeal.Gen.facts, Cert.QueryDwReferenceIdeal.Gen.facts,
    Cert.Read.Gen.facts, Cert.ReadIdeal.Gen.facts, Cert.ReadReferenceIdeal.Gen.facts,
    Cert.ReadDx.Gen.facts, Cert.ReadDxIdeal.Gen.facts, Cert.ReadDxReferenceIdeal.Gen.facts,
    Cert.ReadDw.Gen.facts, Cert.ReadDwIdeal.Gen.facts, Cert.ReadDwReferenceIdeal.Gen.facts,
    Cert.Ukv.Gen.facts, Cert.UkvIdeal.Gen.facts, Cert.UkvReferenceIdeal.Gen.facts,
    Cert.UkvDx.Gen.facts, Cert.UkvDxIdeal.Gen.facts, Cert.UkvDxReferenceIdeal.Gen.facts,
    Cert.UkvDw.Gen.facts, Cert.UkvDwIdeal.Gen.facts, Cert.UkvDwReferenceIdeal.Gen.facts,
    Cert.Glu.Gen.facts, Cert.GluIdeal.Gen.facts, Cert.GluReferenceIdeal.Gen.facts,
    Cert.GluDx.Gen.facts, Cert.GluDxIdeal.Gen.facts, Cert.GluDxReferenceIdeal.Gen.facts,
    Cert.GluDw.Gen.facts, Cert.GluDwIdeal.Gen.facts, Cert.GluDwReferenceIdeal.Gen.facts,
    Cert.Cross.Gen.facts, Cert.CrossIdeal.Gen.facts, Cert.CrossReferenceIdeal.Gen.facts,
    Cert.Scan.Gen.facts, Cert.ScanIdeal.Gen.facts, Cert.ScanReferenceIdeal.Gen.facts,
    Cert.Finite.facts, Cert.ScanGrad.finite,
    Cert.Attention.frame_kernel, Cert.Attention.frame_ideal, Cert.Attention.frame_ideal_pre, Cert.Attention.frame_reference,
    Cert.Attention.frame_reference_pre,
    Cert.FfnGates.frame_kernel, Cert.FfnGates.frame_ideal, Cert.FfnGates.frame_reference,
    Cert.FfnDown.frame_kernel, Cert.FfnDown.frame_ideal, Cert.FfnDown.frame_reference,
    Cert.FfnIn.frame_kernel, Cert.FfnIn.frame_ideal, Cert.FfnIn.frame_reference,
    Cert.FfnDh.frame_kernel, Cert.FfnDh.frame_ideal, Cert.FfnDh.frame_reference,
    Cert.FfnUp.frame_kernel, Cert.FfnUp.frame_ideal, Cert.FfnUp.frame_reference,
    Cert.FfnOut.frame_kernel, Cert.FfnOut.frame_ideal, Cert.FfnOut.frame_reference,
    Cert.NormOut.frame_kernel, Cert.NormOut.frame_ideal, Cert.NormOut.frame_reference,
    Cert.NormGrad.frame_kernel, Cert.NormGrad.frame_ideal, Cert.NormGrad.frame_reference,
    Cert.MixOut.frame_kernel, Cert.MixOut.frame_ideal, Cert.MixOut.frame_reference,
    Cert.MixGrad.frame_kernel, Cert.MixGrad.frame_ideal, Cert.MixGrad.frame_reference,
    Cert.MixWeight.frame_kernel, Cert.MixWeight.frame_ideal, Cert.MixWeight.frame_reference,
    Cert.QueryOut.frame_kernel, Cert.QueryOut.frame_ideal, Cert.QueryOut.frame_reference,
    Cert.QueryGrad.frame_kernel, Cert.QueryGrad.frame_ideal, Cert.QueryGrad.frame_reference,
    Cert.QueryWeight.frame_kernel, Cert.QueryWeight.frame_ideal, Cert.QueryWeight.frame_reference,
    Cert.ReadOut.frame_kernel, Cert.ReadOut.frame_ideal, Cert.ReadOut.frame_reference,
    Cert.ReadGrad.frame_kernel, Cert.ReadGrad.frame_ideal, Cert.ReadGrad.frame_reference,
    Cert.ReadWeight.frame_kernel, Cert.ReadWeight.frame_ideal, Cert.ReadWeight.frame_reference,
    Cert.UkvOut.frame_kernel, Cert.UkvOut.frame_ideal, Cert.UkvOut.frame_reference,
    Cert.UkvGrad.frame_kernel, Cert.UkvGrad.frame_ideal, Cert.UkvGrad.frame_reference,
    Cert.UkvWeight.frame_kernel, Cert.UkvWeight.frame_ideal, Cert.UkvWeight.frame_reference,
    Cert.GluOut.frame_kernel, Cert.GluOut.frame_ideal, Cert.GluOut.frame_reference,
    Cert.GluGrad.frame_kernel, Cert.GluGrad.frame_ideal, Cert.GluGrad.frame_reference,
    Cert.GluWeight.frame_kernel, Cert.GluWeight.frame_ideal, Cert.GluWeight.frame_reference,
    Cert.CrossOut.frame_kernel, Cert.CrossOut.frame_ideal, Cert.CrossOut.frame_reference,
    Cert.ScanGrad.frame_kernel, Cert.ScanGrad.frame_ideal, Cert.ScanGrad.frame_ideal_pre, Cert.ScanGrad.frame_reference,
    Cert.ScanGrad.frame_reference_pre,
    Cert.Attention.preserves, Cert.Attention.algebraic,
    Cert.FfnGates.preserves, Cert.FfnGates.algebraic,
    Cert.FfnDown.preserves, Cert.FfnDown.algebraic,
    Cert.FfnIn.preserves, Cert.FfnIn.algebraic,
    Cert.FfnDh.preserves, Cert.FfnDh.algebraic,
    Cert.FfnUp.preserves, Cert.FfnUp.algebraic,
    Cert.FfnOut.preserves, Cert.FfnOut.algebraic,
    Cert.NormOut.preserves, Cert.NormOut.algebraic,
    Cert.NormGrad.preserves, Cert.NormGrad.algebraic,
    Cert.MixOut.preserves, Cert.MixOut.algebraic,
    Cert.MixGrad.preserves, Cert.MixGrad.algebraic,
    Cert.MixWeight.preserves, Cert.MixWeight.algebraic,
    Cert.QueryOut.preserves, Cert.QueryOut.algebraic,
    Cert.QueryGrad.preserves, Cert.QueryGrad.algebraic,
    Cert.QueryWeight.preserves, Cert.QueryWeight.algebraic,
    Cert.ReadOut.preserves, Cert.ReadOut.algebraic,
    Cert.ReadGrad.preserves, Cert.ReadGrad.algebraic,
    Cert.ReadWeight.preserves, Cert.ReadWeight.algebraic,
    Cert.UkvOut.preserves, Cert.UkvOut.algebraic,
    Cert.UkvGrad.preserves, Cert.UkvGrad.algebraic,
    Cert.UkvWeight.preserves, Cert.UkvWeight.algebraic,
    Cert.GluOut.preserves, Cert.GluOut.algebraic,
    Cert.GluGrad.preserves, Cert.GluGrad.algebraic,
    Cert.GluWeight.preserves, Cert.GluWeight.algebraic,
    Cert.CrossOut.preserves, Cert.CrossOut.algebraic,
    Cert.ScanGrad.preserves, Cert.ScanGrad.algebraic⟩

end Cert.Proof

end
